-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 [hPre_position : Cert.Pre_position.Facts] (m : (ℓ : Loc Cert.Kernel22.nD Cert.Kernel22.τ Cert.Kernel22.sig) → Buf (Elt Bits) ℓ) : Prop :=
  ∀ c : Dev Cert.Kernel22.nD,
    (Cert.Pre_position.fn (F := Bits) (m ((c.tc : Thread Cert.Kernel22.nD Cert.Kernel22.τ).loc Cert.Kernel22.main_arg0)) (m ((c.tc : Thread Cert.Kernel22.nD Cert.Kernel22.τ).loc Cert.Kernel22.main_arg1)) (m ((c.tc : Thread Cert.Kernel22.nD Cert.Kernel22.τ).loc Cert.Kernel22.main_arg2)) (m ((c.tc : Thread Cert.Kernel22.nD Cert.Kernel22.τ).loc Cert.Kernel22.main_arg3)) (m ((c.tc : Thread Cert.Kernel22.nD Cert.Kernel22.τ).loc Cert.Kernel22.main_arg4)) (m ((c.tc : Thread Cert.Kernel22.nD Cert.Kernel22.τ).loc Cert.Kernel22.main_arg5))) = (fun _ => 1#1)

def Pre_Kernel22Ideal [hPre_position : Cert.Pre_position.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_position.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_position [hPre_position : Cert.Pre_position.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_position.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def quiescent_Kernel22 [hKernel22 : Cert.Kernel22.Facts] [hPre_position : Cert.Pre_position.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] [hPre_position : Cert.Pre_position.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Reference22Ideal_pre_position [hReference22Ideal : Cert.Reference22Ideal.Facts] [hPre_position : Cert.Pre_position.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_position m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v19_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_v19_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_3)) (v3 : (c : Dev Cert.Kernel3Ideal.nD) → Buf (Elt Ideal) ((c.tc : Thread Cert.Kernel3Ideal.nD Cert.Kernel3Ideal.τ).loc Cert.Kernel3Ideal.main_v2_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_3) = v2 c
          ∧ r.2.mem ((c.tc : Thread Cert.Kernel3Ideal.nD Cert.Kernel3Ideal.τ).loc Cert.Kernel3Ideal.main_v2_4) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_v34) = v2 c
          ∧ r.2.mem ((c.tc : Thread Cert.Reference3Ideal.nD Cert.Reference3Ideal.τ).loc Cert.Reference3Ideal.main_v52) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v15)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v14) = v1 c
          ∧ r.2.mem ((c.tc : Thread Cert.Reference10Ideal.nD Cert.Reference10Ideal.τ).loc Cert.Reference10Ideal.main_v17) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v14) = v1 c
          ∧ r.2.mem ((c.tc : Thread Cert.Reference11Ideal.nD Cert.Reference11Ideal.τ).loc Cert.Reference11Ideal.main_v27) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v63) = v0 c
          ∧ r.2.mem ((c.tc : Thread Cert.Reference12Ideal.nD Cert.Reference12Ideal.τ).loc Cert.Reference12Ideal.main_v76) = v1 c
          ∧ r.2.mem ((c.tc : Thread Cert.Reference12Ideal.nD Cert.Reference12Ideal.τ).loc Cert.Reference12Ideal.main_v77) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v16)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v16) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v16) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v16)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v16) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v17) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v16)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v16) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v20) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v16)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v16) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v20) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v16)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v16) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v19) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def preserves_Kernel22_Kernel22Ideal : Prop :=
  True

def algebraic_Kernel22Ideal_Reference22Ideal [hKernel22Ideal : Cert.Kernel22Ideal.Facts] [hReference22Ideal : Cert.Reference22Ideal.Facts] [hPre_position : Cert.Pre_position.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_v30) = v1 c
          ∧ r.2.mem ((c.tc : Thread Cert.Reference22Ideal.nD Cert.Reference22Ideal.τ).loc Cert.Reference22Ideal.main_v11) = v2 c
          ∧ r.2.mem ((c.tc : Thread Cert.Reference22Ideal.nD Cert.Reference22Ideal.τ).loc Cert.Reference22Ideal.main_v17) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_position : Cert.Pre_position.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22) (hPre_position := hPre_position)
    ∧ quiescent_Kernel22Ideal (hKernel22Ideal := hKernel22Ideal) (hPre_position := hPre_position)
    ∧ quiescent_Reference22Ideal (hReference22Ideal := hReference22Ideal)
    ∧ quiescent_Reference22Ideal_pre_position (hReference22Ideal := hReference22Ideal) (hPre_position := hPre_position)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal) (hPre_position := hPre_position)
-- ==== Pre_position.lean ====
abbrev S8x128x1024 : Shape := ⟨3, ![8, 128, 1024]⟩
abbrev S1 : Shape := ⟨1, ![1]⟩
abbrev S128x1024 : Shape := ⟨2, ![128, 1024]⟩
abbrev S_ : Shape := ⟨0, ![]⟩

class Facts : Prop where
  shapeCasts_S1_S_ : S1.ShapeCasts S_

variable [Facts]

def fn {F : FTy → Type} [FloatOps F] (main_arg0 : FVec F S8x128x1024 .f32) (main_arg1 : FVec F S8x128x1024 .f32) (main_arg2 : IVec S1 32) (main_arg3 : FVec F S128x1024 .f32) (main_arg4 : FVec F S128x1024 .f32) (main_arg5 : FVec F S128x1024 .f32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 8#32
  let main_v3 : IVec S_ 1 := cmpi .slt main_v2 main_c_0
  let main_v4 : IVec S_ 1 := andi main_v1 main_v3
  main_v4
-- ==== Kernel.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S5632x1024 : Shape := ⟨2, ![5632, 1024]⟩
abbrev S512x2816 : Shape := ⟨2, ![512, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 33
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .bf16⟩
  | .hbm, ⟨25, _⟩ => ⟨S8192x2816, .f32⟩
  | .hbm, ⟨26, _⟩ => ⟨S8192x2816, .bf16⟩
  | .hbm, ⟨27, _⟩ => ⟨S5632x1024, .f32⟩
  | .hbm, ⟨28, _⟩ => ⟨S5632x1024, .bf16⟩
  | .hbm, ⟨29, _⟩ => ⟨S8192x1024, .f32⟩
  | .hbm, ⟨30, _⟩ => ⟨S8192x1024, .bf16⟩
  | .hbm, ⟨31, _⟩ => ⟨S1x1024, .f32⟩
  | .hbm, ⟨32, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v19_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x5632, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x2560 : Shape := ⟨2, ![1024, 2560]⟩
abbrev S8192x2560 : Shape := ⟨2, ![8192, 2560]⟩
abbrev S8192x512 : Shape := ⟨2, ![8192, 512]⟩
abbrev S512x8192 : Shape := ⟨2, ![512, 8192]⟩
abbrev S2560x1024 : Shape := ⟨2, ![2560, 1024]⟩
abbrev S1024x1024 : Shape := ⟨2, ![1024, 1024]⟩
abbrev S512x1024 : Shape := ⟨2, ![512, 1024]⟩
abbrev S1024 : Shape := ⟨1, ![1024]⟩
abbrev S1024x1 : Shape := ⟨2, ![1024, 1]⟩

abbrev nBuf : Space → Nat
  | .hbm => 20
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x1024, .f32⟩
  | .hbm, ⟨4, _⟩ => ⟨S8192x2560, .f32⟩
  | .hbm, ⟨5, _⟩ => ⟨S8192x1024, .f32⟩
  | .hbm, ⟨6, _⟩ => ⟨S8192x1024, .bf16⟩
  | .hbm, ⟨7, _⟩ => ⟨S8192x512, .f32⟩
  | .hbm, ⟨8, _⟩ => ⟨S512x8192, .f32⟩
  | .hbm, ⟨9, _⟩ => ⟨S512x8192, .bf16⟩
  | .hbm, ⟨10, _⟩ => ⟨S8192x512, .f32⟩
  | .hbm, ⟨11, _⟩ => ⟨S512x8192, .f32⟩
  | .hbm, ⟨12, _⟩ => ⟨S512x8192, .bf16⟩
  | .hbm, ⟨13, _⟩ => ⟨S8192x512, .f32⟩
  | .hbm, ⟨14, _⟩ => ⟨S512x8192, .f32⟩
  | .hbm, ⟨15, _⟩ => ⟨S512x8192, .bf16⟩
  | .hbm, ⟨16, _⟩ => ⟨S2560x1024, .f32⟩
  | .hbm, ⟨17, _⟩ => ⟨S2560x1024, .bf16⟩
  | .hbm, ⟨18, _⟩ => ⟨S8192x1024, .f32⟩
  | .hbm, ⟨19, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S8192x1024 : Shape := ⟨2, ![8192, 1024]⟩
abbrev S1x1024 : Shape := ⟨2, ![1, 1024]⟩
abbrev S1024x2560 : Shape := ⟨2, ![1024, 2560]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x1024, .f32⟩
  | .hbm, ⟨4, _⟩ => ⟨S8192x2560, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x2560, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel3.lean ====
abbrev S8192x2816 : Shape := ⟨2, ![8192, 2816]⟩
abbrev S2816x1024 : Shape := ⟨2, ![2816, 1024]⟩
abbrev S1x1024 : Shape := ⟨2, ![1, 1024]⟩
abbrev S8192x1024 : Shape := ⟨2, ![8192, 1024]⟩
abbrev S1x1 : Shape := ⟨2, ![1, 1]⟩
abbrev S1024x2816 : Shape := ⟨2, ![1024, 2816]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩

abbrev nBuf : Space → Nat
  | .hbm => 12
  | .vmem => 15
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S2816x1024, .bf16⟩
  | .hbm, ⟨6, _⟩ => ⟨S8192x2816, .bf16⟩
  | .hbm, ⟨7, _⟩ => ⟨S8192x1024, .f32⟩
  | .hbm, ⟨8, _⟩ => ⟨S8192x1024, .bf16⟩
  | .hbm, ⟨9, _⟩ => ⟨S1x1024, .f32⟩
  | .hbm, ⟨10, _⟩ => ⟨S1x1024, .f32⟩
  | .hbm, ⟨11, _⟩ => ⟨S1x1, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x1, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg0 : BitVec 32 := BitVec.ofNat 32 (i 0).val
  let c7_i32 : BitVec 32 := 7#32
  let v56 : BitVec 1 := Scalar.cmpi .eq arg0 c7_i32
  let v57 : BitVec 32 := Scalar.extui v56
  let c0_i32_30 : BitVec 32 := 0#32
  let v58 : BitVec 1 := Scalar.cmpi .ne v57 c0_i32_30
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S8192x2816 : Shape := ⟨2, ![8192, 2816]⟩
abbrev S2816x1024 : Shape := ⟨2, ![2816, 1024]⟩
abbrev S1x1024 : Shape := ⟨2, ![1, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .bf16⟩
  | .hbm, ⟨73, _⟩ => ⟨S1x1, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Kernel4.lean ====
abbrev S2816x1024 : Shape := ⟨2, ![2816, 1024]⟩
abbrev S8192x1024 : Shape := ⟨2, ![8192, 1024]⟩
abbrev S8192x2816 : Shape := ⟨2, ![8192, 2816]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S8192x1024, .bf16⟩
  | .hbm, ⟨3, _⟩ => ⟨S2816x1024, .bf16⟩
  | .hbm, ⟨4, _⟩ => ⟨S8192x2816, .f32⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .f32⟩
  | .local _ .vmem, ⟨5, _⟩ => ⟨S2048x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S5632x1024 : Shape := ⟨2, ![5632, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 24
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x5632, .f32⟩
  | .hbm, ⟨4, _⟩ => ⟨S5632x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x2816, .f32⟩
  | .hbm, ⟨22, _⟩ => ⟨S8192x2816, .bf16⟩
  | .hbm, ⟨23, _⟩ => ⟨S5632x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S5632x1024 : Shape := ⟨2, ![5632, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x5632, .f32⟩
  | .hbm, ⟨4, _⟩ => ⟨S5632x1024, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S5632x1024, .f32⟩
  | .hbm, ⟨23, _⟩ => ⟨S1024x5632, .f32⟩
  | .hbm, ⟨24, _⟩ => ⟨S5632x1024, .f32⟩
  | .hbm, ⟨25, _⟩ => ⟨S2816x1024, .f32⟩
  | .hbm, ⟨26, _⟩ => ⟨S5632x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S5632x1024 : Shape := ⟨2, ![5632, 1024]⟩
abbrev S8192x5632 : Shape := ⟨2, ![8192, 5632]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 22
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S5632x1024, .f32⟩
  | .hbm, ⟨20, _⟩ => ⟨S5632x1024, .bf16⟩
  | .hbm, ⟨21, _⟩ => ⟨S8192x5632, .f32⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .f32⟩
  | .local _ .vmem, ⟨5, _⟩ => ⟨S2048x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel8.lean ====
abbrev S1024x1024 : Shape := ⟨2, ![1024, 1024]⟩
abbrev S8192x1024 : Shape := ⟨2, ![8192, 1024]⟩
abbrev S8192x512 : Shape := ⟨2, ![8192, 512]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .hbm, ⟨4, _⟩ => ⟨S8192x512, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S1024x1024 : Shape := ⟨2, ![1024, 1024]⟩
abbrev S8192x1024 : Shape := ⟨2, ![8192, 1024]⟩
abbrev S_ : Shape := ⟨0, ![]⟩
abbrev S8192x512 : Shape := ⟨2, ![8192, 512]⟩

abbrev nBuf : Space → Nat
  | .hbm => 13
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x512, .f32⟩
  | .hbm, ⟨4, _⟩ => ⟨S_, .f32⟩
  | .hbm, ⟨5, _⟩ => ⟨S8192x512, .f32⟩
  | .hbm, ⟨6, _⟩ => ⟨S8192x1024, .f32⟩
  | .hbm, ⟨7, _⟩ => ⟨S_, .f32⟩
  | .hbm, ⟨8, _⟩ => ⟨S8192x512, .f32⟩
  | .hbm, ⟨9, _⟩ => ⟨S8192x1024, .f32⟩
  | .hbm, ⟨10, _⟩ => ⟨S8192x1024, .f32⟩
  | .hbm, ⟨11, _⟩ => ⟨S8192x512, .f32⟩
  | .hbm, ⟨12, _⟩ => ⟨S8192x512, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel9.lean ====
abbrev S1024x1024 : Shape := ⟨2, ![1024, 1024]⟩
abbrev S8192x1024 : Shape := ⟨2, ![8192, 1024]⟩
abbrev S512x8192 : Shape := ⟨2, ![512, 8192]⟩
abbrev S512x1024 : Shape := ⟨2, ![512, 1024]⟩
abbrev S2048x1024 : Shape := ⟨2, ![2048, 1024]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S1024x1024, .bf16⟩
  | .hbm, ⟨3, _⟩ => ⟨S8192x1024, .bf16⟩
  | .hbm, ⟨4, _⟩ => ⟨S512x8192, .bf16⟩
  | .local _ .vmem, ⟨0, _⟩ => ⟨S512x1024, .bf16⟩
  | .local _ .vmem, ⟨1, _⟩ => ⟨S2048x1024, .bf16⟩
  | .local _ .vmem, ⟨2, _⟩ => ⟨S2048x1024, .bf16⟩
  | .local _ .vmem, ⟨3, _⟩ => ⟨S512x2048, .bf16⟩
  | .local _ .vmem, ⟨4, _⟩ => ⟨S512x2048, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S1024x1024 : Shape := ⟨2, ![1024, 1024]⟩
abbrev S8192x1024 : Shape := ⟨2, ![8192, 1024]⟩
abbrev S_ : Shape := ⟨0, ![]⟩
abbrev S8192x512 : Shape := ⟨2, ![8192, 512]⟩
abbrev S512x8192 : Shape := ⟨2, ![512, 8192]⟩

abbrev nBuf : Space → Nat
  | .hbm => 15
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x512, .f32⟩
  | .hbm, ⟨4, _⟩ => ⟨S_, .f32⟩
  | .hbm, ⟨5, _⟩ => ⟨S8192x512, .f32⟩
  | .hbm, ⟨6, _⟩ => ⟨S8192x1024, .f32⟩
  | .hbm, ⟨7, _⟩ => ⟨S_, .f32⟩
  | .hbm, ⟨8, _⟩ => ⟨S8192x512, .f32⟩
  | .hbm, ⟨9, _⟩ => ⟨S8192x1024, .f32⟩
  | .hbm, ⟨10, _⟩ => ⟨S8192x1024, .f32⟩
  | .hbm, ⟨11, _⟩ => ⟨S8192x512, .f32⟩
  | .hbm, ⟨12, _⟩ => ⟨S8192x512, .f32⟩
  | .hbm, ⟨13, _⟩ => ⟨S512x8192, .f32⟩
  | .hbm, ⟨14, _⟩ => ⟨S512x8192, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S1024x2560 : Shape := ⟨2, ![1024, 2560]⟩
abbrev S2560x1024 : Shape := ⟨2, ![2560, 1024]⟩
abbrev S1536x1024 : Shape := ⟨2, ![1536, 1024]⟩
abbrev S1536x8192 : Shape := ⟨2, ![1536, 8192]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S2560x1024, .f32⟩
  | .hbm, ⟨4, _⟩ => ⟨S2560x1024, .bf16⟩
  | .hbm, ⟨5, _⟩ => ⟨S1536x1024, .bf16⟩
  | .hbm, ⟨6, _⟩ => ⟨S8192x1024, .bf16⟩
  | .hbm, ⟨7, _⟩ => ⟨S8192x1024, .f32⟩
  | .hbm, ⟨8, _⟩ => ⟨S1536x8192, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1536x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1536x1024, .bf16⟩
  | .local _ .vmem, ⟨10, _⟩ => ⟨S1536x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S8192x1024 : Shape := ⟨2, ![8192, 1024]⟩
abbrev S1x1024 : Shape := ⟨2, ![1, 1024]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S8192x1536 : Shape := ⟨2, ![8192, 1536]⟩
abbrev S1536x8192 : Shape := ⟨2, ![1536, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x2560, .f32⟩
  | .hbm, ⟨19, _⟩ => ⟨S8192x1024, .bf16⟩
  | .hbm, ⟨20, _⟩ => ⟨S8192x1024, .f32⟩
  | .hbm, ⟨21, _⟩ => ⟨S8192x1536, .f32⟩
  | .hbm, ⟨22, _⟩ => ⟨S1536x8192, .f32⟩
  | .hbm, ⟨23, _⟩ => ⟨S1536x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel11.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S512x8192 : Shape := ⟨2, ![512, 8192]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩

abbrev nBuf : Space → Nat
  | .hbm => 13
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S8192x512, .bf16⟩
  | .hbm, ⟨7, _⟩ => ⟨S512x8192, .f32⟩
  | .hbm, ⟨8, _⟩ => ⟨S512x8192, .bf16⟩
  | .hbm, ⟨9, _⟩ => ⟨S1024x1024, .bf16⟩
  | .hbm, ⟨10, _⟩ => ⟨S8192x1024, .f32⟩
  | .hbm, ⟨11, _⟩ => ⟨S8192x1024, .f32⟩
  | .hbm, ⟨12, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference11Ideal.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel12.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S512x1408 : Shape := ⟨2, ![512, 1408]⟩
abbrev S8x1408 : Shape := ⟨2, ![8, 1408]⟩
abbrev S3x1408 : Shape := ⟨2, ![3, 1408]⟩
abbrev S1x1408 : Shape := ⟨2, ![1, 1408]⟩
abbrev S16x1408 : Shape := ⟨2, ![16, 1408]⟩
abbrev S24x1408 : Shape := ⟨2, ![24, 1408]⟩

abbrev nBuf : Space → Nat
  | .hbm => 6
  | .vmem => 22
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S1x5632, .f32⟩
  | .hbm, ⟨3, _⟩ => ⟨S8192x2816, .bf16⟩
  | .hbm, ⟨4, _⟩ => ⟨S8192x2816, .f32⟩
  | .hbm, ⟨5, _⟩ => ⟨S8192x2816, .f32⟩
  | .local _ .vmem, ⟨0, _⟩ => ⟨S512x1408, .f32⟩
  | .local _ .vmem, ⟨1, _⟩ => ⟨S512x1408, .f32⟩
  | .local _ .vmem, ⟨2, _⟩ => ⟨S8x1408, .f32⟩
  | .local _ .vmem, ⟨3, _⟩ => ⟨S8x1408, .f32⟩
  | .local _ .vmem, ⟨4, _⟩ => ⟨S512x1408, .f32⟩
  | .local _ .vmem, ⟨5, _⟩ => ⟨S512x1408, .f32⟩
  | .local _ .vmem, ⟨6, _⟩ => ⟨S8x1408, .f32⟩
  | .local _ .vmem, ⟨7, _⟩ => ⟨S8x1408, .f32⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S512x1408, .bf16⟩
  | .local _ .vmem, ⟨17, _⟩ => ⟨S512x1408, .bf16⟩
  | .local _ .vmem, ⟨18, _⟩ => ⟨S512x1408, .f32⟩
  | .local _ .vmem, ⟨19, _⟩ => ⟨S512x1408, .f32⟩
  | .local _ .vmem, ⟨20, _⟩ => ⟨S512x1408, .f32⟩
  | .local _ .vmem, ⟨21, _⟩ => ⟨S512x1408, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c1_i32 : BitVec 32 := 1#32
  let c31_i32 : BitVec 32 := 31#32
  let v79 : BitVec 32 := Scalar.addi c1_i32 c31_i32
  let c1_i32_38 : BitVec 32 := 1#32
  ⟨c1_i32, v79, c1_i32_38⟩
def k0_mult1 (k0_t1 : Fin k0_t1_loop.trips) : BitVec 32 :=
  let c1_i32 : BitVec 32 := 1#32
  let c1_i32_38 : BitVec 32 := 1#32
  let arg13 : BitVec 32 := Scf.iv c1_i32 c1_i32_38 k0_t1
  let c16_i32 : BitVec 32 := 16#32
  let v80 : BitVec 32 := Scalar.muli arg13 c16_i32
  v80
def k0_off1 (k0_t1 : Fin k0_t1_loop.trips) : Fin 2 → Nat :=
  let c1_i32 : BitVec 32 := 1#32
  let c1_i32_38 : BitVec 32 := 1#32
  let arg13 : BitVec 32 := Scf.iv c1_i32 c1_i32_38 k0_t1
  let c16_i32 : BitVec 32 := 16#32
  let v80 : BitVec 32 := Scalar.muli arg13 c16_i32
  let v81 : BitVec 32 := v80
  let c8_i32 : BitVec 32 := 8#32
  let v82 : BitVec 32 := Scalar.subi v81 c8_i32
  let v83 : Index := Scalar.indexCast v82
  let c0_40 : Index := 0#32
  ![v83.toNat, 0]
def k0_off2 (k0_t1 : Fin k0_t1_loop.trips) : Fin 2 → Nat :=
  let c1_i32 : BitVec 32 := 1#32
  let c1_i32_38 : BitVec 32 := 1#32
  let arg13 : BitVec 32 := Scf.iv c1_i32 c1_i32_38 k0_t1
  let c16_i32 : BitVec 32 := 16#32
  let v80 : BitVec 32 := Scalar.muli arg13 c16_i32
  let v81 : BitVec 32 := v80
  let v143 : Index := Scalar.indexCast v81
  let c0_52 : Index := 0#32
  ![v143.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference12Ideal.lean ====
abbrev S8192x5632 : Shape := ⟨2, ![8192, 5632]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S8194x5632 : Shape := ⟨2, ![8194, 5632]⟩
abbrev S8192x2816 : Shape := ⟨2, ![8192, 2816]⟩

abbrev nBuf : Space → Nat
  | .hbm => 100
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S1x5632, .f32⟩
  | .hbm, ⟨3, _⟩ => ⟨S_, .f32⟩
  | .hbm, ⟨4, _⟩ => ⟨S2x5632, .f32⟩
  | .hbm, ⟨5, _⟩ => ⟨S8194x5632, .f32⟩
  | .hbm, ⟨6, _⟩ => ⟨S8192x5632, .f32⟩
  | .hbm, ⟨7, _⟩ => ⟨S1x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S1x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S1x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S_, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S8192x2816, .f32⟩
  | .hbm, ⟨57, _⟩ => ⟨S8192x2816, .f32⟩
  | .hbm, ⟨58, _⟩ => ⟨S_, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S_, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S_, .f32⟩
  | .hbm, ⟨70, _⟩ => ⟨S8192x2816, .f32⟩
  | .hbm, ⟨71, _⟩ => ⟨S8192x2816, .f32⟩
  | .hbm, ⟨72, _⟩ => ⟨S8192x2816, .f32⟩
  | .hbm, ⟨73, _⟩ => ⟨S_, .f32⟩
  | .hbm, ⟨74, _⟩ => ⟨S8192x2816, .f32⟩
  | .hbm, ⟨75, _⟩ => ⟨S8192x2816, .f32⟩
  | .hbm, ⟨76, _⟩ => ⟨S_, .f32⟩
  | .hbm, ⟨77, _⟩ => ⟨S8192x2816, .f32⟩
  | .hbm, ⟨78, _⟩ => ⟨S8192x2816, .f32⟩
  | .hbm, ⟨79, _⟩ => ⟨S8192x2816, .f32⟩
  | .hbm, ⟨80, _⟩ => ⟨S8192x2816, .f32⟩
  | .hbm, ⟨81, _⟩ => ⟨S8192x2816, .bf16⟩
  | .hbm, ⟨82, _⟩ => ⟨S8192x2816, .f32⟩
  | .hbm, ⟨83, _⟩ => ⟨S8192x2816, .f32⟩
  | .hbm, ⟨84, _⟩ => ⟨S_, .f32⟩
  | .hbm, ⟨85, _⟩ => ⟨S8192x2816, .f32⟩
  | .hbm, ⟨86, _⟩ => ⟨S8192x2816, .f32⟩
  | .hbm, ⟨87, _⟩ => ⟨S8192x2816, .f32⟩
  | .hbm, ⟨88, _⟩ => ⟨S_, .f32⟩
  | .hbm, ⟨89, _⟩ => ⟨S8192x2816, .f32⟩
  | .hbm, ⟨90, _⟩ => ⟨S8192x2816, .f32⟩
  | .hbm, ⟨91, _⟩ => ⟨S8192x2816, .f32⟩
  | .hbm, ⟨92, _⟩ => ⟨S_, .f32⟩
  | .hbm, ⟨93, _⟩ => ⟨S8192x2816, .f32⟩
  | .hbm, ⟨94, _⟩ => ⟨S8192x2816, .f32⟩
  | .hbm, ⟨95, _⟩ => ⟨S_, .f32⟩
  | .hbm, ⟨96, _⟩ => ⟨S8192x2816, .f32⟩
  | .hbm, ⟨97, _⟩ => ⟨S8192x2816, .f32⟩
  | .hbm, ⟨98, _⟩ => ⟨S8192x2816, .f32⟩
  | .hbm, ⟨99, _⟩ => ⟨S8192x2816, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩
abbrev main_v44 : Ref sig .tc := ⟨.hbm, 57, rfl⟩
abbrev main_cst_9 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_cst_13 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_15 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_16 : Ref sig .tc := ⟨.hbm, 92, rfl⟩
abbrev main_v72 : Ref sig .tc := ⟨.hbm, 93, rfl⟩
abbrev main_v73 : Ref sig .tc := ⟨.hbm, 94, rfl⟩
abbrev main_cst_17 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]
-- ==== Kernel13.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩
abbrev S2816x1024 : Shape := ⟨2, ![2816, 1024]⟩

abbrev nBuf : Space → Nat
  | .hbm => 24
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x2816, .f32⟩
  | .hbm, ⟨21, _⟩ => ⟨S8192x2816, .bf16⟩
  | .hbm, ⟨22, _⟩ => ⟨S5632x1024, .f32⟩
  | .hbm, ⟨23, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S5632x1024 : Shape := ⟨2, ![5632, 1024]⟩
abbrev S2816x1024 : Shape := ⟨2, ![2816, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x5632, .f32⟩
  | .hbm, ⟨20, _⟩ => ⟨S5632x1024, .f32⟩
  | .hbm, ⟨21, _⟩ => ⟨S1024x5632, .f32⟩
  | .hbm, ⟨22, _⟩ => ⟨S5632x1024, .f32⟩
  | .hbm, ⟨23, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel14.lean ====
abbrev S8192x1024 : Shape := ⟨2, ![8192, 1024]⟩
abbrev S1x1024 : Shape := ⟨2, ![1, 1024]⟩
abbrev S1024x2560 : Shape := ⟨2, ![1024, 2560]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S2560x1024 : Shape := ⟨2, ![2560, 1024]⟩
abbrev S2048x1024 : Shape := ⟨2, ![2048, 1024]⟩
abbrev S1024x1024 : Shape := ⟨2, ![1024, 1024]⟩

abbrev nBuf : Space → Nat
  | .hbm => 24
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x2560, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1024, .f32⟩
  | .hbm, ⟨21, _⟩ => ⟨S8192x1024, .bf16⟩
  | .hbm, ⟨22, _⟩ => ⟨S2560x1024, .bf16⟩
  | .hbm, ⟨23, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1x1024 : Shape := ⟨2, ![1, 1024]⟩
abbrev S1024x2560 : Shape := ⟨2, ![1024, 2560]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S2560x1024 : Shape := ⟨2, ![2560, 1024]⟩
abbrev S1024x1024 : Shape := ⟨2, ![1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x2560, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x2560, .f32⟩
  | .hbm, ⟨20, _⟩ => ⟨S2560x1024, .f32⟩
  | .hbm, ⟨21, _⟩ => ⟨S1024x2560, .f32⟩
  | .hbm, ⟨22, _⟩ => ⟨S2560x1024, .f32⟩
  | .hbm, ⟨23, _⟩ => ⟨S1024x1024, .f32⟩
  | .hbm, ⟨24, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel15.lean ====
abbrev S8192x512 : Shape := ⟨2, ![8192, 512]⟩
abbrev S1024x1024 : Shape := ⟨2, ![1024, 1024]⟩
abbrev S8192x1024 : Shape := ⟨2, ![8192, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S8192x512, .bf16⟩
  | .hbm, ⟨5, _⟩ => ⟨S8192x1024, .bf16⟩
  | .hbm, ⟨6, _⟩ => ⟨S1024x1024, .f32⟩
  | .hbm, ⟨7, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x512 : Shape := ⟨2, ![8192, 512]⟩
abbrev S1024x1024 : Shape := ⟨2, ![1024, 1024]⟩
abbrev S8192x1024 : Shape := ⟨2, ![8192, 1024]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel16.lean ====
abbrev S8192x512 : Shape := ⟨2, ![8192, 512]⟩
abbrev S1024x1024 : Shape := ⟨2, ![1024, 1024]⟩
abbrev S8192x1024 : Shape := ⟨2, ![8192, 1024]⟩
abbrev S512x8192 : Shape := ⟨2, ![512, 8192]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 9
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S1024x1024, .f32⟩
  | .hbm, ⟨5, _⟩ => ⟨S512x8192, .f32⟩
  | .hbm, ⟨6, _⟩ => ⟨S512x8192, .bf16⟩
  | .hbm, ⟨7, _⟩ => ⟨S8192x1024, .bf16⟩
  | .hbm, ⟨8, _⟩ => ⟨S1024x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x512 : Shape := ⟨2, ![8192, 512]⟩
abbrev S1024x1024 : Shape := ⟨2, ![1024, 1024]⟩
abbrev S8192x1024 : Shape := ⟨2, ![8192, 1024]⟩
abbrev S512x1024 : Shape := ⟨2, ![512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S1024x1024, .f32⟩
  | .hbm, ⟨5, _⟩ => ⟨S512x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S512x1024, .f32⟩
  | .hbm, ⟨11, _⟩ => ⟨S1024x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel17.lean ====
abbrev S8192x1024 : Shape := ⟨2, ![8192, 1024]⟩
abbrev S1x1024 : Shape := ⟨2, ![1, 1024]⟩
abbrev S1024x2560 : Shape := ⟨2, ![1024, 2560]⟩
abbrev S8192x2560 : Shape := ⟨2, ![8192, 2560]⟩
abbrev S2560x1024 : Shape := ⟨2, ![2560, 1024]⟩
abbrev S_ : Shape := ⟨0, ![]⟩
abbrev S8192 : Shape := ⟨1, ![8192]⟩
abbrev S8192x1 : Shape := ⟨2, ![8192, 1]⟩
abbrev S8192x512 : Shape := ⟨2, ![8192, 512]⟩
abbrev S512x8192 : Shape := ⟨2, ![512, 8192]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 25
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x2560, .f32⟩
  | .hbm, ⟨4, _⟩ => ⟨S2560x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x512, .f32⟩
  | .hbm, ⟨22, _⟩ => ⟨S512x8192, .f32⟩
  | .hbm, ⟨23, _⟩ => ⟨S512x8192, .bf16⟩
  | .hbm, ⟨24, _⟩ => ⟨S2560x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1x1024 : Shape := ⟨2, ![1, 1024]⟩
abbrev S1024x2560 : Shape := ⟨2, ![1024, 2560]⟩
abbrev S8192x2560 : Shape := ⟨2, ![8192, 2560]⟩
abbrev S2560x1024 : Shape := ⟨2, ![2560, 1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S1024x1024 : Shape := ⟨2, ![1024, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x2560, .f32⟩
  | .hbm, ⟨4, _⟩ => ⟨S2560x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x2560, .f32⟩
  | .hbm, ⟨21, _⟩ => ⟨S2560x1024, .f32⟩
  | .hbm, ⟨22, _⟩ => ⟨S1024x2560, .f32⟩
  | .hbm, ⟨23, _⟩ => ⟨S2560x1024, .f32⟩
  | .hbm, ⟨24, _⟩ => ⟨S512x1024, .f32⟩
  | .hbm, ⟨25, _⟩ => ⟨S512x1024, .bf16⟩
  | .hbm, ⟨26, _⟩ => ⟨S1024x1024, .bf16⟩
  | .hbm, ⟨27, _⟩ => ⟨S1024x1024, .bf16⟩
  | .hbm, ⟨28, _⟩ => ⟨S2560x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel18.lean ====
abbrev S8192x1024 : Shape := ⟨2, ![8192, 1024]⟩
abbrev S1x1024 : Shape := ⟨2, ![1, 1024]⟩
abbrev S1024x2560 : Shape := ⟨2, ![1024, 2560]⟩
abbrev S8192x2560 : Shape := ⟨2, ![8192, 2560]⟩
abbrev S2560x1024 : Shape := ⟨2, ![2560, 1024]⟩
abbrev S_ : Shape := ⟨0, ![]⟩
abbrev S8192 : Shape := ⟨1, ![8192]⟩
abbrev S8192x1 : Shape := ⟨2, ![8192, 1]⟩
abbrev S8192x512 : Shape := ⟨2, ![8192, 512]⟩
abbrev S512x8192 : Shape := ⟨2, ![512, 8192]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 25
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x2560, .f32⟩
  | .hbm, ⟨4, _⟩ => ⟨S2560x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x512, .f32⟩
  | .hbm, ⟨22, _⟩ => ⟨S512x8192, .f32⟩
  | .hbm, ⟨23, _⟩ => ⟨S512x8192, .bf16⟩
  | .hbm, ⟨24, _⟩ => ⟨S2560x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg0 c3_i32
  let c0_i32 : BitVec 32 := 0#32
  ![v0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S1x1024 : Shape := ⟨2, ![1, 1024]⟩
abbrev S1024x2560 : Shape := ⟨2, ![1024, 2560]⟩
abbrev S8192x2560 : Shape := ⟨2, ![8192, 2560]⟩
abbrev S2560x1024 : Shape := ⟨2, ![2560, 1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S1536x1024 : Shape := ⟨2, ![1536, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x2560, .f32⟩
  | .hbm, ⟨4, _⟩ => ⟨S2560x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x2560, .f32⟩
  | .hbm, ⟨21, _⟩ => ⟨S2560x1024, .f32⟩
  | .hbm, ⟨22, _⟩ => ⟨S1024x2560, .f32⟩
  | .hbm, ⟨23, _⟩ => ⟨S2560x1024, .f32⟩
  | .hbm, ⟨24, _⟩ => ⟨S512x1024, .f32⟩
  | .hbm, ⟨25, _⟩ => ⟨S512x1024, .bf16⟩
  | .hbm, ⟨26, _⟩ => ⟨S1536x1024, .bf16⟩
  | .hbm, ⟨27, _⟩ => ⟨S512x1024, .bf16⟩
  | .hbm, ⟨28, _⟩ => ⟨S2560x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel19.lean ====
abbrev S8192x1024 : Shape := ⟨2, ![8192, 1024]⟩
abbrev S1x1024 : Shape := ⟨2, ![1, 1024]⟩
abbrev S1024x2560 : Shape := ⟨2, ![1024, 2560]⟩
abbrev S8192x2560 : Shape := ⟨2, ![8192, 2560]⟩
abbrev S2560x1024 : Shape := ⟨2, ![2560, 1024]⟩
abbrev S_ : Shape := ⟨0, ![]⟩
abbrev S8192 : Shape := ⟨1, ![8192]⟩
abbrev S8192x1 : Shape := ⟨2, ![8192, 1]⟩
abbrev S8192x512 : Shape := ⟨2, ![8192, 512]⟩
abbrev S512x8192 : Shape := ⟨2, ![512, 8192]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 25
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x2560, .f32⟩
  | .hbm, ⟨4, _⟩ => ⟨S2560x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x512, .f32⟩
  | .hbm, ⟨22, _⟩ => ⟨S512x8192, .f32⟩
  | .hbm, ⟨23, _⟩ => ⟨S512x8192, .bf16⟩
  | .hbm, ⟨24, _⟩ => ⟨S2560x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  ![v0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S1x1024 : Shape := ⟨2, ![1, 1024]⟩
abbrev S1024x2560 : Shape := ⟨2, ![1024, 2560]⟩
abbrev S8192x2560 : Shape := ⟨2, ![8192, 2560]⟩
abbrev S2560x1024 : Shape := ⟨2, ![2560, 1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S2048x1024 : Shape := ⟨2, ![2048, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x2560, .f32⟩
  | .hbm, ⟨4, _⟩ => ⟨S2560x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x2560, .f32⟩
  | .hbm, ⟨21, _⟩ => ⟨S2560x1024, .f32⟩
  | .hbm, ⟨22, _⟩ => ⟨S1024x2560, .f32⟩
  | .hbm, ⟨23, _⟩ => ⟨S2560x1024, .f32⟩
  | .hbm, ⟨24, _⟩ => ⟨S512x1024, .f32⟩
  | .hbm, ⟨25, _⟩ => ⟨S512x1024, .bf16⟩
  | .hbm, ⟨26, _⟩ => ⟨S2048x1024, .bf16⟩
  | .hbm, ⟨27, _⟩ => ⟨S2560x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel20.lean ====
abbrev S144x128 : Shape := ⟨2, ![144, 128]⟩
abbrev S16x128 : Shape := ⟨2, ![16, 128]⟩

abbrev nBuf : Space → Nat
  | .hbm => 7
  | .vmem => 14
  | .smem => 0
  | _ => 0

abbrev bufTy : (tb : Table) → Fin (tcTables nBuf tb) → BufTy
  | .hbm, ⟨0, _⟩ => ⟨S144x128, .f32⟩
  | .hbm, ⟨1, _⟩ => ⟨S144x128, .f32⟩
  | .hbm, ⟨2, _⟩ => ⟨S144x128, .f32⟩
  | .hbm, ⟨3, _⟩ => ⟨S144x128, .f32⟩
  | .hbm, ⟨4, _⟩ => ⟨S144x128, .f32⟩
  | .hbm, ⟨5, _⟩ => ⟨S144x128, .f32⟩
  | .hbm, ⟨6, _⟩ => ⟨S144x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | _, _ => ⟨S144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S144x128 : Shape := ⟨2, ![144, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S144x128, .f32⟩
  | .hbm, ⟨1, _⟩ => ⟨S144x128, .f32⟩
  | .hbm, ⟨2, _⟩ => ⟨S144x128, .f32⟩
  | .hbm, ⟨3, _⟩ => ⟨S144x128, .f32⟩
  | .hbm, ⟨4, _⟩ => ⟨S_, .f32⟩
  | .hbm, ⟨5, _⟩ => ⟨S144x128, .f32⟩
  | .hbm, ⟨6, _⟩ => ⟨S144x128, .f32⟩
  | .hbm, ⟨7, _⟩ => ⟨S_, .f32⟩
  | .hbm, ⟨8, _⟩ => ⟨S144x128, .f32⟩
  | .hbm, ⟨9, _⟩ => ⟨S144x128, .f32⟩
  | .hbm, ⟨10, _⟩ => ⟨S144x128, .f32⟩
  | .hbm, ⟨11, _⟩ => ⟨S_, .f32⟩
  | .hbm, ⟨12, _⟩ => ⟨S144x128, .f32⟩
  | .hbm, ⟨13, _⟩ => ⟨S144x128, .f32⟩
  | .hbm, ⟨14, _⟩ => ⟨S144x128, .f32⟩
  | .hbm, ⟨15, _⟩ => ⟨S_, .f32⟩
  | .hbm, ⟨16, _⟩ => ⟨S144x128, .f32⟩
  | .hbm, ⟨17, _⟩ => ⟨S144x128, .f32⟩
  | .hbm, ⟨18, _⟩ => ⟨S144x128, .f32⟩
  | .hbm, ⟨19, _⟩ => ⟨S_, .f32⟩
  | .hbm, ⟨20, _⟩ => ⟨S144x128, .f32⟩
  | .hbm, ⟨21, _⟩ => ⟨S144x128, .f32⟩
  | .hbm, ⟨22, _⟩ => ⟨S_, .f32⟩
  | .hbm, ⟨23, _⟩ => ⟨S144x128, .f32⟩
  | .hbm, ⟨24, _⟩ => ⟨S144x128, .f32⟩
  | .hbm, ⟨25, _⟩ => ⟨S144x128, .f32⟩
  | .hbm, ⟨26, _⟩ => ⟨S_, .f32⟩
  | .hbm, ⟨27, _⟩ => ⟨S144x128, .f32⟩
  | .hbm, ⟨28, _⟩ => ⟨S144x128, .f32⟩
  | .hbm, ⟨29, _⟩ => ⟨S144x128, .f32⟩
  | .hbm, ⟨30, _⟩ => ⟨S_, .f32⟩
  | .hbm, ⟨31, _⟩ => ⟨S144x128, .f32⟩
  | .hbm, ⟨32, _⟩ => ⟨S144x128, .f32⟩
  | .hbm, ⟨33, _⟩ => ⟨S144x128, .f32⟩
  | .hbm, ⟨34, _⟩ => ⟨S_, .f32⟩
  | .hbm, ⟨35, _⟩ => ⟨S144x128, .f32⟩
  | .hbm, ⟨36, _⟩ => ⟨S144x128, .f32⟩
  | _, _ => ⟨S144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S8x368x128 : Shape := ⟨3, ![8, 368, 128]⟩
abbrev S368x128 : Shape := ⟨2, ![368, 128]⟩
abbrev S1x368x128 : Shape := ⟨3, ![1, 368, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x368x128, .f32⟩
  | .hbm, ⟨1, _⟩ => ⟨S368x128, .f32⟩
  | .local _ .vmem, ⟨0, _⟩ => ⟨S8x368x128, .f32⟩
  | .local _ .vmem, ⟨1, _⟩ => ⟨S368x128, .f32⟩
  | _, _ => ⟨S8x368x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x368x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S368x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference21Ideal.lean ====
abbrev S8x368x128 : Shape := ⟨3, ![8, 368, 128]⟩
abbrev S_ : Shape := ⟨0, ![]⟩
abbrev S368x128 : Shape := ⟨2, ![368, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x368x128, .f32⟩
  | .hbm, ⟨1, _⟩ => ⟨S_, .f32⟩
  | .hbm, ⟨2, _⟩ => ⟨S368x128, .f32⟩
  | _, _ => ⟨S8x368x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel22.lean ====
abbrev S8x128x1024 : Shape := ⟨3, ![8, 128, 1024]⟩
abbrev S1 : Shape := ⟨1, ![1]⟩
abbrev S128x1024 : Shape := ⟨2, ![128, 1024]⟩
abbrev S1x64x1024 : Shape := ⟨3, ![1, 64, 1024]⟩
abbrev S64x1024 : Shape := ⟨2, ![64, 1024]⟩

abbrev nBuf : Space → Nat
  | .hbm => 9
  | .vmem => 19
  | .smem => 1
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .smem, ⟨0, _⟩ => ⟨S1, .i32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_9 : BitVec 32 := 0#32
  let v15 : BitVec 1 := Scalar.cmpi .ne v14 c0_i32_9
  v15

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference22Ideal.lean ====
abbrev S8x128x1024 : Shape := ⟨3, ![8, 128, 1024]⟩
abbrev S1 : Shape := ⟨1, ![1]⟩
abbrev S128x1024 : Shape := ⟨2, ![128, 1024]⟩
abbrev S8 : Shape := ⟨1, ![8]⟩
abbrev S8x1x1 : Shape := ⟨3, ![8, 1, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S1, .i32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x128x1024, .i1⟩
  | .hbm, ⟨12, _⟩ => ⟨S8x128x1024, .f32⟩
  | .hbm, ⟨13, _⟩ => ⟨S_, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Proof.RmsBackward.lean ====
/-
  The gradient of a root mean square normalisation, one row, over the extended reals. A row `v` is normalised to
  `v j * inv v` with `inv v = 1 / √(mean (v²) + ε)`. Two spellings of what a cotangent row `dn` of the normalised row
  gives for `v`: the usual closed form (`grad`), and the form that differentiating the normalisation step by step
  gives (`vjp`). They agree on every row, finite or not (`vjp_eq_grad`).
-/
module

public import Idealize.ShloMosaic.Lib.Pointwise
public import Idealize.ShloMosaic.PureOps.Ideal.Laws

@[expose] public section

noncomputable section

namespace RmsBackward

open Idealize.ShloMosaic

/-- The number of entries of a row, as the programs write it. -/
abbrev count : EReal := Ideal.ofBits .f32 0x44800000#32
/-- The small number added to the mean square. -/
abbrev eps : EReal := Ideal.ofBits .f32 0x358637BD#32
/-- Minus one half, the exponent that differentiating `x ^ (-1/2)` brings down. -/
abbrev minusHalf : EReal := Ideal.ofBits .f32 0xBF000000#32

theorem count_eq : count = ((1024 : ℝ) : EReal) := by
  simp [count, Ideal.ofBits, Ideal.ieee, -EReal.coe_mul]; norm_num

theorem minusHalf_eq : minusHalf = ((-(1 / 2) : ℝ) : EReal) := by
  simp [minusHalf, Ideal.ofBits, Ideal.ieee, -EReal.coe_mul]; norm_num

theorem eps_eq : ∃ e : ℝ, 0 < e ∧ eps = (e : EReal) := by
  refine ⟨_, ?_, by simp [eps, Ideal.ofBits, Ideal.ieee, -EReal.coe_mul]; rfl⟩
  norm_num

variable {n : ℕ}

/-- The mean square of a row, plus the small number. -/
def ms (v : Fin n → EReal) : EReal := Ideal.div (∑ k, v k * v k) count + eps
/-- The factor that normalises the row. -/
def inv (v : Fin n → EReal) : EReal := Ideal.rsqrt (ms v)
/-- The normalised row. -/
def hat (v : Fin n → EReal) (j : Fin n) : EReal := v j * inv v
/-- The gradient in closed form: what is left of `dn` when its mean product with the normalised row is taken out. -/
def grad (v dn : Fin n → EReal) (j : Fin n) : EReal :=
  inv v * (dn j - hat v j * Ideal.div (∑ k, dn k * hat v k) count)
/-- The cotangent of the sum of squares, as differentiating step by step gives it. -/
def slope (v dn : Fin n → EReal) : EReal :=
  Ideal.div ((∑ k, v k * dn k) * (minusHalf * Ideal.div (inv v) (ms v))) count
/-- The gradient as differentiating step by step gives it. -/
def vjp (v dn : Fin n → EReal) (j : Fin n) : EReal := dn j * inv v + v j * slope v dn + slope v dn * v j

theorem sq_nonneg (x : EReal) : 0 ≤ x * x := by
  induction x with
  | bot => simp
  | top => simp
  | coe r => rw [← EReal.coe_mul]; exact_mod_cast mul_self_nonneg r

theorem add_self (x : EReal) : x + x = ((2 : ℝ) : EReal) * x := by
  have h := EReal.right_distrib_of_nonneg (a := 1) (b := 1) (c := x) zero_le_one zero_le_one
  rw [one_mul] at h
  rw [← h]; norm_num; rfl

/-- Multiplication by a nonnegative real distributes over a sum of two extended reals. -/
theorem coe_mul_add {r : ℝ} (hr : 0 ≤ r) (x y : EReal) : (r : EReal) * (x + y) = (r : EReal) * x + (r : EReal) * y :=
  EReal.left_distrib_of_nonneg_of_ne_top (by exact_mod_cast hr) (EReal.coe_ne_top r) x y

/-- A nonnegative real factor moves out of a sum of extended reals. -/
theorem sum_mul_of_nonneg {ι : Type*} (s : Finset ι) (f : ι → EReal) {r : ℝ} (hr : 0 ≤ r) :
    (∑ k ∈ s, f k * (r : EReal)) = (∑ k ∈ s, f k) * (r : EReal) := by
  classical
  induction s using Finset.induction_on with
  | empty => simp
  | insert a s ha ih =>
    rw [Finset.sum_insert ha, Finset.sum_insert ha, ih, mul_comm _ (r : EReal), mul_comm _ (r : EReal),
      mul_comm _ (r : EReal), coe_mul_add hr]

theorem div_coe {x : EReal} {r : ℝ} (hr : r ≠ 0) : Ideal.div x (r : EReal) = x * ((r⁻¹ : ℝ) : EReal) := by
  unfold Ideal.div
  rw [if_neg (by exact_mod_cast hr), EReal.coe_inv]

/-- The mean square plus the small number is `⊤`, or a positive real. -/
theorem ms_cases (v : Fin n → EReal) : ms v = ⊤ ∨ ∃ m : ℝ, 0 < m ∧ ms v = (m : EReal) := by
  obtain ⟨e, he, hE⟩ := eps_eq
  have h0 : 0 ≤ Ideal.div (∑ k, v k * v k) count := by
    rw [count_eq, div_coe (by norm_num)]
    exact mul_nonneg (Finset.sum_nonneg fun k _ => sq_nonneg _) (by exact_mod_cast (by norm_num : (0 : ℝ) ≤ 1024⁻¹))
  unfold ms
  rw [hE]
  generalize Ideal.div (∑ k, v k * v k) count = d at h0
  induction d with
  | bot => simp at h0
  | top => left; simp
  | coe r =>
    right
    exact ⟨r + e, by have : (0 : ℝ) ≤ r := by exact_mod_cast h0
                     linarith, by rw [EReal.coe_add]⟩

/-- The two spellings of the gradient agree, on every row. -/
theorem vjp_eq_grad (v dn : Fin n → EReal) (j : Fin n) : vjp v dn j = grad v dn j := by
  rcases ms_cases v with h | ⟨m, hm, h⟩
  · have hi : inv v = 0 := by unfold inv; rw [h, Ideal.rsqrt_top]
    have hd : Ideal.div (0 : EReal) ⊤ = 0 := by unfold Ideal.div; simp
    have hc : Ideal.div (0 : EReal) count = 0 := by rw [count_eq, div_coe (by norm_num), zero_mul]
    unfold vjp grad slope
    rw [hi, h, hd, mul_zero, mul_zero, mul_zero, hc]
    simp
  · have hs : 0 < Real.sqrt m := Real.sqrt_pos.mpr hm
    obtain ⟨r, hr⟩ : ∃ r : ℝ, r = (Real.sqrt m)⁻¹ := ⟨_, rfl⟩
    have hr0 : 0 < r := by rw [hr]; positivity
    have hi : inv v = (r : EReal) := by
      unfold inv; rw [h, Ideal.rsqrt_coe, if_neg (by linarith), if_neg (by linarith), hr]
    have hm1 : m⁻¹ = r * r := by rw [hr, ← mul_inv, Real.mul_self_sqrt hm.le]
    have hsum : (∑ k, dn k * hat v k) = (∑ k, v k * dn k) * (r : EReal) := by
      rw [← sum_mul_of_nonneg _ _ hr0.le]
      refine Finset.sum_congr rfl fun k _ => ?_
      unfold hat; rw [hi]; ac_rfl
    unfold vjp grad slope
    rw [hsum]
    unfold hat
    rw [hi, h, count_eq, minusHalf_eq, div_coe hm.ne', div_coe (by norm_num), div_coe (by norm_num), hm1]
    generalize (∑ k, v k * dn k) = S
    generalize v j = x
    generalize dn j = y
    rw [sub_eq_add_neg, coe_mul_add hr0.le, add_assoc, mul_comm y]
    congr 1
    rw [mul_comm _ x, add_self]
    have e1 : ((2 : ℝ) : EReal) * (x * (S * (((-(1 / 2) : ℝ) : EReal) * ((r : EReal) * ((r * r : ℝ) : EReal))) * (((1024 : ℝ)⁻¹ : ℝ) : EReal)))
        = (x * S) * ((2 * (-(1 / 2)) * (r * (r * r)) * (1024 : ℝ)⁻¹ : ℝ) : EReal) := by
      push_cast; ac_rfl
    have e2 : (r : EReal) * -(x * (r : EReal) * (S * (r : EReal) * (((1024 : ℝ)⁻¹ : ℝ) : EReal)))
        = (x * S) * ((-(r * (r * r)) * (1024 : ℝ)⁻¹ : ℝ) : EReal) := by
      rw [neg_mul, EReal.coe_neg, mul_neg, mul_neg]
      push_cast; congr 1; ac_rfl
    rw [e1, e2]
    congr 2
    ring

end RmsBackward
-- ==== Proof.Spec.lean ====
/-
  What the middle of a transformer block's backward pass is to compute, over the extended reals, row by row: from a
  row `d` of the product of the feed-forward cotangent with the transposed weights, through the inner normalisation
  (of the row `h` of the residual stream, scale `pre`) and the outer one (of the row `mixed`, scale `post`).
-/
module

public import proofs.«01_k».proof.Proof.RmsBackward

@[expose] public section

noncomputable section

namespace MidBackward

open Idealize.ShloMosaic RmsBackward

variable {n : ℕ}

/-- A row of the residual stream: the input row plus the normalised, scaled mixed row. -/
def residual (x mixed post : Fin n → EReal) (j : Fin n) : EReal := x j + hat mixed j * post j

/-- The gradient row of the residual stream: the cotangent that reaches it directly, and what comes through the inner
    normalisation. -/
def dh1 (d dy h pre : Fin n → EReal) (j : Fin n) : EReal := dy j + grad h (fun k => d k * pre k) j

/-- The gradient row of the mixed branch, from the residual stream's gradient row `g`. -/
def dmixed (g mixed post : Fin n → EReal) (j : Fin n) : EReal := grad mixed (fun k => g k * post k) j

/-- What one row adds to the gradient of a scale: the cotangent row times the normalised row. -/
def dscale (g v : Fin n → EReal) (j : Fin n) : EReal := g j * hat v j

/-- The arrays that this part of the step takes: the input rows, the mixed rows, the two scales, the weights of the
    feed-forward layer's first product, and the two cotangents. -/
@[ext] structure Args where
  x : Fin 8192 → Fin 1024 → EReal
  mixed : Fin 8192 → Fin 1024 → EReal
  post : Fin 1024 → EReal
  pre : Fin 1024 → EReal
  wup : Fin 1024 → Fin 5632 → EReal
  dy : Fin 8192 → Fin 1024 → EReal
  dhup : Fin 8192 → Fin 5632 → EReal

namespace Args

variable (a : Args)

/-- The residual stream. -/
def h (t : Fin 8192) : Fin 1024 → EReal := residual (a.x t) (a.mixed t) a.post
/-- The cotangent of the inner normalised, scaled rows: the product with the transposed weights. -/
def d (t : Fin 8192) (j : Fin 1024) : EReal := ∑ k, a.dhup t k * a.wup j k
/-- The gradient of the residual stream. -/
def dh1 (t : Fin 8192) : Fin 1024 → EReal := MidBackward.dh1 (a.d t) (a.dy t) (a.h t) a.pre
/-- The gradient of the mixed branch. -/
def dmixed (t : Fin 8192) : Fin 1024 → EReal := MidBackward.dmixed (a.dh1 t) (a.mixed t) a.post
/-- The gradient of the inner scale. -/
def dpre (j : Fin 1024) : EReal := ∑ t, dscale (a.d t) (a.h t) j
/-- The gradient of the outer scale. -/
def dpost (j : Fin 1024) : EReal := ∑ t, dscale (a.dh1 t) (a.mixed t) j

end Args

/-- A sum over the rows is the sum over the sixteen blocks of the sums over their 512 rows. -/
theorem sum_blocks (f : Fin 8192 → EReal) :
    (∑ s : Fin 16, ∑ r : Fin 512, f ⟨512 * s.val + r.val, by omega⟩) = ∑ t, f t := by
  rw [← Fintype.sum_prod_type' fun (s : Fin 16) (r : Fin 512) => f ⟨512 * s.val + r.val, by omega⟩]
  refine Fintype.sum_equiv (finProdFinEquiv (m := 16) (n := 512)) _ _ fun p => ?_
  exact congrArg f (Fin.ext (by show 512 * p.1.val + p.2.val = p.2.val + 512 * p.1.val; omega))

/-- A sum over the columns is the sum over the first half plus the sum over the second. -/
theorem sum_halves (f : Fin 5632 → EReal) :
    (∑ k : Fin 2816, f ⟨k.val, by omega⟩) + ∑ k : Fin 2816, f ⟨2816 + k.val, by omega⟩ = ∑ k, f k :=
  (Fin.sum_univ_add (a := 2816) (b := 2816) f).symm

end MidBackward
-- ==== Proof.Sums.lean ====
/-
  Sums over the rows of an array, taken block by block.
-/
module

public import Idealize.ShloMosaic.Lib.Pointwise

@[expose] public section

noncomputable section

namespace Sums

/-- Entry `r` of block `s`, of `n` blocks of `b` entries. -/
theorem entry_lt {n b s r : ℕ} (hs : s < n) (hr : r < b) : b * s + r < n * b := by
  have : b * s + b ≤ b * n := by rw [← Nat.mul_succ]; exact Nat.mul_le_mul_left b hs
  rw [mul_comm n b]; omega

/-- A sum over all entries is the sum over the blocks of the sums over their entries. -/
theorem blocks {M : Type*} [AddCommMonoid M] (n b : ℕ) (f : Fin (n * b) → M) :
    (∑ s : Fin n, ∑ r : Fin b, f ⟨b * s.val + r.val, entry_lt s.isLt r.isLt⟩) = ∑ t, f t := by
  rw [← Fintype.sum_prod_type' fun (s : Fin n) (r : Fin b) => f ⟨b * s.val + r.val, entry_lt s.isLt r.isLt⟩]
  refine Fintype.sum_equiv (finProdFinEquiv (m := n) (n := b)) _ _ fun p => ?_
  exact congrArg f (Fin.ext (add_comm _ _))

/-- A value that starts at the first block's sum and takes every later block's sum in turn is, after block `n`, the
    sum over the blocks so far. -/
theorem running {M : Type*} [AddCommMonoid M] {N : ℕ} (v : (n : ℕ) → n < N → M) (g : (n : ℕ) → n < N → M)
    (h0 : ∀ h, v 0 h = g 0 h) (hs : ∀ n h, v (n + 1) h = v n (Nat.lt_of_succ_lt h) + g (n + 1) h) :
    ∀ (n : ℕ) (h : n < N), v n h = ∑ s : Fin (n + 1), g s.val (lt_of_lt_of_le s.isLt h)
  | 0, h => by rw [h0, Fin.sum_univ_one]; rfl
  | n + 1, h => by rw [hs, running v g h0 hs n, Fin.sum_univ_castSucc (n := n + 1)]; rfl

/-- A buffer that starts at the first of four chunks' product and takes every later chunk's product in turn holds, after
    the last, the product contracted over all the rows. -/
theorem chunks (v : (k : ℕ) → k < 4 → EReal) (x y : Fin 8192 → EReal)
    (h0 : v 0 (by omega) = ∑ r : Fin 2048, x ⟨2048 * 0 + r.val, by omega⟩ * y ⟨2048 * 0 + r.val, by omega⟩)
    (hs : ∀ k (h : k + 1 < 4), v (k + 1) h = v k (by omega)
      + ∑ r : Fin 2048, x ⟨2048 * (k + 1) + r.val, by omega⟩ * y ⟨2048 * (k + 1) + r.val, by omega⟩) :
    v 3 (by omega) = ∑ t, x t * y t :=
  (running (N := 4) v (fun s hs => ∑ r : Fin 2048, x ⟨2048 * s + r.val, by omega⟩ * y ⟨2048 * s + r.val, by omega⟩)
    (fun _ => h0) hs 3 (by omega)).trans (blocks 4 2048 fun t : Fin 8192 => x t * y t)

end Sums
-- ==== Proof.ProductSpec.lean ====
/-
  The gradients of the feed-forward layer's products, over the extended reals: of the last product with respect to its
  activations and to its weights, and of the first product with respect to its weights; and those of the mixers' products
  with respect to theirs.
-/
module

public import proofs.«01_k».proof.Proof.Spec
public import proofs.«01_k».proof.Proof.Sums

@[expose] public section

noncomputable section

namespace Product

open Idealize.ShloMosaic RmsBackward

/-- The gradient of the activations: the cotangent with the transposed weights. -/
def dact (w : Fin 2816 → Fin 1024 → EReal) (df : Fin 8192 → Fin 1024 → EReal) (t : Fin 8192) (n : Fin 2816) : EReal :=
  ∑ j, df t j * w n j

/-- The gradient of the last weights: the transposed activations with the cotangent. -/
def ddown (act : Fin 8192 → Fin 2816 → EReal) (df : Fin 8192 → Fin 1024 → EReal) (n : Fin 2816) (j : Fin 1024) : EReal :=
  ∑ t, act t n * df t j

/-- The gradient of the first weights, transposed: the transposed cotangent with the normalised, scaled rows. Its rows
    up to the half are those of `gate`, which another call has computed. -/
def dup (h : Fin 8192 → Fin 1024 → EReal) (g : Fin 1024 → EReal) (dhup : Fin 8192 → Fin 5632 → EReal)
    (gate : Fin 5632 → Fin 1024 → EReal) (n : Fin 5632) (j : Fin 1024) : EReal :=
  if n.val < 2816 then gate n j else ∑ t, dhup t n * (hat (h t) j * g j)

/-- The gradient of the weights that multiply the normalised, scaled rows, transposed: the transposed cotangent with
    those rows. -/
def dnorm {N : ℕ} (h : Fin 8192 → Fin 1024 → EReal) (g : Fin 1024 → EReal) (d : Fin 8192 → Fin N → EReal) (n : Fin N)
    (j : Fin 1024) : EReal :=
  ∑ t, d t n * (hat (h t) j * g j)

/-- The two mixers' results side by side: the columns that their common output product multiplies. -/
def beside (conv attn : Fin 8192 → Fin 512 → EReal) (t : Fin 8192) (n : Fin 1024) : EReal :=
  if h : n.val < 512 then conv t ⟨n.val, h⟩ else attn t ⟨n.val - 512, by omega⟩

theorem beside_conv (conv attn : Fin 8192 → Fin 512 → EReal) (t : Fin 8192) (n : Fin 512) :
    beside conv attn t ⟨n.val, by omega⟩ = conv t n :=
  dif_pos n.isLt

theorem beside_attn (conv attn : Fin 8192 → Fin 512 → EReal) (t : Fin 8192) (n : Fin 512) :
    beside conv attn t ⟨512 + n.val, by omega⟩ = attn t n :=
  (dif_neg (by dsimp only; omega)).trans (congrArg (attn t) (Fin.ext (by dsimp only; omega)))

/-- The gradient of that product's weights: those columns, transposed, with the cotangent. -/
def dall (mixed : Fin 8192 → Fin 1024 → EReal) (d : Fin 8192 → Fin 1024 → EReal) (n : Fin 1024) (j : Fin 1024) : EReal :=
  ∑ t, mixed t n * d t j

/-- An array of which another call has computed the rows up to `first`. -/
def below {N : ℕ} (first : ℕ) (earlier own : Fin N → Fin 1024 → EReal) (n : Fin N) (j : Fin 1024) : EReal :=
  if n.val < first then earlier n j else own n j

/-- An array whose rows from `first` up to `last` are the call's own; the others are another call's. -/
def within {N : ℕ} (first last : ℕ) (earlier own : Fin N → Fin 1024 → EReal) (n : Fin N) (j : Fin 1024) : EReal :=
  if first ≤ n.val ∧ n.val < last then own n j else earlier n j

/-- A result put together from the rows before `first`, `size` rows of its own and the rows from `last` on. -/
theorem placed {N first size last : ℕ} (hlast : first + size = last) (earlier own : Fin N → Fin 1024 → EReal) (n : Fin N) (j : Fin 1024)
    (hown : ¬ n.val < first → first + (n.val - first) < N)
    (hlate : ¬ n.val < first → last + (n.val - first - size) < N ∨ n.val - first < size) :
    (if h : n.val < first then earlier n j
      else if h' : n.val - first < size then own ⟨first + (n.val - first), hown h⟩ j
      else earlier ⟨last + (n.val - first - size), (hlate h).resolve_right h'⟩ j) = within first last earlier own n j := by
  unfold within
  split_ifs with h h' w w
  · omega
  · rfl
  · exact congrArg (fun k => own k j) (Fin.ext (by show first + (n.val - first) = n.val; omega))
  · omega
  · omega
  · exact congrArg (fun k => earlier k j) (Fin.ext (by show last + (n.val - first - size) = n.val; omega))

/-- The first product, and the input projection: the normalised, scaled rows with the weights. -/
def up {N : ℕ} (h : Fin 8192 → Fin 1024 → EReal) (g : Fin 1024 → EReal) (w : Fin 1024 → Fin N → EReal) (t : Fin 8192)
    (n : Fin N) : EReal :=
  ∑ j, hat (h t) j * g j * w j n

/-- The gradient of the mixed columns, the two mixers' results side by side: the cotangent with the transposed weights of
    the mixers' common output product. -/
def dmix (w : Fin 1024 → Fin 1024 → EReal) (d : Fin 8192 → Fin 1024 → EReal) (t : Fin 8192) (n : Fin 1024) : EReal :=
  ∑ j, d t j * w n j

end Product
-- ==== Proof.UpForward.lean ====
/-
  The first product of the feed-forward part: what the call leaves in its result array. Point `t` writes the block of
  rows `2048 (t / 4) …` and columns `1408 (t % 4) …`, one product over all 1024 columns of the normalised rows.
-/
module

public import proofs.«01_k».proof.Proof.Gen.Kernel7Ideal.Value
public import proofs.«01_k».proof.Proof.ProductSpec
public import Idealize.ShloMosaic.Lib.StableHlo.ReadAt

@[expose] public section

set_option maxRecDepth 16384

noncomputable section

namespace Cert.Kernel7Ideal.Final

open Idealize.ShloMosaic Idealize.ShloMosaic.TcCoe Idealize.SL.Sem RmsBackward
open Cert.Kernel7Ideal Cert.Kernel7Ideal.Gen

variable (m : (ℓ : Loc nD τ sig) → Buf (Elt Ideal) ℓ) (ρ : Dev nD → PrngReg) (c : Dev nD)

/-- The arguments, as the specification takes them. -/
def h1 (t : Fin 8192) (j : Fin 1024) : EReal := (m ((c : Thread nD τ).loc main_arg0) : S8192x1024.Idx → EReal) (ix2 t j)
def scale (j : Fin 1024) : EReal := (m ((c : Thread nD τ).loc main_arg1) : S1x1024.Idx → EReal) (ix2 0 j)
def weights (j : Fin 1024) (n : Fin 5632) : EReal := (m ((c : Thread nD τ).loc main_arg2) : S1024x5632.Idx → EReal) (ix2 j n)

/-- What the host prepares: the normalised, scaled rows, and the weights transposed. -/
theorem V_scaled (t : Fin 8192) (j : Fin 1024) :
    (V m c main_v12 : S8192x1024.Idx → EReal) (ix2 t j) = hat (h1 m c t) j * scale m c j := by
  unfold V hostOps0
  after_reads_at
  pointwise
  rfl

theorem V_weights (n : Fin 5632) (j : Fin 1024) : (V m c main_v14 : S5632x1024.Idx → EReal) (ix2 n j) = weights m c j n := by
  unfold V hostOps0
  after_reads_at
  pointwise
  rfl

/-- Where the blocks lie. -/
theorem index_at : ∀ t : Fin cfg0.N,
    (win0_0.index t 0 = t.val / 4 ∧ win0_0.index t 1 = 0) ∧ (win0_1.index t 0 = t.val % 4 ∧ win0_1.index t 1 = 0)
    ∧ (win0_2.index t 0 = t.val / 4 ∧ win0_2.index t 1 = t.val % 4) :=
  (by decide +kernel : ∀ t : Fin grid0.N,
    (win0_0.index t 0 = t.val / 4 ∧ win0_0.index t 1 = 0) ∧ (win0_1.index t 0 = t.val % 4 ∧ win0_1.index t 1 = 0)
    ∧ (win0_2.index t 0 = t.val / 4 ∧ win0_2.index t 1 = t.val % 4))

def rowOf (t : Fin cfg0.N) (r : Fin 2048) : Fin 8192 :=
  ⟨2048 * (t.val / 4) + r.val, by have h : cfg0.N = 16 := N_0; have := t.isLt; omega⟩
def colOf (t : Fin cfg0.N) (n : Fin 1408) : Fin 5632 := ⟨1408 * (t.val % 4) + n.val, by omega⟩

theorem iblk0 (t : Fin cfg0.N) (r : Fin 2048) (j : Fin 1024) :
    (iblk m c 0 t : S2048x1024.Idx → EReal) (ix2 r j) = hat (h1 m c (rowOf t r)) j * scale m c j := by
  rw [← V_scaled]
  unfold iblk
  rw [View.read_apply]
  refine congrArg (V m c main_v12) (funext fun a => Fin.ext ?_)
  obtain ⟨h0, h1⟩ := (index_at t).1
  match a with
  | ⟨0, _⟩ => show win0_0.index t 0 * 2048 + 1 * r.val = 2048 * (t.val / 4) + r.val; rw [h0]; omega
  | ⟨1, _⟩ => show win0_0.index t 1 * 1024 + 1 * j.val = j.val; rw [h1]; omega

theorem iblk1 (t : Fin cfg0.N) (n : Fin 1408) (j : Fin 1024) :
    (iblk m c 1 t : S1408x1024.Idx → EReal) (ix2 n j) = weights m c j (colOf t n) := by
  rw [← V_weights]
  unfold iblk
  rw [View.read_apply]
  refine congrArg (V m c main_v14) (funext fun a => Fin.ext ?_)
  obtain ⟨h0, h1⟩ := (index_at t).2.1
  match a with
  | ⟨0, _⟩ => show win0_1.index t 0 * 1408 + 1 * n.val = 1408 * (t.val % 4) + n.val; rw [h0]; omega
  | ⟨1, _⟩ => show win0_1.index t 1 * 1024 + 1 * j.val = j.val; rw [h1]; omega

theorem pay1_apply (x : Vec Ideal S2048x1024 .bf16) (y : Vec Ideal S1408x1024 .bf16) (r : Fin 2048) (n : Fin 1408) :
    k0_pay1 (F := Ideal) x y (ix2 r n) = ∑ j, x (ix2 r j) * y (ix2 n j) := by
  pointwise [k0_pay1]

theorem hz : (![0, 0] : Fin 2 → Nat) = fun _ => 0 := funext fun a => by fin_cases a <;> rfl

/-- What a point's body leaves in its block. -/
theorem block (x : Vec Ideal S2048x1024 .bf16) (y : Vec Ideal S1408x1024 .bf16) : out0_2 x y = k0_pay1 x y := by
  unfold out0_2
  rw [View.canon_unit_zero (S := S2048x1408) hz]
  simp only [View.ld_unit_zero (S := S2048x1024) hz, View.ld_unit_zero (S := S1408x1024) hz]

/-- The result. -/
abbrev G : S8192x5632.Idx → EReal := fun i => Product.up (h1 m c) (scale m c) (weights m c) (i 0) (i 1)

theorem flushed (t : Fin cfg0.N) (_ : (cfg0.win 2).flush t = true) :
    (dats m 0 c).flushed 2 t = ((cfg0.win 2).blk t).view.read (Elt Ideal) (G m c) := by
  rw [Value.flushed2, block]
  funext i
  obtain ⟨r, n, rfl⟩ : ∃ r n, i = ix2 r n := ⟨i 0, i 1, eq_ix2 i⟩
  rw [View.read_apply]
  refine ((pay1_apply _ _ r n).trans ?_).trans (congrArg (G m c) (funext fun a => Fin.ext ?_) : G m c (ix2 (rowOf t r) (colOf t n)) = _)
  · simp only [iblk0, iblk1]; rfl
  obtain ⟨h0, h1⟩ := (index_at t).2.2
  match a with
  | ⟨0, _⟩ => show 2048 * (t.val / 4) + r.val = win0_2.index t 0 * 2048 + 1 * r.val; rw [h0]; omega
  | ⟨1, _⟩ => show 1408 * (t.val % 4) + n.val = win0_2.index t 1 * 1408 + 1 * n.val; rw [h1]; omega

/-- The point whose block an index lies in. -/
def pointOf (i : S8192x5632.Idx) : Fin cfg0.N :=
  ⟨4 * ((i 0).val / 2048) + (i 1).val / 1408, by
    have h : cfg0.N = 16 := N_0
    have : (i 0 : Nat) < 8192 := (i 0).isLt
    have : (i 1 : Nat) < 5632 := (i 1).isLt
    omega⟩

theorem final : (dats m 0 c).arrAt 2 cfg0.N = G m c :=
  (dats m 0 c).arrAt_eq_of_cover 2 (G m c) (flushed m c) fun i => ⟨pointOf i, flush0_2 _, by
    show i ∈ ((View.whole main_v15).slice (win0_2.rect (pointOf i))).set
    rw [View.set_slice_whole, Rect.mem_set_unit]
    obtain ⟨h0, h1⟩ := (index_at (pointOf i)).2.2
    have hp : (pointOf i).val = 4 * ((i 0).val / 2048) + (i 1).val / 1408 := rfl
    have : (i 1 : Nat) < 5632 := (i 1).isLt
    intro a
    match a with
    | ⟨0, _⟩ => show win0_2.index (pointOf i) 0 * 2048 ≤ (i 0 : Nat) ∧ (i 0 : Nat) < win0_2.index (pointOf i) 0 * 2048 + 2048; rw [h0]; omega
    | ⟨1, _⟩ => show win0_2.index (pointOf i) 1 * 1408 ≤ (i 1 : Nat) ∧ (i 1 : Nat) < win0_2.index (pointOf i) 1 * 1408 + 1408; rw [h1]; omega⟩

/-- The run: the result, and the arguments unchanged. -/
theorem run : θ_run defs (onTc (τ := τ) (main (F := Ideal))) ⟨m, fun _ => 0, ρ⟩ fun r => ∀ c : Dev nD,
      r.2.mem ((c : Thread nD τ).loc main_v15) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel7Ideal.Final
-- ==== Proof.UpForwardReference.lean ====
/-
  The first product of the feed-forward part: what the reference computes.
-/
module

public import proofs.«01_k».proof.Proof.Gen.Reference7Ideal.Run
public import proofs.«01_k».proof.Proof.Gen.Reference7Ideal.Read
public import proofs.«01_k».proof.Proof.ProductSpec

@[expose] public section

set_option maxRecDepth 16384

noncomputable section

namespace Cert.Reference7Ideal.Final

open Idealize.ShloMosaic Idealize.ShloMosaic.TcCoe Idealize.SL.Sem
open Cert.Reference7Ideal Cert.Reference7Ideal.Read RmsBackward

section Stages

variable (x0 : (⟨S8192x1024, .f32⟩ : BufTy).Contents (Elt Ideal)) (x1 : (⟨S1x1024, .f32⟩ : BufTy).Contents (Elt Ideal))
  (x2 : (⟨S1024x5632, .f32⟩ : BufTy).Contents (Elt Ideal))

/-- The arguments, as the specification takes them. -/
def h1 (t : Fin 8192) (j : Fin 1024) : EReal := (x0 : S8192x1024.Idx → EReal) (ix2 t j)
def scale (j : Fin 1024) : EReal := (x1 : S1x1024.Idx → EReal) (ix2 0 j)
def weights (j : Fin 1024) (n : Fin 5632) : EReal := (x2 : S1024x5632.Idx → EReal) (ix2 j n)

theorem v7 (t : Fin 8192) : val_main_v7 (F := Ideal) x0 (ix2 t (0 : Fin 1)) = inv (h1 x0 t) := by
  pointwise [val_main_v7, val_main_v6, val_main_v5, val_main_cst_1, val_main_v4, val_main_v3, val_main_cst_0, val_main_v2,
    val_main_v1, val_main_cst, val_main_v0]
  rfl

theorem v11 (t : Fin 8192) (j : Fin 1024) : val_main_v11 (F := Ideal) x0 x1 (ix2 t j) = hat (h1 x0 t) j * scale x1 j := by
  have h := v7 x0 t
  unfold val_main_v11 val_main_v10 val_main_v9 val_main_v8
  generalize val_main_v7 (F := Ideal) x0 = y at h
  pointwise
  rw [h]; rfl

theorem value (t : Fin 8192) (n : Fin 5632) :
    val_main_v12 (F := Ideal) x0 x1 x2 (ix2 t n) = Product.up (h1 x0) (scale x1) (weights x2) t n := by
  have h := v11 x0 x1
  unfold val_main_v12
  generalize val_main_v11 (F := Ideal) x0 x1 = y at h
  pointwise
  simp only [h]; rfl

end Stages

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v12) = (fun i => Product.up (h1 (m ((c : Thread nD τ).loc main_arg0)))
        (scale (m ((c : Thread nD τ).loc main_arg1))) (weights (m ((c : Thread nD τ).loc main_arg2))) (i 0) (i 1)
        : S8192x5632.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨h0, hargs⟩ := h c
    refine ⟨(h0.trans (Read.val_main_v12_eq ..)).trans ?_, hargs⟩
    funext i
    obtain ⟨t, n, rfl⟩ : ∃ t n, i = ix2 t n := ⟨i 0, i 1, eq_ix2 i⟩
    exact value _ _ _ t n)
    (Value.run m ρ)

end Cert.Reference7Ideal.Final
-- ==== Proof.MixInputConv.lean ====
/-
  The gradient of the convolution mixer's result, the first 512 of the mixed columns: what the call leaves in its result
  array. Point `t` writes the block of rows `2048 t …`.
-/
module

public import proofs.«01_k».proof.Proof.Gen.Kernel8Ideal.Value
public import proofs.«01_k».proof.Proof.ProductSpec
public import Idealize.ShloMosaic.Lib.StableHlo.ReadAt

@[expose] public section

set_option maxRecDepth 16384

noncomputable section

namespace Cert.Kernel8Ideal.Final

open Idealize.ShloMosaic Idealize.ShloMosaic.TcCoe Idealize.SL.Sem
open Cert.Kernel8Ideal Cert.Kernel8Ideal.Gen

variable (m : (ℓ : Loc nD τ sig) → Buf (Elt Ideal) ℓ) (ρ : Dev nD → PrngReg) (c : Dev nD)

/-- The arguments, as the specification takes them. -/
def weights (n : Fin 1024) (j : Fin 1024) : EReal := (m ((c : Thread nD τ).loc main_arg0) : S1024x1024.Idx → EReal) (ix2 n j)
def cotangent (t : Fin 8192) (j : Fin 1024) : EReal := (m ((c : Thread nD τ).loc main_arg1) : S8192x1024.Idx → EReal) (ix2 t j)

theorem V_cotangent (t : Fin 8192) (j : Fin 1024) : (V m c main_v0 : S8192x1024.Idx → EReal) (ix2 t j) = cotangent m c t j := by
  unfold V hostOps0
  after_reads_at
  rfl

theorem V_weights (n : Fin 1024) (j : Fin 1024) : (V m c main_v1 : S1024x1024.Idx → EReal) (ix2 n j) = weights m c n j := by
  unfold V hostOps0
  after_reads_at
  rfl

/-- Where the blocks lie. -/
theorem index_at : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0))

def rowOf (t : Fin cfg0.N) (r : Fin 2048) : Fin 8192 :=
  ⟨2048 * t.val + r.val, by have h : cfg0.N = 4 := N_0; have := t.isLt; omega⟩
def colOf (n : Fin 512) : Fin 1024 := ⟨n.val, by omega⟩

theorem iblk0 (t : Fin cfg0.N) (r : Fin 2048) (j : Fin 1024) :
    (iblk m c 0 t : S2048x1024.Idx → EReal) (ix2 r j) = cotangent m c (rowOf t r) j := by
  rw [← V_cotangent]
  unfold iblk
  rw [View.read_apply]
  refine congrArg (V m c main_v0) (funext fun a => Fin.ext ?_)
  obtain ⟨h0, h1⟩ := (index_at t).1
  match a with
  | ⟨0, _⟩ => show win0_0.index t 0 * 2048 + 1 * r.val = 2048 * t.val + r.val; rw [h0]; omega
  | ⟨1, _⟩ => show win0_0.index t 1 * 1024 + 1 * j.val = j.val; rw [h1]; omega

theorem iblk1 (t : Fin cfg0.N) (n : Fin 512) (j : Fin 1024) :
    (iblk m c 1 t : S512x1024.Idx → EReal) (ix2 n j) = weights m c (colOf n) j := by
  rw [← V_weights]
  unfold iblk
  rw [View.read_apply]
  refine congrArg (V m c main_v1) (funext fun a => Fin.ext ?_)
  obtain ⟨h0, h1⟩ := (index_at t).2.1
  match a with
  | ⟨0, _⟩ => show win0_1.index t 0 * 512 + 1 * n.val = n.val; rw [h0]; omega
  | ⟨1, _⟩ => show win0_1.index t 1 * 1024 + 1 * j.val = j.val; rw [h1]; omega

theorem pay1_apply (x : Vec Ideal S2048x1024 .bf16) (y : Vec Ideal S512x1024 .bf16) (r : Fin 2048) (n : Fin 512) :
    k0_pay1 (F := Ideal) x y (ix2 r n) = ∑ j, x (ix2 r j) * y (ix2 n j) := by
  pointwise [k0_pay1]

theorem hz : (![0, 0] : Fin 2 → Nat) = fun _ => 0 := funext fun a => by fin_cases a <;> rfl

/-- What a point's body leaves in its block. -/
theorem block (x : Vec Ideal S2048x1024 .bf16) (y : Vec Ideal S512x1024 .bf16) : out0_2 x y = k0_pay1 x y := by
  unfold out0_2
  rw [View.canon_unit_zero (S := S2048x512) hz]
  simp only [View.ld_unit_zero (S := S2048x1024) hz, View.ld_unit_zero (S := S512x1024) hz]

/-- The result. -/
abbrev G : S8192x512.Idx → EReal := fun i => Product.dmix (weights m c) (cotangent m c) (i 0) (colOf (i 1))

theorem flushed (t : Fin cfg0.N) (_ : (cfg0.win 2).flush t = true) :
    (dats m 0 c).flushed 2 t = ((cfg0.win 2).blk t).view.read (Elt Ideal) (G m c) := by
  rw [Value.flushed2, block]
  funext i
  obtain ⟨r, n, rfl⟩ : ∃ r n, i = ix2 r n := ⟨i 0, i 1, eq_ix2 i⟩
  rw [View.read_apply]
  refine ((pay1_apply _ _ r n).trans ?_).trans (congrArg (G m c) (funext fun a => Fin.ext ?_) : G m c (ix2 (rowOf t r) n) = _)
  · simp only [iblk0, iblk1]; rfl
  obtain ⟨h0, h1⟩ := (index_at t).2.2
  match a with
  | ⟨0, _⟩ => show 2048 * t.val + r.val = win0_2.index t 0 * 2048 + 1 * r.val; rw [h0]; omega
  | ⟨1, _⟩ => show n.val = win0_2.index t 1 * 512 + 1 * n.val; rw [h1]; omega

/-- The point whose block an index lies in. -/
def pointOf (i : S8192x512.Idx) : Fin cfg0.N :=
  ⟨(i 0).val / 2048, by
    have h : cfg0.N = 4 := N_0
    have : (i 0 : Nat) < 8192 := (i 0).isLt
    have : (i 1 : Nat) < 512 := (i 1).isLt
    omega⟩

theorem final : (dats m 0 c).arrAt 2 cfg0.N = G m c :=
  (dats m 0 c).arrAt_eq_of_cover 2 (G m c) (flushed m c) fun i => ⟨pointOf i, flush0_2 _, by
    show i ∈ ((View.whole main_v2).slice (win0_2.rect (pointOf i))).set
    rw [View.set_slice_whole, Rect.mem_set_unit]
    obtain ⟨h0, h1⟩ := (index_at (pointOf i)).2.2
    have hp : (pointOf i).val = (i 0).val / 2048 := rfl
    have : (i 1 : Nat) < 512 := (i 1).isLt
    intro a
    match a with
    | ⟨0, _⟩ => show win0_2.index (pointOf i) 0 * 2048 ≤ (i 0 : Nat) ∧ (i 0 : Nat) < win0_2.index (pointOf i) 0 * 2048 + 2048; rw [h0]; omega
    | ⟨1, _⟩ => show win0_2.index (pointOf i) 1 * 512 ≤ (i 1 : Nat) ∧ (i 1 : Nat) < win0_2.index (pointOf i) 1 * 512 + 512; rw [h1]; omega⟩

/-- The run: the result, and the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel8Ideal.Final
-- ==== Proof.MixReference.lean ====
/-
  The references of the gradients of the two mixers' results: what they leave in their results. Each is the transpose of
  the mixers' common output product, of which it keeps its own half of the columns.
-/
module

public import proofs.«01_k».proof.Proof.Gen.Reference8Ideal.Read
public import proofs.«01_k».proof.Proof.Gen.Reference9Ideal.Read
public import proofs.«01_k».proof.Proof.ProductSpec

@[expose] public section

set_option maxRecDepth 16384

noncomputable section

namespace Cert.Reference8Ideal.Final

open Idealize.ShloMosaic Idealize.ShloMosaic.TcCoe Idealize.SL.Sem
open Cert.Reference8Ideal Cert.Reference8Ideal.Read

variable (m : (ℓ : Loc nD τ sig) → Buf (Elt Ideal) ℓ) (ρ : Dev nD → PrngReg)

/-- The product's transpose, over all the columns. -/
theorem all_columns (x0 : Vec Ideal S1024x1024 .f32) (x1 : Vec Ideal S8192x1024 .f32) (t : Fin 8192) (n : Fin 1024) :
    val_main_v5 (F := Ideal) x0 x1 (ix2 t n)
      = Product.dmix (fun n j => (x0 : S1024x1024.Idx → EReal) (ix2 n j)) (fun t j => (x1 : S8192x1024.Idx → EReal) (ix2 t j)) t n := by
  unfold Product.dmix val_main_v5
  pointwise

/-- The half of the columns that the result keeps. -/
theorem value (x0 : Vec Ideal S1024x1024 .f32) (x1 : Vec Ideal S8192x1024 .f32) (t : Fin 8192) (n : Fin 512) :
    val_main_v6 (F := Ideal) x0 x1 (ix2 t n)
      = Product.dmix (fun n j => (x0 : S1024x1024.Idx → EReal) (ix2 n j)) (fun t j => (x1 : S8192x1024.Idx → EReal) (ix2 t j))
        t ⟨n.val, by omega⟩ := by
  rw [← all_columns]
  unfold val_main_v6
  generalize val_main_v5 (F := Ideal) x0 x1 = y
  pointwise

theorem run : θ_run defs (onTc (τ := τ) (main (F := Ideal))) ⟨m, fun _ => 0, ρ⟩ fun r => ∀ c : Dev nD,
      r.2.mem ((c : Thread nD τ).loc main_v6) = (fun i => Product.dmix
        (fun n j => (m ((c : Thread nD τ).loc main_arg0) : S1024x1024.Idx → EReal) (ix2 n j))
        (fun t j => (m ((c : Thread nD τ).loc main_arg1) : S8192x1024.Idx → EReal) (ix2 t j)) (i 0) ⟨(i 1).val, by have : (i 1 : Nat) < 512 := (i 1).isLt; omega⟩ : S8192x512.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, hargs⟩ := h c
    refine ⟨(h0.trans (Read.val_main_v6_eq ..)).trans ?_, hargs⟩
    funext i
    obtain ⟨p, q, rfl⟩ : ∃ p q, i = ix2 p q := ⟨i 0, i 1, eq_ix2 i⟩
    exact value _ _ p q)
    (Value.run m ρ)

end Cert.Reference8Ideal.Final

namespace Cert.Reference9Ideal.Final

open Idealize.ShloMosaic Idealize.ShloMosaic.TcCoe Idealize.SL.Sem
open Cert.Reference9Ideal Cert.Reference9Ideal.Read

variable (m : (ℓ : Loc nD τ sig) → Buf (Elt Ideal) ℓ) (ρ : Dev nD → PrngReg)

/-- The product's transpose, over all the columns. -/
theorem all_columns (x0 : Vec Ideal S1024x1024 .f32) (x1 : Vec Ideal S8192x1024 .f32) (t : Fin 8192) (n : Fin 1024) :
    val_main_v5 (F := Ideal) x0 x1 (ix2 t n)
      = Product.dmix (fun n j => (x0 : S1024x1024.Idx → EReal) (ix2 n j)) (fun t j => (x1 : S8192x1024.Idx → EReal) (ix2 t j)) t n := by
  unfold Product.dmix val_main_v5
  pointwise

/-- The half of the columns that the result keeps. -/
theorem value (x0 : Vec Ideal S1024x1024 .f32) (x1 : Vec Ideal S8192x1024 .f32) (n : Fin 512) (t : Fin 8192) :
    val_main_v9 (F := Ideal) x0 x1 (ix2 n t)
      = Product.dmix (fun n j => (x0 : S1024x1024.Idx → EReal) (ix2 n j)) (fun t j => (x1 : S8192x1024.Idx → EReal) (ix2 t j))
        t ⟨512 + n.val, by omega⟩ := by
  rw [← all_columns]
  unfold val_main_v9 val_main_v8 val_main_v7
  generalize val_main_v5 (F := Ideal) x0 x1 = y
  pointwise

theorem run : θ_run defs (onTc (τ := τ) (main (F := Ideal))) ⟨m, fun _ => 0, ρ⟩ fun r => ∀ c : Dev nD,
      r.2.mem ((c : Thread nD τ).loc main_v9) = (fun i => Product.dmix
        (fun n j => (m ((c : Thread nD τ).loc main_arg0) : S1024x1024.Idx → EReal) (ix2 n j))
        (fun t j => (m ((c : Thread nD τ).loc main_arg1) : S8192x1024.Idx → EReal) (ix2 t j)) (i 1) ⟨512 + (i 0).val, by have : (i 0 : Nat) < 512 := (i 0).isLt; omega⟩ : S512x8192.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, hargs⟩ := h c
    refine ⟨(h0.trans (Read.val_main_v9_eq ..)).trans ?_, hargs⟩
    funext i
    obtain ⟨p, q, rfl⟩ : ∃ p q, i = ix2 p q := ⟨i 0, i 1, eq_ix2 i⟩
    exact value _ _ p q)
    (Value.run m ρ)

end Cert.Reference9Ideal.Final
-- ==== Proof.MixInputAttn.lean ====
/-
  The gradient of the attention mixer's result, the last 512 of the mixed columns, transposed: what the call leaves in
  its result array. Point `t` writes the block of columns `2048 t …`.
-/
module

public import proofs.«01_k».proof.Proof.Gen.Kernel9Ideal.Value
public import proofs.«01_k».proof.Proof.ProductSpec
public import Idealize.ShloMosaic.Lib.StableHlo.ReadAt

@[expose] public section

set_option maxRecDepth 16384

noncomputable section

namespace Cert.Kernel9Ideal.Final

open Idealize.ShloMosaic Idealize.ShloMosaic.TcCoe Idealize.SL.Sem
open Cert.Kernel9Ideal Cert.Kernel9Ideal.Gen

variable (m : (ℓ : Loc nD τ sig) → Buf (Elt Ideal) ℓ) (ρ : Dev nD → PrngReg) (c : Dev nD)

/-- The arguments, as the specification takes them. -/
def weights (n : Fin 1024) (j : Fin 1024) : EReal := (m ((c : Thread nD τ).loc main_arg0) : S1024x1024.Idx → EReal) (ix2 n j)
def cotangent (t : Fin 8192) (j : Fin 1024) : EReal := (m ((c : Thread nD τ).loc main_arg1) : S8192x1024.Idx → EReal) (ix2 t j)

theorem V_cotangent (t : Fin 8192) (j : Fin 1024) : (V m c main_v1 : S8192x1024.Idx → EReal) (ix2 t j) = cotangent m c t j := by
  unfold V hostOps0
  after_reads_at
  rfl

theorem V_weights (n : Fin 1024) (j : Fin 1024) : (V m c main_v0 : S1024x1024.Idx → EReal) (ix2 n j) = weights m c n j := by
  unfold V hostOps0
  after_reads_at
  rfl

/-- Where the blocks lie. -/
theorem index_at : ∀ t : Fin cfg0.N,
    (win0_0.index t 0 = 1 ∧ win0_0.index t 1 = 0) ∧ (win0_1.index t 0 = t.val ∧ win0_1.index t 1 = 0)
    ∧ (win0_2.index t 0 = 0 ∧ win0_2.index t 1 = t.val) :=
  (by decide +kernel : ∀ t : Fin grid0.N,
    (win0_0.index t 0 = 1 ∧ win0_0.index t 1 = 0) ∧ (win0_1.index t 0 = t.val ∧ win0_1.index t 1 = 0)
    ∧ (win0_2.index t 0 = 0 ∧ win0_2.index t 1 = t.val))

def rowOf (t : Fin cfg0.N) (r : Fin 2048) : Fin 8192 :=
  ⟨2048 * t.val + r.val, by have h : cfg0.N = 4 := N_0; have := t.isLt; omega⟩
def colOf (n : Fin 512) : Fin 1024 := ⟨512 + n.val, by omega⟩

theorem iblk0 (t : Fin cfg0.N) (n : Fin 512) (j : Fin 1024) :
    (iblk m c 0 t : S512x1024.Idx → EReal) (ix2 n j) = weights m c (colOf n) j := by
  rw [← V_weights]
  unfold iblk
  rw [View.read_apply]
  refine congrArg (V m c main_v0) (funext fun a => Fin.ext ?_)
  obtain ⟨h0, h1⟩ := (index_at t).1
  match a with
  | ⟨0, _⟩ => show win0_0.index t 0 * 512 + 1 * n.val = 512 + n.val; rw [h0]; omega
  | ⟨1, _⟩ => show win0_0.index t 1 * 1024 + 1 * j.val = j.val; rw [h1]; omega

theorem iblk1 (t : Fin cfg0.N) (r : Fin 2048) (j : Fin 1024) :
    (iblk m c 1 t : S2048x1024.Idx → EReal) (ix2 r j) = cotangent m c (rowOf t r) j := by
  rw [← V_cotangent]
  unfold iblk
  rw [View.read_apply]
  refine congrArg (V m c main_v1) (funext fun a => Fin.ext ?_)
  obtain ⟨h0, h1⟩ := (index_at t).2.1
  match a with
  | ⟨0, _⟩ => show win0_1.index t 0 * 2048 + 1 * r.val = 2048 * t.val + r.val; rw [h0]; omega
  | ⟨1, _⟩ => show win0_1.index t 1 * 1024 + 1 * j.val = j.val; rw [h1]; omega

theorem pay1_apply (x : Vec Ideal S512x1024 .bf16) (y : Vec Ideal S2048x1024 .bf16) (n : Fin 512) (r : Fin 2048) :
    k0_pay1 (F := Ideal) x y (ix2 n r) = ∑ j, y (ix2 r j) * x (ix2 n j) := by
  pointwise [k0_pay1]
  exact Finset.sum_congr rfl fun j _ => mul_comm _ _

theorem hz : (![0, 0] : Fin 2 → Nat) = fun _ => 0 := funext fun a => by fin_cases a <;> rfl

/-- What a point's body leaves in its block. -/
theorem block (x : Vec Ideal S512x1024 .bf16) (y : Vec Ideal S2048x1024 .bf16) : out0_2 x y = k0_pay1 x y := by
  unfold out0_2
  rw [View.canon_unit_zero (S := S512x2048) hz]
  simp only [View.ld_unit_zero (S := S2048x1024) hz, View.ld_unit_zero (S := S512x1024) hz]

/-- The result. -/
abbrev G : S512x8192.Idx → EReal := fun i => Product.dmix (weights m c) (cotangent m c) (i 1) (colOf (i 0))

theorem flushed (t : Fin cfg0.N) (_ : (cfg0.win 2).flush t = true) :
    (dats m 0 c).flushed 2 t = ((cfg0.win 2).blk t).view.read (Elt Ideal) (G m c) := by
  rw [Value.flushed2, block]
  funext i
  obtain ⟨n, r, rfl⟩ : ∃ n r, i = ix2 n r := ⟨i 0, i 1, eq_ix2 i⟩
  rw [View.read_apply]
  refine ((pay1_apply _ _ n r).trans ?_).trans (congrArg (G m c) (funext fun a => Fin.ext ?_) : G m c (ix2 n (rowOf t r)) = _)
  · simp only [iblk0, iblk1]; rfl
  obtain ⟨h0, h1⟩ := (index_at t).2.2
  match a with
  | ⟨0, _⟩ => show n.val = win0_2.index t 0 * 512 + 1 * n.val; rw [h0]; omega
  | ⟨1, _⟩ => show 2048 * t.val + r.val = win0_2.index t 1 * 2048 + 1 * r.val; rw [h1]; omega

/-- The point whose block an index lies in. -/
def pointOf (i : S512x8192.Idx) : Fin cfg0.N :=
  ⟨(i 1).val / 2048, by
    have h : cfg0.N = 4 := N_0
    have : (i 1 : Nat) < 8192 := (i 1).isLt
    omega⟩

theorem final : (dats m 0 c).arrAt 2 cfg0.N = G m c :=
  (dats m 0 c).arrAt_eq_of_cover 2 (G m c) (flushed m c) fun i => ⟨pointOf i, flush0_2 _, by
    show i ∈ ((View.whole main_v2).slice (win0_2.rect (pointOf i))).set
    rw [View.set_slice_whole, Rect.mem_set_unit]
    obtain ⟨h0, h1⟩ := (index_at (pointOf i)).2.2
    have hp : (pointOf i).val = (i 1).val / 2048 := rfl
    have : (i 0 : Nat) < 512 := (i 0).isLt
    intro a
    match a with
    | ⟨0, _⟩ => show win0_2.index (pointOf i) 0 * 512 ≤ (i 0 : Nat) ∧ (i 0 : Nat) < win0_2.index (pointOf i) 0 * 512 + 512; rw [h0]; omega
    | ⟨1, _⟩ => show win0_2.index (pointOf i) 1 * 2048 ≤ (i 1 : Nat) ∧ (i 1 : Nat) < win0_2.index (pointOf i) 1 * 2048 + 2048; rw [h1]; omega⟩

/-- The run: the result, and the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel9Ideal.Final
-- ==== Proof.ProjForward.lean ====
/-
  The first normalisation and the input projection: what the call leaves in its three result arrays. Point `t` writes the
  rows `1024 t …` of the normalised, scaled rows and of the first 1024 columns of the product, and the columns `1024 t …`
  of the other columns' transpose.
-/
module

public import proofs.«01_k».proof.Proof.Gen.Kernel10Ideal.Value
public import proofs.«01_k».proof.Proof.ProductSpec
public import Idealize.ShloMosaic.Lib.StableHlo.ReadAt

@[expose] public section

set_option maxRecDepth 16384

noncomputable section

namespace Cert.Kernel10Ideal.Final

open Idealize.ShloMosaic Idealize.ShloMosaic.TcCoe Idealize.SL.Sem RmsBackward
open Cert.Kernel10Ideal Cert.Kernel10Ideal.Gen

variable (m : (ℓ : Loc nD τ sig) → Buf (Elt Ideal) ℓ) (ρ : Dev nD → PrngReg) (c : Dev nD)

/-- The arguments, as the specification takes them. -/
def rows (t : Fin 8192) (j : Fin 1024) : EReal := (m ((c : Thread nD τ).loc main_arg0) : S8192x1024.Idx → EReal) (ix2 t j)
def scale (j : Fin 1024) : EReal := (m ((c : Thread nD τ).loc main_arg1) : S1x1024.Idx → EReal) (ix2 0 j)
def weights (j : Fin 1024) (n : Fin 2560) : EReal := (m ((c : Thread nD τ).loc main_arg2) : S1024x2560.Idx → EReal) (ix2 j n)

/-! ## What the host prepares -/

theorem V_rows (t : Fin 8192) (j : Fin 1024) : (V m c main_arg0 : S8192x1024.Idx → EReal) (ix2 t j) = rows m c t j := by
  unfold V hostOps0
  after_reads_at
  rfl

theorem V_scale (j : Fin 1024) : (V m c main_arg1 : S1x1024.Idx → EReal) (ix2 0 j) = scale m c j := by
  unfold V hostOps0
  after_reads_at
  rfl

theorem V_weights (n : Fin 2560) (j : Fin 1024) : (V m c main_v1 : S2560x1024.Idx → EReal) (ix2 n j) = weights m c j n := by
  unfold V hostOps0
  after_reads_at
  pointwise
  rfl

theorem V_rest (n : Fin 1536) (j : Fin 1024) :
    (V m c main_v2 : S1536x1024.Idx → EReal) (ix2 n j) = weights m c j ⟨1024 + n.val, by omega⟩ := by
  unfold V hostOps0
  after_reads_at
  pointwise
  rfl

/-! ## The blocks -/

theorem index_in : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) :=
  (by decide +kernel : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0))

theorem index_out : ∀ t : Fin cfg0.N,
    (win0_4.index t 0 = t.val ∧ win0_4.index t 1 = 0) ∧ (win0_5.index t 0 = t.val ∧ win0_5.index t 1 = 0)
    ∧ (win0_6.index t 0 = 0 ∧ win0_6.index t 1 = t.val) :=
  (by decide +kernel : ∀ t : Fin grid0.N,
    (win0_4.index t 0 = t.val ∧ win0_4.index t 1 = 0) ∧ (win0_5.index t 0 = t.val ∧ win0_5.index t 1 = 0)
    ∧ (win0_6.index t 0 = 0 ∧ win0_6.index t 1 = t.val))

def rowOf (t : Fin cfg0.N) (r : Fin 1024) : Fin 8192 :=
  ⟨1024 * t.val + r.val, by have h : cfg0.N = 8 := N_0; have := t.isLt; omega⟩

theorem iblk0 (t : Fin cfg0.N) (r j : Fin 1024) :
    (iblk m c 0 t : S1024x1024.Idx → EReal) (ix2 r j) = rows m c (rowOf t r) j := by
  rw [← V_rows]
  unfold iblk
  rw [View.read_apply]
  refine congrArg (V m c main_arg0) (funext fun a => Fin.ext ?_)
  obtain ⟨h0, h1⟩ := (index_in t).1
  match a with
  | ⟨0, _⟩ => show win0_0.index t 0 * 1024 + 1 * r.val = 1024 * t.val + r.val; rw [h0]; omega
  | ⟨1, _⟩ => show win0_0.index t 1 * 1024 + 1 * j.val = j.val; rw [h1]; omega

theorem iblk1 (t : Fin cfg0.N) (j : Fin 1024) : (iblk m c 1 t : S1x1024.Idx → EReal) (ix2 0 j) = scale m c j := by
  rw [← V_scale]
  unfold iblk
  rw [View.read_apply]
  refine congrArg (V m c main_arg1) (funext fun a => Fin.ext ?_)
  obtain ⟨h0, h1⟩ := (index_in t).2.1
  match a with
  | ⟨0, _⟩ => show win0_1.index t 0 * 1 + 1 * 0 = 0; rw [h0]
  | ⟨1, _⟩ => show win0_1.index t 1 * 1024 + 1 * j.val = j.val; rw [h1]; omega

theorem X2 (t : Fin cfg0.N) (n j : Fin 1024) :
    (X0_2 m c t : S1024x1024.Idx → EReal) (ix2 n j) = weights m c j ⟨n.val, by omega⟩ := by
  rw [← V_weights]
  unfold X0_2 Pipeline.Window.fill
  rw [dif_pos (moved0_2 t _)]
  unfold iblk
  rw [View.read_apply]
  refine congrArg (V m c main_v1) (funext fun a => Fin.ext ?_)
  obtain ⟨h0, h1⟩ := (index_in t).2.2.1
  match a with
  | ⟨0, _⟩ => show win0_2.index t 0 * 1024 + 1 * n.val = n.val; rw [h0]; omega
  | ⟨1, _⟩ => show win0_2.index t 1 * 1024 + 1 * j.val = j.val; rw [h1]; omega

theorem iblk3 (t : Fin cfg0.N) (n : Fin 1536) (j : Fin 1024) :
    (iblk m c 3 t : S1536x1024.Idx → EReal) (ix2 n j) = weights m c j ⟨1024 + n.val, by omega⟩ := by
  rw [← V_rest]
  unfold iblk
  rw [View.read_apply]
  refine congrArg (V m c main_v2) (funext fun a => Fin.ext ?_)
  obtain ⟨h0, h1⟩ := (index_in t).2.2.2
  match a with
  | ⟨0, _⟩ => show win0_3.index t 0 * 1536 + 1 * n.val = n.val; rw [h0]; omega
  | ⟨1, _⟩ => show win0_3.index t 1 * 1024 + 1 * j.val = j.val; rw [h1]; omega

/-! ## What a point computes -/

theorem hz : (![0, 0] : Fin 2 → Nat) = fun _ => 0 := funext fun a => by fin_cases a <;> rfl

/-- The normalised, scaled rows. -/
theorem pay1_apply (x : Vec Ideal S1024x1024 .f32) (g : Vec Ideal S1x1024 .f32) (r j : Fin 1024) :
    k0_pay1 (F := Ideal) x g (ix2 r j) = hat (fun j => x (ix2 r j)) j * g (ix2 0 j) := by
  pointwise [k0_pay1]
  rfl

theorem pay2_apply (x : Vec Ideal S1024x1024 .f32) (g : Vec Ideal S1x1024 .f32) (w : Vec Ideal S1024x1024 .bf16) (r n : Fin 1024) :
    k0_pay2 (F := Ideal) x g w (ix2 r n) = ∑ j, hat (fun j => x (ix2 r j)) j * g (ix2 0 j) * w (ix2 n j) := by
  have h := pay1_apply x g
  unfold k0_pay2
  generalize k0_pay1 (F := Ideal) x g = y at h
  pointwise
  simp only [h]

theorem pay3_apply (x : Vec Ideal S1024x1024 .f32) (g : Vec Ideal S1x1024 .f32) (w : Vec Ideal S1536x1024 .bf16) (n : Fin 1536)
    (r : Fin 1024) : k0_pay3 (F := Ideal) x g w (ix2 n r) = ∑ j, hat (fun j => x (ix2 r j)) j * g (ix2 0 j) * w (ix2 n j) := by
  have h := pay1_apply x g
  unfold k0_pay3
  generalize k0_pay1 (F := Ideal) x g = y at h
  pointwise
  simp only [h]
  exact Finset.sum_congr rfl fun j _ => mul_comm _ _

theorem block4 (t : Fin cfg0.N) : (outsAt0 m c t).1 = k0_pay1 (iblk m c 0 t) (iblk m c 1 t) := by
  unfold outsAt0 out0_A_4
  dsimp only
  rw [View.read_writes_eq_canon _ _ _ (fun _ => cover0_A_4 ..)]
  unfold kernelRun0_A
  dsimp only
  sl_unfold_words
  rw [View.canon_unit_zero (S := S1024x1024) hz]
  simp only [View.readAt_eq_ld, Memref.IsWhole.read_unread, View.ld_unit_zero (S := S1024x1024) hz,
    View.ld_unit_zero (S := S1x1024) hz]

theorem block5 (t : Fin cfg0.N) : (outsAt0 m c t).2.1 = k0_pay2 (iblk m c 0 t) (iblk m c 1 t) (X0_2 m c t) := by
  unfold outsAt0 out0_A_5
  dsimp only
  rw [View.read_writes_eq_canon _ _ _ (fun _ => cover0_A_5 ..)]
  unfold kernelRun0_A
  dsimp only
  sl_unfold_words
  rw [View.canon_unit_zero (S := S1024x1024) hz]
  simp only [View.readAt_eq_ld, Memref.IsWhole.read_unread, View.ld_unit_zero (S := S1024x1024) hz,
    View.ld_unit_zero (S := S1x1024) hz]

theorem block6 (t : Fin cfg0.N) : (outsAt0 m c t).2.2 = k0_pay3 (iblk m c 0 t) (iblk m c 1 t) (iblk m c 3 t) := by
  unfold outsAt0 out0_A_6
  dsimp only
  rw [View.read_writes_eq_canon _ _ _ (fun _ => cover0_A_6 ..)]
  unfold kernelRun0_A
  dsimp only
  sl_unfold_words
  rw [View.canon_unit_zero (S := S1536x1024) hz]
  simp only [View.readAt_eq_ld, Memref.IsWhole.read_unread, View.ld_unit_zero (S := S1024x1024) hz,
    View.ld_unit_zero (S := S1x1024) hz, View.ld_unit_zero (S := S1536x1024) hz]

/-! ## The three results -/

abbrev G0 : S8192x1024.Idx → EReal := fun i => hat (rows m c (i 0)) (i 1) * scale m c (i 1)
abbrev G1 : S8192x1024.Idx → EReal := fun i =>
  Product.up (rows m c) (scale m c) (weights m c) (i 0) ⟨(i 1).val, by have : (i 1 : Nat) < 1024 := (i 1).isLt; omega⟩
abbrev G2 : S1536x8192.Idx → EReal := fun i =>
  Product.up (rows m c) (scale m c) (weights m c) (i 1) ⟨1024 + (i 0).val, by have : (i 0 : Nat) < 1536 := (i 0).isLt; omega⟩

theorem flushed4 (t : Fin cfg0.N) (_ : (cfg0.win 4).flush t = true) :
    (dats m 0 c).flushed 4 t = ((cfg0.win 4).blk t).view.read (Elt Ideal) (G0 m c) := by
  rw [Value.flushed4, block4]
  funext i
  obtain ⟨r, j, rfl⟩ : ∃ r j, i = ix2 r j := ⟨i 0, i 1, eq_ix2 i⟩
  rw [View.read_apply]
  refine ((pay1_apply _ _ r j).trans ?_).trans (congrArg (G0 m c) (funext fun a => Fin.ext ?_) : G0 m c (ix2 (rowOf t r) j) = _)
  · simp only [iblk0, iblk1]; rfl
  obtain ⟨h0, h1⟩ := (index_out t).1
  match a with
  | ⟨0, _⟩ => show 1024 * t.val + r.val = win0_4.index t 0 * 1024 + 1 * r.val; rw [h0]; omega
  | ⟨1, _⟩ => show j.val = win0_4.index t 1 * 1024 + 1 * j.val; rw [h1]; omega

theorem flushed5 (t : Fin cfg0.N) (_ : (cfg0.win 5).flush t = true) :
    (dats m 0 c).flushed 5 t = ((cfg0.win 5).blk t).view.read (Elt Ideal) (G1 m c) := by
  rw [Value.flushed5, block5]
  funext i
  obtain ⟨r, j, rfl⟩ : ∃ r j, i = ix2 r j := ⟨i 0, i 1, eq_ix2 i⟩
  rw [View.read_apply]
  refine ((pay2_apply _ _ _ r j).trans ?_).trans (congrArg (G1 m c) (funext fun a => Fin.ext ?_) : G1 m c (ix2 (rowOf t r) j) = _)
  · simp only [iblk0, iblk1, X2]; rfl
  obtain ⟨h0, h1⟩ := (index_out t).2.1
  match a with
  | ⟨0, _⟩ => show 1024 * t.val + r.val = win0_5.index t 0 * 1024 + 1 * r.val; rw [h0]; omega
  | ⟨1, _⟩ => show j.val = win0_5.index t 1 * 1024 + 1 * j.val; rw [h1]; omega

theorem flushed6 (t : Fin cfg0.N) (_ : (cfg0.win 6).flush t = true) :
    (dats m 0 c).flushed 6 t = ((cfg0.win 6).blk t).view.read (Elt Ideal) (G2 m c) := by
  rw [Value.flushed6, block6]
  funext i
  obtain ⟨n, r, rfl⟩ : ∃ n r, i = ix2 n r := ⟨i 0, i 1, eq_ix2 i⟩
  rw [View.read_apply]
  refine ((pay3_apply _ _ _ n r).trans ?_).trans (congrArg (G2 m c) (funext fun a => Fin.ext ?_) : G2 m c (ix2 n (rowOf t r)) = _)
  · simp only [iblk0, iblk1, iblk3]; rfl
  obtain ⟨h0, h1⟩ := (index_out t).2.2
  match a with
  | ⟨0, _⟩ => show n.val = win0_6.index t 0 * 1536 + 1 * n.val; rw [h0]; omega
  | ⟨1, _⟩ => show 1024 * t.val + r.val = win0_6.index t 1 * 1024 + 1 * r.val; rw [h1]; omega

/-- The point that writes row `t`. -/
def pointOf (t : Fin 8192) : Fin cfg0.N := ⟨t.val / 1024, by have h : cfg0.N = 8 := N_0; omega⟩

theorem final4 : (dats m 0 c).arrAt 4 cfg0.N = G0 m c :=
  (dats m 0 c).arrAt_eq_of_cover 4 (G0 m c) (flushed4 m c) fun i => ⟨pointOf (i 0), flush0_4 _, by
    show i ∈ ((View.whole main_v3_0).slice (win0_4.rect (pointOf (i 0)))).set
    rw [View.set_slice_whole, Rect.mem_set_unit]
    obtain ⟨h0, h1⟩ := (index_out (pointOf (i 0))).1
    have hp : (pointOf (i 0)).val = (i 0).val / 1024 := rfl
    have : (i 1 : Nat) < 1024 := (i 1).isLt
    intro a
    match a with
    | ⟨0, _⟩ => show win0_4.index (pointOf (i 0)) 0 * 1024 ≤ (i 0 : Nat) ∧ (i 0 : Nat) < win0_4.index (pointOf (i 0)) 0 * 1024 + 1024; rw [h0]; omega
    | ⟨1, _⟩ => show win0_4.index (pointOf (i 0)) 1 * 1024 ≤ (i 1 : Nat) ∧ (i 1 : Nat) < win0_4.index (pointOf (i 0)) 1 * 1024 + 1024; rw [h1]; omega⟩

theorem final5 : (dats m 0 c).arrAt 5 cfg0.N = G1 m c :=
  (dats m 0 c).arrAt_eq_of_cover 5 (G1 m c) (flushed5 m c) fun i => ⟨pointOf (i 0), flush0_5 _, by
    show i ∈ ((View.whole main_v3_1).slice (win0_5.rect (pointOf (i 0)))).set
    rw [View.set_slice_whole, Rect.mem_set_unit]
    obtain ⟨h0, h1⟩ := (index_out (pointOf (i 0))).2.1
    have hp : (pointOf (i 0)).val = (i 0).val / 1024 := rfl
    have : (i 1 : Nat) < 1024 := (i 1).isLt
    intro a
    match a with
    | ⟨0, _⟩ => show win0_5.index (pointOf (i 0)) 0 * 1024 ≤ (i 0 : Nat) ∧ (i 0 : Nat) < win0_5.index (pointOf (i 0)) 0 * 1024 + 1024; rw [h0]; omega
    | ⟨1, _⟩ => show win0_5.index (pointOf (i 0)) 1 * 1024 ≤ (i 1 : Nat) ∧ (i 1 : Nat) < win0_5.index (pointOf (i 0)) 1 * 1024 + 1024; rw [h1]; omega⟩

theorem final6 : (dats m 0 c).arrAt 6 cfg0.N = G2 m c :=
  (dats m 0 c).arrAt_eq_of_cover 6 (G2 m c) (flushed6 m c) fun i => ⟨pointOf (i 1), flush0_6 _, by
    show i ∈ ((View.whole main_v3_2).slice (win0_6.rect (pointOf (i 1)))).set
    rw [View.set_slice_whole, Rect.mem_set_unit]
    obtain ⟨h0, h1⟩ := (index_out (pointOf (i 1))).2.2
    have hp : (pointOf (i 1)).val = (i 1).val / 1024 := rfl
    have : (i 0 : Nat) < 1536 := (i 0).isLt
    intro a
    match a with
    | ⟨0, _⟩ => show win0_6.index (pointOf (i 1)) 0 * 1536 ≤ (i 0 : Nat) ∧ (i 0 : Nat) < win0_6.index (pointOf (i 1)) 0 * 1536 + 1536; rw [h0]; omega
    | ⟨1, _⟩ => show win0_6.index (pointOf (i 1)) 1 * 1024 ≤ (i 1 : Nat) ∧ (i 1 : Nat) < win0_6.index (pointOf (i 1)) 1 * 1024 + 1024; rw [h1]; omega⟩

/-- The run: the three results, and the arguments unchanged. -/
theorem run : θ_run defs (onTc (τ := τ) (main (F := Ideal))) ⟨m, fun _ => 0, ρ⟩ fun r => ∀ c : Dev nD,
      r.2.mem ((c : Thread nD τ).loc main_v3_0) = G0 m c
      ∧ r.2.mem ((c : Thread nD τ).loc main_v3_1) = G1 m c
      ∧ r.2.mem ((c : Thread nD τ).loc main_v3_2) = G2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨h0, h1, h2, hargs⟩ := h c
    exact ⟨h0.trans (final4 m c), h1.trans (final5 m c), h2.trans (final6 m c), hargs⟩)
    (Value.run_blocks m ρ)

end Cert.Kernel10Ideal.Final
-- ==== Proof.ProjForwardReference.lean ====
/-
  The first normalisation and the input projection: what the reference computes.
-/
module

public import proofs.«01_k».proof.Proof.Gen.Reference10Ideal.Run
public import proofs.«01_k».proof.Proof.Gen.Reference10Ideal.Read
public import proofs.«01_k».proof.Proof.ProductSpec

@[expose] public section

set_option maxRecDepth 16384

noncomputable section

namespace Cert.Reference10Ideal.Final

open Idealize.ShloMosaic Idealize.ShloMosaic.TcCoe Idealize.SL.Sem
open Cert.Reference10Ideal Cert.Reference10Ideal.Read RmsBackward

section Stages

variable (x0 : (⟨S8192x1024, .f32⟩ : BufTy).Contents (Elt Ideal)) (x1 : (⟨S1x1024, .f32⟩ : BufTy).Contents (Elt Ideal))
  (x2 : (⟨S1024x2560, .f32⟩ : BufTy).Contents (Elt Ideal))

/-- The arguments, as the specification takes them. -/
def rows (t : Fin 8192) (j : Fin 1024) : EReal := (x0 : S8192x1024.Idx → EReal) (ix2 t j)
def scale (j : Fin 1024) : EReal := (x1 : S1x1024.Idx → EReal) (ix2 0 j)
def weights (j : Fin 1024) (n : Fin 2560) : EReal := (x2 : S1024x2560.Idx → EReal) (ix2 j n)

theorem v7 (t : Fin 8192) : val_main_v7 (F := Ideal) x0 (ix2 t (0 : Fin 1)) = inv (rows x0 t) := by
  pointwise [val_main_v7, val_main_v6, val_main_v5, val_main_cst_1, val_main_v4, val_main_v3, val_main_cst_0, val_main_v2,
    val_main_v1, val_main_cst, val_main_v0]
  rfl

theorem v11 (t : Fin 8192) (j : Fin 1024) : val_main_v11 (F := Ideal) x0 x1 (ix2 t j) = hat (rows x0 t) j * scale x1 j := by
  have h := v7 x0 t
  unfold val_main_v11 val_main_v10 val_main_v9 val_main_v8
  generalize val_main_v7 (F := Ideal) x0 = y at h
  pointwise
  rw [h]; rfl

theorem value (t : Fin 8192) (n : Fin 2560) :
    val_main_v12 (F := Ideal) x0 x1 x2 (ix2 t n) = Product.up (rows x0) (scale x1) (weights x2) t n := by
  have h := v11 x0 x1
  unfold val_main_v12
  generalize val_main_v11 (F := Ideal) x0 x1 = y at h
  pointwise
  simp only [h]; rfl

/-- The three results: the normalised rows, the first columns of the product, and the transpose of the others. -/
theorem v13 (t : Fin 8192) (j : Fin 1024) : val_main_v13 (F := Ideal) x0 x1 (ix2 t j) = hat (rows x0 t) j * scale x1 j := by
  rw [← v11]
  unfold val_main_v13
  pointwise

theorem v14 (t : Fin 8192) (n : Fin 1024) :
    val_main_v14 (F := Ideal) x0 x1 x2 (ix2 t n) = Product.up (rows x0) (scale x1) (weights x2) t ⟨n.val, by omega⟩ := by
  rw [← value]
  unfold val_main_v14
  generalize val_main_v12 (F := Ideal) x0 x1 x2 = y
  pointwise

theorem v17 (n : Fin 1536) (t : Fin 8192) :
    val_main_v17 (F := Ideal) x0 x1 x2 (ix2 n t) = Product.up (rows x0) (scale x1) (weights x2) t ⟨1024 + n.val, by omega⟩ := by
  rw [← value]
  unfold val_main_v17 val_main_v16 val_main_v15
  generalize val_main_v12 (F := Ideal) x0 x1 x2 = y
  pointwise

end Stages

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v13) = (fun i => hat (rows (m ((c : Thread nD τ).loc main_arg0)) (i 0)) (i 1)
        * scale (m ((c : Thread nD τ).loc main_arg1)) (i 1) : S8192x1024.Idx → EReal)
      ∧ r.2.mem ((c : Thread nD τ).loc main_v14) = (fun i => Product.up (rows (m ((c : Thread nD τ).loc main_arg0)))
        (scale (m ((c : Thread nD τ).loc main_arg1))) (weights (m ((c : Thread nD τ).loc main_arg2))) (i 0)
        ⟨(i 1).val, by have : (i 1 : Nat) < 1024 := (i 1).isLt; omega⟩ : S8192x1024.Idx → EReal)
      ∧ r.2.mem ((c : Thread nD τ).loc main_v17) = (fun i => Product.up (rows (m ((c : Thread nD τ).loc main_arg0)))
        (scale (m ((c : Thread nD τ).loc main_arg1))) (weights (m ((c : Thread nD τ).loc main_arg2))) (i 1)
        ⟨1024 + (i 0).val, by have : (i 0 : Nat) < 1536 := (i 0).isLt; omega⟩ : S1536x8192.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨h0, h1, h2, hargs⟩ := h c
    refine ⟨(h0.trans (Read.val_main_v13_eq ..)).trans ?_, (h1.trans (Read.val_main_v14_eq ..)).trans ?_,
      (h2.trans (Read.val_main_v17_eq ..)).trans ?_, hargs⟩
    · funext i
      obtain ⟨t, j, rfl⟩ : ∃ t j, i = ix2 t j := ⟨i 0, i 1, eq_ix2 i⟩
      exact v13 _ _ t j
    · funext i
      obtain ⟨t, n, rfl⟩ : ∃ t n, i = ix2 t n := ⟨i 0, i 1, eq_ix2 i⟩
      exact v14 _ _ _ t n
    · funext i
      obtain ⟨n, t, rfl⟩ : ∃ n t, i = ix2 n t := ⟨i 0, i 1, eq_ix2 i⟩
      exact v17 _ _ _ n t)
    (Value.run m ρ)

end Cert.Reference10Ideal.Final
-- ==== Proof.MixForwardSpec.lean ====
/-
  The output projection of the two mixers' results side by side, the normalised residual sum and the second normalisation,
  over the extended reals.
-/
module

public import proofs.«01_k».proof.Proof.RmsBackward

@[expose] public section

noncomputable section

namespace MixForward

open Idealize.ShloMosaic RmsBackward

/-- The arguments: the rows before the mixers, the two mixers' results, the projection's weights and the two scales. -/
structure Args where
  x : Fin 8192 → Fin 1024 → EReal
  conv : Fin 8192 → Fin 512 → EReal
  attn : Fin 8192 → Fin 512 → EReal
  w : Fin 1024 → Fin 1024 → EReal
  gpost : Fin 1024 → EReal
  gpre : Fin 1024 → EReal

variable (a : Args)

/-- The product, the first half of the weights' rows with the one result and the second half with the other. -/
def mixed (t : Fin 8192) (j : Fin 1024) : EReal :=
  (∑ k, a.conv t k * a.w ⟨k.val, by omega⟩ j) + ∑ k, a.attn t k * a.w ⟨512 + k.val, by omega⟩ j
/-- The residual sum with the normalised, scaled product. -/
def h1 (t : Fin 8192) (j : Fin 1024) : EReal := a.x t j + hat (mixed a t) j * a.gpost j
/-- The rows normalised and scaled again. -/
def u2 (t : Fin 8192) (j : Fin 1024) : EReal := hat (h1 a t) j * a.gpre j

/-- A sum over all the columns is the sum over each half. -/
theorem sum_halves (f : Fin 1024 → EReal) : ∑ k, f k = (∑ k : Fin 512, f ⟨k.val, by omega⟩) + ∑ k : Fin 512, f ⟨512 + k.val, by omega⟩ :=
  Fin.sum_univ_add (a := 512) (b := 512) f

/-- The same product, with the two results side by side in each row. -/
theorem mixed_eq (t : Fin 8192) (j : Fin 1024) :
    mixed a t j = ∑ k : Fin 1024, (if h : k.val < 512 then a.conv t ⟨k.val, h⟩ else a.attn t ⟨k.val - 512, by omega⟩) * a.w k j := by
  rw [sum_halves]
  unfold mixed
  congr 1

end MixForward
-- ==== Proof.MixForward.lean ====
/-
  The output projection with the normalised residual sum and the second normalisation: what the call leaves in its three
  result arrays. Point `t` writes the rows `1024 t …` of each.
-/
module

public import proofs.«01_k».proof.Proof.Gen.Kernel11Ideal.Value
public import proofs.«01_k».proof.Proof.MixForwardSpec
public import Idealize.ShloMosaic.Lib.StableHlo.ReadAt

@[expose] public section

set_option maxRecDepth 16384

noncomputable section

namespace Cert.Kernel11Ideal.Final

open Idealize.ShloMosaic Idealize.ShloMosaic.TcCoe Idealize.SL.Sem RmsBackward MixForward
open Cert.Kernel11Ideal Cert.Kernel11Ideal.Gen

variable (m : (ℓ : Loc nD τ sig) → Buf (Elt Ideal) ℓ) (ρ : Dev nD → PrngReg) (c : Dev nD)

/-- The arguments, as the specification takes them. -/
abbrev args : Args where
  x t j := (m ((c : Thread nD τ).loc main_arg0) : S8192x1024.Idx → EReal) (ix2 t j)
  conv t k := (m ((c : Thread nD τ).loc main_arg1) : S8192x512.Idx → EReal) (ix2 t k)
  attn t k := (m ((c : Thread nD τ).loc main_arg2) : S8192x512.Idx → EReal) (ix2 t k)
  w k j := (m ((c : Thread nD τ).loc main_arg3) : S1024x1024.Idx → EReal) (ix2 k j)
  gpost j := (m ((c : Thread nD τ).loc main_arg4) : S1x1024.Idx → EReal) (ix2 0 j)
  gpre j := (m ((c : Thread nD τ).loc main_arg5) : S1x1024.Idx → EReal) (ix2 0 j)

/-! ## What the host prepares -/

theorem V_conv (t : Fin 8192) (k : Fin 512) : (V m c main_v0 : S8192x512.Idx → EReal) (ix2 t k) = (args m c).conv t k := by
  unfold V hostOps0
  after_reads_at

theorem V_attn (k : Fin 512) (t : Fin 8192) : (V m c main_v2 : S512x8192.Idx → EReal) (ix2 k t) = (args m c).attn t k := by
  unfold V hostOps0
  after_reads_at

theorem V_weights (k j : Fin 1024) : (V m c main_v3 : S1024x1024.Idx → EReal) (ix2 k j) = (args m c).w k j := by
  unfold V hostOps0
  after_reads_at

theorem V_x (t : Fin 8192) (j : Fin 1024) : (V m c main_arg0 : S8192x1024.Idx → EReal) (ix2 t j) = (args m c).x t j := by
  unfold V hostOps0
  after_reads_at

theorem V_post (j : Fin 1024) : (V m c main_arg4 : S1x1024.Idx → EReal) (ix2 0 j) = (args m c).gpost j := by
  unfold V hostOps0
  after_reads_at

theorem V_pre (j : Fin 1024) : (V m c main_arg5 : S1x1024.Idx → EReal) (ix2 0 j) = (args m c).gpre j := by
  unfold V hostOps0
  after_reads_at

/-! ## The blocks -/

theorem index_products : ∀ t : Fin cfg0.N,
    (win0_0.index t 0 = t.val ∧ win0_0.index t 1 = 0)
    ∧ (win0_1.index t 0 = 0 ∧ win0_1.index t 1 = 0)
    ∧ (win0_2.index t 0 = 0 ∧ win0_2.index t 1 = t.val)
    ∧ (win0_3.index t 0 = 1 ∧ win0_3.index t 1 = 0) :=
  (by decide +kernel : ∀ t : Fin grid0.N,
    (win0_0.index t 0 = t.val ∧ win0_0.index t 1 = 0)
    ∧ (win0_1.index t 0 = 0 ∧ win0_1.index t 1 = 0)
    ∧ (win0_2.index t 0 = 0 ∧ win0_2.index t 1 = t.val)
    ∧ (win0_3.index t 0 = 1 ∧ win0_3.index t 1 = 0))

theorem index_rows : ∀ t : Fin cfg0.N,
    (win0_4.index t 0 = t.val ∧ win0_4.index t 1 = 0)
    ∧ (win0_5.index t 0 = 0 ∧ win0_5.index t 1 = 0)
    ∧ (win0_6.index t 0 = 0 ∧ win0_6.index t 1 = 0) :=
  (by decide +kernel : ∀ t : Fin grid0.N,
    (win0_4.index t 0 = t.val ∧ win0_4.index t 1 = 0)
    ∧ (win0_5.index t 0 = 0 ∧ win0_5.index t 1 = 0)
    ∧ (win0_6.index t 0 = 0 ∧ win0_6.index t 1 = 0))

theorem index_out : ∀ t : Fin cfg0.N,
    (win0_7.index t 0 = t.val ∧ win0_7.index t 1 = 0)
    ∧ (win0_8.index t 0 = t.val ∧ win0_8.index t 1 = 0)
    ∧ (win0_9.index t 0 = t.val ∧ win0_9.index t 1 = 0) :=
  (by decide +kernel : ∀ t : Fin grid0.N,
    (win0_7.index t 0 = t.val ∧ win0_7.index t 1 = 0)
    ∧ (win0_8.index t 0 = t.val ∧ win0_8.index t 1 = 0)
    ∧ (win0_9.index t 0 = t.val ∧ win0_9.index t 1 = 0))

def rowOf (t : Fin cfg0.N) (r : Fin 1024) : Fin 8192 :=
  ⟨1024 * t.val + r.val, by have h : cfg0.N = 8 := N_0; have := t.isLt; omega⟩

theorem iblk0 (t : Fin cfg0.N) (r : Fin 1024) (k : Fin 512) :
    (iblk m c 0 t : S1024x512.Idx → EReal) (ix2 r k) = (args m c).conv (rowOf t r) k := by
  rw [← V_conv]
  unfold iblk
  rw [View.read_apply]
  refine congrArg (V m c main_v0) (funext fun a => Fin.ext ?_)
  obtain ⟨h0, h1⟩ := (index_products t).1
  match a with
  | ⟨0, _⟩ => show win0_0.index t 0 * 1024 + 1 * r.val = 1024 * t.val + r.val; rw [h0]; omega
  | ⟨1, _⟩ => show win0_0.index t 1 * 512 + 1 * k.val = k.val; rw [h1]; omega

theorem iblk1 (t : Fin cfg0.N) (k : Fin 512) (j : Fin 1024) :
    (iblk m c 1 t : S512x1024.Idx → EReal) (ix2 k j) = (args m c).w ⟨k.val, by omega⟩ j := by
  rw [← V_weights]
  unfold iblk
  rw [View.read_apply]
  refine congrArg (V m c main_v3) (funext fun a => Fin.ext ?_)
  obtain ⟨h0, h1⟩ := (index_products t).2.1
  match a with
  | ⟨0, _⟩ => show win0_1.index t 0 * 512 + 1 * k.val = k.val; rw [h0]; omega
  | ⟨1, _⟩ => show win0_1.index t 1 * 1024 + 1 * j.val = j.val; rw [h1]; omega

theorem iblk2 (t : Fin cfg0.N) (k : Fin 512) (r : Fin 1024) :
    (iblk m c 2 t : S512x1024.Idx → EReal) (ix2 k r) = (args m c).attn (rowOf t r) k := by
  rw [← V_attn]
  unfold iblk
  rw [View.read_apply]
  refine congrArg (V m c main_v2) (funext fun a => Fin.ext ?_)
  obtain ⟨h0, h1⟩ := (index_products t).2.2.1
  match a with
  | ⟨0, _⟩ => show win0_2.index t 0 * 512 + 1 * k.val = k.val; rw [h0]; omega
  | ⟨1, _⟩ => show win0_2.index t 1 * 1024 + 1 * r.val = 1024 * t.val + r.val; rw [h1]; omega

theorem iblk3 (t : Fin cfg0.N) (k : Fin 512) (j : Fin 1024) :
    (iblk m c 3 t : S512x1024.Idx → EReal) (ix2 k j) = (args m c).w ⟨512 + k.val, by omega⟩ j := by
  rw [← V_weights]
  unfold iblk
  rw [View.read_apply]
  refine congrArg (V m c main_v3) (funext fun a => Fin.ext ?_)
  obtain ⟨h0, h1⟩ := (index_products t).2.2.2
  match a with
  | ⟨0, _⟩ => show win0_3.index t 0 * 512 + 1 * k.val = 512 + k.val; rw [h0]; omega
  | ⟨1, _⟩ => show win0_3.index t 1 * 1024 + 1 * j.val = j.val; rw [h1]; omega

theorem iblk4 (t : Fin cfg0.N) (r j : Fin 1024) :
    (iblk m c 4 t : S1024x1024.Idx → EReal) (ix2 r j) = (args m c).x (rowOf t r) j := by
  rw [← V_x]
  unfold iblk
  rw [View.read_apply]
  refine congrArg (V m c main_arg0) (funext fun a => Fin.ext ?_)
  obtain ⟨h0, h1⟩ := (index_rows t).1
  match a with
  | ⟨0, _⟩ => show win0_4.index t 0 * 1024 + 1 * r.val = 1024 * t.val + r.val; rw [h0]; omega
  | ⟨1, _⟩ => show win0_4.index t 1 * 1024 + 1 * j.val = j.val; rw [h1]; omega

theorem iblk5 (t : Fin cfg0.N) (j : Fin 1024) :
    (iblk m c 5 t : S1x1024.Idx → EReal) (ix2 0 j) = (args m c).gpost j := by
  rw [← V_post]
  unfold iblk
  rw [View.read_apply]
  refine congrArg (V m c main_arg4) (funext fun a => Fin.ext ?_)
  obtain ⟨h0, h1⟩ := (index_rows t).2.1
  match a with
  | ⟨0, _⟩ => show win0_5.index t 0 * 1 + 1 * 0 = 0; rw [h0]
  | ⟨1, _⟩ => show win0_5.index t 1 * 1024 + 1 * j.val = j.val; rw [h1]; omega

theorem iblk6 (t : Fin cfg0.N) (j : Fin 1024) :
    (iblk m c 6 t : S1x1024.Idx → EReal) (ix2 0 j) = (args m c).gpre j := by
  rw [← V_pre]
  unfold iblk
  rw [View.read_apply]
  refine congrArg (V m c main_arg5) (funext fun a => Fin.ext ?_)
  obtain ⟨h0, h1⟩ := (index_rows t).2.2
  match a with
  | ⟨0, _⟩ => show win0_6.index t 0 * 1 + 1 * 0 = 0; rw [h0]
  | ⟨1, _⟩ => show win0_6.index t 1 * 1024 + 1 * j.val = j.val; rw [h1]; omega

/-! ## What a point computes -/

theorem hz : (![0, 0] : Fin 2 → Nat) = fun _ => 0 := funext fun a => by fin_cases a <;> rfl

section Point

variable (y0 : Vec Ideal S1024x512 .bf16) (y1 y2 y3 : Vec Ideal S512x1024 .bf16) (x : Vec Ideal S1024x1024 .f32)
  (g g' : Vec Ideal S1x1024 .f32)

theorem block7 : out0_7 y0 y1 y2 y3 x g g' = k0_pay2 y0 y1 y2 y3 := by
  unfold out0_7
  rw [View.canon_unit_zero (S := S1024x1024) hz]
  simp only [View.ld_unit_zero (S := S1024x512) hz, View.ld_unit_zero (S := S512x1024) hz]

theorem block8 : out0_8 y0 y1 y2 y3 x g g' = k0_pay3 y0 y1 y2 y3 x g := by
  unfold out0_8
  rw [View.canon_unit_zero (S := S1024x1024) hz]
  simp only [View.ld_unit_zero (S := S1024x512) hz, View.ld_unit_zero (S := S512x1024) hz,
    View.ld_unit_zero (S := S1024x1024) hz, View.ld_unit_zero (S := S1x1024) hz]

theorem block9 : out0_9 y0 y1 y2 y3 x g g'
    = k0_pay1 (k0_pay3 y0 y1 y2 y3 x g) (k0_pay4 y0 y1 y2 y3 x g) (Scalar.ofBits .f32 0x358637BD#32) g' := by
  unfold out0_9
  rw [View.canon_unit_zero (S := S1024x1024) hz]
  simp only [View.ld_unit_zero (S := S1024x512) hz, View.ld_unit_zero (S := S512x1024) hz,
    View.ld_unit_zero (S := S1024x1024) hz, View.ld_unit_zero (S := S1x1024) hz]

/-- The product block. -/
theorem pay2_apply (r j : Fin 1024) : k0_pay2 (F := Ideal) y0 y1 y2 y3 (ix2 r j)
    = (∑ k, y0 (ix2 r k) * y1 (ix2 k j)) + ∑ k, y2 (ix2 k r) * y3 (ix2 k j) := by
  pointwise [k0_pay2]

/-- The residual sum with the normalised, scaled product block. -/
theorem pay3_apply (r j : Fin 1024) : k0_pay3 (F := Ideal) y0 y1 y2 y3 x g (ix2 r j)
    = x (ix2 r j) + hat (fun j => k0_pay2 (F := Ideal) y0 y1 y2 y3 (ix2 r j)) j * g (ix2 0 j) := by
  unfold k0_pay3
  generalize k0_pay2 (F := Ideal) y0 y1 y2 y3 = y
  pointwise
  rfl

/-- That sum normalised and scaled. -/
theorem pay1_apply (r j : Fin 1024) :
    k0_pay1 (F := Ideal) (k0_pay3 y0 y1 y2 y3 x g) (k0_pay4 y0 y1 y2 y3 x g) (Scalar.ofBits .f32 0x358637BD#32) g' (ix2 r j)
      = hat (fun j => k0_pay3 (F := Ideal) y0 y1 y2 y3 x g (ix2 r j)) j * g' (ix2 0 j) := by
  unfold k0_pay1 k0_pay4
  generalize k0_pay3 (F := Ideal) y0 y1 y2 y3 x g = y
  pointwise
  rfl

end Point

/-! ## The three results -/

abbrev G0 : S8192x1024.Idx → EReal := fun i => mixed (args m c) (i 0) (i 1)
abbrev G1 : S8192x1024.Idx → EReal := fun i => h1 (args m c) (i 0) (i 1)
abbrev G2 : S8192x1024.Idx → EReal := fun i => u2 (args m c) (i 0) (i 1)

theorem point7 (t : Fin cfg0.N) (r j : Fin 1024) :
    k0_pay2 (F := Ideal) (iblk m c 0 t) (iblk m c 1 t) (iblk m c 2 t) (iblk m c 3 t) (ix2 r j) = mixed (args m c) (rowOf t r) j := by
  refine (pay2_apply _ _ _ _ r j).trans ?_
  simp only [iblk0, iblk1, iblk2, iblk3]
  rfl

theorem point8 (t : Fin cfg0.N) (r j : Fin 1024) :
    k0_pay3 (F := Ideal) (iblk m c 0 t) (iblk m c 1 t) (iblk m c 2 t) (iblk m c 3 t) (iblk m c 4 t) (iblk m c 5 t) (ix2 r j)
      = h1 (args m c) (rowOf t r) j := by
  refine (pay3_apply _ _ _ _ _ _ r j).trans ?_
  simp only [point7, iblk4, iblk5]
  rfl

theorem point9 (t : Fin cfg0.N) (r j : Fin 1024) :
    k0_pay1 (F := Ideal) (k0_pay3 (iblk m c 0 t) (iblk m c 1 t) (iblk m c 2 t) (iblk m c 3 t) (iblk m c 4 t) (iblk m c 5 t))
      (k0_pay4 (iblk m c 0 t) (iblk m c 1 t) (iblk m c 2 t) (iblk m c 3 t) (iblk m c 4 t) (iblk m c 5 t))
      (Scalar.ofBits .f32 0x358637BD#32) (iblk m c 6 t) (ix2 r j) = u2 (args m c) (rowOf t r) j := by
  refine (pay1_apply _ _ _ _ _ _ _ r j).trans ?_
  simp only [point8, iblk6]
  rfl

/-- The point that writes row `t`. -/
def pointOf (t : Fin 8192) : Fin cfg0.N := ⟨t.val / 1024, by have h : cfg0.N = 8 := N_0; omega⟩

theorem flushed7 (t : Fin cfg0.N) (_ : (cfg0.win 7).flush t = true) :
    (dats m 0 c).flushed 7 t = ((cfg0.win 7).blk t).view.read (Elt Ideal) (G0 m c) := by
  rw [Value.flushed7, block7]
  funext i
  obtain ⟨r, j, rfl⟩ : ∃ r j, i = ix2 r j := ⟨i 0, i 1, eq_ix2 i⟩
  rw [View.read_apply]
  refine (point7 m c t r j).trans (congrArg (G0 m c) (funext fun a => Fin.ext ?_) : G0 m c (ix2 (rowOf t r) j) = _)
  obtain ⟨h0, h1⟩ := (index_out t).1
  match a with
  | ⟨0, _⟩ => show 1024 * t.val + r.val = win0_7.index t 0 * 1024 + 1 * r.val; rw [h0]; omega
  | ⟨1, _⟩ => show j.val = win0_7.index t 1 * 1024 + 1 * j.val; rw [h1]; omega

theorem final7 : (dats m 0 c).arrAt 7 cfg0.N = G0 m c :=
  (dats m 0 c).arrAt_eq_of_cover 7 (G0 m c) (flushed7 m c) fun i => ⟨pointOf (i 0), flush0_7 _, by
    show i ∈ ((View.whole main_v4_0).slice (win0_7.rect (pointOf (i 0)))).set
    rw [View.set_slice_whole, Rect.mem_set_unit]
    obtain ⟨h0, h1⟩ := (index_out (pointOf (i 0))).1
    have hp : (pointOf (i 0)).val = (i 0).val / 1024 := rfl
    have : (i 1 : Nat) < 1024 := (i 1).isLt
    intro a
    match a with
    | ⟨0, _⟩ => show win0_7.index (pointOf (i 0)) 0 * 1024 ≤ (i 0 : Nat) ∧ (i 0 : Nat) < win0_7.index (pointOf (i 0)) 0 * 1024 + 1024; rw [h0]; omega
    | ⟨1, _⟩ => show win0_7.index (pointOf (i 0)) 1 * 1024 ≤ (i 1 : Nat) ∧ (i 1 : Nat) < win0_7.index (pointOf (i 0)) 1 * 1024 + 1024; rw [h1]; omega⟩

theorem flushed8 (t : Fin cfg0.N) (_ : (cfg0.win 8).flush t = true) :
    (dats m 0 c).flushed 8 t = ((cfg0.win 8).blk t).view.read (Elt Ideal) (G1 m c) := by
  rw [Value.flushed8, block8]
  funext i
  obtain ⟨r, j, rfl⟩ : ∃ r j, i = ix2 r j := ⟨i 0, i 1, eq_ix2 i⟩
  rw [View.read_apply]
  refine (point8 m c t r j).trans (congrArg (G1 m c) (funext fun a => Fin.ext ?_) : G1 m c (ix2 (rowOf t r) j) = _)
  obtain ⟨h0, h1⟩ := (index_out t).2.1
  match a with
  | ⟨0, _⟩ => show 1024 * t.val + r.val = win0_8.index t 0 * 1024 + 1 * r.val; rw [h0]; omega
  | ⟨1, _⟩ => show j.val = win0_8.index t 1 * 1024 + 1 * j.val; rw [h1]; omega

theorem final8 : (dats m 0 c).arrAt 8 cfg0.N = G1 m c :=
  (dats m 0 c).arrAt_eq_of_cover 8 (G1 m c) (flushed8 m c) fun i => ⟨pointOf (i 0), flush0_8 _, by
    show i ∈ ((View.whole main_v4_1).slice (win0_8.rect (pointOf (i 0)))).set
    rw [View.set_slice_whole, Rect.mem_set_unit]
    obtain ⟨h0, h1⟩ := (index_out (pointOf (i 0))).2.1
    have hp : (pointOf (i 0)).val = (i 0).val / 1024 := rfl
    have : (i 1 : Nat) < 1024 := (i 1).isLt
    intro a
    match a with
    | ⟨0, _⟩ => show win0_8.index (pointOf (i 0)) 0 * 1024 ≤ (i 0 : Nat) ∧ (i 0 : Nat) < win0_8.index (pointOf (i 0)) 0 * 1024 + 1024; rw [h0]; omega
    | ⟨1, _⟩ => show win0_8.index (pointOf (i 0)) 1 * 1024 ≤ (i 1 : Nat) ∧ (i 1 : Nat) < win0_8.index (pointOf (i 0)) 1 * 1024 + 1024; rw [h1]; omega⟩

theorem flushed9 (t : Fin cfg0.N) (_ : (cfg0.win 9).flush t = true) :
    (dats m 0 c).flushed 9 t = ((cfg0.win 9).blk t).view.read (Elt Ideal) (G2 m c) := by
  rw [Value.flushed9, block9]
  funext i
  obtain ⟨r, j, rfl⟩ : ∃ r j, i = ix2 r j := ⟨i 0, i 1, eq_ix2 i⟩
  rw [View.read_apply]
  refine (point9 m c t r j).trans (congrArg (G2 m c) (funext fun a => Fin.ext ?_) : G2 m c (ix2 (rowOf t r) j) = _)
  obtain ⟨h0, h1⟩ := (index_out t).2.2
  match a with
  | ⟨0, _⟩ => show 1024 * t.val + r.val = win0_9.index t 0 * 1024 + 1 * r.val; rw [h0]; omega
  | ⟨1, _⟩ => show j.val = win0_9.index t 1 * 1024 + 1 * j.val; rw [h1]; omega

theorem final9 : (dats m 0 c).arrAt 9 cfg0.N = G2 m c :=
  (dats m 0 c).arrAt_eq_of_cover 9 (G2 m c) (flushed9 m c) fun i => ⟨pointOf (i 0), flush0_9 _, by
    show i ∈ ((View.whole main_v4_2).slice (win0_9.rect (pointOf (i 0)))).set
    rw [View.set_slice_whole, Rect.mem_set_unit]
    obtain ⟨h0, h1⟩ := (index_out (pointOf (i 0))).2.2
    have hp : (pointOf (i 0)).val = (i 0).val / 1024 := rfl
    have : (i 1 : Nat) < 1024 := (i 1).isLt
    intro a
    match a with
    | ⟨0, _⟩ => show win0_9.index (pointOf (i 0)) 0 * 1024 ≤ (i 0 : Nat) ∧ (i 0 : Nat) < win0_9.index (pointOf (i 0)) 0 * 1024 + 1024; rw [h0]; omega
    | ⟨1, _⟩ => show win0_9.index (pointOf (i 0)) 1 * 1024 ≤ (i 1 : Nat) ∧ (i 1 : Nat) < win0_9.index (pointOf (i 0)) 1 * 1024 + 1024; rw [h1]; omega⟩

/-- The run: the three results, and the arguments unchanged. -/
theorem run : θ_run defs (onTc (τ := τ) (main (F := Ideal))) ⟨m, fun _ => 0, ρ⟩ fun r => ∀ c : Dev nD,
      r.2.mem ((c : Thread nD τ).loc main_v4_0) = G0 m c
      ∧ r.2.mem ((c : Thread nD τ).loc main_v4_1) = G1 m c
      ∧ r.2.mem ((c : Thread nD τ).loc main_v4_2) = G2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => by
    obtain ⟨h0, h1, h2, hargs⟩ := h c
    exact ⟨h0.trans (final7 m c), h1.trans (final8 m c), h2.trans (final9 m c), hargs⟩)
    (Value.run_blocks m ρ)

end Cert.Kernel11Ideal.Final
-- ==== Proof.MixForwardReference.lean ====
/-
  The reference of the output projection with the normalised residual sum and the second normalisation: what it leaves in
  its three results.
-/
module

public import proofs.«01_k».proof.Proof.Gen.Reference11Ideal.Read
public import proofs.«01_k».proof.Proof.MixForwardSpec

@[expose] public section

set_option maxRecDepth 16384

noncomputable section

namespace Cert.Reference11Ideal.Final

open Idealize.ShloMosaic Idealize.ShloMosaic.TcCoe Idealize.SL.Sem RmsBackward MixForward
open Cert.Reference11Ideal Cert.Reference11Ideal.Read

section Stages

variable (x0 : (⟨S8192x1024, .f32⟩ : BufTy).Contents (Elt Ideal)) (x1 x2 : (⟨S8192x512, .f32⟩ : BufTy).Contents (Elt Ideal))
  (x3 : (⟨S1024x1024, .f32⟩ : BufTy).Contents (Elt Ideal)) (x4 x5 : (⟨S1x1024, .f32⟩ : BufTy).Contents (Elt Ideal))

/-- The arguments, as the specification takes them. -/
abbrev args : Args where
  x t j := (x0 : S8192x1024.Idx → EReal) (ix2 t j)
  conv t k := (x1 : S8192x512.Idx → EReal) (ix2 t k)
  attn t k := (x2 : S8192x512.Idx → EReal) (ix2 t k)
  w k j := (x3 : S1024x1024.Idx → EReal) (ix2 k j)
  gpost j := (x4 : S1x1024.Idx → EReal) (ix2 0 j)
  gpre j := (x5 : S1x1024.Idx → EReal) (ix2 0 j)

/-- The two results side by side. -/
theorem v0 (t : Fin 8192) (k : Fin 1024) : val_main_v0 (F := Ideal) x1 x2 (ix2 t k)
    = if h : k.val < 512 then (x1 : S8192x512.Idx → EReal) (ix2 t ⟨k.val, h⟩)
      else (x2 : S8192x512.Idx → EReal) (ix2 t ⟨k.val - 512, by omega⟩) := by
  unfold val_main_v0
  pointwise

theorem v1 (t : Fin 8192) (j : Fin 1024) :
    val_main_v1 (F := Ideal) x1 x2 x3 (ix2 t j) = mixed (args x0 x1 x2 x3 x4 x5) t j := by
  have h := v0 x1 x2
  unfold val_main_v1
  generalize val_main_v0 (F := Ideal) x1 x2 = y at h
  pointwise
  simp only [h]
  exact (mixed_eq (args x0 x1 x2 x3 x4 x5) t j).symm

theorem v14 (t : Fin 8192) (j : Fin 1024) :
    val_main_v14 (F := Ideal) x0 x1 x2 x3 x4 (ix2 t j) = h1 (args x0 x1 x2 x3 x4 x5) t j := by
  have h := v1 x0 x1 x2 x3 x4 x5
  unfold val_main_v14 val_main_v13 val_main_v12 val_main_v11 val_main_v10 val_main_v9 val_main_v8 val_main_v7 val_main_v6
    val_main_v5 val_main_v4 val_main_v3 val_main_v2 val_main_cst val_main_cst_0 val_main_cst_1
  generalize val_main_v1 (F := Ideal) x1 x2 x3 = y at h
  pointwise
  simp only [h]; rfl

theorem v27 (t : Fin 8192) (j : Fin 1024) :
    val_main_v27 (F := Ideal) x0 x1 x2 x3 x4 x5 (ix2 t j) = u2 (args x0 x1 x2 x3 x4 x5) t j := by
  have h := v14 x0 x1 x2 x3 x4 x5
  unfold val_main_v27 val_main_v26 val_main_v25 val_main_v24 val_main_v23 val_main_v22 val_main_v21 val_main_v20 val_main_v19
    val_main_v18 val_main_v17 val_main_v16 val_main_v15 val_main_cst_2 val_main_cst_3 val_main_cst_4
  generalize val_main_v14 (F := Ideal) x0 x1 x2 x3 x4 = y at h
  pointwise
  simp only [h]; rfl

end Stages

variable (m : (ℓ : Loc nD τ sig) → Buf (Elt Ideal) ℓ) (ρ : Dev nD → PrngReg)

/-- The arguments of one run. -/
abbrev given (c : Dev nD) : Args := args (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

theorem run : θ_run defs (onTc (τ := τ) (main (F := Ideal))) ⟨m, fun _ => 0, ρ⟩ fun r => ∀ c : Dev nD,
      r.2.mem ((c : Thread nD τ).loc main_v1) = (fun i => mixed (given m c) (i 0) (i 1) : S8192x1024.Idx → EReal)
      ∧ r.2.mem ((c : Thread nD τ).loc main_v14) = (fun i => h1 (given m c) (i 0) (i 1) : S8192x1024.Idx → EReal)
      ∧ r.2.mem ((c : Thread nD τ).loc main_v27) = (fun i => u2 (given m c) (i 0) (i 1) : S8192x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => by
    obtain ⟨h0, h1, h2, hargs⟩ := h c
    refine ⟨(h0.trans (Read.val_main_v1_eq ..)).trans ?_, (h1.trans (Read.val_main_v14_eq ..)).trans ?_,
      (h2.trans (Read.val_main_v27_eq ..)).trans ?_, hargs⟩ <;>
    · funext i
      obtain ⟨t, j, rfl⟩ : ∃ t j, i = ix2 t j := ⟨i 0, i 1, eq_ix2 i⟩
      first | exact v1 _ _ _ _ _ _ t j | exact v14 _ _ _ _ _ _ t j | exact v27 _ _ _ _ _ _ t j)
    (Value.run m ρ)

end Cert.Reference11Ideal.Final
-- ==== Proof.GateSpec.lean ====
/-
  The gated convolution of the feed-forward layer, over the extended reals: a causal convolution of three taps down the
  rows, column by column, with a bias; the smooth gate of its first half of the columns, and the derivative of that gate.
-/
module

public import Idealize.ShloMosaic.Lib.Pointwise
public import Idealize.ShloMosaic.PureOps.Ideal.Laws

@[expose] public section

noncomputable section

namespace Gate

open Idealize.ShloMosaic

/-- The numbers of the gate, as the programs write them: one half, the factor of the cube, the factor of the
    argument, and three times the factor of the cube. -/
abbrev half : EReal := Ideal.ofBits .f32 0x3F000000#32
abbrev cube : EReal := Ideal.ofBits .f32 0x3D372713#32
abbrev scale : EReal := Ideal.ofBits .f32 0x3F4C422A#32
abbrev cube3 : EReal := Ideal.ofBits .f32 0x3E095D4F#32

/-- The hyperbolic tangent inside the gate. -/
def inner (z : EReal) : EReal := Ideal.tanh (scale * (z + cube * z * (z * z)))
/-- The share of its argument that the gate lets through. -/
def share (z : EReal) : EReal := half * (1 + inner z)
/-- The gate. -/
def gel (z : EReal) : EReal := z * share z
/-- The derivative of the gate. -/
def dgel (z : EReal) : EReal := share z + z * (half * (1 - inner z * inner z) * scale * (1 + cube3 * (z * z)))

/-- One entry of the convolution, of the entry itself and the one and two rows above it. -/
def tap (b w2 w1 w0 x2 x1 x0 : EReal) : EReal := b + w2 * x2 + w1 * x1 + w0 * x0

/-- The arguments: the rows, the taps and the bias. -/
structure Args where
  x : Fin 8192 → Fin 5632 → EReal
  w : Fin 3 → Fin 5632 → EReal
  b : Fin 5632 → EReal

variable (a : Args)

/-- The entry `n` rows above, zero above the first row. -/
def above (n : ℕ) (t : Fin 8192) (j : Fin 5632) : EReal := if n ≤ t.val then a.x ⟨t.val - n, by omega⟩ j else 0
/-- The convolution. -/
def conv (t : Fin 8192) (j : Fin 5632) : EReal :=
  tap (a.b j) (a.w 2 j) (a.w 1 j) (a.w 0 j) (above a 0 t j) (above a 1 t j) (above a 2 t j)
/-- The half that gates, and the half that is gated. -/
def gate (t : Fin 8192) (n : Fin 2816) : EReal := conv a t ⟨n.val, by omega⟩
def value (t : Fin 8192) (n : Fin 2816) : EReal := conv a t ⟨2816 + n.val, by omega⟩
/-- The three results: the activations, the gate, and the gate's derivative times what is gated. -/
def act (t : Fin 8192) (n : Fin 2816) : EReal := gel (gate a t n) * value a t n
def gated (t : Fin 8192) (n : Fin 2816) : EReal := gel (gate a t n)
def slope (t : Fin 8192) (n : Fin 2816) : EReal := value a t n * dgel (gate a t n)

end Gate

end
-- ==== Proof.GateStrip.lean ====
/-
  The gated convolution: what the printed operations of one strip of sixteen rows give, entry by entry. The first strip
  of a block takes the rows above it from the block before, the others from the block itself.
-/
module

public import proofs.«01_k».proof.Proof.Gen.Kernel12Ideal.Value
public import proofs.«01_k».proof.Proof.GateSpec

@[expose] public section

set_option maxRecDepth 16384

noncomputable section

namespace Cert.Kernel12Ideal.Strip

open Idealize.ShloMosaic Idealize.ShloMosaic.TcCoe Idealize.SL.Sem Gate
open Cert.Kernel12Ideal Cert.Kernel12Ideal.Gen

variable (v0 v1 v2 v3 v4 v5 v6 v7 : Vec Ideal S1x1408 .f32)

/-- The convolution of a window of 24 rows, at its row `8 + a`. -/
abbrev window (b w2 w1 w0 : Vec Ideal S1x1408 .f32) (x : Vec Ideal S24x1408 .f32) (a : Fin 16) (q : Fin 1408) : EReal :=
  tap (b (ix2 0 q)) (w2 (ix2 0 q)) (w1 (ix2 0 q)) (w0 (ix2 0 q)) (x (ix2 ⟨8 + a.val, by omega⟩ q)) (x (ix2 ⟨7 + a.val, by omega⟩ q))
    (x (ix2 ⟨6 + a.val, by omega⟩ q))

theorem pay3_apply (x : Vec Ideal S24x1408 .f32) (a : Fin 16) (q : Fin 1408) :
    k0_pay3 (F := Ideal) v3 v4 v5 v7 x (ix2 a q) = window v7 v5 v4 v3 x a q := by
  pointwise [k0_pay3]
  rfl

theorem pay6_apply (x : Vec Ideal S24x1408 .f32) (a : Fin 16) (q : Fin 1408) :
    k0_pay6 (F := Ideal) v0 v1 v2 v6 x (ix2 a q) = window v6 v2 v1 v0 x a q := by
  pointwise [k0_pay6]
  rfl

theorem pay21_apply (x : Vec Ideal S24x1408 .f32) (a : Fin 16) (q : Fin 1408) :
    k0_pay21 (F := Ideal) v3 v4 v5 v7 x (ix2 a q) = window v7 v5 v4 v3 x a q := by
  pointwise [k0_pay21]
  rfl

/-! ## The strips after the first -/

section
variable (x y : Vec Ideal S24x1408 .f32) (a : Fin 16) (q : Fin 1408)

theorem pay8_apply : k0_pay8 (F := Ideal) v0 v1 v2 v6 x (ix2 a q) = inner (window v6 v2 v1 v0 x a q) := by
  have h := pay6_apply v0 v1 v2 v6 x
  unfold k0_pay8 k0_pay7
  generalize k0_pay6 (F := Ideal) v0 v1 v2 v6 x = z at h
  pointwise
  simp only [h]
  rfl

theorem pay9_apply : k0_pay9 (F := Ideal) v0 v1 v2 v6 x (ix2 a q) = share (window v6 v2 v1 v0 x a q) := by
  have h := pay8_apply v0 v1 v2 v6 x
  unfold k0_pay9
  generalize k0_pay8 (F := Ideal) v0 v1 v2 v6 x = z at h
  pointwise
  simp only [h]
  rfl

theorem gel_apply :
    k0_pay2 (F := Ideal) (k0_pay6 v0 v1 v2 v6 x) (k0_pay9 v0 v1 v2 v6 x) (ix2 a q) = gel (window v6 v2 v1 v0 x a q) := by
  have h := pay6_apply v0 v1 v2 v6 x
  have h' := pay9_apply v0 v1 v2 v6 x
  unfold k0_pay2
  generalize k0_pay6 (F := Ideal) v0 v1 v2 v6 x = z at h
  generalize k0_pay9 (F := Ideal) v0 v1 v2 v6 x = z' at h'
  pointwise
  simp only [h, h']
  rfl

theorem act_apply :
    k0_pay4 (F := Ideal) v3 v4 v5 v7 y (k0_pay6 v0 v1 v2 v6 x) (k0_pay9 v0 v1 v2 v6 x) (ix2 a q)
      = gel (window v6 v2 v1 v0 x a q) * window v7 v5 v4 v3 y a q := by
  have h := gel_apply v0 v1 v2 v6 x
  have h' := pay3_apply v3 v4 v5 v7 y
  unfold k0_pay4
  generalize k0_pay2 (F := Ideal) (k0_pay6 v0 v1 v2 v6 x) (k0_pay9 v0 v1 v2 v6 x) = z at h
  generalize k0_pay3 (F := Ideal) v3 v4 v5 v7 y = z' at h'
  pointwise
  simp only [h, h']

theorem slope_apply :
    k0_pay5 (F := Ideal) v3 v4 v5 v7 y (k0_pay6 v0 v1 v2 v6 x) (k0_pay9 v0 v1 v2 v6 x) (k0_pay10 v0 v1 v2 v6 x) (ix2 a q)
      = window v7 v5 v4 v3 y a q * dgel (window v6 v2 v1 v0 x a q) := by
  have h := pay6_apply v0 v1 v2 v6 x
  have h' := pay9_apply v0 v1 v2 v6 x
  have h'' := pay8_apply v0 v1 v2 v6 x
  have h''' := pay3_apply v3 v4 v5 v7 y
  unfold k0_pay5 k0_pay10 k0_pay7
  generalize k0_pay6 (F := Ideal) v0 v1 v2 v6 x = z at h
  generalize k0_pay9 (F := Ideal) v0 v1 v2 v6 x = z' at h'
  generalize k0_pay8 (F := Ideal) v0 v1 v2 v6 x = z'' at h''
  generalize k0_pay3 (F := Ideal) v3 v4 v5 v7 y = z''' at h'''
  pointwise
  simp only [h, h', h'', h''']
  rfl

end

/-! ## The first strip -/

section
variable (i : grid0.Coords) (p : Vec Ideal S8x1408 .f32) (x : Vec Ideal S16x1408 .f32) (y : Vec Ideal S24x1408 .f32)
  (a : Fin 16) (q : Fin 1408)

theorem pay15_apply :
    k0_pay15 (F := Ideal) v0 (k0_pay13 i v1 v2 v6 p x) (k0_pay14 i p x) (ix2 a q) = window v6 v2 v1 v0 (k0_pay11 i p x) a q := by
  unfold k0_pay15 k0_pay13 k0_pay14
  generalize k0_pay11 (F := Ideal) i p x = z
  pointwise
  rfl

theorem pay17_apply :
    k0_pay17 (F := Ideal) v0 (k0_pay13 i v1 v2 v6 p x) (k0_pay14 i p x) (ix2 a q)
      = inner (window v6 v2 v1 v0 (k0_pay11 i p x) a q) := by
  have h := pay15_apply v0 v1 v2 v6 i p x
  unfold k0_pay17 k0_pay16
  generalize k0_pay15 (F := Ideal) v0 (k0_pay13 i v1 v2 v6 p x) (k0_pay14 i p x) = z at h
  pointwise
  simp only [h]
  rfl

theorem pay18_apply :
    k0_pay18 (F := Ideal) v0 (k0_pay13 i v1 v2 v6 p x) (k0_pay14 i p x) (ix2 a q)
      = share (window v6 v2 v1 v0 (k0_pay11 i p x) a q) := by
  have h := pay17_apply v0 v1 v2 v6 i p x
  unfold k0_pay18
  generalize k0_pay17 (F := Ideal) v0 (k0_pay13 i v1 v2 v6 p x) (k0_pay14 i p x) = z at h
  pointwise
  simp only [h]
  rfl

theorem first_gel_apply :
    k0_pay19 (F := Ideal) v0 (k0_pay13 i v1 v2 v6 p x) (k0_pay14 i p x) (ix2 a q)
      = gel (window v6 v2 v1 v0 (k0_pay11 i p x) a q) := by
  have h := pay15_apply v0 v1 v2 v6 i p x
  have h' := pay18_apply v0 v1 v2 v6 i p x
  unfold k0_pay19
  generalize k0_pay15 (F := Ideal) v0 (k0_pay13 i v1 v2 v6 p x) (k0_pay14 i p x) = z at h
  generalize k0_pay18 (F := Ideal) v0 (k0_pay13 i v1 v2 v6 p x) (k0_pay14 i p x) = z' at h'
  pointwise
  simp only [h, h']
  rfl

theorem first_act_apply :
    k0_pay22 (F := Ideal) v0 v3 v4 v5 v7 y (k0_pay13 i v1 v2 v6 p x) (k0_pay14 i p x) (ix2 a q)
      = gel (window v6 v2 v1 v0 (k0_pay11 i p x) a q) * window v7 v5 v4 v3 y a q := by
  have h := first_gel_apply v0 v1 v2 v6 i p x
  have h' := pay21_apply v3 v4 v5 v7 y
  unfold k0_pay22
  generalize k0_pay19 (F := Ideal) v0 (k0_pay13 i v1 v2 v6 p x) (k0_pay14 i p x) = z at h
  generalize k0_pay21 (F := Ideal) v3 v4 v5 v7 y = z' at h'
  pointwise
  simp only [h, h']

theorem first_slope_apply :
    k0_pay1 (F := Ideal) (k0_pay20 v0 (k0_pay13 i v1 v2 v6 p x) (k0_pay14 i p x)) (k0_pay21 v3 v4 v5 v7 y) (ix2 a q)
      = window v7 v5 v4 v3 y a q * dgel (window v6 v2 v1 v0 (k0_pay11 i p x) a q) := by
  have h := pay15_apply v0 v1 v2 v6 i p x
  have h' := pay18_apply v0 v1 v2 v6 i p x
  have h'' := pay17_apply v0 v1 v2 v6 i p x
  have h''' := pay21_apply v3 v4 v5 v7 y
  unfold k0_pay1 k0_pay20 k0_pay16
  generalize k0_pay15 (F := Ideal) v0 (k0_pay13 i v1 v2 v6 p x) (k0_pay14 i p x) = z at h
  generalize k0_pay18 (F := Ideal) v0 (k0_pay13 i v1 v2 v6 p x) (k0_pay14 i p x) = z' at h'
  generalize k0_pay17 (F := Ideal) v0 (k0_pay13 i v1 v2 v6 p x) (k0_pay14 i p x) = z'' at h''
  generalize k0_pay21 (F := Ideal) v3 v4 v5 v7 y = z''' at h'''
  pointwise
  simp only [h, h', h'', h''']
  rfl

/-- The rows above the first strip are the last rows of the block before, and zero above the first block. -/
theorem after_first : ∀ b : Fin 16, Scalar.cmpi .sgt (BitVec.ofNat 32 b.val) 0#32 = if 0 < b.val then 1#1 else 0#1 := by
  decide +kernel

theorem pay11_apply (r : Fin 24) :
    k0_pay11 (F := Ideal) i p x (ix2 r q)
      = if h : r.val < 8 then (if 0 < (i 1).val then p (ix2 ⟨r.val, h⟩ q) else 0) else x (ix2 ⟨r.val - 8, by omega⟩ q) := by
  unfold k0_pay11
  dsimp only
  rw [show Scalar.cmpi .sgt (BitVec.ofNat 32 (i 1).val) 0#32 = _ from after_first (i 1)]
  pointwise
  split
  · split
    · rfl
    · rfl
  · rfl

theorem pay12_eq : k0_pay12 (F := Ideal) i p x = k0_pay11 i p x := rfl

end

end Cert.Kernel12Ideal.Strip

end
-- ==== Proof.GateBody.lean ====
/-
  The gated convolution: what a grid point leaves in its three blocks. The strips of sixteen rows cover each block, and
  every strip holds the rows of one function of the block's rows and columns.
-/
module

public import proofs.«01_k».proof.Proof.GateStrip
public import Idealize.ShloMosaic.Lib.Pipeline.ValueKit.Tiles
public import Idealize.ShloMosaic.Lib.Pipeline.ValueKit.Geometry

@[expose] public section

set_option maxRecDepth 16384

noncomputable section

namespace Cert.Kernel12Ideal.Body

open Idealize.ShloMosaic Idealize.ShloMosaic.TcCoe Idealize.SL.Sem Gate
open Cert.Kernel12Ideal Cert.Kernel12Ideal.Gen Cert.Kernel12Ideal.Strip

theorem hz : (![0, 0] : Fin 2 → Nat) = fun _ => 0 := funext fun a => by fin_cases a <;> rfl

/-- Row `k` of the taps, as the body reads it. -/
abbrev row0 (w : Vec Ideal S3x1408 .f32) : Vec Ideal S1x1408 .f32 := View.ld w (Rect.unit ![0, 0] S1x1408.size inb_S3x1408_S1x1408_0_0)
abbrev row1 (w : Vec Ideal S3x1408 .f32) : Vec Ideal S1x1408 .f32 := View.ld w (Rect.unit ![1, 0] S1x1408.size inb_S3x1408_S1x1408_1_0)
abbrev row2 (w : Vec Ideal S3x1408 .f32) : Vec Ideal S1x1408 .f32 := View.ld w (Rect.unit ![2, 0] S1x1408.size inb_S3x1408_S1x1408_2_0)

/-- The entry `n` rows above one of the block: from the block before where the block has none, zero above the first. -/
def above (i : grid0.Coords) (p : Vec Ideal S8x1408 .f32) (x : Vec Ideal S512x1408 .f32) (n : Fin 8) (r : Fin 512) (q : Fin 1408) : EReal :=
  if h : n.val ≤ r.val then x (ix2 ⟨r.val - n.val, by omega⟩ q)
  else if 0 < (i 1).val then p (ix2 ⟨8 + r.val - n.val, by omega⟩ q) else 0

/-- The convolution of a block. -/
def conv (i : grid0.Coords) (p : Vec Ideal S8x1408 .f32) (x : Vec Ideal S512x1408 .f32) (w : Vec Ideal S3x1408 .f32)
    (b : Vec Ideal S1x1408 .f32) (r : Fin 512) (q : Fin 1408) : EReal :=
  tap (b (ix2 0 q)) (w (ix2 2 q)) (w (ix2 1 q)) (w (ix2 0 q)) (above i p x 0 r q) (above i p x 1 r q) (above i p x 2 r q)

theorem row0_apply (w : Vec Ideal S3x1408 .f32) (q : Fin 1408) : row0 w (ix2 0 q) = w (ix2 0 q) :=
  View.ld_unit_apply_of w _ _ _ _ _ fun a => by match a with
    | ⟨0, _⟩ => rfl
    | ⟨1, _⟩ => exact (Nat.zero_add _).symm
theorem row1_apply (w : Vec Ideal S3x1408 .f32) (q : Fin 1408) : row1 w (ix2 0 q) = w (ix2 1 q) :=
  View.ld_unit_apply_of w _ _ _ _ _ fun a => by match a with
    | ⟨0, _⟩ => rfl
    | ⟨1, _⟩ => exact (Nat.zero_add _).symm
theorem row2_apply (w : Vec Ideal S3x1408 .f32) (q : Fin 1408) : row2 w (ix2 0 q) = w (ix2 2 q) :=
  View.ld_unit_apply_of w _ _ _ _ _ fun a => by match a with
    | ⟨0, _⟩ => rfl
    | ⟨1, _⟩ => exact (Nat.zero_add _).symm

section
variable (i : grid0.Coords) (p : Vec Ideal S8x1408 .f32) (x : Vec Ideal S512x1408 .f32) (w : Vec Ideal S3x1408 .f32)
  (b : Vec Ideal S1x1408 .f32)

/-- A window that holds the rows from eight above `base` on gives the block's convolution from `base` on. -/
theorem window_eq (base : ℕ) (y : Vec Ideal S24x1408 .f32)
    (hy : ∀ (r : Fin 512) (a : Fin 16) (q : Fin 1408) (n : Fin 8), r.val = base + a.val →
      y (ix2 ⟨8 - n.val + a.val, by omega⟩ q) = above i p x n r q)
    (r : Fin 512) (a : Fin 16) (q : Fin 1408) (hr : r.val = base + a.val) :
    window b (row2 w) (row1 w) (row0 w) y a q = conv i p x w b r q := by
  unfold window conv
  rw [row0_apply, row1_apply, row2_apply, ← hy r a q 0 hr, ← hy r a q 1 hr, ← hy r a q 2 hr]
  rfl

/-- The window of a strip after the first. -/
theorem strip_window (k : Fin k0_t1_loop.trips) (r : Fin 512) (a : Fin 16) (q : Fin 1408) (n : Fin 8)
    (hr : r.val = 16 * k.val + 16 + a.val) :
    (View.ld x (Rect.unit (s := S512x1408) (k0_off1 k) S24x1408.size (k0_off1_inb k)) : S24x1408.Idx → EReal)
      (ix2 ⟨8 - n.val + a.val, by omega⟩ q) = above i p x n r q := by
  unfold above
  rw [dif_pos (by omega)]
  refine View.ld_unit_apply_of x _ _ _ _ _ fun d => ?_
  have e0 : k0_off1 k 0 = 16 * k.val + 8 := congrFun (k0_off1_eq k) 0
  have e1 : k0_off1 k 1 = 0 := congrFun (k0_off1_eq k) 1
  match d with
  | ⟨0, _⟩ => show r.val - n.val = k0_off1 k 0 + (8 - n.val + a.val); omega
  | ⟨1, _⟩ => show q.val = k0_off1 k 1 + q.val; omega

/-- The window of the first strip. -/
theorem first_window (r : Fin 512) (a : Fin 16) (q : Fin 1408) (n : Fin 8) (hr : r.val = 0 + a.val) :
    k0_pay11 (F := Ideal) i p (View.ld x (Rect.unit ![0, 0] S16x1408.size inb_S512x1408_S16x1408_0_0))
      (ix2 ⟨8 - n.val + a.val, by omega⟩ q) = above i p x n r q := by
  rw [pay11_apply]
  unfold above
  by_cases h : n.val ≤ r.val
  · rw [dif_pos h, dif_neg (by show ¬ 8 - n.val + a.val < 8; omega)]
    refine View.ld_unit_apply_of x _ _ _ _ _ fun d => ?_
    match d with
    | ⟨0, _⟩ => show r.val - n.val = 0 + (8 - n.val + a.val - 8); omega
    | ⟨1, _⟩ => exact (Nat.zero_add _).symm
  · rw [dif_neg h, dif_pos (by show 8 - n.val + a.val < 8; omega)]
    split
    · exact congrArg (fun s => p (ix2 s q)) (Fin.ext (by show 8 - n.val + a.val = 8 + r.val - n.val; omega))
    · rfl

end

/-! ## The three blocks -/

section
variable (i : grid0.Coords) (x0 : Vec Ideal S512x1408 .f32) (x1 : Vec Ideal S8x1408 .f32) (x2 : Vec Ideal S512x1408 .f32)
  (x3 : Vec Ideal S8x1408 .f32) (x4 x5 : Vec Ideal S3x1408 .f32) (x6 x7 : Vec Ideal S1x1408 .f32)

/-- The convolutions of the two halves' blocks. -/
abbrev gateBlk (y : S512x1408.Idx) : EReal := conv i x1 x0 x4 x6 (y 0) (y 1)
abbrev valueBlk (y : S512x1408.Idx) : EReal := conv i x3 x2 x5 x7 (y 0) (y 1)

/-- What the blocks hold. -/
def actBlk (y : S512x1408.Idx) : EReal := gel (gateBlk i x0 x1 x4 x6 y) * valueBlk i x2 x3 x5 x7 y
def gelBlk (y : S512x1408.Idx) : EReal := gel (gateBlk i x0 x1 x4 x6 y)
def slopeBlk (y : S512x1408.Idx) : EReal := valueBlk i x2 x3 x5 x7 y * dgel (gateBlk i x0 x1 x4 x6 y)

/-- The pieces hold a function's values. -/
abbrev Hold {e : EltTy} (G : S512x1408.Idx → Elt Ideal e) (L : List (View.Piece (Elt Ideal) S512x1408 e)) : Prop :=
  ∀ p ∈ L, ∀ x, p.2 x = G (p.1.emb x)

variable (c : Dev nD)
  (arg2 : Memref sig .tc .vmem S512x1408 .f32) (harg2 : arg2.IsWhole) (arg3 : Memref sig .tc .vmem S8x1408 .f32) (harg3 : arg3.IsWhole)
  (arg4 : Memref sig .tc .vmem S512x1408 .f32) (harg4 : arg4.IsWhole) (arg5 : Memref sig .tc .vmem S8x1408 .f32) (harg5 : arg5.IsWhole)
  (arg6 : Memref sig .tc .vmem S3x1408 .f32) (harg6 : arg6.IsWhole) (arg7 : Memref sig .tc .vmem S3x1408 .f32) (harg7 : arg7.IsWhole)
  (arg8 : Memref sig .tc .vmem S1x1408 .f32) (harg8 : arg8.IsWhole) (arg9 : Memref sig .tc .vmem S1x1408 .f32) (harg9 : arg9.IsWhole)
  (arg10 : Memref sig .tc .vmem S512x1408 .bf16) (harg10 : arg10.IsWhole) (arg11 : Memref sig .tc .vmem S512x1408 .f32)
  (harg11 : arg11.IsWhole) (arg12 : Memref sig .tc .vmem S512x1408 .f32) (harg12 : arg12.IsWhole)

/-- A row of strip `k`, in the block. -/
theorem emb_row (k : Fin k0_t1_loop.trips) (a : Fin 16) (q : Fin 1408) :
    ((Rect.unit (s := S512x1408) (k0_off2 k) S16x1408.size (k0_off2_inb k)).emb (ix2 a q) 0 : Fin 512).val = 16 * k.val + 16 + a.val
    ∧ ((Rect.unit (s := S512x1408) (k0_off2 k) S16x1408.size (k0_off2_inb k)).emb (ix2 a q) 1 : Fin 1408) = q := by
  refine ⟨?_, Fin.ext ?_⟩
  · have e : k0_off2 k 0 = 16 * k.val + 16 := congrFun (k0_off2_eq k) 0
    rw [ValueKit.rect_emb_unit_val]
    show k0_off2 k 0 + a.val = _
    omega
  · have e : k0_off2 k 1 = 0 := congrFun (k0_off2_eq k) 1
    rw [ValueKit.rect_emb_unit_val]
    show k0_off2 k 1 + q.val = _
    omega

theorem trip_holds (k : Fin k0_t1_loop.trips) :
    let T := trip_k0_t1 (F := Ideal) Variants.none c none i arg2 harg2 arg3 harg3 arg4 harg4 arg5 harg5 arg6 harg6 arg7 harg7 arg8
      harg8 arg9 harg9 arg10 harg10 arg11 harg11 arg12 harg12 (row0 x4) (row1 x4) (row2 x4) (row0 x5) (row1 x5) (row2 x5) x6 x7
      (harg2.unread x0) (harg4.unread x2) k
    Hold (actBlk i x0 x1 x2 x3 x4 x5 x6 x7) T.1 ∧ Hold (gelBlk i x0 x1 x4 x6) T.2.1
      ∧ Hold (slopeBlk i x0 x1 x2 x3 x4 x5 x6 x7) T.2.2.1 := by
  have hg : ∀ (a : Fin 16) (q : Fin 1408),
      window x6 (row2 x4) (row1 x4) (row0 x4)
          (View.readAt (Elt Ideal) arg2.view (Rect.unit (s := S512x1408) (k0_off1 k) S24x1408.size (k0_off1_inb k)).toLoadRect (harg2.unread x0)) a q
        = gateBlk i x0 x1 x4 x6 ((Rect.unit (s := S512x1408) (k0_off2 k) S16x1408.size (k0_off2_inb k)).emb (ix2 a q)) := fun a q => by
    obtain ⟨h0, h1⟩ := emb_row k a q
    unfold gateBlk
    rw [h1, View.readAt_eq_ld, Memref.IsWhole.read_unread]
    exact window_eq i x1 x0 x4 x6 _ _ (fun r a q n hr => strip_window i x1 x0 k r a q n hr) _ a q h0
  have hv : ∀ (a : Fin 16) (q : Fin 1408),
      window x7 (row2 x5) (row1 x5) (row0 x5)
          (View.readAt (Elt Ideal) arg4.view (Rect.unit (s := S512x1408) (k0_off1 k) S24x1408.size (k0_off1_inb k)).toLoadRect (harg4.unread x2)) a q
        = valueBlk i x2 x3 x5 x7 ((Rect.unit (s := S512x1408) (k0_off2 k) S16x1408.size (k0_off2_inb k)).emb (ix2 a q)) := fun a q => by
    obtain ⟨h0, h1⟩ := emb_row k a q
    unfold valueBlk
    rw [h1, View.readAt_eq_ld, Memref.IsWhole.read_unread]
    exact window_eq i x3 x2 x5 x7 _ _ (fun r a q n hr => strip_window i x3 x2 k r a q n hr) _ a q h0
  intro T
  unfold T trip_k0_t1
  dsimp only
  refine ⟨?_, ?_, ?_⟩ <;> intro pc hp z <;> obtain rfl := List.mem_singleton.mp hp <;>
    obtain ⟨a, q, rfl⟩ : ∃ (a : Fin 16) (q : Fin 1408), z = ix2 a q := ⟨z 0, z 1, eq_ix2 z⟩
  · refine (act_apply (row0 x4) (row1 x4) (row2 x4) (row0 x5) (row1 x5) (row2 x5) x6 x7 _ _ a q).trans ?_
    exact congrArg₂ (fun u v => gel u * v) (hg a q) (hv a q)
  · refine (gel_apply (row0 x4) (row1 x4) (row2 x4) x6 _ a q).trans ?_
    exact congrArg gel (hg a q)
  · refine (slope_apply (row0 x4) (row1 x4) (row2 x4) (row0 x5) (row1 x5) (row2 x5) x6 x7 _ _ a q).trans ?_
    exact congrArg₂ (fun u v => v * dgel u) (hg a q) (hv a q)

/-- The strips of the first `n` trips. -/
theorem trips_hold (n : ℕ) (hn : n ≤ k0_t1_loop.trips) :
    let T := pb_k0_t1 (F := Ideal) Variants.none c none i arg2 harg2 arg3 harg3 arg4 harg4 arg5 harg5 arg6 harg6 arg7 harg7 arg8
      harg8 arg9 harg9 arg10 harg10 arg11 harg11 arg12 harg12 (row0 x4) (row1 x4) (row2 x4) (row0 x5) (row1 x5) (row2 x5) x6 x7
      (harg2.unread x0) (harg4.unread x2) n
    Hold (actBlk i x0 x1 x2 x3 x4 x5 x6 x7) T.1 ∧ Hold (gelBlk i x0 x1 x4 x6) T.2.1
      ∧ Hold (slopeBlk i x0 x1 x2 x3 x4 x5 x6 x7) T.2.2 := by
  induction n with
  | zero =>
    rw [pb_k0_t1.eq_1]
    exact ⟨fun _ h => absurd h List.not_mem_nil, fun _ h => absurd h List.not_mem_nil, fun _ h => absurd h List.not_mem_nil⟩
  | succ n ih =>
    have h := ih (by omega)
    have h' := trip_holds i x0 x1 x2 x3 x4 x5 x6 x7 c arg2 harg2 arg3 harg3 arg4 harg4 arg5 harg5 arg6 harg6 arg7 harg7 arg8
      harg8 arg9 harg9 arg10 harg10 arg11 harg11 arg12 harg12 ⟨n, by omega⟩
    intro T
    have hT := pb_k0_t1_succ (F := Ideal) Variants.none c none i arg2 harg2 arg3 harg3 arg4 harg4 arg5 harg5 arg6 harg6 arg7 harg7
      arg8 harg8 arg9 harg9 arg10 harg10 arg11 harg11 arg12 harg12 (row0 x4) (row1 x4) (row2 x4) (row0 x5) (row1 x5) (row2 x5) x6 x7
      (harg2.unread x0) (harg4.unread x2) ⟨n, by omega⟩
    unfold T
    rw [hT]
    exact ⟨fun pc hp => (List.mem_append.mp hp).elim (h'.1 pc) (h.1 pc),
      fun pc hp => (List.mem_append.mp hp).elim (h'.2.1 pc) (h.2.1 pc),
      fun pc hp => (List.mem_append.mp hp).elim (h'.2.2 pc) (h.2.2 pc)⟩

/-- A row of the first strip, in the block. -/
theorem emb_first (a : Fin 16) (q : Fin 1408) :
    ((Rect.unit (s := S512x1408) ![0, 0] S16x1408.size inb_S512x1408_S16x1408_0_0).emb (ix2 a q) 0 : Fin 512).val = 0 + a.val
    ∧ ((Rect.unit (s := S512x1408) ![0, 0] S16x1408.size inb_S512x1408_S16x1408_0_0).emb (ix2 a q) 1 : Fin 1408) = q := by
  refine ⟨?_, Fin.ext ?_⟩
  · rw [ValueKit.rect_emb_unit_val]; rfl
  · rw [ValueKit.rect_emb_unit_val]; exact Nat.zero_add _

theorem run_holds :
    let T := kernelRun0_A (F := Ideal) c i arg2 harg2 arg3 harg3 arg4 harg4 arg5 harg5 arg6 harg6 arg7 harg7 arg8
      harg8 arg9 harg9 arg10 harg10 arg11 harg11 arg12 harg12 x0 x1 x2 x3 x4 x5 x6 x7
    Hold (actBlk i x0 x1 x2 x3 x4 x5 x6 x7) T.1 ∧ Hold (gelBlk i x0 x1 x4 x6) T.2.1
      ∧ Hold (slopeBlk i x0 x1 x2 x3 x4 x5 x6 x7) T.2.2.1 := by
  have hg : ∀ (a : Fin 16) (q : Fin 1408),
      window x6 (row2 x4) (row1 x4) (row0 x4)
          (k0_pay11 i x1 (View.ld x0 (Rect.unit ![0, 0] S16x1408.size inb_S512x1408_S16x1408_0_0))) a q
        = gateBlk i x0 x1 x4 x6 ((Rect.unit (s := S512x1408) ![0, 0] S16x1408.size inb_S512x1408_S16x1408_0_0).emb (ix2 a q)) :=
    fun a q => by
      obtain ⟨h0, h1⟩ := emb_first a q
      unfold gateBlk
      rw [h1]
      exact window_eq i x1 x0 x4 x6 _ _ (fun r a q n hr => first_window i x1 x0 r a q n hr) _ a q h0
  have hv : ∀ (a : Fin 16) (q : Fin 1408),
      window x7 (row2 x5) (row1 x5) (row0 x5)
          (k0_pay11 i x3 (View.ld x2 (Rect.unit ![0, 0] S16x1408.size inb_S512x1408_S16x1408_0_0))) a q
        = valueBlk i x2 x3 x5 x7 ((Rect.unit (s := S512x1408) ![0, 0] S16x1408.size inb_S512x1408_S16x1408_0_0).emb (ix2 a q)) :=
    fun a q => by
      obtain ⟨h0, h1⟩ := emb_first a q
      unfold valueBlk
      rw [h1]
      exact window_eq i x3 x2 x5 x7 _ _ (fun r a q n hr => first_window i x3 x2 r a q n hr) _ a q h0
  have h := trips_hold i x0 x1 x2 x3 x4 x5 x6 x7 c arg2 harg2 arg3 harg3 arg4 harg4 arg5 harg5 arg6 harg6 arg7 harg7 arg8
    harg8 arg9 harg9 arg10 harg10 arg11 harg11 arg12 harg12 _ le_rfl
  intro T
  unfold T kernelRun0_A
  dsimp only
  sl_unfold_words
  simp only [View.readAt_eq_ld, Memref.IsWhole.read_unread, View.ld_unit_zero (S := S1x1408) hz, View.ld_unit_zero (S := S8x1408) hz]
  refine ⟨fun pc hp => (List.mem_append.mp hp).elim (h.1 pc) fun hp => ?_,
    fun pc hp => (List.mem_append.mp hp).elim (h.2.1 pc) fun hp => ?_,
    fun pc hp => (List.mem_append.mp hp).elim (h.2.2 pc) fun hp => ?_⟩ <;> intro z <;> obtain rfl := List.mem_singleton.mp hp <;>
    obtain ⟨a, q, rfl⟩ : ∃ (a : Fin 16) (q : Fin 1408), z = ix2 a q := ⟨z 0, z 1, eq_ix2 z⟩
  · refine (first_act_apply (row0 x4) (row1 x4) (row2 x4) (row0 x5) (row1 x5) (row2 x5) x6 x7 i x1 _ _ a q).trans ?_
    exact congrArg₂ (fun u v => gel u * v) (hg a q) (hv a q)
  · refine (first_gel_apply (row0 x4) (row1 x4) (row2 x4) x6 i x1 _ a q).trans ?_
    exact congrArg gel (hg a q)
  · refine (first_slope_apply (row0 x4) (row1 x4) (row2 x4) (row0 x5) (row1 x5) (row2 x5) x6 x7 i x1 _ _ a q).trans ?_
    exact congrArg₂ (fun u v => v * dgel u) (hg a q) (hv a q)

end

section
variable (m : (ℓ : Loc nD τ sig) → Buf (Elt Ideal) ℓ) (c : Dev nD) (t : Fin cfg0.N)

theorem block8 : (outsAt0 m c t).1 = actBlk (grid0.coords t) (iblk m c 0 t) (iblk m c 1 t) (iblk m c 2 t) (iblk m c 3 t)
    (iblk m c 4 t) (iblk m c 5 t) (iblk m c 6 t) (iblk m c 7 t) := by
  unfold outsAt0 out0_A_8
  dsimp only
  rw [View.read_writes_eq_canon _ _ _ (fun _ => cover0_A_8 ..)]
  exact funext fun y => View.canon_apply_of_pieces _ _ (run_holds ..).1 y (cover0_A_8 ..)

theorem block9 : (outsAt0 m c t).2.1 = gelBlk (grid0.coords t) (iblk m c 0 t) (iblk m c 1 t) (iblk m c 4 t) (iblk m c 6 t) := by
  unfold outsAt0 out0_A_9
  dsimp only
  rw [View.read_writes_eq_canon _ _ _ (fun _ => cover0_A_9 ..)]
  exact funext fun y => View.canon_apply_of_pieces _ _ (run_holds ..).2.1 y (cover0_A_9 ..)

theorem block10 : (outsAt0 m c t).2.2 = slopeBlk (grid0.coords t) (iblk m c 0 t) (iblk m c 1 t) (iblk m c 2 t) (iblk m c 3 t)
    (iblk m c 4 t) (iblk m c 5 t) (iblk m c 6 t) (iblk m c 7 t) := by
  unfold outsAt0 out0_A_10
  dsimp only
  rw [View.read_writes_eq_canon _ _ _ (fun _ => cover0_A_10 ..)]
  exact funext fun y => View.canon_apply_of_pieces _ _ (run_holds ..).2.2 y (cover0_A_10 ..)

end

end Cert.Kernel12Ideal.Body

end
-- ==== Proof.GateFinal.lean ====
/-
  The gated convolution: what the call leaves in its three result arrays. Point `t` writes the rows `512 (t mod 16) …` and
  the columns `1408 (t div 16) …` of each.
-/
module

public import proofs.«01_k».proof.Proof.GateBody

@[expose] public section

set_option maxRecDepth 16384

noncomputable section

namespace Cert.Kernel12Ideal.Final

open Idealize.ShloMosaic Idealize.ShloMosaic.TcCoe Idealize.SL.Sem
open Cert.Kernel12Ideal Cert.Kernel12Ideal.Gen Cert.Kernel12Ideal.Body

variable (m : (ℓ : Loc nD τ sig) → Buf (Elt Ideal) ℓ) (ρ : Dev nD → PrngReg) (c : Dev nD)

/-- The arguments, as the specification takes them. -/
abbrev args : Gate.Args where
  x t j := (m ((c : Thread nD τ).loc main_arg0) : S8192x5632.Idx → EReal) (ix2 t j)
  w k j := (m ((c : Thread nD τ).loc main_arg1) : S3x5632.Idx → EReal) (ix2 k j)
  b j := (m ((c : Thread nD τ).loc main_arg2) : S1x5632.Idx → EReal) (ix2 0 j)

/-! ## The blocks -/

theorem index_rows : ∀ t : Fin cfg0.N,
    (win0_0.index t 0 = t.val % 16 ∧ win0_0.index t 1 = t.val / 16) ∧ (win0_2.index t 0 = t.val % 16 ∧ win0_2.index t 1 = t.val / 16 + 2)
    ∧ (0 < t.val % 16 → win0_1.index t 0 + 1 = 64 * (t.val % 16)) ∧ win0_1.index t 1 = t.val / 16
    ∧ (0 < t.val % 16 → win0_3.index t 0 + 1 = 64 * (t.val % 16)) ∧ win0_3.index t 1 = t.val / 16 + 2 :=
  (by decide +kernel : ∀ t : Fin grid0.N,
    (win0_0.index t 0 = t.val % 16 ∧ win0_0.index t 1 = t.val / 16) ∧ (win0_2.index t 0 = t.val % 16 ∧ win0_2.index t 1 = t.val / 16 + 2)
    ∧ (0 < t.val % 16 → win0_1.index t 0 + 1 = 64 * (t.val % 16)) ∧ win0_1.index t 1 = t.val / 16
    ∧ (0 < t.val % 16 → win0_3.index t 0 + 1 = 64 * (t.val % 16)) ∧ win0_3.index t 1 = t.val / 16 + 2)

theorem index_taps : ∀ t : Fin cfg0.N,
    (win0_4.index t 0 = 0 ∧ win0_4.index t 1 = t.val / 16) ∧ (win0_5.index t 0 = 0 ∧ win0_5.index t 1 = t.val / 16 + 2)
    ∧ (win0_6.index t 0 = 0 ∧ win0_6.index t 1 = t.val / 16) ∧ (win0_7.index t 0 = 0 ∧ win0_7.index t 1 = t.val / 16 + 2)
    ∧ (grid0.coords t 1).val = t.val % 16 :=
  (by decide +kernel : ∀ t : Fin grid0.N,
    (win0_4.index t 0 = 0 ∧ win0_4.index t 1 = t.val / 16) ∧ (win0_5.index t 0 = 0 ∧ win0_5.index t 1 = t.val / 16 + 2)
    ∧ (win0_6.index t 0 = 0 ∧ win0_6.index t 1 = t.val / 16) ∧ (win0_7.index t 0 = 0 ∧ win0_7.index t 1 = t.val / 16 + 2)
    ∧ (grid0.coords t 1).val = t.val % 16)

theorem index_out : ∀ t : Fin cfg0.N,
    (win0_8.index t 0 = t.val % 16 ∧ win0_8.index t 1 = t.val / 16) ∧ (win0_9.index t 0 = t.val % 16 ∧ win0_9.index t 1 = t.val / 16)
    ∧ (win0_10.index t 0 = t.val % 16 ∧ win0_10.index t 1 = t.val / 16) :=
  (by decide +kernel : ∀ t : Fin grid0.N,
    (win0_8.index t 0 = t.val % 16 ∧ win0_8.index t 1 = t.val / 16) ∧ (win0_9.index t 0 = t.val % 16 ∧ win0_9.index t 1 = t.val / 16)
    ∧ (win0_10.index t 0 = t.val % 16 ∧ win0_10.index t 1 = t.val / 16))

/-- The row and the column of the arrays that a point's block holds. -/
def rowOf (t : Fin cfg0.N) (r : Fin 512) : Fin 8192 := ⟨512 * (t.val % 16) + r.val, by omega⟩
def colOf (t : Fin cfg0.N) (q : Fin 1408) : Fin 2816 :=
  ⟨1408 * (t.val / 16) + q.val, by have h : cfg0.N = 32 := N_0; have := t.isLt; omega⟩

variable (t : Fin cfg0.N)

theorem iblk0 (r : Fin 512) (q : Fin 1408) :
    (iblk m c 0 t : S512x1408.Idx → EReal) (ix2 r q) = (args m c).x (rowOf t r) ⟨(colOf t q).val, by omega⟩ := by
  unfold iblk
  rw [View.read_apply]
  refine congrArg (V m c main_arg0) (funext fun a => Fin.ext ?_)
  obtain ⟨h0, h1⟩ := (index_rows t).1
  match a with
  | ⟨0, _⟩ => show win0_0.index t 0 * 512 + 1 * r.val = 512 * (t.val % 16) + r.val; rw [h0]; omega
  | ⟨1, _⟩ => show win0_0.index t 1 * 1408 + 1 * q.val = 1408 * (t.val / 16) + q.val; rw [h1]; omega

theorem iblk2 (r : Fin 512) (q : Fin 1408) :
    (iblk m c 2 t : S512x1408.Idx → EReal) (ix2 r q) = (args m c).x (rowOf t r) ⟨2816 + (colOf t q).val, by omega⟩ := by
  unfold iblk
  rw [View.read_apply]
  refine congrArg (V m c main_arg0) (funext fun a => Fin.ext ?_)
  obtain ⟨h0, h1⟩ := (index_rows t).2.1
  match a with
  | ⟨0, _⟩ => show win0_2.index t 0 * 512 + 1 * r.val = 512 * (t.val % 16) + r.val; rw [h0]; omega
  | ⟨1, _⟩ => show win0_2.index t 1 * 1408 + 1 * q.val = 2816 + (1408 * (t.val / 16) + q.val); rw [h1]; omega

/-- The eight rows above a block that is not the first. -/
theorem iblk1 (ht : 0 < t.val % 16) (r : Fin 8) (q : Fin 1408) :
    (iblk m c 1 t : S8x1408.Idx → EReal) (ix2 r q)
      = (args m c).x ⟨512 * (t.val % 16) + r.val - 8, by omega⟩ ⟨(colOf t q).val, by omega⟩ := by
  unfold iblk
  rw [View.read_apply]
  refine congrArg (V m c main_arg0) (funext fun a => Fin.ext ?_)
  have h0 := (index_rows t).2.2.1 ht
  have h1 := (index_rows t).2.2.2.1
  match a with
  | ⟨0, _⟩ => show win0_1.index t 0 * 8 + 1 * r.val = 512 * (t.val % 16) + r.val - 8; omega
  | ⟨1, _⟩ => show win0_1.index t 1 * 1408 + 1 * q.val = 1408 * (t.val / 16) + q.val; rw [h1]; omega

theorem iblk3 (ht : 0 < t.val % 16) (r : Fin 8) (q : Fin 1408) :
    (iblk m c 3 t : S8x1408.Idx → EReal) (ix2 r q)
      = (args m c).x ⟨512 * (t.val % 16) + r.val - 8, by omega⟩ ⟨2816 + (colOf t q).val, by omega⟩ := by
  unfold iblk
  rw [View.read_apply]
  refine congrArg (V m c main_arg0) (funext fun a => Fin.ext ?_)
  have h0 := (index_rows t).2.2.2.2.1 ht
  have h1 := (index_rows t).2.2.2.2.2
  match a with
  | ⟨0, _⟩ => show win0_3.index t 0 * 8 + 1 * r.val = 512 * (t.val % 16) + r.val - 8; omega
  | ⟨1, _⟩ => show win0_3.index t 1 * 1408 + 1 * q.val = 2816 + (1408 * (t.val / 16) + q.val); rw [h1]; omega

theorem iblk4 (k : Fin 3) (q : Fin 1408) :
    (iblk m c 4 t : S3x1408.Idx → EReal) (ix2 k q) = (args m c).w k ⟨(colOf t q).val, by omega⟩ := by
  unfold iblk
  rw [View.read_apply]
  refine congrArg (V m c main_arg1) (funext fun a => Fin.ext ?_)
  obtain ⟨h0, h1⟩ := (index_taps t).1
  match a with
  | ⟨0, _⟩ => show win0_4.index t 0 * 3 + 1 * k.val = k.val; rw [h0]; omega
  | ⟨1, _⟩ => show win0_4.index t 1 * 1408 + 1 * q.val = 1408 * (t.val / 16) + q.val; rw [h1]; omega

theorem iblk5 (k : Fin 3) (q : Fin 1408) :
    (iblk m c 5 t : S3x1408.Idx → EReal) (ix2 k q) = (args m c).w k ⟨2816 + (colOf t q).val, by omega⟩ := by
  unfold iblk
  rw [View.read_apply]
  refine congrArg (V m c main_arg1) (funext fun a => Fin.ext ?_)
  obtain ⟨h0, h1⟩ := (index_taps t).2.1
  match a with
  | ⟨0, _⟩ => show win0_5.index t 0 * 3 + 1 * k.val = k.val; rw [h0]; omega
  | ⟨1, _⟩ => show win0_5.index t 1 * 1408 + 1 * q.val = 2816 + (1408 * (t.val / 16) + q.val); rw [h1]; omega

theorem iblk6 (q : Fin 1408) : (iblk m c 6 t : S1x1408.Idx → EReal) (ix2 0 q) = (args m c).b ⟨(colOf t q).val, by omega⟩ := by
  unfold iblk
  rw [View.read_apply]
  refine congrArg (V m c main_arg2) (funext fun a => Fin.ext ?_)
  obtain ⟨h0, h1⟩ := (index_taps t).2.2.1
  match a with
  | ⟨0, _⟩ => show win0_6.index t 0 * 1 + 1 * 0 = 0; rw [h0]
  | ⟨1, _⟩ => show win0_6.index t 1 * 1408 + 1 * q.val = 1408 * (t.val / 16) + q.val; rw [h1]; omega

theorem iblk7 (q : Fin 1408) : (iblk m c 7 t : S1x1408.Idx → EReal) (ix2 0 q) = (args m c).b ⟨2816 + (colOf t q).val, by omega⟩ := by
  unfold iblk
  rw [View.read_apply]
  refine congrArg (V m c main_arg2) (funext fun a => Fin.ext ?_)
  obtain ⟨h0, h1⟩ := (index_taps t).2.2.2.1
  match a with
  | ⟨0, _⟩ => show win0_7.index t 0 * 1 + 1 * 0 = 0; rw [h0]
  | ⟨1, _⟩ => show win0_7.index t 1 * 1408 + 1 * q.val = 2816 + (1408 * (t.val / 16) + q.val); rw [h1]; omega

/-! ## What a point computes -/

/-- The entries above one of a block, given what the block and the rows above it hold. -/
theorem above_eq (p : Vec Ideal S8x1408 .f32) (x : Vec Ideal S512x1408 .f32) (j : Fin 5632) (n : Fin 8) (r : Fin 512) (q : Fin 1408)
    (hx : ∀ r, x (ix2 r q) = (args m c).x (rowOf t r) j)
    (hp : 0 < t.val % 16 → ∀ r : Fin 8, p (ix2 r q) = (args m c).x ⟨512 * (t.val % 16) + r.val - 8, by omega⟩ j) :
    above (grid0.coords t) p x n r q = Gate.above (args m c) n.val (rowOf t r) j := by
  have hr : (rowOf t r).val = 512 * (t.val % 16) + r.val := rfl
  have hi := (index_taps t).2.2.2.2
  unfold above Gate.above
  by_cases h : n.val ≤ r.val
  · rw [dif_pos h, if_pos (by omega), hx]
    exact congrArg (fun s => (args m c).x s j) (Fin.ext (by show 512 * (t.val % 16) + (r.val - n.val) = (rowOf t r).val - n.val; omega))
  rw [dif_neg h]
  by_cases ht : 0 < t.val % 16
  · rw [if_pos (by omega), if_pos (by omega), hp ht]
    exact congrArg (fun s => (args m c).x s j)
      (Fin.ext (by show 512 * (t.val % 16) + (8 + r.val - n.val) - 8 = (rowOf t r).val - n.val; omega))
  · rw [if_neg (by omega), if_neg (by omega)]

theorem gate_eq (r : Fin 512) (q : Fin 1408) :
    conv (grid0.coords t) (iblk m c 1 t) (iblk m c 0 t) (iblk m c 4 t) (iblk m c 6 t) r q
      = Gate.gate (args m c) (rowOf t r) (colOf t q) := by
  have h n := above_eq m c t (iblk m c 1 t) (iblk m c 0 t) ⟨(colOf t q).val, by omega⟩ n r q (fun r => iblk0 m c t r q)
    (fun ht r => iblk1 m c t ht r q)
  unfold conv
  rw [h, h, h, iblk4, iblk4, iblk4, iblk6]
  rfl

theorem value_eq (r : Fin 512) (q : Fin 1408) :
    conv (grid0.coords t) (iblk m c 3 t) (iblk m c 2 t) (iblk m c 5 t) (iblk m c 7 t) r q
      = Gate.value (args m c) (rowOf t r) (colOf t q) := by
  have h n := above_eq m c t (iblk m c 3 t) (iblk m c 2 t) ⟨2816 + (colOf t q).val, by omega⟩ n r q (fun r => iblk2 m c t r q)
    (fun ht r => iblk3 m c t ht r q)
  unfold conv
  rw [h, h, h, iblk5, iblk5, iblk5, iblk7]
  rfl

/-! ## The results -/

abbrev G8 : S8192x2816.Idx → EReal := fun i => Gate.act (args m c) (i 0) (i 1)
abbrev G9 : S8192x2816.Idx → EReal := fun i => Gate.gated (args m c) (i 0) (i 1)
abbrev G10 : S8192x2816.Idx → EReal := fun i => Gate.slope (args m c) (i 0) (i 1)

theorem flushed8 (_ : (cfg0.win 8).flush t = true) :
    (dats m 0 c).flushed 8 t = ((cfg0.win 8).blk t).view.read (Elt Ideal) (G8 m c) := by
  rw [Value.flushed8, block8]
  funext i
  obtain ⟨r, q, rfl⟩ : ∃ r q, i = ix2 r q := ⟨i 0, i 1, eq_ix2 i⟩
  rw [View.read_apply]
  refine (?_ : _ = G8 m c (ix2 (rowOf t r) (colOf t q))).trans (congrArg (G8 m c) (funext fun a => Fin.ext ?_))
  · exact congrArg₂ (fun u v => Gate.gel u * v) (gate_eq m c t r q) (value_eq m c t r q)
  obtain ⟨h0, h1⟩ := (index_out t).1
  match a with
  | ⟨0, _⟩ => show 512 * (t.val % 16) + r.val = win0_8.index t 0 * 512 + 1 * r.val; rw [h0]; omega
  | ⟨1, _⟩ => show 1408 * (t.val / 16) + q.val = win0_8.index t 1 * 1408 + 1 * q.val; rw [h1]; omega

theorem flushed9 (_ : (cfg0.win 9).flush t = true) :
    (dats m 0 c).flushed 9 t = ((cfg0.win 9).blk t).view.read (Elt Ideal) (G9 m c) := by
  rw [Value.flushed9, block9]
  funext i
  obtain ⟨r, q, rfl⟩ : ∃ r q, i = ix2 r q := ⟨i 0, i 1, eq_ix2 i⟩
  rw [View.read_apply]
  refine (?_ : _ = G9 m c (ix2 (rowOf t r) (colOf t q))).trans (congrArg (G9 m c) (funext fun a => Fin.ext ?_))
  · exact congrArg Gate.gel (gate_eq m c t r q)
  obtain ⟨h0, h1⟩ := (index_out t).2.1
  match a with
  | ⟨0, _⟩ => show 512 * (t.val % 16) + r.val = win0_9.index t 0 * 512 + 1 * r.val; rw [h0]; omega
  | ⟨1, _⟩ => show 1408 * (t.val / 16) + q.val = win0_9.index t 1 * 1408 + 1 * q.val; rw [h1]; omega

theorem flushed10 (_ : (cfg0.win 10).flush t = true) :
    (dats m 0 c).flushed 10 t = ((cfg0.win 10).blk t).view.read (Elt Ideal) (G10 m c) := by
  rw [Value.flushed10, block10]
  funext i
  obtain ⟨r, q, rfl⟩ : ∃ r q, i = ix2 r q := ⟨i 0, i 1, eq_ix2 i⟩
  rw [View.read_apply]
  refine (?_ : _ = G10 m c (ix2 (rowOf t r) (colOf t q))).trans (congrArg (G10 m c) (funext fun a => Fin.ext ?_))
  · exact congrArg₂ (fun u v => v * Gate.dgel u) (gate_eq m c t r q) (value_eq m c t r q)
  obtain ⟨h0, h1⟩ := (index_out t).2.2
  match a with
  | ⟨0, _⟩ => show 512 * (t.val % 16) + r.val = win0_10.index t 0 * 512 + 1 * r.val; rw [h0]; omega
  | ⟨1, _⟩ => show 1408 * (t.val / 16) + q.val = win0_10.index t 1 * 1408 + 1 * q.val; rw [h1]; omega

/-- The point whose blocks an index lies in. -/
def pointOf (i : S8192x2816.Idx) : Fin cfg0.N :=
  ⟨16 * ((i 1).val / 1408) + (i 0).val / 512, by
    have h : cfg0.N = 32 := N_0
    have : (i 0 : Nat) < 8192 := (i 0).isLt
    have : (i 1 : Nat) < 2816 := (i 1).isLt
    omega⟩

theorem pointOf_at (i : S8192x2816.Idx) : (pointOf i).val % 16 = (i 0).val / 512 ∧ (pointOf i).val / 16 = (i 1).val / 1408 := by
  have hp : (pointOf i).val = 16 * ((i 1).val / 1408) + (i 0).val / 512 := rfl
  have : (i 0 : Nat) < 8192 := (i 0).isLt
  omega

theorem final8 : (dats m 0 c).arrAt 8 cfg0.N = G8 m c :=
  (dats m 0 c).arrAt_eq_of_cover 8 (G8 m c) (flushed8 m c) fun i => ⟨pointOf i, flush0_8 _, by
    show i ∈ ((View.whole main_v0_0).slice (win0_8.rect (pointOf i))).set
    rw [View.set_slice_whole, Rect.mem_set_unit]
    obtain ⟨h0, h1⟩ := (index_out (pointOf i)).1
    obtain ⟨e0, e1⟩ := pointOf_at i
    intro a
    match a with
    | ⟨0, _⟩ =>
      show win0_8.index (pointOf i) 0 * 512 ≤ (i 0).val ∧ (i 0).val < win0_8.index (pointOf i) 0 * 512 + 512
      rw [h0, e0]; omega
    | ⟨1, _⟩ =>
      show win0_8.index (pointOf i) 1 * 1408 ≤ (i 1).val ∧ (i 1).val < win0_8.index (pointOf i) 1 * 1408 + 1408
      rw [h1, e1]; omega⟩

theorem final9 : (dats m 0 c).arrAt 9 cfg0.N = G9 m c :=
  (dats m 0 c).arrAt_eq_of_cover 9 (G9 m c) (flushed9 m c) fun i => ⟨pointOf i, flush0_9 _, by
    show i ∈ ((View.whole main_v0_1).slice (win0_9.rect (pointOf i))).set
    rw [View.set_slice_whole, Rect.mem_set_unit]
    obtain ⟨h0, h1⟩ := (index_out (pointOf i)).2.1
    obtain ⟨e0, e1⟩ := pointOf_at i
    intro a
    match a with
    | ⟨0, _⟩ =>
      show win0_9.index (pointOf i) 0 * 512 ≤ (i 0).val ∧ (i 0).val < win0_9.index (pointOf i) 0 * 512 + 512
      rw [h0, e0]; omega
    | ⟨1, _⟩ =>
      show win0_9.index (pointOf i) 1 * 1408 ≤ (i 1).val ∧ (i 1).val < win0_9.index (pointOf i) 1 * 1408 + 1408
      rw [h1, e1]; omega⟩

theorem final10 : (dats m 0 c).arrAt 10 cfg0.N = G10 m c :=
  (dats m 0 c).arrAt_eq_of_cover 10 (G10 m c) (flushed10 m c) fun i => ⟨pointOf i, flush0_10 _, by
    show i ∈ ((View.whole main_v0_2).slice (win0_10.rect (pointOf i))).set
    rw [View.set_slice_whole, Rect.mem_set_unit]
    obtain ⟨h0, h1⟩ := (index_out (pointOf i)).2.2
    obtain ⟨e0, e1⟩ := pointOf_at i
    intro a
    match a with
    | ⟨0, _⟩ =>
      show win0_10.index (pointOf i) 0 * 512 ≤ (i 0).val ∧ (i 0).val < win0_10.index (pointOf i) 0 * 512 + 512
      rw [h0, e0]; omega
    | ⟨1, _⟩ =>
      show win0_10.index (pointOf i) 1 * 1408 ≤ (i 1).val ∧ (i 1).val < win0_10.index (pointOf i) 1 * 1408 + 1408
      rw [h1, e1]; omega⟩

/-- The run: the three results, and the arguments unchanged. -/
theorem run : θ_run defs (onTc (τ := τ) (main (F := Ideal))) ⟨m, fun _ => 0, ρ⟩ fun r => ∀ c : Dev nD,
      r.2.mem ((c : Thread nD τ).loc main_v0_0) = G8 m c
      ∧ r.2.mem ((c : Thread nD τ).loc main_v0_1) = G9 m c
      ∧ r.2.mem ((c : Thread nD τ).loc main_v0_2) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs (onTc (τ := τ) (main (F := Ideal))) _).mono (fun _ h c => ⟨(h c).1.trans (final8 m c), (h c).2.1.trans (final9 m c),
    (h c).2.2.1.trans (final10 m c), (h c).2.2.2⟩) (Value.run_blocks m ρ)

end Cert.Kernel12Ideal.Final

end
-- ==== Proof.GateReference.lean ====
/-
  The reference of the gated convolution: what it leaves in its three results. It adds the taps' products in another order,
  and takes the cube of the gate's argument, not its square and the argument.
-/
module

public import proofs.«01_k».proof.Proof.Gen.Reference12Ideal.Read
public import proofs.«01_k».proof.Proof.GateSpec

@[expose] public section

set_option maxRecDepth 16384

noncomputable section

namespace Cert.Reference12Ideal.Final

open Idealize.ShloMosaic Idealize.ShloMosaic.TcCoe Idealize.SL.Sem Gate
open Cert.Reference12Ideal Cert.Reference12Ideal.Read

section Stages

variable (x0 : (⟨S8192x5632, .f32⟩ : BufTy).Contents (Elt Ideal)) (x1 : (⟨S3x5632, .f32⟩ : BufTy).Contents (Elt Ideal))
  (x2 : (⟨S1x5632, .f32⟩ : BufTy).Contents (Elt Ideal))

/-- The arguments, as the specification takes them. -/
abbrev args : Args where
  x t j := (x0 : S8192x5632.Idx → EReal) (ix2 t j)
  w k j := (x1 : S3x5632.Idx → EReal) (ix2 k j)
  b j := (x2 : S1x5632.Idx → EReal) (ix2 0 j)

/-- The rows with two rows of zeros above them. -/
theorem v1 (t : Fin 8194) (j : Fin 5632) : val_main_v1 (F := Ideal) x0 (ix2 t j)
    = if h : t.val < 2 then 0 else (x0 : S8192x5632.Idx → EReal) (ix2 ⟨t.val - 2, by omega⟩ j) := by
  unfold val_main_v1 val_main_v0 val_main_cst
  pointwise

/-- The rows from which a tap reads, moved down by `2 - n` rows of zeros. -/
theorem above_eq (n : Fin 3) (t : Fin 8192) (j : Fin 5632) :
    val_main_v1 (F := Ideal) x0 (ix2 ⟨n.val + t.val, by omega⟩ j) = above (args x0 x1 x2) (2 - n.val) t j := by
  rw [v1]
  unfold above
  by_cases h : n.val + t.val < 2
  · rw [dif_pos h, if_neg (by omega)]
  · rw [dif_neg h, if_pos (by omega)]
    exact congrArg (fun s => (x0 : S8192x5632.Idx → EReal) (ix2 s j)) (Fin.ext (by show n.val + t.val - 2 = t.val - (2 - n.val); omega))

theorem order (a b c d : EReal) : a + b + c + d = d + c + b + a := by
  rw [add_comm _ d, add_comm _ c, add_comm a b, ← add_assoc, ← add_assoc]

theorem v19 (t : Fin 8192) (j : Fin 5632) : val_main_v19 (F := Ideal) x0 x1 x2 (ix2 t j) = conv (args x0 x1 x2) t j := by
  have h0 := above_eq x0 x1 x2 0 t j
  have h1 := above_eq x0 x1 x2 1 t j
  have h2 := above_eq x0 x1 x2 2 t j
  unfold val_main_v19 val_main_v18 val_main_v17 val_main_v16 val_main_v15 val_main_v14 val_main_v13 val_main_v12 val_main_v11
    val_main_v10 val_main_v9 val_main_v8 val_main_v7 val_main_v6 val_main_v5 val_main_v4 val_main_v3 val_main_v2 val_main_cst_0
  generalize val_main_v1 (F := Ideal) x0 = y at h0 h1 h2
  pointwise
  rw [show y (ix2 ⟨t.val, _⟩ j) = _ from (congrArg (fun s => y (ix2 s j)) (Fin.ext (Nat.zero_add _).symm)).trans h0,
    show y (ix2 ⟨1 + t.val, _⟩ j) = _ from h1, show y (ix2 ⟨2 + t.val, _⟩ j) = _ from h2]
  unfold conv tap
  simp only [mul_comm (above _ _ _ _)]
  exact order _ _ _ _

theorem v20 (t : Fin 8192) (n : Fin 2816) : val_main_v20 (F := Ideal) x0 x1 x2 (ix2 t n) = gate (args x0 x1 x2) t n := by
  have h := v19 x0 x1 x2
  unfold val_main_v20
  generalize val_main_v19 (F := Ideal) x0 x1 x2 = y at h
  pointwise
  simp only [h]; rfl

theorem v21 (t : Fin 8192) (n : Fin 2816) : val_main_v21 (F := Ideal) x0 x1 x2 (ix2 t n) = value (args x0 x1 x2) t n := by
  have h := v19 x0 x1 x2
  unfold val_main_v21
  generalize val_main_v19 (F := Ideal) x0 x1 x2 = y at h
  pointwise
  simp only [h]; rfl

/-- The cube, as the two spellings write it. -/
theorem cube_eq (z : EReal) : cube * (z * z * z) = cube * z * (z * z) := by
  rw [mul_assoc z z z, ← mul_assoc]

theorem v61 (t : Fin 8192) (n : Fin 2816) : val_main_v61 (F := Ideal) x0 x1 x2 (ix2 t n) = gated (args x0 x1 x2) t n := by
  have h := v20 x0 x1 x2
  unfold val_main_v61 val_main_v60 val_main_v59 val_main_v58 val_main_v57 val_main_v56 val_main_v55 val_main_v54 val_main_v53
    val_main_v52 val_main_v51 val_main_v50 val_main_v49 val_main_cst_10 val_main_cst_11 val_main_cst_12 val_main_cst_13
  generalize val_main_v20 (F := Ideal) x0 x1 x2 = y at h
  pointwise
  simp only [h, cube_eq]; rfl

theorem v63 (t : Fin 8192) (n : Fin 2816) : val_main_v63 (F := Ideal) x0 x1 x2 (ix2 t n) = act (args x0 x1 x2) t n := by
  have h := v61 x0 x1 x2
  have h' := v21 x0 x1 x2
  unfold val_main_v63 val_main_v62
  generalize val_main_v61 (F := Ideal) x0 x1 x2 = y at h
  generalize val_main_v21 (F := Ideal) x0 x1 x2 = y' at h'
  pointwise
  simp only [h, h']; rfl

theorem v76 (t : Fin 8192) (n : Fin 2816) : val_main_v76 (F := Ideal) x0 x1 x2 (ix2 t n) = gated (args x0 x1 x2) t n := by
  have h := v20 x0 x1 x2
  unfold val_main_v76 val_main_v75 val_main_v74 val_main_v73 val_main_v72 val_main_v71 val_main_v70 val_main_v69 val_main_v68
    val_main_v67 val_main_v66 val_main_v65 val_main_v64 val_main_cst_14 val_main_cst_15 val_main_cst_16 val_main_cst_17
  generalize val_main_v20 (F := Ideal) x0 x1 x2 = y at h
  pointwise
  simp only [h, cube_eq]; rfl

theorem v33 (t : Fin 8192) (n : Fin 2816) : val_main_v33 (F := Ideal) x0 x1 x2 (ix2 t n) = share (gate (args x0 x1 x2) t n) := by
  have h := v20 x0 x1 x2
  unfold val_main_v33 val_main_v32 val_main_v31 val_main_v30 val_main_v29 val_main_v28 val_main_v27 val_main_v26 val_main_v25
    val_main_v24 val_main_v23 val_main_v22 val_main_cst_1 val_main_cst_2 val_main_cst_3 val_main_cst_4
  generalize val_main_v20 (F := Ideal) x0 x1 x2 = y at h
  pointwise
  simp only [h, cube_eq]; rfl

theorem v29 (t : Fin 8192) (n : Fin 2816) : val_main_v29 (F := Ideal) x0 x1 x2 (ix2 t n) = inner (gate (args x0 x1 x2) t n) := by
  have h := v20 x0 x1 x2
  unfold val_main_v29 val_main_v28 val_main_v27 val_main_v26 val_main_v25 val_main_v24 val_main_v23 val_main_v22 val_main_cst_1
    val_main_cst_2
  generalize val_main_v20 (F := Ideal) x0 x1 x2 = y at h
  pointwise
  simp only [h, cube_eq]; rfl

theorem v48 (t : Fin 8192) (n : Fin 2816) : val_main_v48 (F := Ideal) x0 x1 x2 (ix2 t n) = dgel (gate (args x0 x1 x2) t n) := by
  have h := v20 x0 x1 x2
  have h' := v33 x0 x1 x2
  have h'' := v29 x0 x1 x2
  unfold val_main_v48 val_main_v47 val_main_v46 val_main_v45 val_main_v44 val_main_v43 val_main_v42 val_main_v41 val_main_v40
    val_main_v39 val_main_v38 val_main_v37 val_main_v36 val_main_v35 val_main_v34 val_main_cst_5 val_main_cst_6 val_main_cst_7
    val_main_cst_8 val_main_cst_9
  generalize val_main_v20 (F := Ideal) x0 x1 x2 = y at h
  generalize val_main_v33 (F := Ideal) x0 x1 x2 = y' at h'
  generalize val_main_v29 (F := Ideal) x0 x1 x2 = y'' at h''
  pointwise
  simp only [h, h', h'']
  unfold dgel
  simp only [mul_assoc]

theorem v77 (t : Fin 8192) (n : Fin 2816) : val_main_v77 (F := Ideal) x0 x1 x2 (ix2 t n) = slope (args x0 x1 x2) t n := by
  have h := v48 x0 x1 x2
  have h' := v21 x0 x1 x2
  unfold val_main_v77
  generalize val_main_v48 (F := Ideal) x0 x1 x2 = y at h
  generalize val_main_v21 (F := Ideal) x0 x1 x2 = y' at h'
  pointwise
  simp only [h, h']
  exact mul_comm _ _

end Stages

variable (m : (ℓ : Loc nD τ sig) → Buf (Elt Ideal) ℓ) (ρ : Dev nD → PrngReg)

/-- The arguments of one run. -/
abbrev given (c : Dev nD) : Args := args (m ((c : Thread nD τ).loc main_arg0)) (m ((c : Thread nD τ).loc main_arg1))
  (m ((c : Thread nD τ).loc main_arg2))

theorem run : θ_run defs (onTc (τ := τ) (main (F := Ideal))) ⟨m, fun _ => 0, ρ⟩ fun r => ∀ c : Dev nD,
      r.2.mem ((c : Thread nD τ).loc main_v63) = (fun i => act (given m c) (i 0) (i 1) : S8192x2816.Idx → EReal)
      ∧ r.2.mem ((c : Thread nD τ).loc main_v76) = (fun i => gated (given m c) (i 0) (i 1) : S8192x2816.Idx → EReal)
      ∧ r.2.mem ((c : Thread nD τ).loc main_v77) = (fun i => slope (given m c) (i 0) (i 1) : S8192x2816.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨h0, h1, h2, hargs⟩ := h c
    refine ⟨(h0.trans (Read.val_main_v63_eq ..)).trans ?_, (h1.trans (Read.val_main_v76_eq ..)).trans ?_,
      (h2.trans (Read.val_main_v77_eq ..)).trans ?_, hargs⟩ <;>
    · funext i
      obtain ⟨t, j, rfl⟩ : ∃ t j, i = ix2 t j := ⟨i 0, i 1, eq_ix2 i⟩
      first | exact v63 _ _ _ t j | exact v76 _ _ _ t j | exact v77 _ _ _ t j)
    (Value.run m ρ)

end Cert.Reference12Ideal.Final

end
-- ==== Proof.UpGateWeights.lean ====
/-
  The gradient of the first half of the first product's weights: what the call leaves in its result. The rows are taken
  in four chunks of 2048 that points `4 q`, …, `4 q + 3` add up; the blocks the call writes are the upper half of its
  array, and the line after it keeps that half.
-/
module

public import proofs.«01_k».proof.Proof.Gen.Kernel13Ideal.Frame
public import proofs.«01_k».proof.Proof.ProductSpec
public import Idealize.ShloMosaic.Lib.StableHlo.ReadAt

@[expose] public section

set_option maxRecDepth 16384

noncomputable section

namespace Cert.Kernel13Ideal.Final

open Idealize.ShloMosaic Idealize.ShloMosaic.TcCoe Idealize.SL.Sem
open Cert.Kernel13Ideal Cert.Kernel13Ideal.Gen

/-! ## What a point leaves -/

section Body

variable {F : FTy → Type} [FloatOps F] (m : (ℓ : Loc nD τ sig) → Buf (Elt F) ℓ) (c : Dev nD)

theorem hz : (![0, 0] : Fin 2 → Nat) = fun _ => 0 := funext fun a => by fin_cases a <;> rfl

/-- The first point of a block starts the buffer at its chunk's product. -/
theorem first (t : Fin cfg0.N) (h : t.val % 4 = 0) : (outsAt0 m c t.val t.isLt).2 = k0_pay2 (iblk m c 0 t) (iblk m c 1 t) := by
  rw [outsAt0_A m c t h (by omega) (by omega)]
  dsimp only
  unfold sout0_A_0
  rw [View.read_writes_eq_canon _ _ _ (fun _ => scover0_A_0 ..)]
  unfold kernelRun0_A
  dsimp only
  sl_unfold_words
  rw [View.canon_unit_zero (S := S1408x1024) hz]
  simp only [View.readAt_eq_ld, Memref.IsWhole.read_unread, View.ld_unit_zero (S := S2048x1408) hz,
    View.ld_unit_zero (S := S2048x1024) hz]

/-- Every other point adds its chunk's product. -/
theorem next (n : ℕ) (hn : n + 1 < cfg0.N) (h : ¬(n + 1) % 4 = 0) : (outsAt0 m c (n + 1) hn).2
    = k0_pay3 (iblk m c 0 ⟨n + 1, hn⟩) (iblk m c 1 ⟨n + 1, hn⟩) (outsAt0 m c n (Nat.lt_of_succ_lt hn)).2 := by
  by_cases h' : (n + 1) % 4 = 3
  · rw [outsAt0_C m c ⟨n + 1, hn⟩ h (Nat.pos_of_ne_zero h) h']
    dsimp only
    unfold sout0_C_0
    rw [View.read_writes_eq_canon _ _ _ (fun _ => scover0_C_0 ..)]
    unfold kernelRun0_C
    dsimp only
    sl_unfold_words
    rw [View.canon_unit_zero (S := S1408x1024) hz]
    simp only [View.readAt_eq_ld, Memref.IsWhole.read_unread, View.ld_unit_zero (S := S2048x1408) hz,
      View.ld_unit_zero (S := S2048x1024) hz, View.ld_unit_zero (S := S1408x1024) hz]
    exact congrArg (k0_pay3 _ _) (Memref.IsWhole.read_unread (m := scM0_0) _ _)
  · rw [outsAt0_B m c ⟨n + 1, hn⟩ h (Nat.pos_of_ne_zero h) h']
    dsimp only
    unfold sout0_B_0
    rw [View.read_writes_eq_canon _ _ _ (fun _ => scover0_B_0 ..)]
    unfold kernelRun0_B
    dsimp only
    sl_unfold_words
    rw [View.canon_unit_zero (S := S1408x1024) hz]
    simp only [View.readAt_eq_ld, Memref.IsWhole.read_unread, View.ld_unit_zero (S := S2048x1408) hz,
      View.ld_unit_zero (S := S2048x1024) hz, View.ld_unit_zero (S := S1408x1024) hz]
    exact congrArg (k0_pay3 _ _) (Memref.IsWhole.read_unread (m := scM0_0) _ _)

/-- The last point of a block writes what the buffer then holds. -/
theorem last (t : Fin cfg0.N) (h : t.val % 4 = 3) : (outsAt0 m c t.val t.isLt).1 = (outsAt0 m c t.val t.isLt).2 := by
  rw [outsAt0_C m c t (by omega) (by omega) h]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero (S := S1408x1024) hz, View.canon_unit_zero (S := S1408x1024) hz]
  simp only [View.readCov_unit_zero (S := S1408x1024) _ hz]

end Body

/-! ## The blocks of the arguments -/

variable (m : (ℓ : Loc nD τ sig) → Buf (Elt Ideal) ℓ) (ρ : Dev nD → PrngReg) (c : Dev nD)

/-- The arguments, as the specification takes them. -/
def h1 (t : Fin 8192) (j : Fin 1024) : EReal := (m ((c : Thread nD τ).loc main_arg0) : S8192x1024.Idx → EReal) (ix2 t j)
def scale (j : Fin 1024) : EReal := (m ((c : Thread nD τ).loc main_arg1) : S1x1024.Idx → EReal) (ix2 0 j)
def dhup (t : Fin 8192) (n : Fin 5632) : EReal := (m ((c : Thread nD τ).loc main_arg3) : S8192x5632.Idx → EReal) (ix2 t n)

/-- The normalised, scaled rows. -/
def scaled (t : Fin 8192) (j : Fin 1024) : EReal := RmsBackward.hat (h1 m c t) j * scale m c j

theorem V_scaled (t : Fin 8192) (j : Fin 1024) : (V m c main_v12 : S8192x1024.Idx → EReal) (ix2 t j) = scaled m c t j := by
  unfold V V0
  simp only [List.flatten_cons, List.flatten_nil, List.append_nil]
  unfold hostOps0
  after_reads_at
  pointwise
  rfl

theorem V_dhup (t : Fin 8192) (n : Fin 2816) :
    (V m c main_v14 : S8192x2816.Idx → EReal) (ix2 t n) = dhup m c t ⟨n.val, by omega⟩ := by
  unfold V V0
  simp only [List.flatten_cons, List.flatten_nil, List.append_nil]
  unfold hostOps0
  after_reads_at
  pointwise
  rfl

/-- Where the blocks lie. -/
theorem index_at : ∀ t : Fin cfg0.N,
    (win0_0.index t 0 = t.val % 4 ∧ win0_0.index t 1 = t.val / 4) ∧ (win0_1.index t 0 = t.val % 4 ∧ win0_1.index t 1 = 0)
    ∧ (win0_2.index t 0 = t.val / 4 ∧ win0_2.index t 1 = 0) :=
  (by decide +kernel : ∀ t : Fin grid0.N,
    (win0_0.index t 0 = t.val % 4 ∧ win0_0.index t 1 = t.val / 4) ∧ (win0_1.index t 0 = t.val % 4 ∧ win0_1.index t 1 = 0)
    ∧ (win0_2.index t 0 = t.val / 4 ∧ win0_2.index t 1 = 0))

def chunkRow (t : Fin cfg0.N) (r : Fin 2048) : Fin 8192 := ⟨2048 * (t.val % 4) + r.val, by omega⟩
def rowOf (t : Fin cfg0.N) (n : Fin 1408) : Fin 5632 :=
  ⟨1408 * (t.val / 4) + n.val, by have h : cfg0.N = 8 := N_0; have := t.isLt; omega⟩

theorem iblk0 (t : Fin cfg0.N) (r : Fin 2048) (n : Fin 1408) :
    (iblk m c 0 t : S2048x1408.Idx → EReal) (ix2 r n) = dhup m c (chunkRow t r) (rowOf t n) := by
  have hN : cfg0.N = 8 := N_0
  have ht := t.isLt
  refine Eq.trans ?_ (V_dhup m c (chunkRow t r) ⟨1408 * (t.val / 4) + n.val, by omega⟩)
  unfold iblk
  rw [View.read_apply]
  refine congrArg (V m c main_v14) (funext fun a => Fin.ext ?_)
  obtain ⟨h0, h1⟩ := (index_at t).1
  match a with
  | ⟨0, _⟩ => show win0_0.index t 0 * 2048 + 1 * r.val = 2048 * (t.val % 4) + r.val; rw [h0]; omega
  | ⟨1, _⟩ => show win0_0.index t 1 * 1408 + 1 * n.val = 1408 * (t.val / 4) + n.val; rw [h1]; omega

theorem iblk1 (t : Fin cfg0.N) (r : Fin 2048) (j : Fin 1024) :
    (iblk m c 1 t : S2048x1024.Idx → EReal) (ix2 r j) = scaled m c (chunkRow t r) j := by
  rw [← V_scaled]
  unfold iblk
  rw [View.read_apply]
  refine congrArg (V m c main_v12) (funext fun a => Fin.ext ?_)
  obtain ⟨h0, h1⟩ := (index_at t).2.1
  match a with
  | ⟨0, _⟩ => show win0_1.index t 0 * 2048 + 1 * r.val = 2048 * (t.val % 4) + r.val; rw [h0]; omega
  | ⟨1, _⟩ => show win0_1.index t 1 * 1024 + 1 * j.val = j.val; rw [h1]; omega

/-! ## The sum over the chunks -/

/-- The product of two blocks, contracted over their rows. -/
def prod (x : Vec Ideal S2048x1408 .bf16) (y : Vec Ideal S2048x1024 .bf16) (n : Fin 1408) (j : Fin 1024) : EReal :=
  ∑ r, x (ix2 r n) * y (ix2 r j)

theorem pay1_apply (x : Vec Ideal S2048x1408 .bf16) (y : Vec Ideal S2048x1024 .bf16) (n : Fin 1408) (j : Fin 1024) :
    k0_pay1 (F := Ideal) x y (ix2 n j) = prod x y n j := by
  unfold prod
  pointwise [k0_pay1]

theorem pay2_apply (x : Vec Ideal S2048x1408 .bf16) (y : Vec Ideal S2048x1024 .bf16) (n : Fin 1408) (j : Fin 1024) :
    k0_pay2 (F := Ideal) x y (ix2 n j) = prod x y n j := by
  unfold prod
  pointwise [k0_pay2, k0_pay1]

theorem pay3_apply (x : Vec Ideal S2048x1408 .bf16) (y : Vec Ideal S2048x1024 .bf16) (z : Vec Ideal S1408x1024 .f32)
    (n : Fin 1408) (j : Fin 1024) :
    k0_pay3 (F := Ideal) x y z (ix2 n j) = z (ix2 n j) + prod x y n j := by
  refine Eq.trans ?_ (congrArg (z (ix2 n j) + ·) (pay1_apply x y n j))
  unfold k0_pay3
  generalize k0_pay1 x y = p
  pointwise

/-- The product of chunk `s`. -/
def chunk (n : Fin 5632) (j : Fin 1024) (s : Fin 4) : EReal :=
  ∑ r : Fin 2048, dhup m c ⟨2048 * s.val + r.val, by omega⟩ n * scaled m c ⟨2048 * s.val + r.val, by omega⟩ j

theorem chunk_at (t : Fin cfg0.N) (s : Fin 4) (hs : t.val % 4 = s.val) (n : Fin 1408) (j : Fin 1024) :
    prod (iblk m c 0 t) (iblk m c 1 t) n j = chunk m c (rowOf t n) j s := by
  refine Finset.sum_congr rfl fun r _ => ?_
  have e : chunkRow t r = ⟨2048 * s.val + r.val, by omega⟩ := Fin.ext (by simp only [chunkRow, hs])
  rw [iblk0, iblk1, e]

/-- What the buffer holds once every chunk is added. -/
theorem total (t : Fin cfg0.N) (h : t.val % 4 = 3) (n : Fin 1408) (j : Fin 1024) :
    (outsAt0 m c t.val t.isLt).2 (ix2 n j) = ∑ t', dhup m c t' (rowOf t n) * scaled m c t' j := by
  have hN : cfg0.N = 8 := N_0
  have ht := t.isLt
  obtain ⟨q, hq⟩ : ∃ q, t.val = 4 * q + 3 := ⟨t.val / 4, by omega⟩
  have row : ∀ (k : ℕ) (hk : 4 * q + k < cfg0.N), k < 4 → rowOf ⟨4 * q + k, hk⟩ n = rowOf t n := fun k hk h4 =>
    Fin.ext (by simp only [rowOf]; omega)
  have run := Sums.running (N := 4) (fun k hk => (outsAt0 m c (4 * q + k) (by omega)).2 (ix2 n j))
    (fun s hs => chunk m c (rowOf t n) j ⟨s, hs⟩)
    (fun h0 => by
      refine (congrFun (first m c ⟨4 * q + 0, by omega⟩ (by dsimp only; omega)) _).trans ((pay2_apply _ _ n j).trans ?_)
      rw [chunk_at m c ⟨4 * q + 0, by omega⟩ ⟨0, h0⟩ (by dsimp only; omega), row 0 _ h0])
    (fun k hk => by
      refine (congrFun (next m c (4 * q + k) (by omega) (by omega)) _).trans ((pay3_apply _ _ _ n j).trans ?_)
      rw [chunk_at m c ⟨4 * q + k + 1, by omega⟩ ⟨k + 1, hk⟩ (by dsimp only; omega)]
      exact congrArg (fun r => _ + chunk m c r j ⟨k + 1, hk⟩) (row (k + 1) _ hk))
    3 (by omega)
  have last : (outsAt0 m c t.val t.isLt).2 (ix2 n j) = (outsAt0 m c (4 * q + 3) (by omega)).2 (ix2 n j) := by
    have e : ∀ (a b : ℕ) (ha : a < cfg0.N) (hb : b < cfg0.N), a = b → outsAt0 m c a ha = outsAt0 m c b hb := by
      rintro a _ ha hb rfl; rfl
    rw [e t.val (4 * q + 3) t.isLt (by omega) hq]
  rw [last]
  exact run.trans (Sums.blocks 4 2048 (fun t' : Fin 8192 => dhup m c t' (rowOf t n) * scaled m c t' j))

/-! ## The result -/

/-- What the call's array holds wherever a block is written. -/
abbrev full : S5632x1024.Idx → EReal := fun i => Product.dnorm (h1 m c) (scale m c) (dhup m c) (i 0) (i 1)

theorem flushed (t : Fin cfg0.N) (hf : (cfg0.win 2).flush t = true) :
    (dats m 0 c).flushed 2 t = ((cfg0.win 2).blk t).view.read (Elt Ideal) (full m c) := by
  have h : t.val % 4 = 3 := (flush0_2 t).mp hf
  show (cfg0.win 2).cut (grid0.coords t) ((dats m 0 c).after 2 t) = _
  rw [after0_2, last m c t h]
  funext i
  obtain ⟨n, j, rfl⟩ : ∃ n j, i = ix2 n j := ⟨i 0, i 1, eq_ix2 i⟩
  rw [View.read_apply]
  refine (total m c t h n j).trans (congrArg (full m c) (funext fun a => Fin.ext ?_) : full m c (ix2 (rowOf t n) j) = _)
  obtain ⟨h0, h1⟩ := (index_at t).2.2
  match a with
  | ⟨0, _⟩ => show 1408 * (t.val / 4) + n.val = win0_2.index t 0 * 1408 + 1 * n.val; rw [h0]; omega
  | ⟨1, _⟩ => show j.val = win0_2.index t 1 * 1024 + 1 * j.val; rw [h1]; omega

/-- An index of the upper half lies in the block that its row's last chunk writes. -/
theorem mem_blk (t : Fin cfg0.N) (i : S5632x1024.Idx) (h : 1408 * (t.val / 4) ≤ (i 0).val)
    (h' : (i 0).val < 1408 * (t.val / 4) + 1408) : i ∈ ((cfg0.win 2).blk t).view.set := by
  show i ∈ ((View.whole main_v15).slice (win0_2.rect t)).set
  rw [View.set_slice_whole, Rect.mem_set_unit]
  obtain ⟨h0, h1⟩ := (index_at t).2.2
  intro a
  have : (i 1 : Nat) < 1024 := (i 1).isLt
  match a with
  | ⟨0, _⟩ => show win0_2.index t 0 * 1408 ≤ (i 0 : Nat) ∧ (i 0 : Nat) < win0_2.index t 0 * 1408 + 1408; rw [h0]; omega
  | ⟨1, _⟩ => show win0_2.index t 1 * 1024 ≤ (i 1 : Nat) ∧ (i 1 : Nat) < win0_2.index t 1 * 1024 + 1024; rw [h1]; omega

theorem upper (n : Fin 2816) (j : Fin 1024) : (dats m 0 c).arrAt 2 cfg0.N (ix2 (⟨n.val, by omega⟩ : Fin 5632) j)
    = Product.dnorm (h1 m c) (scale m c) (dhup m c) ⟨n.val, by omega⟩ j := by
  have hN : cfg0.N = 8 := N_0
  obtain ⟨q, hq⟩ : ∃ q, q = n.val / 1408 := ⟨_, rfl⟩
  have ht : 4 * q + 3 < cfg0.N := by omega
  exact (dats m 0 c).arrAt_apply_of_mem 2 (full m c) (flushed m c) cfg0.N ⟨4 * q + 3, ht⟩ _ ht
    ((flush0_2 _).mpr (by show (4 * q + 3) % 4 = 3; omega))
    (mem_blk _ _ (by show 1408 * ((4 * q + 3) / 4) ≤ n.val; omega) (by show n.val < 1408 * ((4 * q + 3) / 4) + 1408; omega))

abbrev G : S2816x1024.Idx → EReal := fun i =>
  Product.dnorm (h1 m c) (scale m c) (dhup m c) ⟨(i 0).val, by have : (i 0 : Nat) < 2816 := (i 0).isLt; omega⟩ (i 1)

/-- The line after the call keeps the upper half of its array. -/
theorem kept : Pipeline.afterTail₀ cfgs (dats m) 0 (V0 m) [hostOps1] c main_v16 = G m c := by
  funext i
  obtain ⟨n, j, rfl⟩ : ∃ n j, i = ix2 n j := ⟨i 0, i 1, eq_ix2 i⟩
  refine Eq.trans ?_ (upper m c n j)
  unfold Pipeline.afterTail₀
  simp only [List.flatten_cons, List.flatten_nil, List.append_nil]
  unfold hostOps1
  after_reads_at
  exact congrFun (Pipeline.withArrays_arr spec0 (by decide) c (V0 m c) (fun w => (dats m 0 c).arrAt w cfg0.N) 2) _

/-- The run: the result, and the arguments unchanged. -/
theorem run : θ_run defs (onTc (τ := τ) (main (F := Ideal))) ⟨m, fun _ => 0, ρ⟩ fun r => ∀ c : Dev nD,
      r.2.mem ((c : Thread nD τ).loc main_v16) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h.1 c).2 main_v16 (Pipeline.mem_restRefs_of main_v16 (by decide) (by decide))).trans (kept m c), h.2 c⟩)
    (θ_run_and (run_main m ρ) (unchanged m ρ))

end Cert.Kernel13Ideal.Final
-- ==== Proof.UpGateReference.lean ====
/-
  The reference of the gradient of the first half of the first product's weights: what it leaves in its result, the upper
  half of the rows of the product's transpose with respect to its weights.
-/
module

public import proofs.«01_k».proof.Proof.Gen.Reference13Ideal.Read
public import proofs.«01_k».proof.Proof.ProductSpec

@[expose] public section

set_option maxRecDepth 16384

noncomputable section

namespace Cert.Reference13Ideal.Final

open Idealize.ShloMosaic Idealize.ShloMosaic.TcCoe Idealize.SL.Sem
open Cert.Reference13Ideal Cert.Reference13Ideal.Read RmsBackward

variable (m : (ℓ : Loc nD τ sig) → Buf (Elt Ideal) ℓ) (ρ : Dev nD → PrngReg)

section Stages

variable (x0 : (⟨S8192x1024, .f32⟩ : BufTy).Contents (Elt Ideal)) (x1 : (⟨S1x1024, .f32⟩ : BufTy).Contents (Elt Ideal))
  (x3 : (⟨S8192x5632, .f32⟩ : BufTy).Contents (Elt Ideal))

/-- The arguments, as the specification takes them. -/
def rows (t : Fin 8192) (j : Fin 1024) : EReal := (x0 : S8192x1024.Idx → EReal) (ix2 t j)
def scale (j : Fin 1024) : EReal := (x1 : S1x1024.Idx → EReal) (ix2 0 j)
def cot (t : Fin 8192) (n : Fin 5632) : EReal := (x3 : S8192x5632.Idx → EReal) (ix2 t n)

theorem v7 (t : Fin 8192) : val_main_v7 (F := Ideal) x0 (ix2 t (0 : Fin 1)) = inv (rows x0 t) := by
  pointwise [val_main_v7, val_main_v6, val_main_v5, val_main_cst_1, val_main_v4, val_main_v3, val_main_cst_0, val_main_v2,
    val_main_v1, val_main_cst, val_main_v0]
  rfl

theorem v11 (t : Fin 8192) (j : Fin 1024) : val_main_v11 (F := Ideal) x0 x1 (ix2 t j) = hat (rows x0 t) j * scale x1 j := by
  have h := v7 x0 t
  unfold val_main_v11 val_main_v10 val_main_v9 val_main_v8
  generalize val_main_v7 (F := Ideal) x0 = y at h
  pointwise
  rw [h]; rfl

/-- All the rows of the weights' gradient. -/
theorem v15 (n : Fin 5632) (j : Fin 1024) : val_main_v15 (F := Ideal) x0 x1 x3 (ix2 n j)
    = Product.dnorm (rows x0) (scale x1) (cot x3) n j := by
  have h := v11 x0 x1
  unfold Product.dnorm val_main_v15 val_main_v14 val_main_v13
  generalize val_main_v11 (F := Ideal) x0 x1 = y at h
  pointwise
  simp only [h]; rfl

/-- The rows that the result keeps. -/
theorem value (n : Fin 2816) (j : Fin 1024) : val_main_v16 (F := Ideal) x0 x1 x3 (ix2 n j)
    = Product.dnorm (rows x0) (scale x1) (cot x3) ⟨n.val, by omega⟩ j := by
  rw [← v15]
  unfold val_main_v16
  generalize val_main_v15 (F := Ideal) x0 x1 x3 = y
  pointwise

end Stages

theorem run : θ_run defs (onTc (τ := τ) (main (F := Ideal))) ⟨m, fun _ => 0, ρ⟩ fun r => ∀ c : Dev nD,
      r.2.mem ((c : Thread nD τ).loc main_v16) = (fun i => Product.dnorm (rows (m ((c : Thread nD τ).loc main_arg0))) (scale (m ((c : Thread nD τ).loc main_arg1)))
        (cot (m ((c : Thread nD τ).loc main_arg3))) ⟨(i 0).val, Nat.lt_trans (i 0).isLt (by decide)⟩ (i 1) : S2816x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, hargs⟩ := h c
    refine ⟨(h0.trans (Read.val_main_v16_eq ..)).trans ?_, hargs⟩
    funext i
    obtain ⟨p, q, rfl⟩ : ∃ p q, i = ix2 p q := ⟨i 0, i 1, eq_ix2 i⟩
    exact value _ _ _ p q)
    (Value.run m ρ)

end Cert.Reference13Ideal.Final
-- ==== Proof.ProjWeightsConv.lean ====
/-
  The gradient of the input projection's weights, at the rows that give the convolution mixer's columns: what the call
  leaves in its result. The rows of the normalised input are taken in four chunks of 2048, one at a point, and added up;
  the last point writes the block of the first 1024 rows of its array, which the line after the call keeps.
-/
module

public import proofs.«01_k».proof.Proof.Gen.Kernel14Ideal.Frame
public import proofs.«01_k».proof.Proof.ProductSpec
public import Idealize.ShloMosaic.Lib.StableHlo.ReadAt

@[expose] public section

set_option maxRecDepth 16384

noncomputable section

namespace Cert.Kernel14Ideal.Final

open Idealize.ShloMosaic Idealize.ShloMosaic.TcCoe Idealize.SL.Sem
open Cert.Kernel14Ideal Cert.Kernel14Ideal.Gen

/-! ## What a point leaves -/

section Body

variable {F : FTy → Type} [FloatOps F] (m : (ℓ : Loc nD τ sig) → Buf (Elt F) ℓ) (c : Dev nD)

theorem hz : (![0, 0] : Fin 2 → Nat) = fun _ => 0 := funext fun a => by fin_cases a <;> rfl

/-- The first point starts the buffer at its chunk's product. -/
theorem first (t : Fin cfg0.N) (h : t.val = 0) : (outsAt0 m c t.val t.isLt).2 = k0_pay2 (iblk m c 0 t) (iblk m c 1 t) := by
  rw [outsAt0_A m c t (by omega) (by omega) (by omega)]
  dsimp only
  unfold sout0_A_0
  rw [View.read_writes_eq_canon _ _ _ (fun _ => scover0_A_0 ..)]
  unfold kernelRun0_A
  dsimp only
  sl_unfold_words
  rw [View.canon_unit_zero (S := S1024x1024) hz]
  simp only [View.readAt_eq_ld, Memref.IsWhole.read_unread, View.ld_unit_zero (S := S2048x1024) hz]

/-- Every other point adds its chunk's product. -/
theorem next (n : ℕ) (hn : n + 1 < cfg0.N) : (outsAt0 m c (n + 1) hn).2
    = k0_pay3 (iblk m c 0 ⟨n + 1, hn⟩) (iblk m c 1 ⟨n + 1, hn⟩) (outsAt0 m c n (Nat.lt_of_succ_lt hn)).2 := by
  have hN : cfg0.N = 4 := N_0
  have h : ¬(n + 1) % 4 = 0 := by omega
  by_cases h' : (n + 1) % 4 = 3
  · rw [outsAt0_C m c ⟨n + 1, hn⟩ h (Nat.succ_pos n) h']
    dsimp only
    unfold sout0_C_0
    rw [View.read_writes_eq_canon _ _ _ (fun _ => scover0_C_0 ..)]
    unfold kernelRun0_C
    dsimp only
    sl_unfold_words
    rw [View.canon_unit_zero (S := S1024x1024) hz]
    simp only [View.readAt_eq_ld, Memref.IsWhole.read_unread, View.ld_unit_zero (S := S2048x1024) hz, View.ld_unit_zero (S := S1024x1024) hz]
    exact congrArg (k0_pay3 _ _) (Memref.IsWhole.read_unread (m := scM0_0) _ _)
  · rw [outsAt0_B m c ⟨n + 1, hn⟩ h (Nat.succ_pos n) h']
    dsimp only
    unfold sout0_B_0
    rw [View.read_writes_eq_canon _ _ _ (fun _ => scover0_B_0 ..)]
    unfold kernelRun0_B
    dsimp only
    sl_unfold_words
    rw [View.canon_unit_zero (S := S1024x1024) hz]
    simp only [View.readAt_eq_ld, Memref.IsWhole.read_unread, View.ld_unit_zero (S := S2048x1024) hz, View.ld_unit_zero (S := S1024x1024) hz]
    exact congrArg (k0_pay3 _ _) (Memref.IsWhole.read_unread (m := scM0_0) _ _)

/-- The last point writes what the buffer then holds. -/
theorem last (t : Fin cfg0.N) (h : t.val = 3) : (outsAt0 m c t.val t.isLt).1 = k0_pay4 (outsAt0 m c t.val t.isLt).2 := by
  rw [outsAt0_C m c t (by omega) (by omega) (by omega)]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero (S := S1024x1024) hz, View.canon_unit_zero (S := S1024x1024) hz]
  simp only [View.readAt_eq_ld, View.readCov_unit_zero (S := S1024x1024) _ hz, View.ld_unit_zero (S := S1024x1024) hz]

end Body

/-! ## The blocks of the arguments -/

variable (m : (ℓ : Loc nD τ sig) → Buf (Elt Ideal) ℓ) (ρ : Dev nD → PrngReg) (c : Dev nD)

/-- The arguments, as the specification takes them. -/
def x (t : Fin 8192) (j : Fin 1024) : EReal := (m ((c : Thread nD τ).loc main_arg0) : S8192x1024.Idx → EReal) (ix2 t j)
def scale (j : Fin 1024) : EReal := (m ((c : Thread nD τ).loc main_arg1) : S1x1024.Idx → EReal) (ix2 0 j)
def dproj (t : Fin 8192) (n : Fin 2560) : EReal := (m ((c : Thread nD τ).loc main_arg3) : S8192x2560.Idx → EReal) (ix2 t n)

/-- The columns of the cotangent that the call takes. -/
def part (t : Fin 8192) (n : Fin 1024) : EReal := dproj m c t ⟨n.val, by omega⟩
/-- The normalised, scaled rows. -/
def scaled (t : Fin 8192) (j : Fin 1024) : EReal := RmsBackward.hat (x m c t) j * scale m c j

theorem V_right (t : Fin 8192) (j : Fin 1024) : (V m c main_v12 : S8192x1024.Idx → EReal) (ix2 t j) = scaled m c t j := by
  unfold V V0
  simp only [List.flatten_cons, List.flatten_nil, List.append_nil]
  unfold hostOps0
  after_reads_at
  pointwise
  rfl

theorem V_left (t : Fin 8192) (n : Fin 1024) : (V m c main_v14 : S8192x1024.Idx → EReal) (ix2 t n) = part m c t n := by
  unfold V V0
  simp only [List.flatten_cons, List.flatten_nil, List.append_nil]
  unfold hostOps0
  after_reads_at
  pointwise
  rfl

/-- Where the blocks lie. -/
theorem index_at : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0))

def chunkRow (t : Fin cfg0.N) (r : Fin 2048) : Fin 8192 :=
  ⟨2048 * t.val + r.val, by have h : cfg0.N = 4 := N_0; have := t.isLt; omega⟩

theorem iblk0 (t : Fin cfg0.N) (r : Fin 2048) (n : Fin 1024) :
    (iblk m c 0 t : S2048x1024.Idx → EReal) (ix2 r n) = part m c (chunkRow t r) n := by
  rw [← V_left]
  unfold iblk
  rw [View.read_apply]
  refine congrArg (V m c main_v14) (funext fun a => Fin.ext ?_)
  obtain ⟨h0, h1⟩ := (index_at t).1
  match a with
  | ⟨0, _⟩ => show win0_0.index t 0 * 2048 + 1 * r.val = 2048 * t.val + r.val; rw [h0]; omega
  | ⟨1, _⟩ => show win0_0.index t 1 * 1024 + 1 * n.val = n.val; rw [h1]; omega

theorem iblk1 (t : Fin cfg0.N) (r : Fin 2048) (j : Fin 1024) :
    (iblk m c 1 t : S2048x1024.Idx → EReal) (ix2 r j) = scaled m c (chunkRow t r) j := by
  rw [← V_right]
  unfold iblk
  rw [View.read_apply]
  refine congrArg (V m c main_v12) (funext fun a => Fin.ext ?_)
  obtain ⟨h0, h1⟩ := (index_at t).2.1
  match a with
  | ⟨0, _⟩ => show win0_1.index t 0 * 2048 + 1 * r.val = 2048 * t.val + r.val; rw [h0]; omega
  | ⟨1, _⟩ => show win0_1.index t 1 * 1024 + 1 * j.val = j.val; rw [h1]; omega

/-! ## The sum over the chunks -/

/-- The product of two blocks, contracted over the rows of the second. -/
def prod (x : Vec Ideal S2048x1024 .bf16) (y : Vec Ideal S2048x1024 .bf16) (n : Fin 1024) (j : Fin 1024) : EReal :=
  ∑ r, x (ix2 r n) * y (ix2 r j)

theorem pay1_apply (x : Vec Ideal S2048x1024 .bf16) (y : Vec Ideal S2048x1024 .bf16) (n : Fin 1024) (j : Fin 1024) :
    k0_pay1 (F := Ideal) x y (ix2 n j) = prod x y n j := by
  unfold prod
  pointwise [k0_pay1]

theorem pay2_apply (x : Vec Ideal S2048x1024 .bf16) (y : Vec Ideal S2048x1024 .bf16) (n : Fin 1024) (j : Fin 1024) :
    k0_pay2 (F := Ideal) x y (ix2 n j) = prod x y n j := by
  unfold prod
  pointwise [k0_pay2, k0_pay1]

theorem pay3_apply (x : Vec Ideal S2048x1024 .bf16) (y : Vec Ideal S2048x1024 .bf16) (z : Vec Ideal S1024x1024 .f32)
    (n : Fin 1024) (j : Fin 1024) :
    k0_pay3 (F := Ideal) x y z (ix2 n j) = z (ix2 n j) + prod x y n j := by
  refine Eq.trans ?_ (congrArg (z (ix2 n j) + ·) (pay1_apply x y n j))
  unfold k0_pay3
  generalize k0_pay1 x y = p
  pointwise

theorem prod_at (t : Fin cfg0.N) (n : Fin 1024) (j : Fin 1024) : prod (iblk m c 0 t) (iblk m c 1 t) n j
    = ∑ r, part m c (chunkRow t r) n * scaled m c (chunkRow t r) j :=
  Finset.sum_congr rfl fun r _ => by rw [iblk0, iblk1]

/-- What the buffer holds once every chunk is added. -/
theorem total (t : Fin cfg0.N) (h : t.val = 3) (n : Fin 1024) (j : Fin 1024) :
    (outsAt0 m c t.val t.isLt).2 (ix2 n j) = ∑ t', part m c t' n * scaled m c t' j := by
  have hN : cfg0.N = 4 := N_0
  obtain ⟨_, ht⟩ := t
  obtain rfl : _ = 3 := h
  refine Sums.chunks (fun k hk => (outsAt0 m c k (by omega)).2 (ix2 n j)) _ _ ?_ fun k hk => ?_
  · exact (congrFun (first m c ⟨0, by omega⟩ rfl) _).trans ((pay2_apply _ _ n j).trans (prod_at m c ⟨0, by omega⟩ n j))
  · exact (congrFun (next m c k (by omega)) _).trans ((pay3_apply _ _ _ n j).trans
      (congrArg (_ + ·) (prod_at m c ⟨k + 1, by omega⟩ n j)))

/-! ## The result -/

theorem pay4_apply (z : Vec Ideal S1024x1024 .f32) (n : Fin 1024) (j : Fin 1024) :
    k0_pay4 (F := Ideal) z (ix2 n j) = z (ix2 n j) := by
  pointwise [k0_pay4]

/-- What the call's array holds wherever a block is written. -/
abbrev full : S2560x1024.Idx → EReal := fun i => Product.dnorm (x m c) (scale m c) (dproj m c) (i 0) (i 1)

theorem full_own (n : Fin 1024) (j : Fin 1024) :
    full m c (ix2 (⟨n.val, by omega⟩ : Fin 2560) j) = ∑ t, part m c t n * scaled m c t j :=
  rfl

theorem flushed (t : Fin cfg0.N) (hf : (cfg0.win 2).flush t = true) :
    (dats m 0 c).flushed 2 t = ((cfg0.win 2).blk t).view.read (Elt Ideal) (full m c) := by
  have hN : cfg0.N = 4 := N_0
  have ht := t.isLt
  have h : t.val = 3 := by have := (flush0_2 t).mp hf; omega
  show (cfg0.win 2).cut (grid0.coords t) ((dats m 0 c).after 2 t) = _
  rw [after0_2, last m c t h]
  funext i
  obtain ⟨n, hn⟩ : ∃ n : Fin 1024, n.val = (i 0).val := ⟨⟨(i 0).val, Nat.lt_of_lt_of_le (i 0).isLt (win0_2.xsize_le _ 0)⟩, rfl⟩
  obtain ⟨j, hj⟩ : ∃ j : Fin 1024, j.val = (i 1).val := ⟨⟨(i 1).val, Nat.lt_of_lt_of_le (i 1).isLt (win0_2.xsize_le _ 1)⟩, rfl⟩
  have e : win0_2.xinj (grid0.coords t) i = ix2 n j := funext fun a => Fin.ext (match a with
    | ⟨0, _⟩ => hn.symm
    | ⟨1, _⟩ => hj.symm)
  rw [View.read_apply]
  refine (congrArg (k0_pay4 (outsAt0 m c t.val t.isLt).2) e).trans (((pay4_apply _ n j).trans (total m c t h n j)).trans
    ((full_own m c n j).symm.trans (congrArg (full m c) (funext fun a => Fin.ext ?_) : full m c (ix2 ⟨n.val, by omega⟩ j) = _)))
  obtain ⟨h0, h1⟩ := (index_at t).2.2
  match a with
  | ⟨0, _⟩ => show n.val = win0_2.index t 0 * 1024 + 1 * (i 0).val; rw [h0]; omega
  | ⟨1, _⟩ => show j.val = win0_2.index t 1 * 1024 + 1 * (i 1).val; rw [h1]; omega

/-- No block reaches beyond the array. -/
theorem whole_block : ∀ t : Fin cfg0.N, win0_2.xsize (grid0.coords t) 0 = 1024 ∧ win0_2.xsize (grid0.coords t) 1 = 1024 :=
  (by decide +kernel : ∀ t : Fin grid0.N, win0_2.xsize (grid0.coords t) 0 = 1024 ∧ win0_2.xsize (grid0.coords t) 1 = 1024)

/-- The first rows are the block that the last point writes. -/
theorem upper (n : Fin 1024) (j : Fin 1024) :
    (dats m 0 c).arrAt 2 cfg0.N (ix2 (⟨n.val, by omega⟩ : Fin 2560) j) = ∑ t, part m c t n * scaled m c t j := by
  have ht : 3 < cfg0.N := lt_of_lt_of_eq (by decide) N_0.symm
  refine ((dats m 0 c).arrAt_apply_of_mem 2 (full m c) (flushed m c) cfg0.N ⟨3, ht⟩ _ ht ((flush0_2 _).mpr rfl) ?_).trans
    (full_own m c n j)
  show _ ∈ ((View.whole main_v15).slice (win0_2.rect ⟨3, ht⟩)).set
  rw [View.set_slice_whole, Rect.mem_set_unit]
  obtain ⟨h0, h1⟩ := (index_at ⟨3, ht⟩).2.2
  obtain ⟨x0, x1⟩ := whole_block ⟨3, ht⟩
  intro a
  match a with
  | ⟨0, _⟩ =>
    show win0_2.index ⟨3, ht⟩ 0 * 1024 ≤ n.val ∧ n.val < win0_2.index ⟨3, ht⟩ 0 * 1024 + win0_2.xsize (grid0.coords ⟨3, ht⟩) 0
    rw [h0, x0]; omega
  | ⟨1, _⟩ =>
    show win0_2.index ⟨3, ht⟩ 1 * 1024 ≤ j.val ∧ j.val < win0_2.index ⟨3, ht⟩ 1 * 1024 + win0_2.xsize (grid0.coords ⟨3, ht⟩) 1
    rw [h1, x1]; omega

abbrev G : S1024x1024.Idx → EReal := fun i => full m c (ix2 (⟨(i 0).val, Nat.lt_trans (i 0).isLt (by decide)⟩ : Fin 2560) (i 1))

/-- The line after the call keeps the first rows of its array. -/
theorem kept : Pipeline.afterTail₀ cfgs (dats m) 0 (V0 m) [hostOps1] c main_v16 = G m c := by
  funext i
  obtain ⟨n, j, rfl⟩ : ∃ n j, i = ix2 n j := ⟨i 0, i 1, eq_ix2 i⟩
  refine Eq.trans ?_ ((upper m c n j).trans (full_own m c n j).symm)
  unfold Pipeline.afterTail₀
  simp only [List.flatten_cons, List.flatten_nil, List.append_nil]
  unfold hostOps1
  after_reads_at
  exact congrFun (Pipeline.withArrays_arr spec0 (by decide) c (V0 m c) (fun w => (dats m 0 c).arrAt w cfg0.N) 2) _

/-- The run: the result, and the arguments unchanged. -/
theorem run : θ_run defs (onTc (τ := τ) (main (F := Ideal))) ⟨m, fun _ => 0, ρ⟩ fun r => ∀ c : Dev nD,
      r.2.mem ((c : Thread nD τ).loc main_v16) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h.1 c).2 main_v16 (Pipeline.mem_restRefs_of main_v16 (by decide) (by decide))).trans (kept m c), h.2 c⟩)
    (θ_run_and (run_main m ρ) (unchanged m ρ))

end Cert.Kernel14Ideal.Final
-- ==== Proof.ProjWeightsReference.lean ====
/-
  The references of the gradients of the input projection's weights: what they leave in their results. Each is the
  projection's transpose with respect to its weights, of which it keeps the rows of one part: the convolution mixer's
  columns, the queries, the keys or the values.
-/
module

public import proofs.«01_k».proof.Proof.Gen.Reference14Ideal.Read
public import proofs.«01_k».proof.Proof.Gen.Reference17Ideal.Read
public import proofs.«01_k».proof.Proof.Gen.Reference18Ideal.Read
public import proofs.«01_k».proof.Proof.Gen.Reference19Ideal.Read
public import proofs.«01_k».proof.Proof.ProductSpec

@[expose] public section

set_option maxRecDepth 16384

noncomputable section

namespace Cert.Reference14Ideal.Final

open Idealize.ShloMosaic Idealize.ShloMosaic.TcCoe Idealize.SL.Sem
open Cert.Reference14Ideal Cert.Reference14Ideal.Read RmsBackward

variable (m : (ℓ : Loc nD τ sig) → Buf (Elt Ideal) ℓ) (ρ : Dev nD → PrngReg)

section Stages

variable (x0 : (⟨S8192x1024, .f32⟩ : BufTy).Contents (Elt Ideal)) (x1 : (⟨S1x1024, .f32⟩ : BufTy).Contents (Elt Ideal))
  (x3 : (⟨S8192x2560, .f32⟩ : BufTy).Contents (Elt Ideal))

/-- The arguments, as the specification takes them. -/
def rows (t : Fin 8192) (j : Fin 1024) : EReal := (x0 : S8192x1024.Idx → EReal) (ix2 t j)
def scale (j : Fin 1024) : EReal := (x1 : S1x1024.Idx → EReal) (ix2 0 j)
def cot (t : Fin 8192) (n : Fin 2560) : EReal := (x3 : S8192x2560.Idx → EReal) (ix2 t n)

theorem v7 (t : Fin 8192) : val_main_v7 (F := Ideal) x0 (ix2 t (0 : Fin 1)) = inv (rows x0 t) := by
  pointwise [val_main_v7, val_main_v6, val_main_v5, val_main_cst_1, val_main_v4, val_main_v3, val_main_cst_0, val_main_v2,
    val_main_v1, val_main_cst, val_main_v0]
  rfl

theorem v11 (t : Fin 8192) (j : Fin 1024) : val_main_v11 (F := Ideal) x0 x1 (ix2 t j) = hat (rows x0 t) j * scale x1 j := by
  have h := v7 x0 t
  unfold val_main_v11 val_main_v10 val_main_v9 val_main_v8
  generalize val_main_v7 (F := Ideal) x0 = y at h
  pointwise
  rw [h]; rfl

/-- All the rows of the weights' gradient. -/
theorem v15 (n : Fin 2560) (j : Fin 1024) : val_main_v15 (F := Ideal) x0 x1 x3 (ix2 n j)
    = Product.dnorm (rows x0) (scale x1) (cot x3) n j := by
  have h := v11 x0 x1
  unfold Product.dnorm val_main_v15 val_main_v14 val_main_v13
  generalize val_main_v11 (F := Ideal) x0 x1 = y at h
  pointwise
  simp only [h]; rfl

/-- The rows that the result keeps. -/
theorem value (n : Fin 1024) (j : Fin 1024) : val_main_v17 (F := Ideal) x0 x1 x3 (ix2 n j)
    = Product.dnorm (rows x0) (scale x1) (cot x3) ⟨n.val, by omega⟩ j := by
  rw [← v15]
  unfold val_main_v17 val_main_v16
  generalize val_main_v15 (F := Ideal) x0 x1 x3 = y
  pointwise

end Stages

theorem run : θ_run defs (onTc (τ := τ) (main (F := Ideal))) ⟨m, fun _ => 0, ρ⟩ fun r => ∀ c : Dev nD,
      r.2.mem ((c : Thread nD τ).loc main_v17) = (fun i => Product.dnorm (rows (m ((c : Thread nD τ).loc main_arg0))) (scale (m ((c : Thread nD τ).loc main_arg1)))
        (cot (m ((c : Thread nD τ).loc main_arg3))) ⟨(i 0).val, Nat.lt_trans (i 0).isLt (by decide)⟩ (i 1) : S1024x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, hargs⟩ := h c
    refine ⟨(h0.trans (Read.val_main_v17_eq ..)).trans ?_, hargs⟩
    funext i
    obtain ⟨p, q, rfl⟩ : ∃ p q, i = ix2 p q := ⟨i 0, i 1, eq_ix2 i⟩
    exact value _ _ _ p q)
    (Value.run m ρ)

end Cert.Reference14Ideal.Final

namespace Cert.Reference17Ideal.Final

open Idealize.ShloMosaic Idealize.ShloMosaic.TcCoe Idealize.SL.Sem
open Cert.Reference17Ideal Cert.Reference17Ideal.Read RmsBackward
open Cert.Reference14Ideal.Final (rows scale cot)

variable (m : (ℓ : Loc nD τ sig) → Buf (Elt Ideal) ℓ) (ρ : Dev nD → PrngReg)

/-- The rows that other calls have computed, as the specification takes them. -/
def earlier (x : S2560x1024.Idx → EReal) (n : Fin 2560) (j : Fin 1024) : EReal := x (ix2 n j)

/-- The queries' rows among the ones computed before. -/
theorem value (x0 : Vec Ideal S8192x1024 .f32) (x1 : Vec Ideal S1x1024 .f32) (x3 : Vec Ideal S8192x2560 .f32)
    (x4 : Vec Ideal S2560x1024 .bf16) (n : Fin 2560) (j : Fin 1024) : val_main_v20 (F := Ideal) x0 x1 x3 x4 (ix2 n j)
    = Product.within 1024 1536 (earlier x4) (Product.dnorm (rows x0) (scale x1) (cot x3)) n j := by
  have h : ∀ n j, val_main_v15 (F := Ideal) x0 x1 x3 (ix2 n j) = Product.dnorm (rows x0) (scale x1) (cot x3) n j :=
    Cert.Reference14Ideal.Final.v15 x0 x1 x3
  unfold val_main_v20 val_main_v19 val_main_v18 val_main_v17 val_main_v16
  generalize val_main_v15 (F := Ideal) x0 x1 x3 = y at h
  pointwise
  simp only [h]
  exact Product.placed rfl (earlier x4) _ n j (by omega) (by omega)

theorem run : θ_run defs (onTc (τ := τ) (main (F := Ideal))) ⟨m, fun _ => 0, ρ⟩ fun r => ∀ c : Dev nD,
      r.2.mem ((c : Thread nD τ).loc main_v20) = (fun i => Product.within 1024 1536 (earlier (m ((c : Thread nD τ).loc main_arg4)))
        (Product.dnorm (rows (m ((c : Thread nD τ).loc main_arg0))) (scale (m ((c : Thread nD τ).loc main_arg1)))
        (cot (m ((c : Thread nD τ).loc main_arg3)))) (i 0) (i 1) : S2560x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h0, hargs⟩ := h c
    refine ⟨(h0.trans (Read.val_main_v20_eq ..)).trans ?_, hargs⟩
    funext i
    obtain ⟨p, q, rfl⟩ : ∃ p q, i = ix2 p q := ⟨i 0, i 1, eq_ix2 i⟩
    exact value _ _ _ _ p q)
    (Value.run m ρ)

end Cert.Reference17Ideal.Final

namespace Cert.Reference18Ideal.Final

open Idealize.ShloMosaic Idealize.ShloMosaic.TcCoe Idealize.SL.Sem
open Cert.Reference18Ideal Cert.Reference18Ideal.Read RmsBackward
open Cert.Reference14Ideal.Final (rows scale cot)

variable (m : (ℓ : Loc nD τ sig) → Buf (Elt Ideal) ℓ) (ρ : Dev nD → PrngReg)

/-- The rows that other calls have computed, as the specification takes them. -/
def earlier (x : S2560x1024.Idx → EReal) (n : Fin 2560) (j : Fin 1024) : EReal := x (ix2 n j)

/-- The keys' rows among the ones computed before. -/
theorem value (x0 : Vec Ideal S8192x1024 .f32) (x1 : Vec Ideal S1x1024 .f32) (x3 : Vec Ideal S8192x2560 .f32)
    (x4 : Vec Ideal S2560x1024 .bf16) (n : Fin 2560) (j : Fin 1024) : val_main_v20 (F := Ideal) x0 x1 x3 x4 (ix2 n j)
    = Product.within 1536 2048 (earlier x4) (Product.dnorm (rows x0) (scale x1) (cot x3)) n j := by
  have h : ∀ n j, val_main_v15 (F := Ideal) x0 x1 x3 (ix2 n j) = Product.dnorm (rows x0) (scale x1) (cot x3) n j :=
    Cert.Reference14Ideal.Final.v15 x0 x1 x3
  unfold val_main_v20 val_main_v19 val_main_v18 val_main_v17 val_main_v16
  generalize val_main_v15 (F := Ideal) x0 x1 x3 = y at h
  pointwise
  simp only [h]
  exact Product.placed rfl (earlier x4) _ n j (by omega) (by omega)

theorem run : θ_run defs (onTc (τ := τ) (main (F := Ideal))) ⟨m, fun _ => 0, ρ⟩ fun r => ∀ c : Dev nD,
      r.2.mem ((c : Thread nD τ).loc main_v20) = (fun i => Product.within 1536 2048 (earlier (m ((c : Thread nD τ).loc main_arg4)))
        (Product.dnorm (rows (m ((c : Thread nD τ).loc main_arg0))) (scale (m ((c : Thread nD τ).loc main_arg1)))
        (cot (m ((c : Thread nD τ).loc main_arg3)))) (i 0) (i 1) : S2560x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h0, hargs⟩ := h c
    refine ⟨(h0.trans (Read.val_main_v20_eq ..)).trans ?_, hargs⟩
    funext i
    obtain ⟨p, q, rfl⟩ : ∃ p q, i = ix2 p q := ⟨i 0, i 1, eq_ix2 i⟩
    exact value _ _ _ _ p q)
    (Value.run m ρ)

end Cert.Reference18Ideal.Final

namespace Cert.Reference19Ideal.Final

open Idealize.ShloMosaic Idealize.ShloMosaic.TcCoe Idealize.SL.Sem
open Cert.Reference19Ideal Cert.Reference19Ideal.Read RmsBackward
open Cert.Reference14Ideal.Final (rows scale cot)

variable (m : (ℓ : Loc nD τ sig) → Buf (Elt Ideal) ℓ) (ρ : Dev nD → PrngReg)

/-- The rows that other calls have computed, as the specification takes them. -/
def earlier (x : S2560x1024.Idx → EReal) (n : Fin 2560) (j : Fin 1024) : EReal := x (ix2 n j)

/-- The values' rows among the ones computed before. -/
theorem value (x0 : Vec Ideal S8192x1024 .f32) (x1 : Vec Ideal S1x1024 .f32) (x3 : Vec Ideal S8192x2560 .f32)
    (x4 : Vec Ideal S2560x1024 .bf16) (n : Fin 2560) (j : Fin 1024) : val_main_v19 (F := Ideal) x0 x1 x3 x4 (ix2 n j)
    = Product.within 2048 2560 (earlier x4) (Product.dnorm (rows x0) (scale x1) (cot x3)) n j := by
  have h : ∀ n j, val_main_v15 (F := Ideal) x0 x1 x3 (ix2 n j) = Product.dnorm (rows x0) (scale x1) (cot x3) n j :=
    Cert.Reference14Ideal.Final.v15 x0 x1 x3
  unfold val_main_v19 val_main_v18 val_main_v17 val_main_v16 Product.within
  generalize val_main_v15 (F := Ideal) x0 x1 x3 = y at h
  pointwise
  simp only [h]
  by_cases before : n.val < 2048
  · exact (dif_pos before).trans (if_neg (by omega)).symm
  · have e : (⟨2048 + (n.val - 2048), by omega⟩ : Fin 2560) = n := Fin.ext (by show 2048 + (n.val - 2048) = n.val; omega)
    exact (dif_neg before).trans ((congrArg (fun k => Product.dnorm (rows x0) (scale x1) (cot x3) k j) e).trans
      (if_pos (by omega)).symm)

theorem run : θ_run defs (onTc (τ := τ) (main (F := Ideal))) ⟨m, fun _ => 0, ρ⟩ fun r => ∀ c : Dev nD,
      r.2.mem ((c : Thread nD τ).loc main_v19) = (fun i => Product.within 2048 2560 (earlier (m ((c : Thread nD τ).loc main_arg4)))
        (Product.dnorm (rows (m ((c : Thread nD τ).loc main_arg0))) (scale (m ((c : Thread nD τ).loc main_arg1)))
        (cot (m ((c : Thread nD τ).loc main_arg3)))) (i 0) (i 1) : S2560x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h0, hargs⟩ := h c
    refine ⟨(h0.trans (Read.val_main_v19_eq ..)).trans ?_, hargs⟩
    funext i
    obtain ⟨p, q, rfl⟩ : ∃ p q, i = ix2 p q := ⟨i 0, i 1, eq_ix2 i⟩
    exact value _ _ _ _ p q)
    (Value.run m ρ)

end Cert.Reference19Ideal.Final
-- ==== Proof.MixWeightsConv.lean ====
/-
  The gradient of the mixers' common output product's weights, at the rows that multiply the convolution mixer's result:
  what the call leaves in its result. The rows of that result are taken in four chunks of 2048, one at a point, and added
  up; the last point writes the block of the first 512 rows of its array, which the line after the call keeps.
-/
module

public import proofs.«01_k».proof.Proof.Gen.Kernel15Ideal.Frame
public import proofs.«01_k».proof.Proof.ProductSpec
public import Idealize.ShloMosaic.Lib.StableHlo.ReadAt

@[expose] public section

set_option maxRecDepth 16384

noncomputable section

namespace Cert.Kernel15Ideal.Final

open Idealize.ShloMosaic Idealize.ShloMosaic.TcCoe Idealize.SL.Sem
open Cert.Kernel15Ideal Cert.Kernel15Ideal.Gen

/-! ## What a point leaves -/

section Body

variable {F : FTy → Type} [FloatOps F] (m : (ℓ : Loc nD τ sig) → Buf (Elt F) ℓ) (c : Dev nD)

theorem hz : (![0, 0] : Fin 2 → Nat) = fun _ => 0 := funext fun a => by fin_cases a <;> rfl

/-- The first point starts the buffer at its chunk's product. -/
theorem first (t : Fin cfg0.N) (h : t.val = 0) : (outsAt0 m c t.val t.isLt).2 = k0_pay2 (iblk m c 0 t) (iblk m c 1 t) := by
  rw [outsAt0_A m c t (by omega) (by omega) (by omega)]
  dsimp only
  unfold sout0_A_0
  rw [View.read_writes_eq_canon _ _ _ (fun _ => scover0_A_0 ..)]
  unfold kernelRun0_A
  dsimp only
  sl_unfold_words
  rw [View.canon_unit_zero (S := S512x1024) hz]
  simp only [View.readAt_eq_ld, Memref.IsWhole.read_unread, View.ld_unit_zero (S := S2048x512) hz, View.ld_unit_zero (S := S2048x1024) hz]

/-- Every other point adds its chunk's product. -/
theorem next (n : ℕ) (hn : n + 1 < cfg0.N) : (outsAt0 m c (n + 1) hn).2
    = k0_pay3 (iblk m c 0 ⟨n + 1, hn⟩) (iblk m c 1 ⟨n + 1, hn⟩) (outsAt0 m c n (Nat.lt_of_succ_lt hn)).2 := by
  have hN : cfg0.N = 4 := N_0
  have h : ¬(n + 1) % 4 = 0 := by omega
  by_cases h' : (n + 1) % 4 = 3
  · rw [outsAt0_C m c ⟨n + 1, hn⟩ h (Nat.succ_pos n) h']
    dsimp only
    unfold sout0_C_0
    rw [View.read_writes_eq_canon _ _ _ (fun _ => scover0_C_0 ..)]
    unfold kernelRun0_C
    dsimp only
    sl_unfold_words
    rw [View.canon_unit_zero (S := S512x1024) hz]
    simp only [View.readAt_eq_ld, Memref.IsWhole.read_unread, View.ld_unit_zero (S := S2048x512) hz, View.ld_unit_zero (S := S2048x1024) hz, View.ld_unit_zero (S := S512x1024) hz]
    exact congrArg (k0_pay3 _ _) (Memref.IsWhole.read_unread (m := scM0_0) _ _)
  · rw [outsAt0_B m c ⟨n + 1, hn⟩ h (Nat.succ_pos n) h']
    dsimp only
    unfold sout0_B_0
    rw [View.read_writes_eq_canon _ _ _ (fun _ => scover0_B_0 ..)]
    unfold kernelRun0_B
    dsimp only
    sl_unfold_words
    rw [View.canon_unit_zero (S := S512x1024) hz]
    simp only [View.readAt_eq_ld, Memref.IsWhole.read_unread, View.ld_unit_zero (S := S2048x512) hz, View.ld_unit_zero (S := S2048x1024) hz, View.ld_unit_zero (S := S512x1024) hz]
    exact congrArg (k0_pay3 _ _) (Memref.IsWhole.read_unread (m := scM0_0) _ _)

/-- The last point writes what the buffer then holds. -/
theorem last (t : Fin cfg0.N) (h : t.val = 3) : (outsAt0 m c t.val t.isLt).1 = (outsAt0 m c t.val t.isLt).2 := by
  rw [outsAt0_C m c t (by omega) (by omega) (by omega)]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero (S := S512x1024) hz, View.canon_unit_zero (S := S512x1024) hz]
  simp only [View.readCov_unit_zero (S := S512x1024) _ hz]

end Body

/-! ## The blocks of the arguments -/

variable (m : (ℓ : Loc nD τ sig) → Buf (Elt Ideal) ℓ) (ρ : Dev nD → PrngReg) (c : Dev nD)

/-- The arguments, as the specification takes them. -/
def conv (t : Fin 8192) (n : Fin 512) : EReal := (m ((c : Thread nD τ).loc main_arg0) : S8192x512.Idx → EReal) (ix2 t n)
def attn (t : Fin 8192) (n : Fin 512) : EReal := (m ((c : Thread nD τ).loc main_arg1) : S8192x512.Idx → EReal) (ix2 t n)
def dmixed (t : Fin 8192) (j : Fin 1024) : EReal := (m ((c : Thread nD τ).loc main_arg3) : S8192x1024.Idx → EReal) (ix2 t j)

theorem V_left (t : Fin 8192) (n : Fin 512) : (V m c main_v0 : S8192x512.Idx → EReal) (ix2 t n) = conv m c t n := by
  unfold V V0
  simp only [List.flatten_cons, List.flatten_nil, List.append_nil]
  unfold hostOps0
  after_reads_at
  pointwise
  rfl

theorem V_right (t : Fin 8192) (j : Fin 1024) : (V m c main_v1 : S8192x1024.Idx → EReal) (ix2 t j) = dmixed m c t j := by
  unfold V V0
  simp only [List.flatten_cons, List.flatten_nil, List.append_nil]
  unfold hostOps0
  after_reads_at
  pointwise
  rfl

/-- Where the blocks lie. -/
theorem index_at : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0))

def chunkRow (t : Fin cfg0.N) (r : Fin 2048) : Fin 8192 :=
  ⟨2048 * t.val + r.val, by have h : cfg0.N = 4 := N_0; have := t.isLt; omega⟩

theorem iblk0 (t : Fin cfg0.N) (r : Fin 2048) (n : Fin 512) :
    (iblk m c 0 t : S2048x512.Idx → EReal) (ix2 r n) = conv m c (chunkRow t r) n := by
  rw [← V_left]
  unfold iblk
  rw [View.read_apply]
  refine congrArg (V m c main_v0) (funext fun a => Fin.ext ?_)
  obtain ⟨h0, h1⟩ := (index_at t).1
  match a with
  | ⟨0, _⟩ => show win0_0.index t 0 * 2048 + 1 * r.val = 2048 * t.val + r.val; rw [h0]; omega
  | ⟨1, _⟩ => show win0_0.index t 1 * 512 + 1 * n.val = n.val; rw [h1]; omega

theorem iblk1 (t : Fin cfg0.N) (r : Fin 2048) (j : Fin 1024) :
    (iblk m c 1 t : S2048x1024.Idx → EReal) (ix2 r j) = dmixed m c (chunkRow t r) j := by
  rw [← V_right]
  unfold iblk
  rw [View.read_apply]
  refine congrArg (V m c main_v1) (funext fun a => Fin.ext ?_)
  obtain ⟨h0, h1⟩ := (index_at t).2.1
  match a with
  | ⟨0, _⟩ => show win0_1.index t 0 * 2048 + 1 * r.val = 2048 * t.val + r.val; rw [h0]; omega
  | ⟨1, _⟩ => show win0_1.index t 1 * 1024 + 1 * j.val = j.val; rw [h1]; omega

/-! ## The sum over the chunks -/

/-- The product of two blocks, contracted over the rows of the second. -/
def prod (x : Vec Ideal S2048x512 .bf16) (y : Vec Ideal S2048x1024 .bf16) (n : Fin 512) (j : Fin 1024) : EReal :=
  ∑ r, x (ix2 r n) * y (ix2 r j)

theorem pay1_apply (x : Vec Ideal S2048x512 .bf16) (y : Vec Ideal S2048x1024 .bf16) (n : Fin 512) (j : Fin 1024) :
    k0_pay1 (F := Ideal) x y (ix2 n j) = prod x y n j := by
  unfold prod
  pointwise [k0_pay1]

theorem pay2_apply (x : Vec Ideal S2048x512 .bf16) (y : Vec Ideal S2048x1024 .bf16) (n : Fin 512) (j : Fin 1024) :
    k0_pay2 (F := Ideal) x y (ix2 n j) = prod x y n j := by
  unfold prod
  pointwise [k0_pay2, k0_pay1]

theorem pay3_apply (x : Vec Ideal S2048x512 .bf16) (y : Vec Ideal S2048x1024 .bf16) (z : Vec Ideal S512x1024 .f32)
    (n : Fin 512) (j : Fin 1024) :
    k0_pay3 (F := Ideal) x y z (ix2 n j) = z (ix2 n j) + prod x y n j := by
  refine Eq.trans ?_ (congrArg (z (ix2 n j) + ·) (pay1_apply x y n j))
  unfold k0_pay3
  generalize k0_pay1 x y = p
  pointwise

theorem prod_at (t : Fin cfg0.N) (n : Fin 512) (j : Fin 1024) : prod (iblk m c 0 t) (iblk m c 1 t) n j
    = ∑ r, conv m c (chunkRow t r) n * dmixed m c (chunkRow t r) j :=
  Finset.sum_congr rfl fun r _ => by rw [iblk0, iblk1]

/-- What the buffer holds once every chunk is added. -/
theorem total (t : Fin cfg0.N) (h : t.val = 3) (n : Fin 512) (j : Fin 1024) :
    (outsAt0 m c t.val t.isLt).2 (ix2 n j) = ∑ t', conv m c t' n * dmixed m c t' j := by
  have hN : cfg0.N = 4 := N_0
  obtain ⟨_, ht⟩ := t
  obtain rfl : _ = 3 := h
  refine Sums.chunks (fun k hk => (outsAt0 m c k (by omega)).2 (ix2 n j)) _ _ ?_ fun k hk => ?_
  · exact (congrFun (first m c ⟨0, by omega⟩ rfl) _).trans ((pay2_apply _ _ n j).trans (prod_at m c ⟨0, by omega⟩ n j))
  · exact (congrFun (next m c k (by omega)) _).trans ((pay3_apply _ _ _ n j).trans
      (congrArg (_ + ·) (prod_at m c ⟨k + 1, by omega⟩ n j)))

/-! ## The result -/

/-- What the call's array holds wherever a block is written. -/
abbrev full : S1024x1024.Idx → EReal := fun i =>
  Product.dall (Product.beside (conv m c) (attn m c)) (dmixed m c) (i 0) (i 1)

theorem full_own (n : Fin 512) (j : Fin 1024) :
    full m c (ix2 (⟨n.val, by omega⟩ : Fin 1024) j) = ∑ t, conv m c t n * dmixed m c t j :=
  Finset.sum_congr rfl fun t _ => congrArg (· * dmixed m c t j) (Product.beside_conv (conv m c) (attn m c) t n)

theorem flushed (t : Fin cfg0.N) (hf : (cfg0.win 2).flush t = true) :
    (dats m 0 c).flushed 2 t = ((cfg0.win 2).blk t).view.read (Elt Ideal) (full m c) := by
  have hN : cfg0.N = 4 := N_0
  have ht := t.isLt
  have h : t.val = 3 := by have := (flush0_2 t).mp hf; omega
  show (cfg0.win 2).cut (grid0.coords t) ((dats m 0 c).after 2 t) = _
  rw [after0_2, last m c t h]
  funext i
  obtain ⟨n, j, rfl⟩ : ∃ n j, i = ix2 n j := ⟨i 0, i 1, eq_ix2 i⟩
  rw [View.read_apply]
  refine ((total m c t h n j)).trans ((full_own m c n j).symm.trans
    (congrArg (full m c) (funext fun a => Fin.ext ?_) : full m c (ix2 ⟨n.val, by omega⟩ j) = _))
  obtain ⟨h0, h1⟩ := (index_at t).2.2
  match a with
  | ⟨0, _⟩ => show n.val = win0_2.index t 0 * 512 + 1 * n.val; rw [h0]; omega
  | ⟨1, _⟩ => show j.val = win0_2.index t 1 * 1024 + 1 * j.val; rw [h1]; omega

/-- The first rows are the block that the last point writes. -/
theorem upper (n : Fin 512) (j : Fin 1024) :
    (dats m 0 c).arrAt 2 cfg0.N (ix2 (⟨n.val, by omega⟩ : Fin 1024) j) = ∑ t, conv m c t n * dmixed m c t j := by
  have ht : 3 < cfg0.N := lt_of_lt_of_eq (by decide) N_0.symm
  refine ((dats m 0 c).arrAt_apply_of_mem 2 (full m c) (flushed m c) cfg0.N ⟨3, ht⟩ _ ht ((flush0_2 _).mpr rfl) ?_).trans
    (full_own m c n j)
  show _ ∈ ((View.whole main_v2).slice (win0_2.rect ⟨3, ht⟩)).set
  rw [View.set_slice_whole, Rect.mem_set_unit]
  obtain ⟨h0, h1⟩ := (index_at ⟨3, ht⟩).2.2
  intro a
  match a with
  | ⟨0, _⟩ => show win0_2.index _ 0 * 512 ≤ n.val ∧ n.val < win0_2.index _ 0 * 512 + 512; rw [h0]; omega
  | ⟨1, _⟩ => show win0_2.index _ 1 * 1024 ≤ j.val ∧ j.val < win0_2.index _ 1 * 1024 + 1024; rw [h1]; omega

abbrev G : S512x1024.Idx → EReal := fun i => full m c (ix2 (⟨(i 0).val, Nat.lt_trans (i 0).isLt (by decide)⟩ : Fin 1024) (i 1))

/-- The line after the call keeps the first rows of its array. -/
theorem kept : Pipeline.afterTail₀ cfgs (dats m) 0 (V0 m) [hostOps1] c main_v3 = G m c := by
  funext i
  obtain ⟨n, j, rfl⟩ : ∃ n j, i = ix2 n j := ⟨i 0, i 1, eq_ix2 i⟩
  refine Eq.trans ?_ ((upper m c n j).trans (full_own m c n j).symm)
  unfold Pipeline.afterTail₀
  simp only [List.flatten_cons, List.flatten_nil, List.append_nil]
  unfold hostOps1
  after_reads_at
  exact congrFun (Pipeline.withArrays_arr spec0 (by decide) c (V0 m c) (fun w => (dats m 0 c).arrAt w cfg0.N) 2) _

/-- The run: the result, and the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h.1 c).2 main_v3 (Pipeline.mem_restRefs_of main_v3 (by decide) (by decide))).trans (kept m c), h.2 c⟩)
    (θ_run_and (run_main m ρ) (unchanged m ρ))

end Cert.Kernel15Ideal.Final
-- ==== Proof.MixWeightsReference.lean ====
/-
  The references of the gradients of the mixers' common output product's weights: what they leave in their results. Each
  is the product's transpose with respect to the weights, of which it keeps the rows that multiply one mixer's result.
-/
module

public import proofs.«01_k».proof.Proof.Gen.Reference15Ideal.Read
public import proofs.«01_k».proof.Proof.Gen.Reference16Ideal.Read
public import proofs.«01_k».proof.Proof.ProductSpec

@[expose] public section

set_option maxRecDepth 16384

noncomputable section

namespace Cert.Reference15Ideal.Final

open Idealize.ShloMosaic Idealize.ShloMosaic.TcCoe Idealize.SL.Sem
open Cert.Reference15Ideal Cert.Reference15Ideal.Read

variable (m : (ℓ : Loc nD τ sig) → Buf (Elt Ideal) ℓ) (ρ : Dev nD → PrngReg)

/-- The arguments, as the specification takes them. -/
def rows {N : ℕ} (x : Shape.Idx ⟨2, ![8192, N]⟩ → EReal) (t : Fin 8192) (n : Fin N) : EReal := x (ix2 t n)

section Stages

variable (x0 x1 : Vec Ideal S8192x512 .f32) (x3 : Vec Ideal S8192x1024 .f32)

theorem v0 (t : Fin 8192) (n : Fin 1024) : val_main_v0 (F := Ideal) x0 x1 (ix2 t n) = Product.beside (rows x0) (rows x1) t n := by
  unfold Product.beside val_main_v0
  pointwise
  rfl

theorem v3 (n : Fin 1024) (j : Fin 1024) : val_main_v3 (F := Ideal) x0 x1 x3 (ix2 n j)
    = Product.dall (Product.beside (rows x0) (rows x1)) (rows x3) n j := by
  have h := v0 x0 x1
  unfold Product.dall val_main_v3 val_main_v2
  generalize val_main_v0 (F := Ideal) x0 x1 = y at h
  pointwise
  simp only [h]
  exact Finset.sum_congr rfl fun t _ => mul_comm _ _

/-- The rows that the result keeps. -/
theorem value (n : Fin 512) (j : Fin 1024) : val_main_v4 (F := Ideal) x0 x1 x3 (ix2 n j)
    = Product.dall (Product.beside (rows x0) (rows x1)) (rows x3) ⟨n.val, by omega⟩ j := by
  rw [← v3]
  unfold val_main_v4
  generalize val_main_v3 (F := Ideal) x0 x1 x3 = y
  pointwise

end Stages

theorem run : θ_run defs (onTc (τ := τ) (main (F := Ideal))) ⟨m, fun _ => 0, ρ⟩ fun r => ∀ c : Dev nD,
      r.2.mem ((c : Thread nD τ).loc main_v4) = (fun i => Product.dall (Product.beside (rows (m ((c : Thread nD τ).loc main_arg0)))
        (rows (m ((c : Thread nD τ).loc main_arg1)))) (rows (m ((c : Thread nD τ).loc main_arg3)))
        ⟨(i 0).val, Nat.lt_trans (i 0).isLt (by decide)⟩ (i 1) : S512x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, hargs⟩ := h c
    refine ⟨(h0.trans (Read.val_main_v4_eq ..)).trans ?_, hargs⟩
    funext i
    obtain ⟨p, q, rfl⟩ : ∃ p q, i = ix2 p q := ⟨i 0, i 1, eq_ix2 i⟩
    exact value _ _ _ p q)
    (Value.run m ρ)

end Cert.Reference15Ideal.Final

namespace Cert.Reference16Ideal.Final

open Idealize.ShloMosaic Idealize.ShloMosaic.TcCoe Idealize.SL.Sem
open Cert.Reference16Ideal Cert.Reference16Ideal.Read
open Cert.Reference15Ideal.Final (rows)

variable (m : (ℓ : Loc nD τ sig) → Buf (Elt Ideal) ℓ) (ρ : Dev nD → PrngReg)

/-- The rows that another call has computed, as the specification takes them. -/
def earlier (x : S1024x1024.Idx → EReal) (n : Fin 1024) (j : Fin 1024) : EReal := x (ix2 n j)

section Stages

variable (x0 x1 : Vec Ideal S8192x512 .f32) (x3 : Vec Ideal S8192x1024 .f32) (x4 : Vec Ideal S1024x1024 .f32)

theorem v1 (t : Fin 8192) (n : Fin 1024) : val_main_v1 (F := Ideal) x0 x1 (ix2 t n) = Product.beside (rows x0) (rows x1) t n := by
  unfold Product.beside val_main_v1
  pointwise
  rfl

theorem v4 (n : Fin 1024) (j : Fin 1024) : val_main_v4 (F := Ideal) x0 x1 x3 (ix2 n j)
    = Product.dall (Product.beside (rows x0) (rows x1)) (rows x3) n j := by
  have h := v1 x0 x1
  unfold Product.dall val_main_v4 val_main_v3
  generalize val_main_v1 (F := Ideal) x0 x1 = y at h
  pointwise
  simp only [h]
  exact Finset.sum_congr rfl fun t _ => mul_comm _ _

/-- The earlier rows above the ones that the result keeps of the transpose. -/
theorem value (n : Fin 1024) (j : Fin 1024) : val_main_v6 (F := Ideal) x0 x1 x3 x4 (ix2 n j)
    = Product.below 512 (earlier x4) (Product.dall (Product.beside (rows x0) (rows x1)) (rows x3)) n j := by
  have h := v4 x0 x1 x3
  unfold val_main_v6 val_main_v5 val_main_v0 Product.below
  generalize val_main_v4 (F := Ideal) x0 x1 x3 = y at h
  pointwise
  by_cases hn : n.val < 512
  · rw [dif_pos hn, if_pos hn]; rfl
  · rw [dif_neg hn, if_neg hn, h]
    exact congrArg (Product.dall _ _ · j) (Fin.ext (by dsimp only; omega))

end Stages

theorem run : θ_run defs (onTc (τ := τ) (main (F := Ideal))) ⟨m, fun _ => 0, ρ⟩ fun r => ∀ c : Dev nD,
      r.2.mem ((c : Thread nD τ).loc main_v6) = (fun i => Product.below 512 (earlier (m ((c : Thread nD τ).loc main_arg4)))
        (Product.dall (Product.beside (rows (m ((c : Thread nD τ).loc main_arg0))) (rows (m ((c : Thread nD τ).loc main_arg1))))
        (rows (m ((c : Thread nD τ).loc main_arg3)))) (i 0) (i 1) : S1024x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h0, hargs⟩ := h c
    refine ⟨(h0.trans (Read.val_main_v6_eq ..)).trans ?_, hargs⟩
    funext i
    obtain ⟨p, q, rfl⟩ : ∃ p q, i = ix2 p q := ⟨i 0, i 1, eq_ix2 i⟩
    exact value _ _ _ _ p q)
    (Value.run m ρ)

end Cert.Reference16Ideal.Final
-- ==== Proof.MixWeightsAttn.lean ====
/-
  The gradient of the mixers' common output product's weights, at the rows that multiply the attention mixer's result:
  what the call leaves in its result array. The rows of that result are taken in four chunks of 2048, one at a point, and
  added up; the block that the last point writes lies below the rows that another call has filled, which stay.
-/
module

public import proofs.«01_k».proof.Proof.Gen.Kernel16Ideal.Value
public import proofs.«01_k».proof.Proof.ProductSpec
public import Idealize.ShloMosaic.Lib.StableHlo.ReadAt

@[expose] public section

set_option maxRecDepth 16384

noncomputable section

namespace Cert.Kernel16Ideal.Final

open Idealize.ShloMosaic Idealize.ShloMosaic.TcCoe Idealize.SL.Sem
open Cert.Kernel16Ideal Cert.Kernel16Ideal.Gen

/-! ## What a point leaves -/

section Body

variable {F : FTy → Type} [FloatOps F] (m : (ℓ : Loc nD τ sig) → Buf (Elt F) ℓ) (c : Dev nD)

theorem hz : (![0, 0] : Fin 2 → Nat) = fun _ => 0 := funext fun a => by fin_cases a <;> rfl

/-- The first point starts the buffer at its chunk's product. -/
theorem first (t : Fin cfg0.N) (h : t.val = 0) : (outsAt0 m c t.val t.isLt).2 = k0_pay2 (iblk m c 0 t) (iblk m c 1 t) := by
  rw [outsAt0_A m c t (by omega) (by omega) (by omega)]
  dsimp only
  unfold sout0_A_0
  rw [View.read_writes_eq_canon _ _ _ (fun _ => scover0_A_0 ..)]
  unfold kernelRun0_A
  dsimp only
  sl_unfold_words
  rw [View.canon_unit_zero (S := S512x1024) hz]
  simp only [View.readAt_eq_ld, Memref.IsWhole.read_unread, View.ld_unit_zero (S := S512x2048) hz, View.ld_unit_zero (S := S2048x1024) hz]

/-- Every other point adds its chunk's product. -/
theorem next (n : ℕ) (hn : n + 1 < cfg0.N) : (outsAt0 m c (n + 1) hn).2
    = k0_pay3 (iblk m c 0 ⟨n + 1, hn⟩) (iblk m c 1 ⟨n + 1, hn⟩) (outsAt0 m c n (Nat.lt_of_succ_lt hn)).2 := by
  have hN : cfg0.N = 4 := N_0
  have h : ¬(n + 1) % 4 = 0 := by omega
  by_cases h' : (n + 1) % 4 = 3
  · rw [outsAt0_C m c ⟨n + 1, hn⟩ h (Nat.succ_pos n) h']
    dsimp only
    unfold sout0_C_0
    rw [View.read_writes_eq_canon _ _ _ (fun _ => scover0_C_0 ..)]
    unfold kernelRun0_C
    dsimp only
    sl_unfold_words
    rw [View.canon_unit_zero (S := S512x1024) hz]
    simp only [View.readAt_eq_ld, Memref.IsWhole.read_unread, View.ld_unit_zero (S := S512x2048) hz, View.ld_unit_zero (S := S2048x1024) hz, View.ld_unit_zero (S := S512x1024) hz]
    exact congrArg (k0_pay3 _ _) (Memref.IsWhole.read_unread (m := scM0_0) _ _)
  · rw [outsAt0_B m c ⟨n + 1, hn⟩ h (Nat.succ_pos n) h']
    dsimp only
    unfold sout0_B_0
    rw [View.read_writes_eq_canon _ _ _ (fun _ => scover0_B_0 ..)]
    unfold kernelRun0_B
    dsimp only
    sl_unfold_words
    rw [View.canon_unit_zero (S := S512x1024) hz]
    simp only [View.readAt_eq_ld, Memref.IsWhole.read_unread, View.ld_unit_zero (S := S512x2048) hz, View.ld_unit_zero (S := S2048x1024) hz, View.ld_unit_zero (S := S512x1024) hz]
    exact congrArg (k0_pay3 _ _) (Memref.IsWhole.read_unread (m := scM0_0) _ _)

/-- The last point writes what the buffer then holds. -/
theorem last (t : Fin cfg0.N) (h : t.val = 3) : (outsAt0 m c t.val t.isLt).1 = (outsAt0 m c t.val t.isLt).2 := by
  rw [outsAt0_C m c t (by omega) (by omega) (by omega)]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero (S := S512x1024) hz, View.canon_unit_zero (S := S512x1024) hz]
  simp only [View.readCov_unit_zero (S := S512x1024) _ hz]

end Body

/-! ## The blocks of the arguments -/

variable (m : (ℓ : Loc nD τ sig) → Buf (Elt Ideal) ℓ) (ρ : Dev nD → PrngReg) (c : Dev nD)

/-- The arguments, as the specification takes them. -/
def conv (t : Fin 8192) (n : Fin 512) : EReal := (m ((c : Thread nD τ).loc main_arg0) : S8192x512.Idx → EReal) (ix2 t n)
def attn (t : Fin 8192) (n : Fin 512) : EReal := (m ((c : Thread nD τ).loc main_arg1) : S8192x512.Idx → EReal) (ix2 t n)
def dmixed (t : Fin 8192) (j : Fin 1024) : EReal := (m ((c : Thread nD τ).loc main_arg3) : S8192x1024.Idx → EReal) (ix2 t j)
def earlier (n : Fin 1024) (j : Fin 1024) : EReal := (m ((c : Thread nD τ).loc main_arg4) : S1024x1024.Idx → EReal) (ix2 n j)

theorem V_left (t : Fin 8192) (n : Fin 512) : (V m c main_v1 : S512x8192.Idx → EReal) (ix2 n t) = attn m c t n := by
  unfold V hostOps0
  after_reads_at
  pointwise
  rfl

theorem V_right (t : Fin 8192) (j : Fin 1024) : (V m c main_v2 : S8192x1024.Idx → EReal) (ix2 t j) = dmixed m c t j := by
  unfold V hostOps0
  after_reads_at
  pointwise
  rfl

theorem V_earlier : V m c main_v3 = m ((c : Thread nD τ).loc main_arg4) := by
  unfold V hostOps0
  after_reads_at
  rfl

/-- Where the blocks lie. -/
theorem index_at : ∀ t : Fin cfg0.N,
    (win0_0.index t 0 = 0 ∧ win0_0.index t 1 = t.val) ∧ (win0_1.index t 0 = t.val ∧ win0_1.index t 1 = 0)
    ∧ (win0_2.index t 0 = 1 ∧ win0_2.index t 1 = 0) :=
  (by decide +kernel : ∀ t : Fin grid0.N,
    (win0_0.index t 0 = 0 ∧ win0_0.index t 1 = t.val) ∧ (win0_1.index t 0 = t.val ∧ win0_1.index t 1 = 0)
    ∧ (win0_2.index t 0 = 1 ∧ win0_2.index t 1 = 0))

def chunkRow (t : Fin cfg0.N) (r : Fin 2048) : Fin 8192 :=
  ⟨2048 * t.val + r.val, by have h : cfg0.N = 4 := N_0; have := t.isLt; omega⟩

theorem iblk0 (t : Fin cfg0.N) (r : Fin 2048) (n : Fin 512) :
    (iblk m c 0 t : S512x2048.Idx → EReal) (ix2 n r) = attn m c (chunkRow t r) n := by
  rw [← V_left]
  unfold iblk
  rw [View.read_apply]
  refine congrArg (V m c main_v1) (funext fun a => Fin.ext ?_)
  obtain ⟨h0, h1⟩ := (index_at t).1
  match a with
  | ⟨0, _⟩ => show win0_0.index t 0 * 512 + 1 * n.val = n.val; rw [h0]; omega
  | ⟨1, _⟩ => show win0_0.index t 1 * 2048 + 1 * r.val = 2048 * t.val + r.val; rw [h1]; omega

theorem iblk1 (t : Fin cfg0.N) (r : Fin 2048) (j : Fin 1024) :
    (iblk m c 1 t : S2048x1024.Idx → EReal) (ix2 r j) = dmixed m c (chunkRow t r) j := by
  rw [← V_right]
  unfold iblk
  rw [View.read_apply]
  refine congrArg (V m c main_v2) (funext fun a => Fin.ext ?_)
  obtain ⟨h0, h1⟩ := (index_at t).2.1
  match a with
  | ⟨0, _⟩ => show win0_1.index t 0 * 2048 + 1 * r.val = 2048 * t.val + r.val; rw [h0]; omega
  | ⟨1, _⟩ => show win0_1.index t 1 * 1024 + 1 * j.val = j.val; rw [h1]; omega

/-! ## The sum over the chunks -/

/-- The product of two blocks, contracted over the rows of the second. -/
def prod (x : Vec Ideal S512x2048 .bf16) (y : Vec Ideal S2048x1024 .bf16) (n : Fin 512) (j : Fin 1024) : EReal :=
  ∑ r, x (ix2 n r) * y (ix2 r j)

theorem pay1_apply (x : Vec Ideal S512x2048 .bf16) (y : Vec Ideal S2048x1024 .bf16) (n : Fin 512) (j : Fin 1024) :
    k0_pay1 (F := Ideal) x y (ix2 n j) = prod x y n j := by
  unfold prod
  pointwise [k0_pay1]

theorem pay2_apply (x : Vec Ideal S512x2048 .bf16) (y : Vec Ideal S2048x1024 .bf16) (n : Fin 512) (j : Fin 1024) :
    k0_pay2 (F := Ideal) x y (ix2 n j) = prod x y n j := by
  unfold prod
  pointwise [k0_pay2, k0_pay1]

theorem pay3_apply (x : Vec Ideal S512x2048 .bf16) (y : Vec Ideal S2048x1024 .bf16) (z : Vec Ideal S512x1024 .f32)
    (n : Fin 512) (j : Fin 1024) :
    k0_pay3 (F := Ideal) x y z (ix2 n j) = z (ix2 n j) + prod x y n j := by
  refine Eq.trans ?_ (congrArg (z (ix2 n j) + ·) (pay1_apply x y n j))
  unfold k0_pay3
  generalize k0_pay1 x y = p
  pointwise

theorem prod_at (t : Fin cfg0.N) (n : Fin 512) (j : Fin 1024) : prod (iblk m c 0 t) (iblk m c 1 t) n j
    = ∑ r, attn m c (chunkRow t r) n * dmixed m c (chunkRow t r) j :=
  Finset.sum_congr rfl fun r _ => by rw [iblk0, iblk1]

/-- What the buffer holds once every chunk is added. -/
theorem total (t : Fin cfg0.N) (h : t.val = 3) (n : Fin 512) (j : Fin 1024) :
    (outsAt0 m c t.val t.isLt).2 (ix2 n j) = ∑ t', attn m c t' n * dmixed m c t' j := by
  have hN : cfg0.N = 4 := N_0
  obtain ⟨_, ht⟩ := t
  obtain rfl : _ = 3 := h
  refine Sums.chunks (fun k hk => (outsAt0 m c k (by omega)).2 (ix2 n j)) _ _ ?_ fun k hk => ?_
  · exact (congrFun (first m c ⟨0, by omega⟩ rfl) _).trans ((pay2_apply _ _ n j).trans (prod_at m c ⟨0, by omega⟩ n j))
  · exact (congrFun (next m c k (by omega)) _).trans ((pay3_apply _ _ _ n j).trans
      (congrArg (_ + ·) (prod_at m c ⟨k + 1, by omega⟩ n j)))

/-! ## The result -/

abbrev G : S1024x1024.Idx → EReal := fun i => Product.below 512 (earlier m c)
  (Product.dall (Product.beside (conv m c) (attn m c)) (dmixed m c)) (i 0) (i 1)

theorem G_own (n : Fin 512) (j : Fin 1024) :
    G m c (ix2 (⟨512 + n.val, by omega⟩ : Fin 1024) j) = ∑ t, attn m c t n * dmixed m c t j :=
  (if_neg (by show ¬512 + n.val < 512; omega)).trans
    (Finset.sum_congr rfl fun t _ => congrArg (· * dmixed m c t j) (Product.beside_attn (conv m c) (attn m c) t n))

theorem G_earlier (n : Fin 1024) (j : Fin 1024) (h : ¬(512 ≤ n.val ∧ n.val < 1024)) :
    G m c (ix2 n j) = earlier m c n j :=
  if_pos (by show n.val < 512; omega)

theorem flushed (t : Fin cfg0.N) (hf : (cfg0.win 2).flush t = true) :
    (dats m 0 c).flushed 2 t = ((cfg0.win 2).blk t).view.read (Elt Ideal) (G m c) := by
  have hN : cfg0.N = 4 := N_0
  have ht := t.isLt
  have h : t.val = 3 := by have := (flush0_2 t).mp hf; omega
  rw [Value.flushed2, last m c t h]
  funext i
  obtain ⟨n, j, rfl⟩ : ∃ n j, i = ix2 n j := ⟨i 0, i 1, eq_ix2 i⟩
  rw [View.read_apply]
  refine ((total m c t h n j)).trans ((G_own m c n j).symm.trans
    (congrArg (G m c) (funext fun a => Fin.ext ?_) : G m c (ix2 ⟨512 + n.val, by omega⟩ j) = _))
  obtain ⟨h0, h1⟩ := (index_at t).2.2
  match a with
  | ⟨0, _⟩ => show 512 + n.val = win0_2.index t 0 * 512 + 1 * n.val; rw [h0]; omega
  | ⟨1, _⟩ => show j.val = win0_2.index t 1 * 1024 + 1 * j.val; rw [h1]; omega

/-- An index lies in a point's block when its row does. -/
theorem mem_blk (t : Fin cfg0.N) (i : S1024x1024.Idx) :
    i ∈ ((cfg0.win 2).blk t).view.set ↔ 512 ≤ (i 0).val ∧ (i 0).val < 1024 := by
  show i ∈ ((View.whole main_v3).slice (win0_2.rect t)).set ↔ _
  rw [View.set_slice_whole, Rect.mem_set_unit]
  obtain ⟨h0, h1⟩ := (index_at t).2.2
  constructor
  · intro h
    have : win0_2.index t 0 * 512 ≤ (i 0 : Nat) ∧ (i 0 : Nat) < win0_2.index t 0 * 512 + 512 := h 0
    rw [h0] at this
    omega
  · intro h a
    have : (i 1 : Nat) < 1024 := (i 1).isLt
    match a with
    | ⟨0, _⟩ => show win0_2.index t 0 * 512 ≤ (i 0 : Nat) ∧ (i 0 : Nat) < win0_2.index t 0 * 512 + 512; rw [h0]; omega
    | ⟨1, _⟩ => show win0_2.index t 1 * 1024 ≤ (i 1 : Nat) ∧ (i 1 : Nat) < win0_2.index t 1 * 1024 + 1024; rw [h1]; omega

theorem final : (dats m 0 c).arrAt 2 cfg0.N = G m c := by
  have hN : cfg0.N = 4 := N_0
  funext i
  have hi : (i 0 : Nat) < 1024 := (i 0).isLt
  by_cases h : 512 ≤ (i 0).val ∧ (i 0).val < 1024
  · exact (dats m 0 c).arrAt_apply_of_mem 2 (G m c) (flushed m c) cfg0.N ⟨3, by omega⟩ i (by show 3 < cfg0.N; omega)
      ((flush0_2 _).mpr rfl) ((mem_blk _ i).mpr h)
  · refine (Value.entry2 m c i fun t _ hm => h ((mem_blk t i).mp hm)).trans ?_
    refine (congrFun (V_earlier m c) i).trans (Eq.trans ?_ (G_earlier m c (i 0) (i 1) h).symm)
    exact congrArg (m ((c : Thread nD τ).loc main_arg4) : S1024x1024.Idx → EReal) (eq_ix2 i)

/-- The run: the result, and the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.Kernel16Ideal.Final
-- ==== Proof.ProjWeightsQ.lean ====
/-
  The gradient of the input projection's weights, at the rows that give the queries: what the call leaves in its result
  array. The rows of the normalised input are taken in four chunks of 2048, one at a point, and added up; the last point
  writes the block of the queries' rows among those that other calls have filled, which stay.
-/
module

public import proofs.«01_k».proof.Proof.Gen.Kernel17Ideal.Value
public import proofs.«01_k».proof.Proof.ProductSpec
public import Idealize.ShloMosaic.Lib.StableHlo.ReadAt

@[expose] public section

set_option maxRecDepth 16384

noncomputable section

namespace Cert.Kernel17Ideal.Final

open Idealize.ShloMosaic Idealize.ShloMosaic.TcCoe Idealize.SL.Sem
open Cert.Kernel17Ideal Cert.Kernel17Ideal.Gen

/-! ## What a point leaves -/

section Body

variable {F : FTy → Type} [FloatOps F] (m : (ℓ : Loc nD τ sig) → Buf (Elt F) ℓ) (c : Dev nD)

theorem hz : (![0, 0] : Fin 2 → Nat) = fun _ => 0 := funext fun a => by fin_cases a <;> rfl

/-- The first point starts the buffer at its chunk's product. -/
theorem first (t : Fin cfg0.N) (h : t.val = 0) : (outsAt0 m c t.val t.isLt).2 = k0_pay2 (iblk m c 0 t) (iblk m c 1 t) := by
  rw [outsAt0_A m c t (by omega) (by omega) (by omega)]
  dsimp only
  unfold sout0_A_0
  rw [View.read_writes_eq_canon _ _ _ (fun _ => scover0_A_0 ..)]
  unfold kernelRun0_A
  dsimp only
  sl_unfold_words
  rw [View.canon_unit_zero (S := S512x1024) hz]
  simp only [View.readAt_eq_ld, Memref.IsWhole.read_unread, View.ld_unit_zero (S := S512x2048) hz, View.ld_unit_zero (S := S2048x1024) hz]

/-- Every other point adds its chunk's product. -/
theorem next (n : ℕ) (hn : n + 1 < cfg0.N) : (outsAt0 m c (n + 1) hn).2
    = k0_pay3 (iblk m c 0 ⟨n + 1, hn⟩) (iblk m c 1 ⟨n + 1, hn⟩) (outsAt0 m c n (Nat.lt_of_succ_lt hn)).2 := by
  have hN : cfg0.N = 4 := N_0
  have h : ¬(n + 1) % 4 = 0 := by omega
  by_cases h' : (n + 1) % 4 = 3
  · rw [outsAt0_C m c ⟨n + 1, hn⟩ h (Nat.succ_pos n) h']
    dsimp only
    unfold sout0_C_0
    rw [View.read_writes_eq_canon _ _ _ (fun _ => scover0_C_0 ..)]
    unfold kernelRun0_C
    dsimp only
    sl_unfold_words
    rw [View.canon_unit_zero (S := S512x1024) hz]
    simp only [View.readAt_eq_ld, Memref.IsWhole.read_unread, View.ld_unit_zero (S := S512x2048) hz, View.ld_unit_zero (S := S2048x1024) hz, View.ld_unit_zero (S := S512x1024) hz]
    exact congrArg (k0_pay3 _ _) (Memref.IsWhole.read_unread (m := scM0_0) _ _)
  · rw [outsAt0_B m c ⟨n + 1, hn⟩ h (Nat.succ_pos n) h']
    dsimp only
    unfold sout0_B_0
    rw [View.read_writes_eq_canon _ _ _ (fun _ => scover0_B_0 ..)]
    unfold kernelRun0_B
    dsimp only
    sl_unfold_words
    rw [View.canon_unit_zero (S := S512x1024) hz]
    simp only [View.readAt_eq_ld, Memref.IsWhole.read_unread, View.ld_unit_zero (S := S512x2048) hz, View.ld_unit_zero (S := S2048x1024) hz, View.ld_unit_zero (S := S512x1024) hz]
    exact congrArg (k0_pay3 _ _) (Memref.IsWhole.read_unread (m := scM0_0) _ _)

/-- The last point writes what the buffer then holds. -/
theorem last (t : Fin cfg0.N) (h : t.val = 3) : (outsAt0 m c t.val t.isLt).1 = k0_pay4 (outsAt0 m c t.val t.isLt).2 := by
  rw [outsAt0_C m c t (by omega) (by omega) (by omega)]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero (S := S512x1024) hz, View.canon_unit_zero (S := S512x1024) hz]
  simp only [View.readAt_eq_ld, View.readCov_unit_zero (S := S512x1024) _ hz, View.ld_unit_zero (S := S512x1024) hz]

end Body

/-! ## The blocks of the arguments -/

variable (m : (ℓ : Loc nD τ sig) → Buf (Elt Ideal) ℓ) (ρ : Dev nD → PrngReg) (c : Dev nD)

/-- The arguments, as the specification takes them. -/
def x (t : Fin 8192) (j : Fin 1024) : EReal := (m ((c : Thread nD τ).loc main_arg0) : S8192x1024.Idx → EReal) (ix2 t j)
def scale (j : Fin 1024) : EReal := (m ((c : Thread nD τ).loc main_arg1) : S1x1024.Idx → EReal) (ix2 0 j)
def dproj (t : Fin 8192) (n : Fin 2560) : EReal := (m ((c : Thread nD τ).loc main_arg3) : S8192x2560.Idx → EReal) (ix2 t n)

/-- The columns of the cotangent that the call takes. -/
def part (t : Fin 8192) (n : Fin 512) : EReal := dproj m c t ⟨1024 + n.val, by omega⟩
/-- The normalised, scaled rows. -/
def scaled (t : Fin 8192) (j : Fin 1024) : EReal := RmsBackward.hat (x m c t) j * scale m c j

theorem V_right (t : Fin 8192) (j : Fin 1024) : (V m c main_v12 : S8192x1024.Idx → EReal) (ix2 t j) = scaled m c t j := by
  unfold V hostOps0
  after_reads_at
  pointwise
  rfl

theorem V_left (t : Fin 8192) (n : Fin 512) : (V m c main_v15 : S512x8192.Idx → EReal) (ix2 n t) = part m c t n := by
  unfold V hostOps0
  after_reads_at
  pointwise
  rfl

/-- The rows that other calls have computed. -/
def earlier (n : Fin 2560) (j : Fin 1024) : EReal := (m ((c : Thread nD τ).loc main_arg4) : S2560x1024.Idx → EReal) (ix2 n j)

theorem V_earlier : V m c main_v16 = m ((c : Thread nD τ).loc main_arg4) := by
  unfold V hostOps0
  after_reads_at
  rfl

/-- Where the blocks lie. -/
theorem index_at : ∀ t : Fin cfg0.N,
    (win0_0.index t 0 = 0 ∧ win0_0.index t 1 = t.val) ∧ (win0_1.index t 0 = t.val ∧ win0_1.index t 1 = 0)
    ∧ (win0_2.index t 0 = 2 ∧ win0_2.index t 1 = 0) :=
  (by decide +kernel : ∀ t : Fin grid0.N,
    (win0_0.index t 0 = 0 ∧ win0_0.index t 1 = t.val) ∧ (win0_1.index t 0 = t.val ∧ win0_1.index t 1 = 0)
    ∧ (win0_2.index t 0 = 2 ∧ win0_2.index t 1 = 0))

def chunkRow (t : Fin cfg0.N) (r : Fin 2048) : Fin 8192 :=
  ⟨2048 * t.val + r.val, by have h : cfg0.N = 4 := N_0; have := t.isLt; omega⟩

theorem iblk0 (t : Fin cfg0.N) (r : Fin 2048) (n : Fin 512) :
    (iblk m c 0 t : S512x2048.Idx → EReal) (ix2 n r) = part m c (chunkRow t r) n := by
  rw [← V_left]
  unfold iblk
  rw [View.read_apply]
  refine congrArg (V m c main_v15) (funext fun a => Fin.ext ?_)
  obtain ⟨h0, h1⟩ := (index_at t).1
  match a with
  | ⟨0, _⟩ => show win0_0.index t 0 * 512 + 1 * n.val = n.val; rw [h0]; omega
  | ⟨1, _⟩ => show win0_0.index t 1 * 2048 + 1 * r.val = 2048 * t.val + r.val; rw [h1]; omega

theorem iblk1 (t : Fin cfg0.N) (r : Fin 2048) (j : Fin 1024) :
    (iblk m c 1 t : S2048x1024.Idx → EReal) (ix2 r j) = scaled m c (chunkRow t r) j := by
  rw [← V_right]
  unfold iblk
  rw [View.read_apply]
  refine congrArg (V m c main_v12) (funext fun a => Fin.ext ?_)
  obtain ⟨h0, h1⟩ := (index_at t).2.1
  match a with
  | ⟨0, _⟩ => show win0_1.index t 0 * 2048 + 1 * r.val = 2048 * t.val + r.val; rw [h0]; omega
  | ⟨1, _⟩ => show win0_1.index t 1 * 1024 + 1 * j.val = j.val; rw [h1]; omega

/-! ## The sum over the chunks -/

/-- The product of two blocks, contracted over the rows of the second. -/
def prod (x : Vec Ideal S512x2048 .bf16) (y : Vec Ideal S2048x1024 .bf16) (n : Fin 512) (j : Fin 1024) : EReal :=
  ∑ r, x (ix2 n r) * y (ix2 r j)

theorem pay1_apply (x : Vec Ideal S512x2048 .bf16) (y : Vec Ideal S2048x1024 .bf16) (n : Fin 512) (j : Fin 1024) :
    k0_pay1 (F := Ideal) x y (ix2 n j) = prod x y n j := by
  unfold prod
  pointwise [k0_pay1]

theorem pay2_apply (x : Vec Ideal S512x2048 .bf16) (y : Vec Ideal S2048x1024 .bf16) (n : Fin 512) (j : Fin 1024) :
    k0_pay2 (F := Ideal) x y (ix2 n j) = prod x y n j := by
  unfold prod
  pointwise [k0_pay2, k0_pay1]

theorem pay3_apply (x : Vec Ideal S512x2048 .bf16) (y : Vec Ideal S2048x1024 .bf16) (z : Vec Ideal S512x1024 .f32)
    (n : Fin 512) (j : Fin 1024) :
    k0_pay3 (F := Ideal) x y z (ix2 n j) = z (ix2 n j) + prod x y n j := by
  refine Eq.trans ?_ (congrArg (z (ix2 n j) + ·) (pay1_apply x y n j))
  unfold k0_pay3
  generalize k0_pay1 x y = p
  pointwise

theorem prod_at (t : Fin cfg0.N) (n : Fin 512) (j : Fin 1024) : prod (iblk m c 0 t) (iblk m c 1 t) n j
    = ∑ r, part m c (chunkRow t r) n * scaled m c (chunkRow t r) j :=
  Finset.sum_congr rfl fun r _ => by rw [iblk0, iblk1]

/-- What the buffer holds once every chunk is added. -/
theorem total (t : Fin cfg0.N) (h : t.val = 3) (n : Fin 512) (j : Fin 1024) :
    (outsAt0 m c t.val t.isLt).2 (ix2 n j) = ∑ t', part m c t' n * scaled m c t' j := by
  have hN : cfg0.N = 4 := N_0
  obtain ⟨_, ht⟩ := t
  obtain rfl : _ = 3 := h
  refine Sums.chunks (fun k hk => (outsAt0 m c k (by omega)).2 (ix2 n j)) _ _ ?_ fun k hk => ?_
  · exact (congrFun (first m c ⟨0, by omega⟩ rfl) _).trans ((pay2_apply _ _ n j).trans (prod_at m c ⟨0, by omega⟩ n j))
  · exact (congrFun (next m c k (by omega)) _).trans ((pay3_apply _ _ _ n j).trans
      (congrArg (_ + ·) (prod_at m c ⟨k + 1, by omega⟩ n j)))

/-! ## The result -/

theorem pay4_apply (z : Vec Ideal S512x1024 .f32) (n : Fin 512) (j : Fin 1024) :
    k0_pay4 (F := Ideal) z (ix2 n j) = z (ix2 n j) := by
  pointwise [k0_pay4]

abbrev G : S2560x1024.Idx → EReal := fun i => Product.within 1024 1536 (earlier m c)
  (Product.dnorm (x m c) (scale m c) (dproj m c)) (i 0) (i 1)

theorem G_own (n : Fin 512) (j : Fin 1024) :
    G m c (ix2 (⟨1024 + n.val, by omega⟩ : Fin 2560) j) = ∑ t, part m c t n * scaled m c t j :=
  if_pos (by show 1024 ≤ 1024 + n.val ∧ 1024 + n.val < 1536; omega)

theorem G_earlier (n : Fin 2560) (j : Fin 1024) (h : ¬(1024 ≤ n.val ∧ n.val < 1536)) :
    G m c (ix2 n j) = earlier m c n j :=
  if_neg h

theorem flushed (t : Fin cfg0.N) (hf : (cfg0.win 2).flush t = true) :
    (dats m 0 c).flushed 2 t = ((cfg0.win 2).blk t).view.read (Elt Ideal) (G m c) := by
  have hN : cfg0.N = 4 := N_0
  have ht := t.isLt
  have h : t.val = 3 := by have := (flush0_2 t).mp hf; omega
  rw [Value.flushed2, last m c t h]
  funext i
  obtain ⟨n, j, rfl⟩ : ∃ n j, i = ix2 n j := ⟨i 0, i 1, eq_ix2 i⟩
  rw [View.read_apply]
  refine ((pay4_apply _ n j).trans (total m c t h n j)).trans ((G_own m c n j).symm.trans
    (congrArg (G m c) (funext fun a => Fin.ext ?_) : G m c (ix2 ⟨1024 + n.val, by omega⟩ j) = _))
  obtain ⟨h0, h1⟩ := (index_at t).2.2
  match a with
  | ⟨0, _⟩ => show 1024 + n.val = win0_2.index t 0 * 512 + 1 * n.val; rw [h0]; omega
  | ⟨1, _⟩ => show j.val = win0_2.index t 1 * 1024 + 1 * j.val; rw [h1]; omega

/-- An index lies in a point's block when its row does. -/
theorem mem_blk (t : Fin cfg0.N) (i : S2560x1024.Idx) :
    i ∈ ((cfg0.win 2).blk t).view.set ↔ 1024 ≤ (i 0).val ∧ (i 0).val < 1536 := by
  show i ∈ ((View.whole main_v16).slice (win0_2.rect t)).set ↔ _
  rw [View.set_slice_whole, Rect.mem_set_unit]
  obtain ⟨h0, h1⟩ := (index_at t).2.2
  constructor
  · intro h
    have : win0_2.index t 0 * 512 ≤ (i 0 : Nat) ∧ (i 0 : Nat) < win0_2.index t 0 * 512 + 512 := h 0
    rw [h0] at this
    omega
  · intro h a
    have : (i 1 : Nat) < 1024 := (i 1).isLt
    match a with
    | ⟨0, _⟩ => show win0_2.index t 0 * 512 ≤ (i 0 : Nat) ∧ (i 0 : Nat) < win0_2.index t 0 * 512 + 512; rw [h0]; omega
    | ⟨1, _⟩ => show win0_2.index t 1 * 1024 ≤ (i 1 : Nat) ∧ (i 1 : Nat) < win0_2.index t 1 * 1024 + 1024; rw [h1]; omega

theorem final : (dats m 0 c).arrAt 2 cfg0.N = G m c := by
  have hN : cfg0.N = 4 := N_0
  funext i
  have hi : (i 0 : Nat) < 2560 := (i 0).isLt
  by_cases h : 1024 ≤ (i 0).val ∧ (i 0).val < 1536
  · exact (dats m 0 c).arrAt_apply_of_mem 2 (G m c) (flushed m c) cfg0.N ⟨3, by omega⟩ i (by show 3 < cfg0.N; omega)
      ((flush0_2 _).mpr rfl) ((mem_blk _ i).mpr h)
  · refine (Value.entry2 m c i fun t _ hm => h ((mem_blk t i).mp hm)).trans ?_
    refine (congrFun (V_earlier m c) i).trans (Eq.trans ?_ (G_earlier m c (i 0) (i 1) h).symm)
    exact congrArg (m ((c : Thread nD τ).loc main_arg4) : S2560x1024.Idx → EReal) (eq_ix2 i)

/-- The run: the result, and the arguments unchanged. -/
theorem run : θ_run defs (onTc (τ := τ) (main (F := Ideal))) ⟨m, fun _ => 0, ρ⟩ fun r => ∀ c : Dev nD,
      r.2.mem ((c : Thread nD τ).loc main_v16) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.Kernel17Ideal.Final
-- ==== Proof.ProjWeightsK.lean ====
/-
  The gradient of the input projection's weights, at the rows that give the keys: what the call leaves in its result
  array. The rows of the normalised input are taken in four chunks of 2048, one at a point, and added up; the last point
  writes the block of the keys' rows among those that other calls have filled, which stay.
-/
module

public import proofs.«01_k».proof.Proof.Gen.Kernel18Ideal.Value
public import proofs.«01_k».proof.Proof.ProductSpec
public import Idealize.ShloMosaic.Lib.StableHlo.ReadAt

@[expose] public section

set_option maxRecDepth 16384

noncomputable section

namespace Cert.Kernel18Ideal.Final

open Idealize.ShloMosaic Idealize.ShloMosaic.TcCoe Idealize.SL.Sem
open Cert.Kernel18Ideal Cert.Kernel18Ideal.Gen

/-! ## What a point leaves -/

section Body

variable {F : FTy → Type} [FloatOps F] (m : (ℓ : Loc nD τ sig) → Buf (Elt F) ℓ) (c : Dev nD)

theorem hz : (![0, 0] : Fin 2 → Nat) = fun _ => 0 := funext fun a => by fin_cases a <;> rfl

/-- The first point starts the buffer at its chunk's product. -/
theorem first (t : Fin cfg0.N) (h : t.val = 0) : (outsAt0 m c t.val t.isLt).2 = k0_pay2 (iblk m c 0 t) (iblk m c 1 t) := by
  rw [outsAt0_A m c t (by omega) (by omega) (by omega)]
  dsimp only
  unfold sout0_A_0
  rw [View.read_writes_eq_canon _ _ _ (fun _ => scover0_A_0 ..)]
  unfold kernelRun0_A
  dsimp only
  sl_unfold_words
  rw [View.canon_unit_zero (S := S512x1024) hz]
  simp only [View.readAt_eq_ld, Memref.IsWhole.read_unread, View.ld_unit_zero (S := S512x2048) hz, View.ld_unit_zero (S := S2048x1024) hz]

/-- Every other point adds its chunk's product. -/
theorem next (n : ℕ) (hn : n + 1 < cfg0.N) : (outsAt0 m c (n + 1) hn).2
    = k0_pay3 (iblk m c 0 ⟨n + 1, hn⟩) (iblk m c 1 ⟨n + 1, hn⟩) (outsAt0 m c n (Nat.lt_of_succ_lt hn)).2 := by
  have hN : cfg0.N = 4 := N_0
  have h : ¬(n + 1) % 4 = 0 := by omega
  by_cases h' : (n + 1) % 4 = 3
  · rw [outsAt0_C m c ⟨n + 1, hn⟩ h (Nat.succ_pos n) h']
    dsimp only
    unfold sout0_C_0
    rw [View.read_writes_eq_canon _ _ _ (fun _ => scover0_C_0 ..)]
    unfold kernelRun0_C
    dsimp only
    sl_unfold_words
    rw [View.canon_unit_zero (S := S512x1024) hz]
    simp only [View.readAt_eq_ld, Memref.IsWhole.read_unread, View.ld_unit_zero (S := S512x2048) hz, View.ld_unit_zero (S := S2048x1024) hz, View.ld_unit_zero (S := S512x1024) hz]
    exact congrArg (k0_pay3 _ _) (Memref.IsWhole.read_unread (m := scM0_0) _ _)
  · rw [outsAt0_B m c ⟨n + 1, hn⟩ h (Nat.succ_pos n) h']
    dsimp only
    unfold sout0_B_0
    rw [View.read_writes_eq_canon _ _ _ (fun _ => scover0_B_0 ..)]
    unfold kernelRun0_B
    dsimp only
    sl_unfold_words
    rw [View.canon_unit_zero (S := S512x1024) hz]
    simp only [View.readAt_eq_ld, Memref.IsWhole.read_unread, View.ld_unit_zero (S := S512x2048) hz, View.ld_unit_zero (S := S2048x1024) hz, View.ld_unit_zero (S := S512x1024) hz]
    exact congrArg (k0_pay3 _ _) (Memref.IsWhole.read_unread (m := scM0_0) _ _)

/-- The last point writes what the buffer then holds. -/
theorem last (t : Fin cfg0.N) (h : t.val = 3) : (outsAt0 m c t.val t.isLt).1 = k0_pay4 (outsAt0 m c t.val t.isLt).2 := by
  rw [outsAt0_C m c t (by omega) (by omega) (by omega)]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero (S := S512x1024) hz, View.canon_unit_zero (S := S512x1024) hz]
  simp only [View.readAt_eq_ld, View.readCov_unit_zero (S := S512x1024) _ hz, View.ld_unit_zero (S := S512x1024) hz]

end Body

/-! ## The blocks of the arguments -/

variable (m : (ℓ : Loc nD τ sig) → Buf (Elt Ideal) ℓ) (ρ : Dev nD → PrngReg) (c : Dev nD)

/-- The arguments, as the specification takes them. -/
def x (t : Fin 8192) (j : Fin 1024) : EReal := (m ((c : Thread nD τ).loc main_arg0) : S8192x1024.Idx → EReal) (ix2 t j)
def scale (j : Fin 1024) : EReal := (m ((c : Thread nD τ).loc main_arg1) : S1x1024.Idx → EReal) (ix2 0 j)
def dproj (t : Fin 8192) (n : Fin 2560) : EReal := (m ((c : Thread nD τ).loc main_arg3) : S8192x2560.Idx → EReal) (ix2 t n)

/-- The columns of the cotangent that the call takes. -/
def part (t : Fin 8192) (n : Fin 512) : EReal := dproj m c t ⟨1536 + n.val, by omega⟩
/-- The normalised, scaled rows. -/
def scaled (t : Fin 8192) (j : Fin 1024) : EReal := RmsBackward.hat (x m c t) j * scale m c j

theorem V_right (t : Fin 8192) (j : Fin 1024) : (V m c main_v12 : S8192x1024.Idx → EReal) (ix2 t j) = scaled m c t j := by
  unfold V hostOps0
  after_reads_at
  pointwise
  rfl

theorem V_left (t : Fin 8192) (n : Fin 512) : (V m c main_v15 : S512x8192.Idx → EReal) (ix2 n t) = part m c t n := by
  unfold V hostOps0
  after_reads_at
  pointwise
  rfl

/-- The rows that other calls have computed. -/
def earlier (n : Fin 2560) (j : Fin 1024) : EReal := (m ((c : Thread nD τ).loc main_arg4) : S2560x1024.Idx → EReal) (ix2 n j)

theorem V_earlier : V m c main_v16 = m ((c : Thread nD τ).loc main_arg4) := by
  unfold V hostOps0
  after_reads_at
  rfl

/-- Where the blocks lie. -/
theorem index_at : ∀ t : Fin cfg0.N,
    (win0_0.index t 0 = 0 ∧ win0_0.index t 1 = t.val) ∧ (win0_1.index t 0 = t.val ∧ win0_1.index t 1 = 0)
    ∧ (win0_2.index t 0 = 3 ∧ win0_2.index t 1 = 0) :=
  (by decide +kernel : ∀ t : Fin grid0.N,
    (win0_0.index t 0 = 0 ∧ win0_0.index t 1 = t.val) ∧ (win0_1.index t 0 = t.val ∧ win0_1.index t 1 = 0)
    ∧ (win0_2.index t 0 = 3 ∧ win0_2.index t 1 = 0))

def chunkRow (t : Fin cfg0.N) (r : Fin 2048) : Fin 8192 :=
  ⟨2048 * t.val + r.val, by have h : cfg0.N = 4 := N_0; have := t.isLt; omega⟩

theorem iblk0 (t : Fin cfg0.N) (r : Fin 2048) (n : Fin 512) :
    (iblk m c 0 t : S512x2048.Idx → EReal) (ix2 n r) = part m c (chunkRow t r) n := by
  rw [← V_left]
  unfold iblk
  rw [View.read_apply]
  refine congrArg (V m c main_v15) (funext fun a => Fin.ext ?_)
  obtain ⟨h0, h1⟩ := (index_at t).1
  match a with
  | ⟨0, _⟩ => show win0_0.index t 0 * 512 + 1 * n.val = n.val; rw [h0]; omega
  | ⟨1, _⟩ => show win0_0.index t 1 * 2048 + 1 * r.val = 2048 * t.val + r.val; rw [h1]; omega

theorem iblk1 (t : Fin cfg0.N) (r : Fin 2048) (j : Fin 1024) :
    (iblk m c 1 t : S2048x1024.Idx → EReal) (ix2 r j) = scaled m c (chunkRow t r) j := by
  rw [← V_right]
  unfold iblk
  rw [View.read_apply]
  refine congrArg (V m c main_v12) (funext fun a => Fin.ext ?_)
  obtain ⟨h0, h1⟩ := (index_at t).2.1
  match a with
  | ⟨0, _⟩ => show win0_1.index t 0 * 2048 + 1 * r.val = 2048 * t.val + r.val; rw [h0]; omega
  | ⟨1, _⟩ => show win0_1.index t 1 * 1024 + 1 * j.val = j.val; rw [h1]; omega

/-! ## The sum over the chunks -/

/-- The product of two blocks, contracted over the rows of the second. -/
def prod (x : Vec Ideal S512x2048 .bf16) (y : Vec Ideal S2048x1024 .bf16) (n : Fin 512) (j : Fin 1024) : EReal :=
  ∑ r, x (ix2 n r) * y (ix2 r j)

theorem pay1_apply (x : Vec Ideal S512x2048 .bf16) (y : Vec Ideal S2048x1024 .bf16) (n : Fin 512) (j : Fin 1024) :
    k0_pay1 (F := Ideal) x y (ix2 n j) = prod x y n j := by
  unfold prod
  pointwise [k0_pay1]

theorem pay2_apply (x : Vec Ideal S512x2048 .bf16) (y : Vec Ideal S2048x1024 .bf16) (n : Fin 512) (j : Fin 1024) :
    k0_pay2 (F := Ideal) x y (ix2 n j) = prod x y n j := by
  unfold prod
  pointwise [k0_pay2, k0_pay1]

theorem pay3_apply (x : Vec Ideal S512x2048 .bf16) (y : Vec Ideal S2048x1024 .bf16) (z : Vec Ideal S512x1024 .f32)
    (n : Fin 512) (j : Fin 1024) :
    k0_pay3 (F := Ideal) x y z (ix2 n j) = z (ix2 n j) + prod x y n j := by
  refine Eq.trans ?_ (congrArg (z (ix2 n j) + ·) (pay1_apply x y n j))
  unfold k0_pay3
  generalize k0_pay1 x y = p
  pointwise

theorem prod_at (t : Fin cfg0.N) (n : Fin 512) (j : Fin 1024) : prod (iblk m c 0 t) (iblk m c 1 t) n j
    = ∑ r, part m c (chunkRow t r) n * scaled m c (chunkRow t r) j :=
  Finset.sum_congr rfl fun r _ => by rw [iblk0, iblk1]

/-- What the buffer holds once every chunk is added. -/
theorem total (t : Fin cfg0.N) (h : t.val = 3) (n : Fin 512) (j : Fin 1024) :
    (outsAt0 m c t.val t.isLt).2 (ix2 n j) = ∑ t', part m c t' n * scaled m c t' j := by
  have hN : cfg0.N = 4 := N_0
  obtain ⟨_, ht⟩ := t
  obtain rfl : _ = 3 := h
  refine Sums.chunks (fun k hk => (outsAt0 m c k (by omega)).2 (ix2 n j)) _ _ ?_ fun k hk => ?_
  · exact (congrFun (first m c ⟨0, by omega⟩ rfl) _).trans ((pay2_apply _ _ n j).trans (prod_at m c ⟨0, by omega⟩ n j))
  · exact (congrFun (next m c k (by omega)) _).trans ((pay3_apply _ _ _ n j).trans
      (congrArg (_ + ·) (prod_at m c ⟨k + 1, by omega⟩ n j)))

/-! ## The result -/

theorem pay4_apply (z : Vec Ideal S512x1024 .f32) (n : Fin 512) (j : Fin 1024) :
    k0_pay4 (F := Ideal) z (ix2 n j) = z (ix2 n j) := by
  pointwise [k0_pay4]

abbrev G : S2560x1024.Idx → EReal := fun i => Product.within 1536 2048 (earlier m c)
  (Product.dnorm (x m c) (scale m c) (dproj m c)) (i 0) (i 1)

theorem G_own (n : Fin 512) (j : Fin 1024) :
    G m c (ix2 (⟨1536 + n.val, by omega⟩ : Fin 2560) j) = ∑ t, part m c t n * scaled m c t j :=
  if_pos (by show 1536 ≤ 1536 + n.val ∧ 1536 + n.val < 2048; omega)

theorem G_earlier (n : Fin 2560) (j : Fin 1024) (h : ¬(1536 ≤ n.val ∧ n.val < 2048)) :
    G m c (ix2 n j) = earlier m c n j :=
  if_neg h

theorem flushed (t : Fin cfg0.N) (hf : (cfg0.win 2).flush t = true) :
    (dats m 0 c).flushed 2 t = ((cfg0.win 2).blk t).view.read (Elt Ideal) (G m c) := by
  have hN : cfg0.N = 4 := N_0
  have ht := t.isLt
  have h : t.val = 3 := by have := (flush0_2 t).mp hf; omega
  rw [Value.flushed2, last m c t h]
  funext i
  obtain ⟨n, j, rfl⟩ : ∃ n j, i = ix2 n j := ⟨i 0, i 1, eq_ix2 i⟩
  rw [View.read_apply]
  refine ((pay4_apply _ n j).trans (total m c t h n j)).trans ((G_own m c n j).symm.trans
    (congrArg (G m c) (funext fun a => Fin.ext ?_) : G m c (ix2 ⟨1536 + n.val, by omega⟩ j) = _))
  obtain ⟨h0, h1⟩ := (index_at t).2.2
  match a with
  | ⟨0, _⟩ => show 1536 + n.val = win0_2.index t 0 * 512 + 1 * n.val; rw [h0]; omega
  | ⟨1, _⟩ => show j.val = win0_2.index t 1 * 1024 + 1 * j.val; rw [h1]; omega

/-- An index lies in a point's block when its row does. -/
theorem mem_blk (t : Fin cfg0.N) (i : S2560x1024.Idx) :
    i ∈ ((cfg0.win 2).blk t).view.set ↔ 1536 ≤ (i 0).val ∧ (i 0).val < 2048 := by
  show i ∈ ((View.whole main_v16).slice (win0_2.rect t)).set ↔ _
  rw [View.set_slice_whole, Rect.mem_set_unit]
  obtain ⟨h0, h1⟩ := (index_at t).2.2
  constructor
  · intro h
    have : win0_2.index t 0 * 512 ≤ (i 0 : Nat) ∧ (i 0 : Nat) < win0_2.index t 0 * 512 + 512 := h 0
    rw [h0] at this
    omega
  · intro h a
    have : (i 1 : Nat) < 1024 := (i 1).isLt
    match a with
    | ⟨0, _⟩ => show win0_2.index t 0 * 512 ≤ (i 0 : Nat) ∧ (i 0 : Nat) < win0_2.index t 0 * 512 + 512; rw [h0]; omega
    | ⟨1, _⟩ => show win0_2.index t 1 * 1024 ≤ (i 1 : Nat) ∧ (i 1 : Nat) < win0_2.index t 1 * 1024 + 1024; rw [h1]; omega

theorem final : (dats m 0 c).arrAt 2 cfg0.N = G m c := by
  have hN : cfg0.N = 4 := N_0
  funext i
  have hi : (i 0 : Nat) < 2560 := (i 0).isLt
  by_cases h : 1536 ≤ (i 0).val ∧ (i 0).val < 2048
  · exact (dats m 0 c).arrAt_apply_of_mem 2 (G m c) (flushed m c) cfg0.N ⟨3, by omega⟩ i (by show 3 < cfg0.N; omega)
      ((flush0_2 _).mpr rfl) ((mem_blk _ i).mpr h)
  · refine (Value.entry2 m c i fun t _ hm => h ((mem_blk t i).mp hm)).trans ?_
    refine (congrFun (V_earlier m c) i).trans (Eq.trans ?_ (G_earlier m c (i 0) (i 1) h).symm)
    exact congrArg (m ((c : Thread nD τ).loc main_arg4) : S2560x1024.Idx → EReal) (eq_ix2 i)

/-- The run: the result, and the arguments unchanged. -/
theorem run : θ_run defs (onTc (τ := τ) (main (F := Ideal))) ⟨m, fun _ => 0, ρ⟩ fun r => ∀ c : Dev nD,
      r.2.mem ((c : Thread nD τ).loc main_v16) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.Kernel18Ideal.Final
-- ==== Proof.ProjWeightsV.lean ====
/-
  The gradient of the input projection's weights, at the rows that give the values: what the call leaves in its result
  array. The rows of the normalised input are taken in four chunks of 2048, one at a point, and added up; the last point
  writes the block of the values' rows among those that other calls have filled, which stay.
-/
module

public import proofs.«01_k».proof.Proof.Gen.Kernel19Ideal.Value
public import proofs.«01_k».proof.Proof.ProductSpec
public import Idealize.ShloMosaic.Lib.StableHlo.ReadAt

@[expose] public section

set_option maxRecDepth 16384

noncomputable section

namespace Cert.Kernel19Ideal.Final

open Idealize.ShloMosaic Idealize.ShloMosaic.TcCoe Idealize.SL.Sem
open Cert.Kernel19Ideal Cert.Kernel19Ideal.Gen

/-! ## What a point leaves -/

section Body

variable {F : FTy → Type} [FloatOps F] (m : (ℓ : Loc nD τ sig) → Buf (Elt F) ℓ) (c : Dev nD)

theorem hz : (![0, 0] : Fin 2 → Nat) = fun _ => 0 := funext fun a => by fin_cases a <;> rfl

/-- The first point starts the buffer at its chunk's product. -/
theorem first (t : Fin cfg0.N) (h : t.val = 0) : (outsAt0 m c t.val t.isLt).2 = k0_pay2 (iblk m c 0 t) (iblk m c 1 t) := by
  rw [outsAt0_A m c t (by omega) (by omega) (by omega)]
  dsimp only
  unfold sout0_A_0
  rw [View.read_writes_eq_canon _ _ _ (fun _ => scover0_A_0 ..)]
  unfold kernelRun0_A
  dsimp only
  sl_unfold_words
  rw [View.canon_unit_zero (S := S512x1024) hz]
  simp only [View.readAt_eq_ld, Memref.IsWhole.read_unread, View.ld_unit_zero (S := S512x2048) hz, View.ld_unit_zero (S := S2048x1024) hz]

/-- Every other point adds its chunk's product. -/
theorem next (n : ℕ) (hn : n + 1 < cfg0.N) : (outsAt0 m c (n + 1) hn).2
    = k0_pay3 (iblk m c 0 ⟨n + 1, hn⟩) (iblk m c 1 ⟨n + 1, hn⟩) (outsAt0 m c n (Nat.lt_of_succ_lt hn)).2 := by
  have hN : cfg0.N = 4 := N_0
  have h : ¬(n + 1) % 4 = 0 := by omega
  by_cases h' : (n + 1) % 4 = 3
  · rw [outsAt0_C m c ⟨n + 1, hn⟩ h (Nat.succ_pos n) h']
    dsimp only
    unfold sout0_C_0
    rw [View.read_writes_eq_canon _ _ _ (fun _ => scover0_C_0 ..)]
    unfold kernelRun0_C
    dsimp only
    sl_unfold_words
    rw [View.canon_unit_zero (S := S512x1024) hz]
    simp only [View.readAt_eq_ld, Memref.IsWhole.read_unread, View.ld_unit_zero (S := S512x2048) hz, View.ld_unit_zero (S := S2048x1024) hz, View.ld_unit_zero (S := S512x1024) hz]
    exact congrArg (k0_pay3 _ _) (Memref.IsWhole.read_unread (m := scM0_0) _ _)
  · rw [outsAt0_B m c ⟨n + 1, hn⟩ h (Nat.succ_pos n) h']
    dsimp only
    unfold sout0_B_0
    rw [View.read_writes_eq_canon _ _ _ (fun _ => scover0_B_0 ..)]
    unfold kernelRun0_B
    dsimp only
    sl_unfold_words
    rw [View.canon_unit_zero (S := S512x1024) hz]
    simp only [View.readAt_eq_ld, Memref.IsWhole.read_unread, View.ld_unit_zero (S := S512x2048) hz, View.ld_unit_zero (S := S2048x1024) hz, View.ld_unit_zero (S := S512x1024) hz]
    exact congrArg (k0_pay3 _ _) (Memref.IsWhole.read_unread (m := scM0_0) _ _)

/-- The last point writes what the buffer then holds. -/
theorem last (t : Fin cfg0.N) (h : t.val = 3) : (outsAt0 m c t.val t.isLt).1 = k0_pay4 (outsAt0 m c t.val t.isLt).2 := by
  rw [outsAt0_C m c t (by omega) (by omega) (by omega)]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero (S := S512x1024) hz, View.canon_unit_zero (S := S512x1024) hz]
  simp only [View.readAt_eq_ld, View.readCov_unit_zero (S := S512x1024) _ hz, View.ld_unit_zero (S := S512x1024) hz]

end Body

/-! ## The blocks of the arguments -/

variable (m : (ℓ : Loc nD τ sig) → Buf (Elt Ideal) ℓ) (ρ : Dev nD → PrngReg) (c : Dev nD)

/-- The arguments, as the specification takes them. -/
def x (t : Fin 8192) (j : Fin 1024) : EReal := (m ((c : Thread nD τ).loc main_arg0) : S8192x1024.Idx → EReal) (ix2 t j)
def scale (j : Fin 1024) : EReal := (m ((c : Thread nD τ).loc main_arg1) : S1x1024.Idx → EReal) (ix2 0 j)
def dproj (t : Fin 8192) (n : Fin 2560) : EReal := (m ((c : Thread nD τ).loc main_arg3) : S8192x2560.Idx → EReal) (ix2 t n)

/-- The columns of the cotangent that the call takes. -/
def part (t : Fin 8192) (n : Fin 512) : EReal := dproj m c t ⟨2048 + n.val, by omega⟩
/-- The normalised, scaled rows. -/
def scaled (t : Fin 8192) (j : Fin 1024) : EReal := RmsBackward.hat (x m c t) j * scale m c j

theorem V_right (t : Fin 8192) (j : Fin 1024) : (V m c main_v12 : S8192x1024.Idx → EReal) (ix2 t j) = scaled m c t j := by
  unfold V hostOps0
  after_reads_at
  pointwise
  rfl

theorem V_left (t : Fin 8192) (n : Fin 512) : (V m c main_v15 : S512x8192.Idx → EReal) (ix2 n t) = part m c t n := by
  unfold V hostOps0
  after_reads_at
  pointwise
  rfl

/-- The rows that other calls have computed. -/
def earlier (n : Fin 2560) (j : Fin 1024) : EReal := (m ((c : Thread nD τ).loc main_arg4) : S2560x1024.Idx → EReal) (ix2 n j)

theorem V_earlier : V m c main_v16 = m ((c : Thread nD τ).loc main_arg4) := by
  unfold V hostOps0
  after_reads_at
  rfl

/-- Where the blocks lie. -/
theorem index_at : ∀ t : Fin cfg0.N,
    (win0_0.index t 0 = 0 ∧ win0_0.index t 1 = t.val) ∧ (win0_1.index t 0 = t.val ∧ win0_1.index t 1 = 0)
    ∧ (win0_2.index t 0 = 4 ∧ win0_2.index t 1 = 0) :=
  (by decide +kernel : ∀ t : Fin grid0.N,
    (win0_0.index t 0 = 0 ∧ win0_0.index t 1 = t.val) ∧ (win0_1.index t 0 = t.val ∧ win0_1.index t 1 = 0)
    ∧ (win0_2.index t 0 = 4 ∧ win0_2.index t 1 = 0))

def chunkRow (t : Fin cfg0.N) (r : Fin 2048) : Fin 8192 :=
  ⟨2048 * t.val + r.val, by have h : cfg0.N = 4 := N_0; have := t.isLt; omega⟩

theorem iblk0 (t : Fin cfg0.N) (r : Fin 2048) (n : Fin 512) :
    (iblk m c 0 t : S512x2048.Idx → EReal) (ix2 n r) = part m c (chunkRow t r) n := by
  rw [← V_left]
  unfold iblk
  rw [View.read_apply]
  refine congrArg (V m c main_v15) (funext fun a => Fin.ext ?_)
  obtain ⟨h0, h1⟩ := (index_at t).1
  match a with
  | ⟨0, _⟩ => show win0_0.index t 0 * 512 + 1 * n.val = n.val; rw [h0]; omega
  | ⟨1, _⟩ => show win0_0.index t 1 * 2048 + 1 * r.val = 2048 * t.val + r.val; rw [h1]; omega

theorem iblk1 (t : Fin cfg0.N) (r : Fin 2048) (j : Fin 1024) :
    (iblk m c 1 t : S2048x1024.Idx → EReal) (ix2 r j) = scaled m c (chunkRow t r) j := by
  rw [← V_right]
  unfold iblk
  rw [View.read_apply]
  refine congrArg (V m c main_v12) (funext fun a => Fin.ext ?_)
  obtain ⟨h0, h1⟩ := (index_at t).2.1
  match a with
  | ⟨0, _⟩ => show win0_1.index t 0 * 2048 + 1 * r.val = 2048 * t.val + r.val; rw [h0]; omega
  | ⟨1, _⟩ => show win0_1.index t 1 * 1024 + 1 * j.val = j.val; rw [h1]; omega

/-! ## The sum over the chunks -/

/-- The product of two blocks, contracted over the rows of the second. -/
def prod (x : Vec Ideal S512x2048 .bf16) (y : Vec Ideal S2048x1024 .bf16) (n : Fin 512) (j : Fin 1024) : EReal :=
  ∑ r, x (ix2 n r) * y (ix2 r j)

theorem pay1_apply (x : Vec Ideal S512x2048 .bf16) (y : Vec Ideal S2048x1024 .bf16) (n : Fin 512) (j : Fin 1024) :
    k0_pay1 (F := Ideal) x y (ix2 n j) = prod x y n j := by
  unfold prod
  pointwise [k0_pay1]

theorem pay2_apply (x : Vec Ideal S512x2048 .bf16) (y : Vec Ideal S2048x1024 .bf16) (n : Fin 512) (j : Fin 1024) :
    k0_pay2 (F := Ideal) x y (ix2 n j) = prod x y n j := by
  unfold prod
  pointwise [k0_pay2, k0_pay1]

theorem pay3_apply (x : Vec Ideal S512x2048 .bf16) (y : Vec Ideal S2048x1024 .bf16) (z : Vec Ideal S512x1024 .f32)
    (n : Fin 512) (j : Fin 1024) :
    k0_pay3 (F := Ideal) x y z (ix2 n j) = z (ix2 n j) + prod x y n j := by
  refine Eq.trans ?_ (congrArg (z (ix2 n j) + ·) (pay1_apply x y n j))
  unfold k0_pay3
  generalize k0_pay1 x y = p
  pointwise

theorem prod_at (t : Fin cfg0.N) (n : Fin 512) (j : Fin 1024) : prod (iblk m c 0 t) (iblk m c 1 t) n j
    = ∑ r, part m c (chunkRow t r) n * scaled m c (chunkRow t r) j :=
  Finset.sum_congr rfl fun r _ => by rw [iblk0, iblk1]

/-- What the buffer holds once every chunk is added. -/
theorem total (t : Fin cfg0.N) (h : t.val = 3) (n : Fin 512) (j : Fin 1024) :
    (outsAt0 m c t.val t.isLt).2 (ix2 n j) = ∑ t', part m c t' n * scaled m c t' j := by
  have hN : cfg0.N = 4 := N_0
  obtain ⟨_, ht⟩ := t
  obtain rfl : _ = 3 := h
  refine Sums.chunks (fun k hk => (outsAt0 m c k (by omega)).2 (ix2 n j)) _ _ ?_ fun k hk => ?_
  · exact (congrFun (first m c ⟨0, by omega⟩ rfl) _).trans ((pay2_apply _ _ n j).trans (prod_at m c ⟨0, by omega⟩ n j))
  · exact (congrFun (next m c k (by omega)) _).trans ((pay3_apply _ _ _ n j).trans
      (congrArg (_ + ·) (prod_at m c ⟨k + 1, by omega⟩ n j)))

/-! ## The result -/

theorem pay4_apply (z : Vec Ideal S512x1024 .f32) (n : Fin 512) (j : Fin 1024) :
    k0_pay4 (F := Ideal) z (ix2 n j) = z (ix2 n j) := by
  pointwise [k0_pay4]

abbrev G : S2560x1024.Idx → EReal := fun i => Product.within 2048 2560 (earlier m c)
  (Product.dnorm (x m c) (scale m c) (dproj m c)) (i 0) (i 1)

theorem G_own (n : Fin 512) (j : Fin 1024) :
    G m c (ix2 (⟨2048 + n.val, by omega⟩ : Fin 2560) j) = ∑ t, part m c t n * scaled m c t j :=
  if_pos (by show 2048 ≤ 2048 + n.val ∧ 2048 + n.val < 2560; omega)

theorem G_earlier (n : Fin 2560) (j : Fin 1024) (h : ¬(2048 ≤ n.val ∧ n.val < 2560)) :
    G m c (ix2 n j) = earlier m c n j :=
  if_neg h

theorem flushed (t : Fin cfg0.N) (hf : (cfg0.win 2).flush t = true) :
    (dats m 0 c).flushed 2 t = ((cfg0.win 2).blk t).view.read (Elt Ideal) (G m c) := by
  have hN : cfg0.N = 4 := N_0
  have ht := t.isLt
  have h : t.val = 3 := by have := (flush0_2 t).mp hf; omega
  rw [Value.flushed2, last m c t h]
  funext i
  obtain ⟨n, j, rfl⟩ : ∃ n j, i = ix2 n j := ⟨i 0, i 1, eq_ix2 i⟩
  rw [View.read_apply]
  refine ((pay4_apply _ n j).trans (total m c t h n j)).trans ((G_own m c n j).symm.trans
    (congrArg (G m c) (funext fun a => Fin.ext ?_) : G m c (ix2 ⟨2048 + n.val, by omega⟩ j) = _))
  obtain ⟨h0, h1⟩ := (index_at t).2.2
  match a with
  | ⟨0, _⟩ => show 2048 + n.val = win0_2.index t 0 * 512 + 1 * n.val; rw [h0]; omega
  | ⟨1, _⟩ => show j.val = win0_2.index t 1 * 1024 + 1 * j.val; rw [h1]; omega

/-- An index lies in a point's block when its row does. -/
theorem mem_blk (t : Fin cfg0.N) (i : S2560x1024.Idx) :
    i ∈ ((cfg0.win 2).blk t).view.set ↔ 2048 ≤ (i 0).val ∧ (i 0).val < 2560 := by
  show i ∈ ((View.whole main_v16).slice (win0_2.rect t)).set ↔ _
  rw [View.set_slice_whole, Rect.mem_set_unit]
  obtain ⟨h0, h1⟩ := (index_at t).2.2
  constructor
  · intro h
    have : win0_2.index t 0 * 512 ≤ (i 0 : Nat) ∧ (i 0 : Nat) < win0_2.index t 0 * 512 + 512 := h 0
    rw [h0] at this
    omega
  · intro h a
    have : (i 1 : Nat) < 1024 := (i 1).isLt
    match a with
    | ⟨0, _⟩ => show win0_2.index t 0 * 512 ≤ (i 0 : Nat) ∧ (i 0 : Nat) < win0_2.index t 0 * 512 + 512; rw [h0]; omega
    | ⟨1, _⟩ => show win0_2.index t 1 * 1024 ≤ (i 1 : Nat) ∧ (i 1 : Nat) < win0_2.index t 1 * 1024 + 1024; rw [h1]; omega

theorem final : (dats m 0 c).arrAt 2 cfg0.N = G m c := by
  have hN : cfg0.N = 4 := N_0
  funext i
  have hi : (i 0 : Nat) < 2560 := (i 0).isLt
  by_cases h : 2048 ≤ (i 0).val ∧ (i 0).val < 2560
  · exact (dats m 0 c).arrAt_apply_of_mem 2 (G m c) (flushed m c) cfg0.N ⟨3, by omega⟩ i (by show 3 < cfg0.N; omega)
      ((flush0_2 _).mpr rfl) ((mem_blk _ i).mpr h)
  · refine (Value.entry2 m c i fun t _ hm => h ((mem_blk t i).mp hm)).trans ?_
    refine (congrFun (V_earlier m c) i).trans (Eq.trans ?_ (G_earlier m c (i 0) (i 1) h).symm)
    exact congrArg (m ((c : Thread nD τ).loc main_arg4) : S2560x1024.Idx → EReal) (eq_ix2 i)

/-- The run: the result, and the arguments unchanged. -/
theorem run : θ_run defs (onTc (τ := τ) (main (F := Ideal))) ⟨m, fun _ => 0, ρ⟩ fun r => ∀ c : Dev nD,
      r.2.mem ((c : Thread nD τ).loc main_v16) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.Kernel19Ideal.Final
-- ==== Proof.Optimiser.lean ====
/-
  The optimiser's step on the small weights, and the sum over the devices of the small gradients: what the calls leave in
  their results, and what the references leave in theirs, both as formulas in the arguments.
-/
module

public import proofs.«01_k».proof.Proof.Gen.Kernel20Ideal.Value
public import proofs.«01_k».proof.Proof.Gen.Reference20Ideal.Read
public import proofs.«01_k».proof.Proof.Gen.Kernel21Ideal.Value
public import proofs.«01_k».proof.Proof.Gen.Reference21Ideal.Read
public import proofs.«01_k».proof.Proof.ProductSpec

@[expose] public section

set_option maxRecDepth 16384

noncomputable section

namespace Optimiser

open Idealize.ShloMosaic

/-- The real number that a constant of the program stands for. -/
abbrev number (bits : BitVec 32) : EReal := Scalar.ofBits (F := Ideal) .f32 bits

/-- The new running mean of a weight's gradient: nine tenths of the old one, and a tenth of the gradient. -/
def mean (g m : EReal) : EReal := number 0x3F666666#32 * m + number 0x3DCCCCCD#32 * g

/-- The new running mean of the squares: 0.999 of the old one, and a thousandth of the gradient's square. -/
def square (g v : EReal) : EReal := number 0x3F7FBE77#32 * v + number 0x3A83126F#32 * (g * g)

/-- What the step adds to the weight `w`: both means divided by the part of them that ten steps have filled, the first over the
root of the second, the weight's decay added, and the whole times minus a thousandth. -/
def change (w g m v : EReal) : EReal :=
  number 0xBA83126F#32 * (Ideal.div (Ideal.div (mean g m) (number 0x3F26BD02#32))
      (Ideal.sqrt (Ideal.div (square g v) (number 0x3C231ACC#32)) + number 0x322BCC77#32)
    + number 0x3C23D70A#32 * w)

/-- The sum over eight devices of the gradients of a weight, when the device at position `p` has its own gradient and receives the
others'. -/
def gathered {R J : Type} (p : BitVec 32) (own received : Fin 8 → R → J → EReal) (r : R) (j : J) : EReal :=
  ∑ d : Fin 8, if BitVec.ofNat 32 d.val = p then own d r j else received d r j

/-- A choice by the comparison of two words. -/
theorem select_eq (a p : BitVec 32) (x y : EReal) : Scalar.select (Scalar.cmpi .eq a p) x y = if a = p then x else y := by
  by_cases h : a = p
  · simp [Scalar.select, Scalar.cmpi, IntOp.cmpi, h]
  · simp [Scalar.select, Scalar.cmpi, IntOp.cmpi, h, beq_eq_false_iff_ne.2 h]

end Optimiser

namespace Cert.Kernel20Ideal.Final

open Idealize.ShloMosaic Idealize.ShloMosaic.TcCoe Idealize.SL.Sem
open Cert.Kernel20Ideal

variable (m : (ℓ : Loc nD τ sig) → Buf (Elt Ideal) ℓ) (ρ : Dev nD → PrngReg)

/-- What the optimiser's call leaves. -/
abbrev G0 (c : Dev nD) : S144x128.Idx → EReal := fun i => Optimiser.change (m ((c : Thread nD τ).loc main_arg0) i) (m ((c : Thread nD τ).loc main_arg1) i)
  (m ((c : Thread nD τ).loc main_arg2) i) (m ((c : Thread nD τ).loc main_arg3) i)
abbrev G1 (c : Dev nD) : S144x128.Idx → EReal := fun i => Optimiser.mean (m ((c : Thread nD τ).loc main_arg1) i) (m ((c : Thread nD τ).loc main_arg2) i)
abbrev G2 (c : Dev nD) : S144x128.Idx → EReal := fun i => Optimiser.square (m ((c : Thread nD τ).loc main_arg1) i) (m ((c : Thread nD τ).loc main_arg3) i)

theorem run : θ_run defs (onTc (τ := τ) (main (F := Ideal))) ⟨m, fun _ => 0, ρ⟩ fun r => ∀ c : Dev nD,
      r.2.mem ((c : Thread nD τ).loc main_v0_0) = G0 m c
      ∧ r.2.mem ((c : Thread nD τ).loc main_v0_1) = G1 m c
      ∧ r.2.mem ((c : Thread nD τ).loc main_v0_2) = G2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, hargs⟩ := h c
    exact ⟨h0.trans rfl, h1.trans rfl, h2.trans rfl, hargs⟩)
    (Value.run m ρ)

end Cert.Kernel20Ideal.Final

namespace Cert.Reference20Ideal.Final

open Idealize.ShloMosaic Idealize.ShloMosaic.TcCoe Idealize.SL.Sem
open Cert.Reference20Ideal Cert.Reference20Ideal.Read

section Step

variable (w g m v : Vec Ideal S144x128 .f32) (i : S144x128.Idx)

theorem mean : val_main_v4 (F := Ideal) g m i = Optimiser.mean (g i) (m i) := by
  pointwise [val_main_v4, val_main_v3, val_main_v2, val_main_v1, val_main_v0, val_main_cst, val_main_cst_0]
  rfl

theorem square : val_main_v10 (F := Ideal) g v i = Optimiser.square (g i) (v i) := by
  pointwise [val_main_v10, val_main_v9, val_main_v8, val_main_v7, val_main_v6, val_main_v5, val_main_cst_1, val_main_cst_2,
    val_main_cst_3]
  rfl

theorem change : val_main_v23 (F := Ideal) w g m v i = Optimiser.change (w i) (g i) (m i) (v i) := by
  have h := mean g m i
  have h' := square g v i
  unfold val_main_v23 val_main_v22 val_main_v21 val_main_v20 val_main_v19 val_main_v18 val_main_v17 val_main_v16 val_main_v15
    val_main_v14 val_main_v13 val_main_v12 val_main_v11
  generalize val_main_v4 (F := Ideal) g m = y at h
  generalize val_main_v10 (F := Ideal) g v = z at h'
  pointwise
  rw [h, h']
  rfl

end Step

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v23) = ((fun i => Optimiser.change (m ((c : Thread nD τ).loc main_arg0) i) (m ((c : Thread nD τ).loc main_arg1) i) (m ((c : Thread nD τ).loc main_arg2) i) (m ((c : Thread nD τ).loc main_arg3) i)) : S144x128.Idx → EReal)
      ∧ r.2.mem ((c : Thread nD τ).loc main_v4) = ((fun i => Optimiser.mean (m ((c : Thread nD τ).loc main_arg1) i) (m ((c : Thread nD τ).loc main_arg2) i)) : S144x128.Idx → EReal)
      ∧ r.2.mem ((c : Thread nD τ).loc main_v10) = ((fun i => Optimiser.square (m ((c : Thread nD τ).loc main_arg1) i) (m ((c : Thread nD τ).loc main_arg3) i)) : S144x128.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, hargs⟩ := h c
    exact ⟨((h0.trans (val_main_v23_eq ..)).trans (funext fun i => change ..)),
      (h1.trans (val_main_v4_eq ..)).trans (funext fun i => mean ..),
      (h2.trans (val_main_v10_eq ..)).trans (funext fun i => square ..), hargs⟩)
    (Value.run m ρ)

end Cert.Reference20Ideal.Final

/-! ## The sum over the devices -/

namespace Cert.Kernel21Ideal.Final

open Idealize.ShloMosaic Idealize.ShloMosaic.TcCoe Idealize.SL.Sem
open Cert.Kernel21Ideal

variable (m : (ℓ : Loc nD τ sig) → Buf (Elt Ideal) ℓ) (ρ : Dev nD → PrngReg)

/-- The gathered rows, summed over the devices. -/
abbrev G (c : Dev nD) : S368x128.Idx → EReal := fun i =>
  ∑ d : Fin 8, (m ((c : Thread nD τ).loc main_arg0) : S8x368x128.Idx → EReal) (ix3 d (i 0) (i 1))

theorem value (x : Vec Ideal S8x368x128 .f32) (p : Fin 368) (q : Fin 128) :
    Value.G1 (F := Ideal) x (ix2 p q) = ∑ d : Fin 8, (x : S8x368x128.Idx → EReal) (ix3 d p q) := by
  rw [Fin.sum_univ_eight]
  pointwise [Value.G1, Gen.k0_pay1]

theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0) :=
  (θ_run defs _ _).mono (fun _ h c => by
    obtain ⟨h0, hargs⟩ := h c
    refine ⟨h0.trans (funext fun i => ?_), hargs⟩
    obtain ⟨p, q, rfl⟩ : ∃ p q, i = ix2 p q := ⟨i 0, i 1, eq_ix2 i⟩
    exact value _ p q)
    (Value.run m ρ)

end Cert.Kernel21Ideal.Final

namespace Cert.Reference21Ideal.Final

open Idealize.ShloMosaic Idealize.ShloMosaic.TcCoe Idealize.SL.Sem
open Cert.Reference21Ideal Cert.Reference21Ideal.Read

variable (m : (ℓ : Loc nD τ sig) → Buf (Elt Ideal) ℓ) (ρ : Dev nD → PrngReg)

theorem value (x : Vec Ideal S8x368x128 .f32) (p : Fin 368) (q : Fin 128) :
    val_main_v0 (F := Ideal) x (ix2 p q) = ∑ d : Fin 8, (x : S8x368x128.Idx → EReal) (ix3 d p q) := by
  pointwise [val_main_v0, val_main_cst]

theorem run : θ_run defs (onTc (τ := τ) (main (F := Ideal))) ⟨m, fun _ => 0, ρ⟩ fun r => ∀ c : Dev nD,
      r.2.mem ((c : Thread nD τ).loc main_v0) = ((fun i =>
        ∑ d : Fin 8, (m ((c : Thread nD τ).loc main_arg0) : S8x368x128.Idx → EReal) (ix3 d (i 0) (i 1))) : S368x128.Idx → EReal)
      ∧ r.2.mem ((c : Thread nD τ).loc main_arg0) = m ((c : Thread nD τ).loc main_arg0) :=
  (θ_run defs _ _).mono (fun _ h c => by
    obtain ⟨h0, hargs⟩ := h c
    refine ⟨(h0.trans (val_main_v0_eq ..)).trans (funext fun i => ?_), hargs⟩
    obtain ⟨p, q, rfl⟩ : ∃ p q, i = ix2 p q := ⟨i 0, i 1, eq_ix2 i⟩
    exact value _ p q)
    (Value.run m ρ)

end Cert.Reference21Ideal.Final
-- ==== Proof.ReduceOutBody.lean ====
/-
  The optimiser's step on the mix's weights: what one point of the call leaves in the buffer and in its four results, as the
  body's own formulas in the point's blocks and in the device's position.
-/
module

public import proofs.«01_k».proof.Proof.Gen.Kernel22Ideal.Frame
public import Idealize.ShloMosaic.Lib.Pipeline.Value
public import Idealize.ShloMosaic.Lib.StableHlo.ReadAt

@[expose] public section

set_option maxRecDepth 16384

noncomputable section

namespace Cert.Kernel22Ideal.Final

open Idealize.ShloMosaic Idealize.ShloMosaic.TcCoe Idealize.SL.Sem
open Cert.Kernel22Ideal Cert.Kernel22Ideal.Gen

section Body

variable {F : FTy → Type} [FloatOps F] (m : (ℓ : Loc nD τ sig) → Buf (Elt F) ℓ) (hO : Ok m) (c : Dev nD)

theorem hz : (![0, 0] : Fin 2 → Nat) = fun _ => 0 := funext fun a => by fin_cases a <;> rfl
theorem hz3 : (![0, 0, 0] : Fin 3 → Nat) = fun _ => 0 := funext fun a => by fin_cases a <;> rfl

/-- The device's position. -/
def position : Elt F .i32 := (tbl m 0 : S1.Idx → Elt F .i32) (ix1 0)

theorem one (i j : S1.Idx) : i = j := funext fun a => match a with | ⟨0, _⟩ => Subsingleton.elim (α := Fin 1) _ _

/-- The word the body reads of the table. -/
theorem word (p : TbBuf0 (F := F) c tbM0_0) (e : p = tbl m 0) :
    View.ld (View.read (Elt F) (View.whole main_arg2) p) (Rect.unit ![0] ![1] inb_S1_S1_0) (Shape.Idx.first (Nat.lt_of_lt_of_eq Nat.zero_lt_one numel1_S1.symm))
      = position m := by
  subst e
  exact congrArg (tbl m 0 : S1.Idx → Elt F .i32) (one _ _)

/-- A point's blocks and the table, under the types the body takes them at. -/
theorem taken (t : Fin (cfgM m hO).N) : ∃ (x0 x1 : Vec F S1x64x1024 .f32) (x2 x3 x4 : Vec F S64x1024 .f32) (p : TbBuf0 (F := F) c tbM0_0),
    (x0 = iblk m hO c 0 t ∧ x1 = iblk m hO c 1 t) ∧ (x2 = iblk m hO c 2 t ∧ x3 = iblk m hO c 3 t ∧ x4 = iblk m hO c 4 t) ∧ p = tbl m 0 :=
  ⟨_, _, _, _, _, _, ⟨rfl, rfl⟩, ⟨rfl, rfl, rfl⟩, rfl⟩

/-- The first point of a block starts the buffer at the first device's gradient. -/
theorem first (t : Fin (cfgM m hO).N) (h : t.val % 8 = 0) : (outsAt0 m hO c t.val t.isLt).2.2.2.2
    = k0_pay2 (grid0.coords t) (position m) (iblk m hO c 0 t) (iblk m hO c 1 t) := by
  rw [outsAt0_A m hO c t h (by omega) (by omega)]
  obtain ⟨x0, x1, x2, x3, x4, p, ⟨e0, e1⟩, ⟨e2, e3, e4⟩, e⟩ := taken m hO c t
  rw [← e0, ← e1, ← e2, ← e3, ← e4, ← e]
  dsimp only
  unfold sout0_A_0
  rw [View.read_writes_eq_canon _ _ _ (fun _ => scover0_A_0 ..)]
  unfold kernelRun0_A
  dsimp only
  sl_unfold_words
  rw [View.canon_unit_zero (S := S64x1024) hz]
  simp only [View.readAt_eq_ld, Memref.IsWhole.read_unread, View.ld_unit_zero (S := S1x64x1024) hz3]
  rw [word m c p e]

/-- Every other point adds its device's gradient. -/
theorem next (n : ℕ) (hn : n + 1 < (cfgM m hO).N) (h : ¬(n + 1) % 8 = 0) : (outsAt0 m hO c (n + 1) hn).2.2.2.2
    = k0_pay3 (grid0.coords ⟨n + 1, hn⟩) (position m) (iblk m hO c 0 ⟨n + 1, hn⟩) (iblk m hO c 1 ⟨n + 1, hn⟩)
      (outsAt0 m hO c n (Nat.lt_of_succ_lt hn)).2.2.2.2 := by
  by_cases h' : (n + 1) % 8 = 7
  · rw [outsAt0_C m hO c ⟨n + 1, hn⟩ h (Nat.pos_of_ne_zero h) h']
    obtain ⟨x0, x1, x2, x3, x4, p, ⟨e0, e1⟩, ⟨e2, e3, e4⟩, e⟩ := taken m hO c ⟨n + 1, hn⟩
    rw [← e0, ← e1, ← e2, ← e3, ← e4, ← e]
    dsimp only
    unfold sout0_C_0
    rw [View.read_writes_eq_canon _ _ _ (fun _ => scover0_C_0 ..)]
    unfold kernelRun0_C
    dsimp only
    sl_unfold_words
    rw [View.canon_unit_zero (S := S64x1024) hz]
    simp only [View.readAt_eq_ld, Memref.IsWhole.read_unread, View.ld_unit_zero (S := S1x64x1024) hz3,
      View.ld_unit_zero (S := S64x1024) hz]
    rw [word m c p e]
    exact congrArg (k0_pay3 _ _ _ _) (Memref.IsWhole.read_unread (m := scM0_0) _ _)
  · rw [outsAt0_B m hO c ⟨n + 1, hn⟩ h (Nat.pos_of_ne_zero h) h']
    obtain ⟨x0, x1, x2, x3, x4, p, ⟨e0, e1⟩, ⟨e2, e3, e4⟩, e⟩ := taken m hO c ⟨n + 1, hn⟩
    rw [← e0, ← e1, ← e2, ← e3, ← e4, ← e]
    dsimp only
    unfold sout0_B_0
    rw [View.read_writes_eq_canon _ _ _ (fun _ => scover0_B_0 ..)]
    unfold kernelRun0_B
    dsimp only
    sl_unfold_words
    rw [View.canon_unit_zero (S := S64x1024) hz]
    simp only [View.readAt_eq_ld, Memref.IsWhole.read_unread, View.ld_unit_zero (S := S1x64x1024) hz3,
      View.ld_unit_zero (S := S64x1024) hz]
    rw [word m c p e]
    exact congrArg (k0_pay3 _ _ _ _) (Memref.IsWhole.read_unread (m := scM0_0) _ _)

set_option maxHeartbeats 2000000 in
/-- The last point of a block writes the sum, and the optimiser's step taken with it. -/
theorem last (t : Fin (cfgM m hO).N) (h : t.val % 8 = 7) :
    (outsAt0 m hO c t.val t.isLt).1 = (outsAt0 m hO c t.val t.isLt).2.2.2.2
    ∧ (outsAt0 m hO c t.val t.isLt).2.1 = k0_pay6 (outsAt0 m hO c t.val t.isLt).2.2.2.2 (iblk m hO c 2 t) (iblk m hO c 3 t) (iblk m hO c 4 t)
    ∧ (outsAt0 m hO c t.val t.isLt).2.2.1 = k0_pay4 (outsAt0 m hO c t.val t.isLt).2.2.2.2 (iblk m hO c 3 t)
    ∧ (outsAt0 m hO c t.val t.isLt).2.2.2.1 = k0_pay5 (outsAt0 m hO c t.val t.isLt).2.2.2.2 (iblk m hO c 4 t) := by
  rw [outsAt0_C m hO c t (by omega) (by omega) h]
  obtain ⟨x0, x1, x2, x3, x4, p, ⟨e0, e1⟩, ⟨e2, e3, e4⟩, e⟩ := taken m hO c t
  rw [← e0, ← e1, ← e2, ← e3, ← e4, ← e]
  dsimp only
  unfold out0_C_5 out0_C_6 out0_C_7 out0_C_8 sout0_C_0
  rw [View.read_writes_eq_canon _ _ _ (fun _ => cover0_C_5 ..), View.read_writes_eq_canon _ _ _ (fun _ => cover0_C_6 ..),
    View.read_writes_eq_canon _ _ _ (fun _ => cover0_C_7 ..), View.read_writes_eq_canon _ _ _ (fun _ => cover0_C_8 ..),
    View.read_writes_eq_canon _ _ _ (fun _ => scover0_C_0 ..)]
  unfold kernelRun0_C
  dsimp only
  sl_unfold_words
  simp only [View.canon_unit_zero (S := S64x1024) hz, View.readCov_unit_zero (S := S64x1024) _ hz, View.readAt_eq_ld, Memref.IsWhole.read_unread,
    View.ld_unit_zero (S := S64x1024) hz]
  exact ⟨trivial, trivial, trivial, trivial⟩

end Body
end Cert.Kernel22Ideal.Final
-- ==== Proof.ReduceOut.lean ====
/-
  The optimiser's step on the mix's weights: what the call leaves in its four result arrays. Each block of 64 rows takes
  eight points, one per device, which add up the devices' gradients: the device's own where the position says so, the
  received one elsewhere. The last of them writes the sum and the step taken with it.
-/
module

public import proofs.«01_k».proof.Proof.ReduceOutBody
public import proofs.«01_k».proof.Proof.Optimiser

@[expose] public section

set_option maxRecDepth 16384

noncomputable section

namespace Cert.Kernel22Ideal.Final

open Idealize.ShloMosaic Idealize.ShloMosaic.TcCoe Idealize.SL.Sem
open Cert.Kernel22Ideal Cert.Kernel22Ideal.Gen

variable (m : (ℓ : Loc nD τ sig) → Buf (Elt Ideal) ℓ) (hO : Ok m) (c : Dev nD)

/-! ## The arguments and the formulas -/

/-- The gradients of the eight row blocks that this device computed, and those received from the others. -/
def own (d : Fin 8) (r : Fin 128) (j : Fin 1024) : EReal := (m ((c : Thread nD τ).loc main_arg0) : S8x128x1024.Idx → EReal) (ix3 d r j)
def received (d : Fin 8) (r : Fin 128) (j : Fin 1024) : EReal := (m ((c : Thread nD τ).loc main_arg1) : S8x128x1024.Idx → EReal) (ix3 d r j)

/-- The gradients' sum over the devices. -/
def G5 : S128x1024.Idx → EReal := fun i =>
  Optimiser.gathered (m ((c : Thread nD τ).loc main_arg2) (ix1 0)) (own m c) (received m c) (i 0) (i 1)
def G6 : S128x1024.Idx → EReal := fun i => Optimiser.change (m ((c : Thread nD τ).loc main_arg3) i) (G5 m c i)
  (m ((c : Thread nD τ).loc main_arg4) i) (m ((c : Thread nD τ).loc main_arg5) i)
def G7 : S128x1024.Idx → EReal := fun i => Optimiser.mean (G5 m c i) (m ((c : Thread nD τ).loc main_arg4) i)
def G8 : S128x1024.Idx → EReal := fun i => Optimiser.square (G5 m c i) (m ((c : Thread nD τ).loc main_arg5) i)

theorem position_eq : position m = m ((c : Thread nD τ).loc main_arg2) (ix1 0) := by
  obtain rfl : c = 0 := Subsingleton.elim _ _
  rfl

/-! ## The blocks -/

/-- Where the blocks lie, and a point's place among the devices. -/
theorem index_at : ∀ t : Fin grid0.N,
    (grid0.coords t 0).val = t.val / 8 ∧ (grid0.coords t 1).val = t.val % 8
    ∧ (cc0_transform_1 (grid0.coords t) 0 = t.val % 8 ∧ cc0_transform_1 (grid0.coords t) 1 = t.val / 8 ∧ cc0_transform_1 (grid0.coords t) 2 = 0)
    ∧ (cc0_transform_2 (grid0.coords t) 0 = t.val / 8 ∧ cc0_transform_2 (grid0.coords t) 1 = 0) := by decide +kernel

def rowOf (t : Fin grid0.N) (r : Fin 64) : Fin 128 := ⟨64 * (t.val / 8) + r.val, by have h : grid0.N = 16 := N_0; have := t.isLt; omega⟩
def deviceOf (t : Fin grid0.N) : Fin 8 := ⟨t.val % 8, by omega⟩

/-- Where an entry of a block of rows lies in the array. -/
theorem at_block (t : Fin grid0.N) (r : Fin 64) (j : Fin 1024) : ∀ a : Fin 2,
    cc0_transform_2 (grid0.coords t) a * S64x1024.size a + 1 * ((ix2 r j : S64x1024.Idx) a).val = ((ix2 (rowOf t r) j : S128x1024.Idx) a).val := by
  obtain ⟨h0, h1⟩ := (index_at t).2.2.2
  intro a
  match a with
  | ⟨0, _⟩ => show cc0_transform_2 (grid0.coords t) 0 * 64 + 1 * r.val = 64 * (t.val / 8) + r.val; rw [h0]; omega
  | ⟨1, _⟩ => show cc0_transform_2 (grid0.coords t) 1 * 1024 + 1 * j.val = j.val; rw [h1]; omega

/-- The own gradients' block is the one at the device's position. -/
theorem index0 (i : grid0.Coords) : cc0_transform_0 inb_S1_S1_0 numel1_S1 (tbl m) i 0 = (position m : BitVec 32).toNat :=
  congrArg BitVec.toNat (congrArg (tbl m 0 : S1.Idx → BitVec 32) (one _ _))

/-- The own gradient's block, at the point of the device's own position. -/
theorem iblk0 (t : Fin grid0.N) (r : Fin 64) (j : Fin 1024) (hp : BitVec.ofNat 32 (deviceOf t).val = position m) :
    (iblk m hO c 0 t : S1x64x1024.Idx → EReal) (ix3 0 r j) = own m c (deviceOf t) (rowOf t r) j := by
  unfold own
  unfold iblk
  refine congrArg (m ((c : Thread nD τ).loc main_arg0)) (funext fun a => Fin.ext ?_)
  have h := (index_at t).1
  have h8 : (deviceOf t).val = t.val % 8 := rfl
  match a with
  | ⟨0, _⟩ =>
    show cc0_transform_0 inb_S1_S1_0 numel1_S1 (tbl m) (grid0.coords t) 0 * 1 + 1 * 0 = (deviceOf t).val
    rw [index0, ← hp, BitVec.toNat_ofNat]
    omega
  | ⟨1, _⟩ =>
    show (BitVec.ofNat 32 (grid0.coords t 0).val).toNat * 64 + 1 * r.val = 64 * (t.val / 8) + r.val
    rw [h, BitVec.toNat_ofNat]
    have := t.isLt
    have : grid0.N = 16 := N_0
    omega
  | ⟨2, _⟩ => show 0 * 1024 + 1 * j.val = j.val; omega

theorem iblk1 (t : Fin grid0.N) (r : Fin 64) (j : Fin 1024) :
    (iblk m hO c 1 t : S1x64x1024.Idx → EReal) (ix3 0 r j) = received m c (deviceOf t) (rowOf t r) j := by
  unfold received
  unfold iblk
  refine congrArg (m ((c : Thread nD τ).loc main_arg1)) (funext fun a => Fin.ext ?_)
  obtain ⟨h0, h1, h2⟩ := (index_at t).2.2.1
  match a with
  | ⟨0, _⟩ => show cc0_transform_1 (grid0.coords t) 0 * 1 + 1 * 0 = t.val % 8; rw [h0]; omega
  | ⟨1, _⟩ => show cc0_transform_1 (grid0.coords t) 1 * 64 + 1 * r.val = 64 * (t.val / 8) + r.val; rw [h1]; omega
  | ⟨2, _⟩ => show cc0_transform_1 (grid0.coords t) 2 * 1024 + 1 * j.val = j.val; rw [h2]; omega

theorem iblk2 (t : Fin grid0.N) (r : Fin 64) (j : Fin 1024) :
    (iblk m hO c 2 t : S64x1024.Idx → EReal) (ix2 r j) = m ((c : Thread nD τ).loc main_arg3) (ix2 (rowOf t r) j) := by
  unfold iblk
  exact congrArg (m ((c : Thread nD τ).loc main_arg3)) (funext fun a => Fin.ext (at_block t r j a))

theorem iblk3 (t : Fin grid0.N) (r : Fin 64) (j : Fin 1024) :
    (iblk m hO c 3 t : S64x1024.Idx → EReal) (ix2 r j) = m ((c : Thread nD τ).loc main_arg4) (ix2 (rowOf t r) j) := by
  unfold iblk
  exact congrArg (m ((c : Thread nD τ).loc main_arg4)) (funext fun a => Fin.ext (at_block t r j a))

theorem iblk4 (t : Fin grid0.N) (r : Fin 64) (j : Fin 1024) :
    (iblk m hO c 4 t : S64x1024.Idx → EReal) (ix2 r j) = m ((c : Thread nD τ).loc main_arg5) (ix2 (rowOf t r) j) := by
  unfold iblk
  exact congrArg (m ((c : Thread nD τ).loc main_arg5)) (funext fun a => Fin.ext (at_block t r j a))

/-! ## The sum over the devices -/

theorem pay1_apply (i : grid0.Coords) (p : BitVec 32) (x y : Vec Ideal S1x64x1024 .f32) (r : Fin 64) (j : Fin 1024) :
    k0_pay1 (F := Ideal) i p x y (ix2 r j) = if BitVec.ofNat 32 (i 1).val = p then x (ix3 0 r j) else y (ix3 0 r j) := by
  rw [← Optimiser.select_eq]
  pointwise [k0_pay1]

theorem pay2_apply (i : grid0.Coords) (p : BitVec 32) (x y : Vec Ideal S1x64x1024 .f32) (r : Fin 64) (j : Fin 1024) :
    k0_pay2 (F := Ideal) i p x y (ix2 r j) = if BitVec.ofNat 32 (i 1).val = p then x (ix3 0 r j) else y (ix3 0 r j) := by
  refine Eq.trans ?_ (pay1_apply i p x y r j)
  unfold k0_pay2
  generalize k0_pay1 i p x y = q
  pointwise

theorem pay3_apply (i : grid0.Coords) (p : BitVec 32) (x y : Vec Ideal S1x64x1024 .f32) (z : Vec Ideal S64x1024 .f32) (r : Fin 64) (j : Fin 1024) :
    k0_pay3 (F := Ideal) i p x y z (ix2 r j) = z (ix2 r j) + if BitVec.ofNat 32 (i 1).val = p then x (ix3 0 r j) else y (ix3 0 r j) := by
  refine Eq.trans ?_ (congrArg (z (ix2 r j) + ·) (pay1_apply i p x y r j))
  unfold k0_pay3
  generalize k0_pay1 i p x y = q
  pointwise

/-- What a point adds. -/
theorem added (t : Fin grid0.N) (d : Fin 8) (hd : t.val % 8 = d.val) (r : Fin 64) (j : Fin 1024) :
    (if BitVec.ofNat 32 (grid0.coords t 1).val = position m then (iblk m hO c 0 t : S1x64x1024.Idx → EReal) (ix3 0 r j)
      else (iblk m hO c 1 t : S1x64x1024.Idx → EReal) (ix3 0 r j))
    = if BitVec.ofNat 32 d.val = m ((c : Thread nD τ).loc main_arg2) (ix1 0) then own m c d (rowOf t r) j else received m c d (rowOf t r) j := by
  obtain rfl : deviceOf t = d := Fin.ext hd
  rw [← position_eq m c, (index_at t).2.1]
  by_cases h : BitVec.ofNat 32 (t.val % 8) = position m
  · exact (if_pos h).trans ((iblk0 m hO c t r j h).trans (if_pos h).symm)
  · exact (if_neg h).trans ((iblk1 m hO c t r j).trans (if_neg h).symm)

/-- What the buffer holds once every device's gradient is added. -/
theorem total (t : Fin grid0.N) (h : t.val % 8 = 7) (r : Fin 64) (j : Fin 1024) :
    (outsAt0 m hO c t.val t.isLt).2.2.2.2 (ix2 r j) = G5 m c (ix2 (rowOf t r) j) := by
  have hN : grid0.N = 16 := N_0
  have hN' : (cfgM m hO).N = 16 := N_0
  have ht := t.isLt
  obtain ⟨q, hq⟩ : ∃ q, t.val = 8 * q + 7 := ⟨t.val / 8, by omega⟩
  have row : ∀ (k : ℕ) (hk : 8 * q + k < grid0.N), k < 8 → rowOf ⟨8 * q + k, hk⟩ r = rowOf t r := fun k hk h8 =>
    Fin.ext (by simp only [rowOf]; omega)
  have run := Sums.running (N := 8) (fun k hk => (outsAt0 m hO c (8 * q + k) (by omega)).2.2.2.2 (ix2 r j))
    (fun s hs => if BitVec.ofNat 32 s = m ((c : Thread nD τ).loc main_arg2) (ix1 0) then own m c ⟨s, hs⟩ (rowOf t r) j
      else received m c ⟨s, hs⟩ (rowOf t r) j)
    (fun h0 => by
      refine (congrFun (first m hO c ⟨8 * q + 0, by omega⟩ (by dsimp only; omega)) _).trans ((pay2_apply _ _ _ _ r j).trans ?_)
      refine (added m hO c ⟨8 * q + 0, by omega⟩ ⟨0, h0⟩ (by dsimp only; omega) r j).trans ?_
      rw [row 0 _ h0])
    (fun k hk => by
      refine (congrFun (next m hO c (8 * q + k) (by omega) (by omega)) _).trans ((pay3_apply _ _ _ _ _ r j).trans ?_)
      refine congrArg (_ + ·) ((added m hO c ⟨8 * q + k + 1, by omega⟩ ⟨k + 1, hk⟩ (by dsimp only; omega) r j).trans ?_)
      have e := row (k + 1) (by omega) hk
      exact congrArg (fun i => if BitVec.ofNat 32 (k + 1) = m ((c : Thread nD τ).loc main_arg2) (ix1 0) then own m c ⟨k + 1, hk⟩ i j
        else received m c ⟨k + 1, hk⟩ i j) e)
    7 (by omega)
  have last : (outsAt0 m hO c t.val t.isLt).2.2.2.2 (ix2 r j) = (outsAt0 m hO c (8 * q + 7) (by omega)).2.2.2.2 (ix2 r j) := by
    have e : ∀ (a b : ℕ) (ha : a < (cfgM m hO).N) (hb : b < (cfgM m hO).N), a = b → outsAt0 m hO c a ha = outsAt0 m hO c b hb := by
      rintro a _ ha hb rfl; rfl
    rw [e t.val (8 * q + 7) t.isLt (by omega) hq]
  rw [last]
  exact run

/-! ## The optimiser's step -/

theorem pay4_apply (g x : Vec Ideal S64x1024 .f32) (i : S64x1024.Idx) : k0_pay4 (F := Ideal) g x i = Optimiser.mean (g i) (x i) := by
  pointwise [k0_pay4]
  rfl

theorem pay5_apply (g x : Vec Ideal S64x1024 .f32) (i : S64x1024.Idx) : k0_pay5 (F := Ideal) g x i = Optimiser.square (g i) (x i) := by
  pointwise [k0_pay5]
  rfl

theorem pay6_apply (g w x y : Vec Ideal S64x1024 .f32) (i : S64x1024.Idx) :
    k0_pay6 (F := Ideal) g w x y i = Optimiser.change (w i) (g i) (x i) (y i) := by
  have h := pay4_apply g x i
  have h' := pay5_apply g y i
  unfold k0_pay6
  generalize k0_pay4 (F := Ideal) g x = p at h
  generalize k0_pay5 (F := Ideal) g y = q at h'
  pointwise
  rw [h, h']
  rfl

/-! ## The results -/

/-- What a point writes back of a result, when the point is the last of its block. -/
theorem flushed5 (t : Fin (cfgM m hO).N) (hf : ((cfgM m hO).win 5).flush t = true) :
    (dats m hO 0 c).flushed 5 t = (((cfgM m hO).win 5).blk t).view.read (Elt Ideal) (G5 m c) := by
  have h : t.val % 8 = 7 := (flush0_5 _ t).mp hf
  show ((cfgM m hO).win 5).cut (grid0.coords t) ((dats m hO 0 c).after 5 t) = _
  rw [after0_5, (last m hO c t h).1]
  refine funext fun (i : S64x1024.Idx) => ?_
  obtain ⟨r, j, rfl⟩ : ∃ r j, i = ix2 r j := ⟨i 0, i 1, eq_ix2 i⟩
  exact (total m hO c t h r j).trans (congrArg (G5 m c) (funext fun a => Fin.ext (at_block t r j a)).symm)

theorem flushed6 (t : Fin (cfgM m hO).N) (hf : ((cfgM m hO).win 6).flush t = true) :
    (dats m hO 0 c).flushed 6 t = (((cfgM m hO).win 6).blk t).view.read (Elt Ideal) (G6 m c) := by
  have h : t.val % 8 = 7 := (flush0_6 _ t).mp hf
  show ((cfgM m hO).win 6).cut (grid0.coords t) ((dats m hO 0 c).after 6 t) = _
  rw [after0_6, (last m hO c t h).2.1]
  refine funext fun (i : S64x1024.Idx) => ?_
  obtain ⟨r, j, rfl⟩ : ∃ r j, i = ix2 r j := ⟨i 0, i 1, eq_ix2 i⟩
  refine (pay6_apply _ _ _ _ (ix2 r j)).trans (Eq.trans ?_ (congrArg (G6 m c) (funext fun a => Fin.ext (at_block t r j a)).symm))
  exact congr (congr (congr (congrArg Optimiser.change (iblk2 m hO c t r j)) (total m hO c t h r j)) (iblk3 m hO c t r j)) (iblk4 m hO c t r j)

theorem flushed7 (t : Fin (cfgM m hO).N) (hf : ((cfgM m hO).win 7).flush t = true) :
    (dats m hO 0 c).flushed 7 t = (((cfgM m hO).win 7).blk t).view.read (Elt Ideal) (G7 m c) := by
  have h : t.val % 8 = 7 := (flush0_7 _ t).mp hf
  show ((cfgM m hO).win 7).cut (grid0.coords t) ((dats m hO 0 c).after 7 t) = _
  rw [after0_7, (last m hO c t h).2.2.1]
  refine funext fun (i : S64x1024.Idx) => ?_
  obtain ⟨r, j, rfl⟩ : ∃ r j, i = ix2 r j := ⟨i 0, i 1, eq_ix2 i⟩
  refine (pay4_apply _ _ (ix2 r j)).trans (Eq.trans ?_ (congrArg (G7 m c) (funext fun a => Fin.ext (at_block t r j a)).symm))
  exact congr (congrArg Optimiser.mean (total m hO c t h r j)) (iblk3 m hO c t r j)

theorem flushed8 (t : Fin (cfgM m hO).N) (hf : ((cfgM m hO).win 8).flush t = true) :
    (dats m hO 0 c).flushed 8 t = (((cfgM m hO).win 8).blk t).view.read (Elt Ideal) (G8 m c) := by
  have h : t.val % 8 = 7 := (flush0_8 _ t).mp hf
  show ((cfgM m hO).win 8).cut (grid0.coords t) ((dats m hO 0 c).after 8 t) = _
  rw [after0_8, (last m hO c t h).2.2.2]
  refine funext fun (i : S64x1024.Idx) => ?_
  obtain ⟨r, j, rfl⟩ : ∃ r j, i = ix2 r j := ⟨i 0, i 1, eq_ix2 i⟩
  refine (pay5_apply _ _ (ix2 r j)).trans (Eq.trans ?_ (congrArg (G8 m c) (funext fun a => Fin.ext (at_block t r j a)).symm))
  exact congr (congrArg Optimiser.square (total m hO c t h r j)) (iblk4 m hO c t r j)

/-- The point that writes the block an index lies in. -/
def pointOf (i : S128x1024.Idx) : Fin grid0.N :=
  ⟨8 * ((i 0).val / 64) + 7, by
    have h : grid0.N = 16 := N_0
    have : (i 0 : Nat) < 128 := (i 0).isLt
    omega⟩

theorem at_seven (i : S128x1024.Idx) : (pointOf i).val % 8 = 7 := by show (8 * _ + 7) % 8 = 7; omega

theorem covered (i : S128x1024.Idx) : ∀ a : Fin 2, cc0_transform_2 (grid0.coords (pointOf i)) a * S64x1024.size a ≤ (i a).val
    ∧ (i a).val < cc0_transform_2 (grid0.coords (pointOf i)) a * S64x1024.size a + S64x1024.size a := by
  obtain ⟨h0, h1⟩ := (index_at (pointOf i)).2.2.2
  have hp : (pointOf i).val = 8 * ((i 0).val / 64) + 7 := rfl
  have : (i 1 : Nat) < 1024 := (i 1).isLt
  intro a
  match a with
  | ⟨0, _⟩ => show cc0_transform_2 (grid0.coords (pointOf i)) 0 * 64 ≤ (i 0 : Nat) ∧ (i 0 : Nat) < cc0_transform_2 (grid0.coords (pointOf i)) 0 * 64 + 64; rw [h0]; omega
  | ⟨1, _⟩ => show cc0_transform_2 (grid0.coords (pointOf i)) 1 * 1024 ≤ (i 1 : Nat) ∧ (i 1 : Nat) < cc0_transform_2 (grid0.coords (pointOf i)) 1 * 1024 + 1024; rw [h1]; omega

theorem final5 : (dats m hO 0 c).arrAt 5 (cfgM m hO).N = G5 m c :=
  (dats m hO 0 c).arrAt_eq_of_cover 5 (G5 m c) (flushed5 m hO c) fun (i : S128x1024.Idx) => ⟨pointOf i, (flush0_5 _ _).mpr (at_seven i),
    (congrArg (i ∈ ·) (View.set_slice_whole main_v0_0 (((cfgM m hO).win 5).rect (pointOf i)))).mpr (Rect.mem_set_unit.mpr (covered i))⟩

theorem final6 : (dats m hO 0 c).arrAt 6 (cfgM m hO).N = G6 m c :=
  (dats m hO 0 c).arrAt_eq_of_cover 6 (G6 m c) (flushed6 m hO c) fun (i : S128x1024.Idx) => ⟨pointOf i, (flush0_6 _ _).mpr (at_seven i),
    (congrArg (i ∈ ·) (View.set_slice_whole main_v0_1 (((cfgM m hO).win 6).rect (pointOf i)))).mpr (Rect.mem_set_unit.mpr (covered i))⟩

theorem final7 : (dats m hO 0 c).arrAt 7 (cfgM m hO).N = G7 m c :=
  (dats m hO 0 c).arrAt_eq_of_cover 7 (G7 m c) (flushed7 m hO c) fun (i : S128x1024.Idx) => ⟨pointOf i, (flush0_7 _ _).mpr (at_seven i),
    (congrArg (i ∈ ·) (View.set_slice_whole main_v0_2 (((cfgM m hO).win 7).rect (pointOf i)))).mpr (Rect.mem_set_unit.mpr (covered i))⟩

theorem final8 : (dats m hO 0 c).arrAt 8 (cfgM m hO).N = G8 m c :=
  (dats m hO 0 c).arrAt_eq_of_cover 8 (G8 m c) (flushed8 m hO c) fun (i : S128x1024.Idx) => ⟨pointOf i, (flush0_8 _ _).mpr (at_seven i),
    (congrArg (i ∈ ·) (View.set_slice_whole main_v0_3 (((cfgM m hO).win 8).rect (pointOf i)))).mpr (Rect.mem_set_unit.mpr (covered i))⟩

/-- The run: the results, and the arguments unchanged. -/
theorem run (ρ : Dev nD → PrngReg) (hO : Ok m) : θ_run defs (onTc (τ := τ) (main (F := Ideal))) ⟨m, fun _ => 0, ρ⟩ fun r => ∀ c : Dev nD,
      r.2.mem ((c : Thread nD τ).loc main_v0_0) = G5 m c
      ∧ r.2.mem ((c : Thread nD τ).loc main_v0_1) = G6 m c
      ∧ r.2.mem ((c : Thread nD τ).loc main_v0_2) = G7 m c
      ∧ r.2.mem ((c : Thread nD τ).loc main_v0_3) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.1 c).1 5).trans (final5 m hO c), ((h.1 c).1 6).trans (final6 m hO c),
    ((h.1 c).1 7).trans (final7 m hO c), ((h.1 c).1 8).trans (final8 m hO c), h.2.1 c⟩)
    (θ_run_and (run_main m ρ hO) (Gen.frame m ρ hO))

end Cert.Kernel22Ideal.Final
-- ==== Proof.ReduceOutReference.lean ====
/-
  The optimiser's step on the mix's weights: what the reference leaves in its four results.
-/
module

public import proofs.«01_k».proof.Proof.Gen.Reference22Ideal.Read
public import proofs.«01_k».proof.Proof.Optimiser

@[expose] public section

set_option maxRecDepth 16384

noncomputable section

namespace Cert.Reference22Ideal.Final

open Idealize.ShloMosaic Idealize.ShloMosaic.TcCoe Idealize.SL.Sem
open Cert.Reference22Ideal Cert.Reference22Ideal.Read

section Step

variable (own received : Vec Ideal S8x128x1024 .f32) (p : IVec S1 32) (w x y : Vec Ideal S128x1024 .f32)

/-- The gradients' sum over the devices. -/
def sum (i : S128x1024.Idx) : EReal :=
  Optimiser.gathered (p (ix1 0)) (fun d r j => own (ix3 d r j)) (fun d r j => received (ix3 d r j)) (i 0) (i 1)

/-- Every device asks whether it is the one at the position. -/
theorem chosen (d : Fin 8) (r : Fin 128) (j : Fin 1024) :
    val_main_call0_v0 (F := Ideal) p (ix3 d r j) = Scalar.cmpi .eq (BitVec.ofNat 32 d.val) (p (ix1 0)) := by
  pointwise [val_main_call0_v0, val_main_v4, val_main_v3, val_main_v2, val_main_v1, val_main_v0]
  rfl

theorem sum_eq (r : Fin 128) (j : Fin 1024) : val_main_v6 (F := Ideal) own received p (ix2 r j) = sum own received p (ix2 r j) := by
  unfold sum Optimiser.gathered
  have h : ∀ d : Fin 8, val_main_v5 (F := Ideal) own received p (ix3 d r j)
      = if BitVec.ofNat 32 d.val = p (ix1 0) then own (ix3 d r j) else received (ix3 d r j) := fun d => by
    rw [← Optimiser.select_eq, ← chosen]
    rfl
  refine Eq.trans ?_ (Finset.sum_congr rfl fun d _ => h d)
  unfold val_main_v6
  generalize val_main_v5 (F := Ideal) own received p = q
  pointwise [val_main_cst]

theorem mean (i : S128x1024.Idx) : val_main_v11 (F := Ideal) own received p x i = Optimiser.mean (val_main_v6 (F := Ideal) own received p i) (x i) := by
  unfold val_main_v11 val_main_v10
  generalize val_main_v6 (F := Ideal) own received p = g
  pointwise [val_main_v9, val_main_v8, val_main_v7, val_main_cst_0, val_main_cst_1]
  rfl

theorem square (i : S128x1024.Idx) : val_main_v17 (F := Ideal) own received p y i = Optimiser.square (val_main_v6 (F := Ideal) own received p i) (y i) := by
  unfold val_main_v17 val_main_v16 val_main_v14
  generalize val_main_v6 (F := Ideal) own received p = g
  pointwise [val_main_v15, val_main_v13, val_main_v12, val_main_cst_2, val_main_cst_3]
  rfl

theorem change (i : S128x1024.Idx) : val_main_v30 (F := Ideal) own received p w x y i
    = Optimiser.change (w i) (val_main_v6 (F := Ideal) own received p i) (x i) (y i) := by
  have h := mean own received p x i
  have h' := square own received p y i
  unfold val_main_v30 val_main_v28 val_main_v25 val_main_v24 val_main_v22 val_main_v21 val_main_v19
  generalize val_main_v11 (F := Ideal) own received p x = a at h
  generalize val_main_v17 (F := Ideal) own received p y = b at h'
  pointwise [val_main_v29, val_main_v27, val_main_v26, val_main_v23, val_main_v20, val_main_v18, val_main_cst_4, val_main_cst_5,
    val_main_cst_6, val_main_cst_7, val_main_cst_8]
  rw [h, h']
  rfl

end Step

variable (m : (ℓ : Loc nD τ sig) → Buf (Elt Ideal) ℓ) (ρ : Dev nD → PrngReg)

/-- The gradients' sum over the devices, of the arguments. -/
abbrev G (c : Dev nD) : S128x1024.Idx → EReal := sum (m ((c : Thread nD τ).loc main_arg0)) (m ((c : Thread nD τ).loc main_arg1)) (m ((c : Thread nD τ).loc main_arg2))

theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_v30) = ((fun i => Optimiser.change (m ((c : Thread nD τ).loc main_arg3) i) (G m c i)
          (m ((c : Thread nD τ).loc main_arg4) i) (m ((c : Thread nD τ).loc main_arg5) i)) : S128x1024.Idx → EReal)
      ∧ r.2.mem ((c : Thread nD τ).loc main_v11) = ((fun i => Optimiser.mean (G m c i) (m ((c : Thread nD τ).loc main_arg4) i)) : S128x1024.Idx → EReal)
      ∧ r.2.mem ((c : Thread nD τ).loc main_v17) = ((fun i => Optimiser.square (G m c i) (m ((c : Thread nD τ).loc main_arg5) i)) : S128x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => by
    obtain ⟨h0, h1, h2, h3, hargs⟩ := h c
    have g : val_main_v6 (F := Ideal) (m ((c : Thread nD τ).loc main_arg0)) (m ((c : Thread nD τ).loc main_arg1)) (m ((c : Thread nD τ).loc main_arg2)) = G m c :=
      funext fun i => by
        obtain ⟨r, j, rfl⟩ : ∃ r j, i = ix2 r j := ⟨i 0, i 1, eq_ix2 i⟩
        exact sum_eq _ _ _ r j
    refine ⟨(h0.trans (val_main_v6_eq ..)).trans g, (h1.trans (val_main_v30_eq ..)).trans (funext fun i => (change ..).trans ?_),
      (h2.trans (val_main_v11_eq ..)).trans (funext fun i => (mean ..).trans ?_),
      (h3.trans (val_main_v17_eq ..)).trans (funext fun i => (square ..).trans ?_), hargs⟩ <;> rw [g])
    (Value.run m ρ)

end Cert.Reference22Ideal.Final
-- ==== Proof.ReducePosition.lean ====
/-
  What the precondition on the device's position says: the position is one of the eight devices, so that the block of the
  device's own gradient lies inside its array.
-/
module

public import proofs.«01_k».proof.Defs
public import proofs.«01_k».proof.Proof.Gen.Kernel22.Frame
public import proofs.«01_k».proof.Proof.Gen.Kernel22Ideal.Frame

@[expose] public section

set_option maxRecDepth 16384

noncomputable section

open Idealize.ShloMosaic Idealize.ShloMosaic.TcCoe

namespace Cert.Pre_position

theorem facts : Facts := ⟨by decide⟩

theorem one (i j : S1.Idx) : i = j := funext fun a => match a with | ⟨0, _⟩ => Subsingleton.elim (α := Fin 1) _ _

/-- A word that is at least zero and less than eight, as signed words, is less than eight. -/
theorem less (a : BitVec 32) (h : IntOp.cmpi .sge a 0#32 &&& IntOp.cmpi .slt a 8#32 = 1#1) : a.toNat < 8 := by
  have h0 : a.toInt ≥ 0 := by
    by_contra hn
    simp [IntOp.cmpi, BitVec.sle, BitVec.slt, hn] at h
  have h8 : a.toInt < 8 := by
    by_contra hn
    simp [IntOp.cmpi, BitVec.sle, BitVec.slt, hn] at h
  rw [BitVec.toInt_eq_toNat_cond] at h0 h8
  split at h0 <;> omega

attribute [local instance] facts

theorem position_lt {F : FTy → Type} [FloatOps F] (x0 x1 : FVec F S8x128x1024 .f32) (p : IVec S1 32) (x3 x4 x5 : FVec F S128x1024 .f32)
    (h : fn (F := F) x0 x1 p x3 x4 x5 = fun _ => 1#1) (i : S1.Idx) : (p i).toNat < 8 := by
  have h' := congrFun h (fun a => a.elim0)
  refine less _ (Eq.trans ?_ h')
  unfold fn
  show _ = IntOp.cmpi .sge (p _) 0#32 &&& IntOp.cmpi .slt (p _) 8#32
  rw [one i]

end Cert.Pre_position

namespace Cert.Kernel22.Final

open Cert.Kernel22 Cert.Kernel22.Gen

attribute [local instance] Cert.Pre_position.facts

/-- A position among the eight leaves the block inside the array. -/
theorem ok (m : (ℓ : Loc nD τ sig) → Buf (Elt Bits) ℓ) (h : Cert.Pre_Kernel22 m) : Ok m := fun i => by
  have hp : cc0_transform_0 inb_S1_S1_0 numel1_S1 (tbl m) i 0 < 8 := Cert.Pre_position.position_lt _ _ _ _ _ _ (h 0) _
  refine ⟨fun a => ?_, Or.inl rfl⟩
  match a with
  | ⟨0, _⟩ => show (cc0_transform_0 inb_S1_S1_0 numel1_S1 (tbl m) i 0 + 1) * 1 ≤ 8; omega
  | ⟨1, _⟩ =>
    have : (i 0).val < 2 := (i 0).isLt
    show ((BitVec.ofNat 32 (i 0).val).toNat + 1) * 64 ≤ 128
    rw [BitVec.toNat_ofNat]
    omega
  | ⟨2, _⟩ => show (0 + 1) * 1024 ≤ 1024; omega

end Cert.Kernel22.Final

namespace Cert.Kernel22Ideal.Final

open Cert.Kernel22Ideal Cert.Kernel22Ideal.Gen

attribute [local instance] Cert.Pre_position.facts

theorem ok (m : (ℓ : Loc nD τ sig) → Buf (Elt Ideal) ℓ) (h : Cert.Pre_Kernel22Ideal m) : Ok m := fun i => by
  have hp : cc0_transform_0 inb_S1_S1_0 numel1_S1 (tbl m) i 0 < 8 := Cert.Pre_position.position_lt _ _ _ _ _ _ (h 0) _
  refine ⟨fun a => ?_, Or.inl rfl⟩
  match a with
  | ⟨0, _⟩ => show (cc0_transform_0 inb_S1_S1_0 numel1_S1 (tbl m) i 0 + 1) * 1 ≤ 8; omega
  | ⟨1, _⟩ =>
    have : (i 0).val < 2 := (i 0).isLt
    show ((BitVec.ofNat 32 (i 0).val).toNat + 1) * 64 ≤ 128
    rw [BitVec.toNat_ofNat]
    omega
  | ⟨2, _⟩ => show (0 + 1) * 1024 ≤ 1024; omega

end Cert.Kernel22Ideal.Final
-- ==== Proof.Body.lean ====
/-
  What one grid point of the kernel leaves in its four output blocks, as the printed operations of its input blocks:
  at the first point the two running sums start from the stored zeros, at every later point from what the point before
  left.
-/
module

public import proofs.«01_k».proof.Proof.Gen.KernelIdeal.Value

@[expose] public section

set_option maxRecDepth 16384

noncomputable section

namespace Cert.KernelIdeal.Body

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- The block of the gradient of the sum of the residual branches. -/
abbrev dh1Blk (x0 : Vec F S512x2816 .bf16) (x1 : Vec F S2816x1024 .bf16) (x2 : Vec F S512x2816 .bf16)
    (x3 : Vec F S2816x1024 .bf16) (x4 x5 : Vec F S512x1024 .f32) (x7 : Vec F S1x1024 .f32) : FVec F S512x1024 .f32 :=
  k0_pay9 (k0_pay2 x0 x1 x2 x3) (k0_pay6 x5) (k0_pay7 x5) x4 x7

/-- The block of the gradient of the mixed branch. -/
abbrev dmixedBlk (x0 : Vec F S512x2816 .bf16) (x1 : Vec F S2816x1024 .bf16) (x2 : Vec F S512x2816 .bf16)
    (x3 : Vec F S2816x1024 .bf16) (x4 x5 x6 : Vec F S512x1024 .f32) (x7 x8 : Vec F S1x1024 .f32) : FVec F S512x1024 .bf16 :=
  k0_pay1 (k0_pay10 x6) (k0_pay11 x6) (k0_pay13 (k0_pay2 x0 x1 x2 x3) (k0_pay6 x5) (k0_pay7 x5) x4 x7 x8)
    (k0_pay14 (k0_pay2 x0 x1 x2 x3) (k0_pay6 x5) (k0_pay7 x5) x4 x7 x6 x8)

/-- The running sum for the inner scale, after a point that finds it at `xo`. -/
abbrev dpreBlk (x0 : Vec F S512x2816 .bf16) (x1 : Vec F S2816x1024 .bf16) (x2 : Vec F S512x2816 .bf16)
    (x3 : Vec F S2816x1024 .bf16) (x5 : Vec F S512x1024 .f32) (xo : Vec F S1x1024 .f32) : FVec F S1x1024 .f32 :=
  k0_pay8 x0 x1 x2 x3 x5 xo

/-- The running sum for the outer scale, after a point that finds it at `xo`. -/
abbrev dpostBlk (x0 : Vec F S512x2816 .bf16) (x1 : Vec F S2816x1024 .bf16) (x2 : Vec F S512x2816 .bf16)
    (x3 : Vec F S2816x1024 .bf16) (x4 x5 x6 : Vec F S512x1024 .f32) (x7 xo : Vec F S1x1024 .f32) : FVec F S1x1024 .f32 :=
  k0_pay12 (k0_pay2 x0 x1 x2 x3) (k0_pay6 x5) (k0_pay7 x5) x4 x7 x6 xo

section
variable (c : Dev nD) (i : grid0.Coords) (a1 : Memref sig .tc .vmem S512x2816 .bf16) (h1 : a1.IsWhole) (a2 : Memref sig .tc .vmem S2816x1024 .bf16) (h2 : a2.IsWhole) (a3 : Memref sig .tc .vmem S512x2816 .bf16) (h3 : a3.IsWhole) (a4 : Memref sig .tc .vmem S2816x1024 .bf16) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole) (a8 : Memref sig .tc .vmem S1x1024 .f32) (h8 : a8.IsWhole) (a9 : Memref sig .tc .vmem S1x1024 .f32) (h9 : a9.IsWhole) (a10 : Memref sig .tc .vmem S512x1024 .f32) (h10 : a10.IsWhole) (a11 : Memref sig .tc .vmem S512x1024 .bf16) (h11 : a11.IsWhole) (a12 : Memref sig .tc .vmem S1x1024 .f32) (h12 : a12.IsWhole) (a13 : Memref sig .tc .vmem S1x1024 .f32) (h13 : a13.IsWhole)
  (x0 : Vec F S512x2816 .bf16) (x1 : Vec F S2816x1024 .bf16) (x2 : Vec F S512x2816 .bf16)
  (x3 : Vec F S2816x1024 .bf16) (x4 x5 x6 : Vec F S512x1024 .f32) (x7 x8 xo11 xo12 : Vec F S1x1024 .f32)

theorem out_B_9 (hc : ¬cond0_0 i) : out0_B_9 c i a1 h1 a2 h2 a3 h3 a4 h4 a5 h5 a6 h6 a7 h7 a8 h8 a9 h9 a10 h10 a11 h11 a12 h12 a13 h13 hc x0 x1 x2 x3 x4 x5 x6 x7 x8 xo11 xo12 = dh1Blk x0 x1 x2 x3 x4 x5 x7 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 hc x0 x1 x2 x3 x4 x5 x6 x7 x8 xo11 xo12)]
  unfold kernelRun0_B
  dsimp only
  sl_unfold_words
  rw [View.canon_unit_zero (S := S512x1024) hz]
  simp only [View.readAt_eq_ld, h1.read_unread, h2.read_unread, h3.read_unread, h4.read_unread, h5.read_unread, h6.read_unread, h7.read_unread, h8.read_unread, h9.read_unread, h12.read_unread, h13.read_unread, View.ld_unit_zero (S := S512x2816) hz, View.ld_unit_zero (S := S2816x1024) hz, View.ld_unit_zero (S := S512x1024) hz,
    View.ld_unit_zero (S := S1x1024) hz]

theorem out_B_10 (hc : ¬cond0_0 i) : out0_B_10 c i a1 h1 a2 h2 a3 h3 a4 h4 a5 h5 a6 h6 a7 h7 a8 h8 a9 h9 a10 h10 a11 h11 a12 h12 a13 h13 hc x0 x1 x2 x3 x4 x5 x6 x7 x8 xo11 xo12 = dmixedBlk x0 x1 x2 x3 x4 x5 x6 x7 x8 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc x0 x1 x2 x3 x4 x5 x6 x7 x8 xo11 xo12)]
  unfold kernelRun0_B
  dsimp only
  sl_unfold_words
  rw [View.canon_unit_zero (S := S512x1024) hz]
  simp only [View.readAt_eq_ld, h1.read_unread, h2.read_unread, h3.read_unread, h4.read_unread, h5.read_unread, h6.read_unread, h7.read_unread, h8.read_unread, h9.read_unread, h12.read_unread, h13.read_unread, View.ld_unit_zero (S := S512x2816) hz, View.ld_unit_zero (S := S2816x1024) hz, View.ld_unit_zero (S := S512x1024) hz,
    View.ld_unit_zero (S := S1x1024) hz]

theorem out_B_11 (hc : ¬cond0_0 i) : out0_B_11 c i a1 h1 a2 h2 a3 h3 a4 h4 a5 h5 a6 h6 a7 h7 a8 h8 a9 h9 a10 h10 a11 h11 a12 h12 a13 h13 hc x0 x1 x2 x3 x4 x5 x6 x7 x8 xo11 xo12 = dpreBlk x0 x1 x2 x3 x5 xo11 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hc x0 x1 x2 x3 x4 x5 x6 x7 x8 xo11 xo12)]
  unfold kernelRun0_B
  dsimp only
  sl_unfold_words
  rw [View.canon_unit_zero (S := S1x1024) hz]
  simp only [View.readAt_eq_ld, h1.read_unread, h2.read_unread, h3.read_unread, h4.read_unread, h5.read_unread, h6.read_unread, h7.read_unread, h8.read_unread, h9.read_unread, h12.read_unread, h13.read_unread, View.ld_unit_zero (S := S512x2816) hz, View.ld_unit_zero (S := S2816x1024) hz, View.ld_unit_zero (S := S512x1024) hz,
    View.ld_unit_zero (S := S1x1024) hz]

theorem out_B_12 (hc : ¬cond0_0 i) : out0_B_12 c i a1 h1 a2 h2 a3 h3 a4 h4 a5 h5 a6 h6 a7 h7 a8 h8 a9 h9 a10 h10 a11 h11 a12 h12 a13 h13 hc x0 x1 x2 x3 x4 x5 x6 x7 x8 xo11 xo12 = dpostBlk x0 x1 x2 x3 x4 x5 x6 x7 xo12 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 hc x0 x1 x2 x3 x4 x5 x6 x7 x8 xo11 xo12)]
  unfold kernelRun0_B
  dsimp only
  sl_unfold_words
  rw [View.canon_unit_zero (S := S1x1024) hz]
  simp only [View.readAt_eq_ld, h1.read_unread, h2.read_unread, h3.read_unread, h4.read_unread, h5.read_unread, h6.read_unread, h7.read_unread, h8.read_unread, h9.read_unread, h12.read_unread, h13.read_unread, View.ld_unit_zero (S := S512x2816) hz, View.ld_unit_zero (S := S2816x1024) hz, View.ld_unit_zero (S := S512x1024) hz,
    View.ld_unit_zero (S := S1x1024) hz]

theorem out_A_9 (hc : cond0_0 i) : out0_A_9 c i a1 h1 a2 h2 a3 h3 a4 h4 a5 h5 a6 h6 a7 h7 a8 h8 a9 h9 a10 h10 a11 h11 a12 h12 a13 h13 hc x0 x1 x2 x3 x4 x5 x6 x7 x8 = dh1Blk x0 x1 x2 x3 x4 x5 x7 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 hc x0 x1 x2 x3 x4 x5 x6 x7 x8)]
  unfold kernelRun0_A
  dsimp only
  sl_unfold_words
  rw [View.canon_unit_zero (S := S512x1024) hz]
  simp only [View.readAt_eq_ld, h1.read_unread, h2.read_unread, h3.read_unread, h4.read_unread, h5.read_unread, h6.read_unread, h7.read_unread, h8.read_unread, h9.read_unread, h12.read_unread, h13.read_unread, View.ld_unit_zero (S := S512x2816) hz, View.ld_unit_zero (S := S2816x1024) hz, View.ld_unit_zero (S := S512x1024) hz,
    View.ld_unit_zero (S := S1x1024) hz]

theorem out_A_10 (hc : cond0_0 i) : out0_A_10 c i a1 h1 a2 h2 a3 h3 a4 h4 a5 h5 a6 h6 a7 h7 a8 h8 a9 h9 a10 h10 a11 h11 a12 h12 a13 h13 hc x0 x1 x2 x3 x4 x5 x6 x7 x8 = dmixedBlk x0 x1 x2 x3 x4 x5 x6 x7 x8 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc x0 x1 x2 x3 x4 x5 x6 x7 x8)]
  unfold kernelRun0_A
  dsimp only
  sl_unfold_words
  rw [View.canon_unit_zero (S := S512x1024) hz]
  simp only [View.readAt_eq_ld, h1.read_unread, h2.read_unread, h3.read_unread, h4.read_unread, h5.read_unread, h6.read_unread, h7.read_unread, h8.read_unread, h9.read_unread, h12.read_unread, h13.read_unread, View.ld_unit_zero (S := S512x2816) hz, View.ld_unit_zero (S := S2816x1024) hz, View.ld_unit_zero (S := S512x1024) hz,
    View.ld_unit_zero (S := S1x1024) hz]

theorem out_A_11 (hc : cond0_0 i) : out0_A_11 c i a1 h1 a2 h2 a3 h3 a4 h4 a5 h5 a6 h6 a7 h7 a8 h8 a9 h9 a10 h10 a11 h11 a12 h12 a13 h13 hc x0 x1 x2 x3 x4 x5 x6 x7 x8 = dpreBlk x0 x1 x2 x3 x5 k0_pay3 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc x0 x1 x2 x3 x4 x5 x6 x7 x8)]
  unfold kernelRun0_A
  dsimp only
  sl_unfold_words
  rw [View.canon_cons_unit_zero (S := S1x1024) hz]
  simp only [View.readCov_unit_zero (S := S1x1024) _ hz, View.readAt_eq_ld, h1.read_unread, h2.read_unread, h3.read_unread, h4.read_unread, h5.read_unread, h6.read_unread, h7.read_unread, h8.read_unread, h9.read_unread, h12.read_unread, h13.read_unread, View.ld_unit_zero (S := S512x2816) hz, View.ld_unit_zero (S := S2816x1024) hz, View.ld_unit_zero (S := S512x1024) hz,
    View.ld_unit_zero (S := S1x1024) hz]

theorem out_A_12 (hc : cond0_0 i) : out0_A_12 c i a1 h1 a2 h2 a3 h3 a4 h4 a5 h5 a6 h6 a7 h7 a8 h8 a9 h9 a10 h10 a11 h11 a12 h12 a13 h13 hc x0 x1 x2 x3 x4 x5 x6 x7 x8 = dpostBlk x0 x1 x2 x3 x4 x5 x6 x7 k0_pay4 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 hc x0 x1 x2 x3 x4 x5 x6 x7 x8)]
  unfold kernelRun0_A
  dsimp only
  sl_unfold_words
  rw [View.canon_cons_unit_zero (S := S1x1024) hz]
  simp only [View.readCov_unit_zero (S := S1x1024) _ hz, View.readAt_eq_ld, h1.read_unread, h2.read_unread, h3.read_unread, h4.read_unread, h5.read_unread, h6.read_unread, h7.read_unread, h8.read_unread, h9.read_unread, h12.read_unread, h13.read_unread, View.ld_unit_zero (S := S512x2816) hz, View.ld_unit_zero (S := S2816x1024) hz, View.ld_unit_zero (S := S512x1024) hz,
    View.ld_unit_zero (S := S1x1024) hz]

end

end Cert.KernelIdeal.Body
-- ==== Proof.BlockValue.lean ====
/-
  What one grid point leaves, read at an index over the extended reals: each block is the specification's row function
  of the rows of the point's input blocks.
-/
module

public import proofs.«01_k».proof.Proof.Body
public import proofs.«01_k».proof.Proof.Spec

@[expose] public section

set_option maxRecDepth 16384

noncomputable section

namespace Cert.KernelIdeal.Body

open Idealize.ShloMosaic Idealize.ShloMosaic.TcCoe Idealize.SL.Sem
open Cert.KernelIdeal Cert.KernelIdeal.Gen

/-- Row `r` of a block. -/
abbrev row {R : ℕ} (x : (⟨2, ![R, 1024]⟩ : Shape).Idx → EReal) (r : Fin R) : Fin 1024 → EReal := fun j => x (ix2 r j)

variable (x0 : Vec Ideal S512x2816 .bf16) (x1 : Vec Ideal S2816x1024 .bf16) (x2 : Vec Ideal S512x2816 .bf16)
  (x3 : Vec Ideal S2816x1024 .bf16) (x4 x5 x6 : Vec Ideal S512x1024 .f32) (x7 x8 xo : Vec Ideal S1x1024 .f32)

/-- The product block: the two halves' products, added. -/
theorem pay2_apply (r : Fin 512) (j : Fin 1024) :
    k0_pay2 (F := Ideal) x0 x1 x2 x3 (ix2 r j) = (∑ k, x0 (ix2 r k) * x1 (ix2 k j)) + ∑ k, x2 (ix2 r k) * x3 (ix2 k j) := by
  pointwise [k0_pay2]

theorem dh1Blk_apply (r : Fin 512) (j : Fin 1024) :
    dh1Blk (F := Ideal) x0 x1 x2 x3 x4 x5 x7 (ix2 r j)
      = MidBackward.dh1 (row (k0_pay2 x0 x1 x2 x3) r) (row x4 r) (row x5 r) (row x7 0) j := by
  unfold dh1Blk
  generalize k0_pay2 x0 x1 x2 x3 = d
  pointwise [k0_pay9, k0_pay7, k0_pay6, k0_pay5]
  rfl

theorem dmixedBlk_apply (r : Fin 512) (j : Fin 1024) :
    dmixedBlk (F := Ideal) x0 x1 x2 x3 x4 x5 x6 x7 x8 (ix2 r j)
      = MidBackward.dmixed (row (dh1Blk x0 x1 x2 x3 x4 x5 x7) r) (row x6 r) (row x8 0) j := by
  unfold dmixedBlk dh1Blk k0_pay14 k0_pay13
  generalize k0_pay9 (k0_pay2 x0 x1 x2 x3) (k0_pay6 x5) (k0_pay7 x5) x4 x7 = g
  pointwise [k0_pay1, k0_pay11, k0_pay10]
  rfl

theorem dpreBlk_apply (u : Fin 1) (j : Fin 1024) :
    dpreBlk (F := Ideal) x0 x1 x2 x3 x5 xo (ix2 u j)
      = xo (ix2 0 j) + ∑ r : Fin 512, MidBackward.dscale (row (k0_pay2 x0 x1 x2 x3) r) (row x5 r) j := by
  obtain rfl : u = 0 := Subsingleton.elim _ _
  unfold dpreBlk k0_pay8
  generalize k0_pay2 x0 x1 x2 x3 = d
  pointwise [k0_pay7, k0_pay6, k0_pay5]
  rfl

theorem dpostBlk_apply (u : Fin 1) (j : Fin 1024) :
    dpostBlk (F := Ideal) x0 x1 x2 x3 x4 x5 x6 x7 xo (ix2 u j)
      = xo (ix2 0 j) + ∑ r : Fin 512, MidBackward.dscale (row (dh1Blk x0 x1 x2 x3 x4 x5 x7) r) (row x6 r) j := by
  obtain rfl : u = 0 := Subsingleton.elim _ _
  unfold dpostBlk dh1Blk k0_pay12
  generalize k0_pay9 (k0_pay2 x0 x1 x2 x3) (k0_pay6 x5) (k0_pay7 x5) x4 x7 = g
  pointwise [k0_pay11, k0_pay10]
  rfl

theorem pay3_apply (i : S1x1024.Idx) : k0_pay3 (F := Ideal) i = 0 := by
  pointwise [k0_pay3]

theorem pay4_apply (i : S1x1024.Idx) : k0_pay4 (F := Ideal) i = 0 := by
  pointwise [k0_pay4]

end Cert.KernelIdeal.Body
-- ==== Proof.HostValue.lean ====
/-
  The arrays the kernel's host code prepares, and the blocks of them that a grid point reads, at an index over the
  extended reals: point `t` reads rows `512 t … 512 t + 511` of the row arrays and the whole of the others.
-/
module

public import proofs.«01_k».proof.Proof.Gen.KernelIdeal.Value
public import proofs.«01_k».proof.Proof.Spec
public import Idealize.ShloMosaic.Lib.StableHlo.ReadAt

@[expose] public section

set_option maxRecDepth 16384

noncomputable section

namespace Cert.KernelIdeal.Host

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The arguments, as the specification takes them. -/
def args : MidBackward.Args where
  x t j := (m ((c : Thread nD τ).loc main_arg0) : S8192x1024.Idx → EReal) (ix2 t j)
  mixed t j := (m ((c : Thread nD τ).loc main_arg1) : S8192x1024.Idx → EReal) (ix2 t j)
  post j := (m ((c : Thread nD τ).loc main_arg2) : S1x1024.Idx → EReal) (ix2 0 j)
  pre j := (m ((c : Thread nD τ).loc main_arg3) : S1x1024.Idx → EReal) (ix2 0 j)
  wup j k := (m ((c : Thread nD τ).loc main_arg4) : S1024x5632.Idx → EReal) (ix2 j k)
  dy t j := (m ((c : Thread nD τ).loc main_arg5) : S8192x1024.Idx → EReal) (ix2 t j)
  dhup t k := (m ((c : Thread nD τ).loc main_arg6) : S8192x5632.Idx → EReal) (ix2 t k)

theorem V_residual (t : Fin 8192) (j : Fin 1024) :
    (V m c main_v12 : S8192x1024.Idx → EReal) (ix2 t j) = (args m c).h t j := by
  unfold V hostOps0
  after_reads_at
  rfl

theorem V_gate (t : Fin 8192) (k : Fin 2816) :
    (V m c main_v14 : S8192x2816.Idx → EReal) (ix2 t k) = (args m c).dhup t ⟨k.val, by omega⟩ := by
  unfold V hostOps0
  after_reads_at
  rfl

theorem V_val (t : Fin 8192) (k : Fin 2816) :
    (V m c main_v16 : S8192x2816.Idx → EReal) (ix2 t k) = (args m c).dhup t ⟨2816 + k.val, by omega⟩ := by
  unfold V hostOps0
  after_reads_at
  rfl

theorem V_weights (k : Fin 5632) (j : Fin 1024) :
    (V m c main_v18 : S5632x1024.Idx → EReal) (ix2 k j) = (args m c).wup j k := by
  unfold V hostOps0
  after_reads_at
  rfl

/-- Where a point's blocks lie: the row blocks move with the point, the others do not. -/
theorem index_rows : ∀ t : Fin cfg0.N,
    (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) :=
  (by decide +kernel : ∀ t : Fin grid0.N,
    (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0)
    ∧ (win0_6.index t 0 = t.val ∧ win0_6.index t 1 = 0))

theorem index_whole : ∀ t : Fin cfg0.N,
    (win0_1.index t 0 = 0 ∧ win0_1.index t 1 = 0) ∧ (win0_3.index t 0 = 1 ∧ win0_3.index t 1 = 0)
    ∧ (win0_7.index t 0 = 0 ∧ win0_7.index t 1 = 0) ∧ (win0_8.index t 0 = 0 ∧ win0_8.index t 1 = 0) :=
  (by decide +kernel : ∀ t : Fin grid0.N,
    (win0_1.index t 0 = 0 ∧ win0_1.index t 1 = 0) ∧ (win0_3.index t 0 = 1 ∧ win0_3.index t 1 = 0)
    ∧ (win0_7.index t 0 = 0 ∧ win0_7.index t 1 = 0) ∧ (win0_8.index t 0 = 0 ∧ win0_8.index t 1 = 0))

/-- Row `r` of point `t`'s block is row `512 t + r` of the array. -/
def rowOf (t : Fin cfg0.N) (r : Fin 512) : Fin 8192 :=
  ⟨512 * t.val + r.val, by have h : cfg0.N = 16 := N_0; have := t.isLt; omega⟩

theorem iblk0 (t : Fin cfg0.N) (r : Fin 512) (k : Fin 2816) :
    (iblk m c 0 t : S512x2816.Idx → EReal) (ix2 r k) = (args m c).dhup (rowOf t r) ⟨k.val, by omega⟩ := by
  rw [← V_gate]
  unfold iblk
  rw [View.read_apply]
  refine congrArg (V m c main_v14) (funext fun a => Fin.ext ?_)
  obtain ⟨h0, h1⟩ := (index_rows t).1
  match a with
  | ⟨0, _⟩ => show win0_0.index t 0 * 512 + 1 * r.val = 512 * t.val + r.val; rw [h0]; omega
  | ⟨1, _⟩ => show win0_0.index t 1 * 2816 + 1 * k.val = k.val; rw [h1]; omega

theorem iblk2 (t : Fin cfg0.N) (r : Fin 512) (k : Fin 2816) :
    (iblk m c 2 t : S512x2816.Idx → EReal) (ix2 r k) = (args m c).dhup (rowOf t r) ⟨2816 + k.val, by omega⟩ := by
  rw [← V_val]
  unfold iblk
  rw [View.read_apply]
  refine congrArg (V m c main_v16) (funext fun a => Fin.ext ?_)
  obtain ⟨h0, h1⟩ := (index_rows t).2.1
  match a with
  | ⟨0, _⟩ => show win0_2.index t 0 * 512 + 1 * r.val = 512 * t.val + r.val; rw [h0]; omega
  | ⟨1, _⟩ => show win0_2.index t 1 * 2816 + 1 * k.val = k.val; rw [h1]; omega

theorem iblk1 (t : Fin cfg0.N) (k : Fin 2816) (j : Fin 1024) :
    (iblk m c 1 t : S2816x1024.Idx → EReal) (ix2 k j) = (args m c).wup j ⟨k.val, by omega⟩ := by
  rw [← V_weights]
  unfold iblk
  rw [View.read_apply]
  refine congrArg (V m c main_v18) (funext fun a => Fin.ext ?_)
  obtain ⟨h0, h1⟩ := (index_whole t).1
  match a with
  | ⟨0, _⟩ => show win0_1.index t 0 * 2816 + 1 * k.val = k.val; rw [h0]; omega
  | ⟨1, _⟩ => show win0_1.index t 1 * 1024 + 1 * j.val = j.val; rw [h1]; omega

theorem iblk3 (t : Fin cfg0.N) (k : Fin 2816) (j : Fin 1024) :
    (iblk m c 3 t : S2816x1024.Idx → EReal) (ix2 k j) = (args m c).wup j ⟨2816 + k.val, by omega⟩ := by
  rw [← V_weights]
  unfold iblk
  rw [View.read_apply]
  refine congrArg (V m c main_v18) (funext fun a => Fin.ext ?_)
  obtain ⟨h0, h1⟩ := (index_whole t).2.1
  match a with
  | ⟨0, _⟩ => show win0_3.index t 0 * 2816 + 1 * k.val = 2816 + k.val; rw [h0]; omega
  | ⟨1, _⟩ => show win0_3.index t 1 * 1024 + 1 * j.val = j.val; rw [h1]; omega

theorem iblk4 (t : Fin cfg0.N) (r : Fin 512) (j : Fin 1024) :
    (iblk m c 4 t : S512x1024.Idx → EReal) (ix2 r j) = (args m c).dy (rowOf t r) j := by
  show _ = (m ((c : Thread nD τ).loc main_arg5) : S8192x1024.Idx → EReal) (ix2 (rowOf t r) j)
  rw [← V_main_arg5 m c]
  unfold iblk
  rw [View.read_apply]
  refine congrArg (V m c main_arg5) (funext fun a => Fin.ext ?_)
  obtain ⟨h0, h1⟩ := (index_rows t).2.2.1
  match a with
  | ⟨0, _⟩ => show win0_4.index t 0 * 512 + 1 * r.val = 512 * t.val + r.val; rw [h0]; omega
  | ⟨1, _⟩ => show win0_4.index t 1 * 1024 + 1 * j.val = j.val; rw [h1]; omega

theorem iblk5 (t : Fin cfg0.N) (r : Fin 512) (j : Fin 1024) :
    (iblk m c 5 t : S512x1024.Idx → EReal) (ix2 r j) = (args m c).h (rowOf t r) j := by
  rw [← V_residual]
  unfold iblk
  rw [View.read_apply]
  refine congrArg (V m c main_v12) (funext fun a => Fin.ext ?_)
  obtain ⟨h0, h1⟩ := (index_rows t).2.2.2.1
  match a with
  | ⟨0, _⟩ => show win0_5.index t 0 * 512 + 1 * r.val = 512 * t.val + r.val; rw [h0]; omega
  | ⟨1, _⟩ => show win0_5.index t 1 * 1024 + 1 * j.val = j.val; rw [h1]; omega

theorem iblk6 (t : Fin cfg0.N) (r : Fin 512) (j : Fin 1024) :
    (iblk m c 6 t : S512x1024.Idx → EReal) (ix2 r j) = (args m c).mixed (rowOf t r) j := by
  show _ = (m ((c : Thread nD τ).loc main_arg1) : S8192x1024.Idx → EReal) (ix2 (rowOf t r) j)
  rw [← V_main_arg1 m c]
  unfold iblk
  rw [View.read_apply]
  refine congrArg (V m c main_arg1) (funext fun a => Fin.ext ?_)
  obtain ⟨h0, h1⟩ := (index_rows t).2.2.2.2
  match a with
  | ⟨0, _⟩ => show win0_6.index t 0 * 512 + 1 * r.val = 512 * t.val + r.val; rw [h0]; omega
  | ⟨1, _⟩ => show win0_6.index t 1 * 1024 + 1 * j.val = j.val; rw [h1]; omega

theorem iblk7 (t : Fin cfg0.N) (j : Fin 1024) :
    (iblk m c 7 t : S1x1024.Idx → EReal) (ix2 0 j) = (args m c).pre j := by
  show _ = (m ((c : Thread nD τ).loc main_arg3) : S1x1024.Idx → EReal) (ix2 0 j)
  rw [← V_main_arg3 m c]
  unfold iblk
  rw [View.read_apply]
  refine congrArg (V m c main_arg3) (funext fun a => Fin.ext ?_)
  obtain ⟨h0, h1⟩ := (index_whole t).2.2.1
  match a with
  | ⟨0, _⟩ => show win0_7.index t 0 * 1 + 1 * 0 = 0; rw [h0]
  | ⟨1, _⟩ => show win0_7.index t 1 * 1024 + 1 * j.val = j.val; rw [h1]; omega

theorem iblk8 (t : Fin cfg0.N) (j : Fin 1024) :
    (iblk m c 8 t : S1x1024.Idx → EReal) (ix2 0 j) = (args m c).post j := by
  show _ = (m ((c : Thread nD τ).loc main_arg2) : S1x1024.Idx → EReal) (ix2 0 j)
  rw [← V_main_arg2 m c]
  unfold iblk
  rw [View.read_apply]
  refine congrArg (V m c main_arg2) (funext fun a => Fin.ext ?_)
  obtain ⟨h0, h1⟩ := (index_whole t).2.2.2
  match a with
  | ⟨0, _⟩ => show win0_8.index t 0 * 1 + 1 * 0 = 0; rw [h0]
  | ⟨1, _⟩ => show win0_8.index t 1 * 1024 + 1 * j.val = j.val; rw [h1]; omega

end Cert.KernelIdeal.Host
-- ==== Proof.Final.lean ====
/-
  What the kernel's four result arrays hold after the run: every point writes its rows of the two row arrays, and the
  last point writes the two running sums, which by then have met every row.
-/
module

public import proofs.«01_k».proof.Proof.BlockValue
public import proofs.«01_k».proof.Proof.HostValue

@[expose] public section

set_option maxRecDepth 16384

noncomputable section

namespace Cert.KernelIdeal.Final

open Idealize.ShloMosaic Idealize.ShloMosaic.TcCoe Idealize.SL.Sem
open Cert.KernelIdeal Cert.KernelIdeal.Gen Cert.KernelIdeal.Body Cert.KernelIdeal.Host MidBackward

variable (m : (ℓ : Loc nD τ sig) → Buf (Elt Ideal) ℓ) (ρ : Dev nD → PrngReg) (c : Dev nD)

/-! ## The rows of a point's blocks -/

/-- A row of the product block is the cotangent row of the normalised, scaled rows. -/
theorem row_product (t : Fin cfg0.N) (r : Fin 512) :
    row (k0_pay2 (F := Ideal) (iblk m c 0 t) (iblk m c 1 t) (iblk m c 2 t) (iblk m c 3 t)) r = (args m c).d (rowOf t r) := by
  funext j
  show k0_pay2 (F := Ideal) (iblk m c 0 t) (iblk m c 1 t) (iblk m c 2 t) (iblk m c 3 t) (ix2 r j) = _
  rw [pay2_apply]
  simp only [iblk0, iblk1, iblk2, iblk3]
  exact sum_halves fun k => (args m c).dhup (rowOf t r) k * (args m c).wup j k

theorem row_dy (t : Fin cfg0.N) (r : Fin 512) : row (iblk m c 4 t) r = (args m c).dy (rowOf t r) := funext (iblk4 m c t r)
theorem row_h (t : Fin cfg0.N) (r : Fin 512) : row (iblk m c 5 t) r = (args m c).h (rowOf t r) := funext (iblk5 m c t r)
theorem row_mixed (t : Fin cfg0.N) (r : Fin 512) : row (iblk m c 6 t) r = (args m c).mixed (rowOf t r) := funext (iblk6 m c t r)
theorem row_pre (t : Fin cfg0.N) : row (iblk m c 7 t) (0 : Fin 1) = (args m c).pre := funext (iblk7 m c t)
theorem row_post (t : Fin cfg0.N) : row (iblk m c 8 t) (0 : Fin 1) = (args m c).post := funext (iblk8 m c t)

/-- A row of the block of the residual stream's gradient. -/
theorem row_dh1 (t : Fin cfg0.N) (r : Fin 512) :
    row (dh1Blk (F := Ideal) (iblk m c 0 t) (iblk m c 1 t) (iblk m c 2 t) (iblk m c 3 t) (iblk m c 4 t) (iblk m c 5 t) (iblk m c 7 t)) r
      = (args m c).dh1 (rowOf t r) := by
  funext j
  show dh1Blk (F := Ideal) (iblk m c 0 t) (iblk m c 1 t) (iblk m c 2 t) (iblk m c 3 t) (iblk m c 4 t) (iblk m c 5 t) (iblk m c 7 t) (ix2 r j) = _
  rw [dh1Blk_apply, row_product, row_dy, row_h, row_pre]; rfl

/-- A row of the block of the mixed branch's gradient. -/
theorem row_dmixed (t : Fin cfg0.N) (r : Fin 512) (j : Fin 1024) :
    dmixedBlk (F := Ideal) (iblk m c 0 t) (iblk m c 1 t) (iblk m c 2 t) (iblk m c 3 t) (iblk m c 4 t) (iblk m c 5 t) (iblk m c 6 t)
      (iblk m c 7 t) (iblk m c 8 t) (ix2 r j) = (args m c).dmixed (rowOf t r) j := by
  rw [dmixedBlk_apply, row_dh1, row_mixed, row_post]; rfl

/-! ## What the staging buffers hold after a point -/

theorem after_dh1 (t : Fin cfg0.N) (r : Fin 512) (j : Fin 1024) :
    ((outsAt0 m c t.val t.isLt).1 : S512x1024.Idx → EReal) (ix2 r j) = (args m c).dh1 (rowOf t r) j := by
  rw [← congrFun (row_dh1 m c t r) j]
  by_cases h : t.val % 16 = 0
  · rw [outsAt0_A m c t h]; dsimp only; rw [out_A_9]
  · rw [outsAt0_B m c t h]; dsimp only; rw [out_B_9]

theorem after_dmixed (t : Fin cfg0.N) (r : Fin 512) (j : Fin 1024) :
    ((outsAt0 m c t.val t.isLt).2.1 : S512x1024.Idx → EReal) (ix2 r j) = (args m c).dmixed (rowOf t r) j := by
  rw [← row_dmixed m c t r j]
  by_cases h : t.val % 16 = 0
  · rw [outsAt0_A m c t h]; dsimp only; rw [out_A_10]
  · rw [outsAt0_B m c t h]; dsimp only; rw [out_B_10]

/-- The sum of `f` over the rows of the points up to point `n`. -/
def upTo (f : Fin 8192 → EReal) (n : ℕ) (h : n < cfg0.N) : EReal :=
  ∑ s : Fin (n + 1), ∑ r : Fin 512, f (rowOf ⟨s.val, by omega⟩ r)

theorem upTo_zero (f : Fin 8192 → EReal) (h : 0 < cfg0.N) : upTo f 0 h = ∑ r : Fin 512, f (rowOf ⟨0, h⟩ r) :=
  Fin.sum_univ_one _

theorem upTo_succ (f : Fin 8192 → EReal) (n : ℕ) (h : n + 1 < cfg0.N) :
    upTo f (n + 1) h = upTo f n (Nat.lt_of_succ_lt h) + ∑ r : Fin 512, f (rowOf ⟨n + 1, h⟩ r) :=
  Fin.sum_univ_castSucc _

/-- The running sum for the inner scale after point `n`. -/
theorem after_dpre (j : Fin 1024) : ∀ (n : ℕ) (h : n < cfg0.N),
    ((outsAt0 m c n h).2.2.1 : S1x1024.Idx → EReal) (ix2 0 j) = upTo (fun t => dscale ((args m c).d t) ((args m c).h t) j) n h
  | 0, h => by
    rw [outsAt0_A m c ⟨0, h⟩ rfl]; dsimp only
    rw [out_A_11, dpreBlk_apply, pay3_apply, zero_add, upTo_zero]
    simp only [row_product, row_h]
  | n + 1, h => by
    have hB : ¬(⟨n + 1, h⟩ : Fin cfg0.N).val % 16 = 0 := by have : cfg0.N = 16 := N_0; dsimp only; omega
    rw [outsAt0_B m c ⟨n + 1, h⟩ hB]; dsimp only
    rw [out_B_11, dpreBlk_apply, upTo_succ, ← after_dpre j n]
    simp only [row_product, row_h]; rfl

/-- The running sum for the outer scale after point `n`. -/
theorem after_dpost (j : Fin 1024) : ∀ (n : ℕ) (h : n < cfg0.N),
    ((outsAt0 m c n h).2.2.2 : S1x1024.Idx → EReal) (ix2 0 j) = upTo (fun t => dscale ((args m c).dh1 t) ((args m c).mixed t) j) n h
  | 0, h => by
    rw [outsAt0_A m c ⟨0, h⟩ rfl]; dsimp only
    rw [out_A_12, dpostBlk_apply, pay4_apply, zero_add, upTo_zero]
    simp only [row_dh1, row_mixed]
  | n + 1, h => by
    have hB : ¬(⟨n + 1, h⟩ : Fin cfg0.N).val % 16 = 0 := by have : cfg0.N = 16 := N_0; dsimp only; omega
    rw [outsAt0_B m c ⟨n + 1, h⟩ hB]; dsimp only
    rw [out_B_12, dpostBlk_apply, upTo_succ, ← after_dpost j n]
    simp only [row_dh1, row_mixed]; rfl

/-! ## The result arrays -/

/-- The four results. -/
abbrev G0 : S8192x1024.Idx → EReal := fun i => (args m c).dh1 (i 0) (i 1)
abbrev G1 : S8192x1024.Idx → EReal := fun i => (args m c).dmixed (i 0) (i 1)
abbrev G2 : S1x1024.Idx → EReal := fun i => (args m c).dpre (i 1)
abbrev G3 : S1x1024.Idx → EReal := fun i => (args m c).dpost (i 1)

theorem index_out : ∀ t : Fin cfg0.N,
    (win0_9.index t 0 = t.val ∧ win0_9.index t 1 = 0) ∧ (win0_10.index t 0 = t.val ∧ win0_10.index t 1 = 0)
    ∧ (win0_11.index t 0 = 0 ∧ win0_11.index t 1 = 0) ∧ (win0_12.index t 0 = 0 ∧ win0_12.index t 1 = 0) :=
  (by decide +kernel : ∀ t : Fin grid0.N,
    (win0_9.index t 0 = t.val ∧ win0_9.index t 1 = 0) ∧ (win0_10.index t 0 = t.val ∧ win0_10.index t 1 = 0)
    ∧ (win0_11.index t 0 = 0 ∧ win0_11.index t 1 = 0) ∧ (win0_12.index t 0 = 0 ∧ win0_12.index t 1 = 0))

theorem flushed_dh1 (t : Fin cfg0.N) (_ : (cfg0.win 9).flush t = true) :
    (dats m 0 c).flushed 9 t = ((cfg0.win 9).blk t).view.read (Elt Ideal) (G0 m c) := by
  rw [Value.flushed9]
  funext i
  obtain ⟨r, j, rfl⟩ : ∃ r j, i = ix2 r j := ⟨i 0, i 1, eq_ix2 i⟩
  rw [View.read_apply]
  refine (after_dh1 m c t r j).trans (congrArg (G0 m c) (funext fun a => Fin.ext ?_) : G0 m c (ix2 (rowOf t r) j) = _)
  obtain ⟨h0, h1⟩ := (index_out t).1
  match a with
  | ⟨0, _⟩ => show 512 * t.val + r.val = win0_9.index t 0 * 512 + 1 * r.val; rw [h0]; omega
  | ⟨1, _⟩ => show j.val = win0_9.index t 1 * 1024 + 1 * j.val; rw [h1]; omega

theorem flushed_dmixed (t : Fin cfg0.N) (_ : (cfg0.win 10).flush t = true) :
    (dats m 0 c).flushed 10 t = ((cfg0.win 10).blk t).view.read (Elt Ideal) (G1 m c) := by
  rw [Value.flushed10]
  funext i
  obtain ⟨r, j, rfl⟩ : ∃ r j, i = ix2 r j := ⟨i 0, i 1, eq_ix2 i⟩
  rw [View.read_apply]
  refine (after_dmixed m c t r j).trans (congrArg (G1 m c) (funext fun a => Fin.ext ?_) : G1 m c (ix2 (rowOf t r) j) = _)
  obtain ⟨h0, h1⟩ := (index_out t).2.1
  match a with
  | ⟨0, _⟩ => show 512 * t.val + r.val = win0_10.index t 0 * 512 + 1 * r.val; rw [h0]; omega
  | ⟨1, _⟩ => show j.val = win0_10.index t 1 * 1024 + 1 * j.val; rw [h1]; omega

/-- The last point is the only one that writes the running sums back. -/
theorem last_of_flush (t : Fin cfg0.N) (h : t.val % 16 = 15) : t = t0_15 := by
  have hN : cfg0.N = 16 := N_0
  have := t.isLt
  exact Fin.ext (by show t.val = 15; omega)

theorem upTo_last (f : Fin 8192 → EReal) : upTo f t0_15.val t0_15.isLt = ∑ t, f t := sum_blocks f

theorem flushed_dpre (t : Fin cfg0.N) (hf : (cfg0.win 11).flush t = true) :
    (dats m 0 c).flushed 11 t = ((cfg0.win 11).blk t).view.read (Elt Ideal) (G2 m c) := by
  obtain rfl := last_of_flush t ((flush0_11 t).mp hf)
  rw [Value.flushed11]
  funext i
  obtain ⟨u, j, rfl⟩ : ∃ u j, i = ix2 u j := ⟨i 0, i 1, eq_ix2 i⟩
  obtain rfl : u = 0 := Subsingleton.elim _ _
  rw [View.read_apply]
  refine ((after_dpre m c j _ _).trans (upTo_last _)).trans
    (congrArg (G2 m c) (funext fun a => Fin.ext ?_) : G2 m c (ix2 0 j) = _)
  obtain ⟨h0, h1⟩ := (index_out t0_15).2.2.1
  match a with
  | ⟨0, _⟩ => show 0 = win0_11.index t0_15 0 * 1 + 1 * 0; rw [h0]
  | ⟨1, _⟩ => show j.val = win0_11.index t0_15 1 * 1024 + 1 * j.val; rw [h1]; omega

theorem flushed_dpost (t : Fin cfg0.N) (hf : (cfg0.win 12).flush t = true) :
    (dats m 0 c).flushed 12 t = ((cfg0.win 12).blk t).view.read (Elt Ideal) (G3 m c) := by
  obtain rfl := last_of_flush t ((flush0_12 t).mp hf)
  rw [Value.flushed12]
  funext i
  obtain ⟨u, j, rfl⟩ : ∃ u j, i = ix2 u j := ⟨i 0, i 1, eq_ix2 i⟩
  obtain rfl : u = 0 := Subsingleton.elim _ _
  rw [View.read_apply]
  refine ((after_dpost m c j _ _).trans (upTo_last _)).trans
    (congrArg (G3 m c) (funext fun a => Fin.ext ?_) : G3 m c (ix2 0 j) = _)
  obtain ⟨h0, h1⟩ := (index_out t0_15).2.2.2
  match a with
  | ⟨0, _⟩ => show 0 = win0_12.index t0_15 0 * 1 + 1 * 0; rw [h0]
  | ⟨1, _⟩ => show j.val = win0_12.index t0_15 1 * 1024 + 1 * j.val; rw [h1]; omega

/-- Row `t` is in the block of point `t / 512`. -/
def pointOf (i : S8192x1024.Idx) : Fin cfg0.N :=
  ⟨(i 0).val / 512, by have h : cfg0.N = 16 := N_0; have : (i 0 : Nat) < 8192 := (i 0).isLt; omega⟩

theorem final_dh1 : (dats m 0 c).arrAt 9 cfg0.N = G0 m c :=
  (dats m 0 c).arrAt_eq_of_cover 9 (G0 m c) (flushed_dh1 m c) fun i => ⟨pointOf i, flush0_9 _, by
    show i ∈ ((View.whole main_v19_0).slice (win0_9.rect (pointOf i))).set
    rw [View.set_slice_whole, Rect.mem_set_unit]
    obtain ⟨h0, h1⟩ := (index_out (pointOf i)).1
    have hp : (pointOf i).val = (i 0).val / 512 := rfl
    have : (i 1 : Nat) < 1024 := (i 1).isLt
    intro a
    match a with
    | ⟨0, _⟩ => show win0_9.index (pointOf i) 0 * 512 ≤ (i 0 : Nat) ∧ (i 0 : Nat) < win0_9.index (pointOf i) 0 * 512 + 512; rw [h0]; omega
    | ⟨1, _⟩ => show win0_9.index (pointOf i) 1 * 1024 ≤ (i 1 : Nat) ∧ (i 1 : Nat) < win0_9.index (pointOf i) 1 * 1024 + 1024; rw [h1]; omega⟩

theorem final_dmixed : (dats m 0 c).arrAt 10 cfg0.N = G1 m c :=
  (dats m 0 c).arrAt_eq_of_cover 10 (G1 m c) (flushed_dmixed m c) fun i => ⟨pointOf i, flush0_10 _, by
    show i ∈ ((View.whole main_v19_1).slice (win0_10.rect (pointOf i))).set
    rw [View.set_slice_whole, Rect.mem_set_unit]
    obtain ⟨h0, h1⟩ := (index_out (pointOf i)).2.1
    have hp : (pointOf i).val = (i 0).val / 512 := rfl
    have : (i 1 : Nat) < 1024 := (i 1).isLt
    intro a
    match a with
    | ⟨0, _⟩ => show win0_10.index (pointOf i) 0 * 512 ≤ (i 0 : Nat) ∧ (i 0 : Nat) < win0_10.index (pointOf i) 0 * 512 + 512; rw [h0]; omega
    | ⟨1, _⟩ => show win0_10.index (pointOf i) 1 * 1024 ≤ (i 1 : Nat) ∧ (i 1 : Nat) < win0_10.index (pointOf i) 1 * 1024 + 1024; rw [h1]; omega⟩

theorem final_dpre : (dats m 0 c).arrAt 11 cfg0.N = G2 m c :=
  (dats m 0 c).arrAt_eq_of_cover 11 (G2 m c) (flushed_dpre m c) fun i => ⟨t0_15, (flush0_11 t0_15).mpr rfl, by
    show i ∈ ((View.whole main_v19_2).slice (win0_11.rect t0_15)).set
    rw [View.set_slice_whole, Rect.mem_set_unit]
    obtain ⟨h0, h1⟩ := (index_out t0_15).2.2.1
    have : (i 0 : Nat) < 1 := (i 0).isLt
    have : (i 1 : Nat) < 1024 := (i 1).isLt
    intro a
    match a with
    | ⟨0, _⟩ => show win0_11.index t0_15 0 * 1 ≤ (i 0 : Nat) ∧ (i 0 : Nat) < win0_11.index t0_15 0 * 1 + 1; rw [h0]; omega
    | ⟨1, _⟩ => show win0_11.index t0_15 1 * 1024 ≤ (i 1 : Nat) ∧ (i 1 : Nat) < win0_11.index t0_15 1 * 1024 + 1024; rw [h1]; omega⟩

theorem final_dpost : (dats m 0 c).arrAt 12 cfg0.N = G3 m c :=
  (dats m 0 c).arrAt_eq_of_cover 12 (G3 m c) (flushed_dpost m c) fun i => ⟨t0_15, (flush0_12 t0_15).mpr rfl, by
    show i ∈ ((View.whole main_v19_3).slice (win0_12.rect t0_15)).set
    rw [View.set_slice_whole, Rect.mem_set_unit]
    obtain ⟨h0, h1⟩ := (index_out t0_15).2.2.2
    have : (i 0 : Nat) < 1 := (i 0).isLt
    have : (i 1 : Nat) < 1024 := (i 1).isLt
    intro a
    match a with
    | ⟨0, _⟩ => show win0_12.index t0_15 0 * 1 ≤ (i 0 : Nat) ∧ (i 0 : Nat) < win0_12.index t0_15 0 * 1 + 1; rw [h0]; omega
    | ⟨1, _⟩ => show win0_12.index t0_15 1 * 1024 ≤ (i 1 : Nat) ∧ (i 1 : Nat) < win0_12.index t0_15 1 * 1024 + 1024; rw [h1]; omega⟩

/-- The run: the four results, and the arguments unchanged. -/
theorem run : θ_run defs (onTc (τ := τ) (main (F := Ideal))) ⟨m, fun _ => 0, ρ⟩ fun r => ∀ c : Dev nD,
      r.2.mem ((c : Thread nD τ).loc main_v19_0) = G0 m c
      ∧ r.2.mem ((c : Thread nD τ).loc main_v19_1) = G1 m c
      ∧ r.2.mem ((c : Thread nD τ).loc main_v19_2) = G2 m c
      ∧ r.2.mem ((c : Thread nD τ).loc main_v19_3) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => by
    obtain ⟨h0, h1, h2, h3, hargs⟩ := h c
    exact ⟨h0.trans (final_dh1 m c), h1.trans (final_dmixed m c), h2.trans (final_dpre m c), h3.trans (final_dpost m c), hargs⟩)
    (Value.run_blocks m ρ)

end Cert.KernelIdeal.Final
-- ==== Proof.ReferenceValue.lean ====
/-
  What the reference computes, at an index over the extended reals: its four results are the specification's.
-/
module

public import proofs.«01_k».proof.Proof.Gen.ReferenceIdeal.Read
public import proofs.«01_k».proof.Proof.Spec
public import Idealize.ShloMosaic.Lib.Tactic

@[expose] public section

set_option maxRecDepth 16384

noncomputable section

namespace Cert.ReferenceIdeal.Stages

open Idealize.ShloMosaic Idealize.ShloMosaic.TcCoe Idealize.SL.Sem
open Cert.ReferenceIdeal Cert.ReferenceIdeal.Read RmsBackward

variable (x0 x1 : (⟨S8192x1024, .f32⟩ : BufTy).Contents (Elt Ideal)) (x2 x3 : (⟨S1x1024, .f32⟩ : BufTy).Contents (Elt Ideal))
  (x4 : (⟨S1024x5632, .f32⟩ : BufTy).Contents (Elt Ideal)) (x5 : (⟨S8192x1024, .f32⟩ : BufTy).Contents (Elt Ideal))
  (x6 : (⟨S8192x5632, .f32⟩ : BufTy).Contents (Elt Ideal))

/-- The arguments, as the specification takes them. -/
def args : MidBackward.Args where
  x t j := (x0 : S8192x1024.Idx → EReal) (ix2 t j)
  mixed t j := (x1 : S8192x1024.Idx → EReal) (ix2 t j)
  post j := (x2 : S1x1024.Idx → EReal) (ix2 0 j)
  pre j := (x3 : S1x1024.Idx → EReal) (ix2 0 j)
  wup j k := (x4 : S1024x5632.Idx → EReal) (ix2 j k)
  dy t j := (x5 : S8192x1024.Idx → EReal) (ix2 t j)
  dhup t k := (x6 : S8192x5632.Idx → EReal) (ix2 t k)

theorem v6 (t : Fin 8192) (u : Fin 1) : val_main_v6 (F := Ideal) x1 (ix2 t u) = ms ((args x0 x1 x2 x3 x4 x5 x6).mixed t) := by
  obtain rfl : u = 0 := Subsingleton.elim _ _
  pointwise [val_main_v6, val_main_v5, val_main_cst_1, val_main_v4, val_main_v3, val_main_cst_0, val_main_v2, val_main_v1,
    val_main_cst, val_main_v0]
  rfl

theorem v7 (t : Fin 8192) (u : Fin 1) : val_main_v7 (F := Ideal) x1 (ix2 t u) = inv ((args x0 x1 x2 x3 x4 x5 x6).mixed t) := by
  rw [val_main_v7_apply, v6 x0 x1 x2 x3 x4 x5 x6]
  rfl

theorem v12 (t : Fin 8192) (j : Fin 1024) : val_main_v12 (F := Ideal) x1 (ix2 t j) = hat ((args x0 x1 x2 x3 x4 x5 x6).mixed t) j := by
  have h := v7 x0 x1 x2 x3 x4 x5 x6 t 0
  unfold val_main_v12 val_main_v11
  generalize val_main_v7 (F := Ideal) x1 = y at h
  pointwise
  rw [h]; rfl

theorem v15 (t : Fin 8192) (j : Fin 1024) : val_main_v15 (F := Ideal) x0 x1 x2 (ix2 t j) = (args x0 x1 x2 x3 x4 x5 x6).h t j := by
  have h := v12 x0 x1 x2 x3 x4 x5 x6 t j
  unfold val_main_v15 val_main_v14 val_main_v13
  generalize val_main_v12 (F := Ideal) x1 = y at h
  pointwise
  rw [h]; rfl

theorem v22 (t : Fin 8192) (u : Fin 1) : val_main_v22 (F := Ideal) x0 x1 x2 (ix2 t u) = ms ((args x0 x1 x2 x3 x4 x5 x6).h t) := by
  obtain rfl : u = 0 := Subsingleton.elim _ _
  have h := v15 x0 x1 x2 x3 x4 x5 x6 t
  unfold val_main_v22 val_main_v20 val_main_v18 val_main_v17 val_main_v16
  generalize val_main_v15 (F := Ideal) x0 x1 x2 = y at h
  pointwise [val_main_v21, val_main_cst_5, val_main_v19, val_main_cst_4, val_main_cst_3]
  simp only [h]; rfl

theorem v23 (t : Fin 8192) (u : Fin 1) : val_main_v23 (F := Ideal) x0 x1 x2 (ix2 t u) = inv ((args x0 x1 x2 x3 x4 x5 x6).h t) := by
  rw [val_main_v23_apply, v22 x0 x1 x2 x3 x4 x5 x6]
  rfl

theorem v28 (t : Fin 8192) (j : Fin 1024) : val_main_v28 (F := Ideal) x0 x1 x2 (ix2 t j) = hat ((args x0 x1 x2 x3 x4 x5 x6).h t) j := by
  have h := v23 x0 x1 x2 x3 x4 x5 x6 t 0
  have h' := v15 x0 x1 x2 x3 x4 x5 x6 t j
  unfold val_main_v28 val_main_v27
  generalize val_main_v23 (F := Ideal) x0 x1 x2 = y at h
  generalize val_main_v15 (F := Ideal) x0 x1 x2 = y' at h'
  pointwise
  rw [h, h']; rfl

theorem v32 (t : Fin 8192) (j : Fin 1024) : val_main_v32 (F := Ideal) x4 x6 (ix2 t j) = (args x0 x1 x2 x3 x4 x5 x6).d t j := by
  pointwise [val_main_v32]
  rfl

/-- The gradient of the inner scale. -/
theorem v35 (u : Fin 1) (j : Fin 1024) : val_main_v35 (F := Ideal) x0 x1 x2 x4 x6 (ix2 u j) = (args x0 x1 x2 x3 x4 x5 x6).dpre j := by
  obtain rfl : u = 0 := Subsingleton.elim _ _
  have h := v28 x0 x1 x2 x3 x4 x5 x6
  have h' := v32 x0 x1 x2 x3 x4 x5 x6
  unfold val_main_v35 val_main_v34 val_main_v33
  generalize val_main_v28 (F := Ideal) x0 x1 x2 = y at h
  generalize val_main_v32 (F := Ideal) x4 x6 = y' at h'
  pointwise [val_main_cst_7]
  simp only [h, h', mul_comm (hat _ _)]; rfl

theorem v37 (t : Fin 8192) (j : Fin 1024) : val_main_v37 (F := Ideal) x3 x4 x6 (ix2 t j) = (args x0 x1 x2 x3 x4 x5 x6).d t j * (args x0 x1 x2 x3 x4 x5 x6).pre j := by
  have h' := v32 x0 x1 x2 x3 x4 x5 x6 t j
  unfold val_main_v37 val_main_v36
  generalize val_main_v32 (F := Ideal) x4 x6 = y' at h'
  pointwise
  rw [h']; rfl

/-- The cotangent of the inner sum of squares, copied along the row. -/
theorem v48 (t : Fin 8192) (j : Fin 1024) :
    val_main_v48 (F := Ideal) x0 x1 x2 x3 x4 x6 (ix2 t j) = slope ((args x0 x1 x2 x3 x4 x5 x6).h t) fun k => (args x0 x1 x2 x3 x4 x5 x6).d t k * (args x0 x1 x2 x3 x4 x5 x6).pre k := by
  have h15 := v15 x0 x1 x2 x3 x4 x5 x6 t
  have h22 := v22 x0 x1 x2 x3 x4 x5 x6 t 0
  have h23 := v23 x0 x1 x2 x3 x4 x5 x6 t 0
  have h37 := v37 x0 x1 x2 x3 x4 x5 x6 t
  unfold val_main_v48 val_main_v47 val_main_v46 val_main_v44 val_main_v40 val_main_v39 val_main_v38 val_main_v26 val_main_v24
  generalize val_main_v15 (F := Ideal) x0 x1 x2 = y15 at h15
  generalize val_main_v22 (F := Ideal) x0 x1 x2 = y22 at h22
  generalize val_main_v23 (F := Ideal) x0 x1 x2 = y23 at h23
  generalize val_main_v37 (F := Ideal) x3 x4 x6 = y37 at h37
  pointwise [val_main_cst_10, val_main_v45, val_main_cst_9, val_main_cst_8, val_main_v25, val_main_cst_6]
  simp only [h15, h22, h23, h37, Fin.sum_univ_one]; rfl

/-- The gradient of the residual stream. -/
theorem v52 (t : Fin 8192) (j : Fin 1024) : val_main_v52 (F := Ideal) x0 x1 x2 x3 x4 x5 x6 (ix2 t j) = (args x0 x1 x2 x3 x4 x5 x6).dh1 t j := by
  have h15 := v15 x0 x1 x2 x3 x4 x5 x6 t j
  have h23 := v23 x0 x1 x2 x3 x4 x5 x6 t 0
  have h37 := v37 x0 x1 x2 x3 x4 x5 x6 t j
  have h48 := v48 x0 x1 x2 x3 x4 x5 x6 t j
  show _ = (args x0 x1 x2 x3 x4 x5 x6).dy t j + grad ((args x0 x1 x2 x3 x4 x5 x6).h t) (fun k => (args x0 x1 x2 x3 x4 x5 x6).d t k * (args x0 x1 x2 x3 x4 x5 x6).pre k) j
  rw [← vjp_eq_grad]
  unfold vjp
  unfold val_main_v52 val_main_v51 val_main_v50 val_main_v49 val_main_v43 val_main_v42 val_main_v41
  generalize val_main_v15 (F := Ideal) x0 x1 x2 = y15 at h15
  generalize val_main_v23 (F := Ideal) x0 x1 x2 = y23 at h23
  generalize val_main_v37 (F := Ideal) x3 x4 x6 = y37 at h37
  generalize val_main_v48 (F := Ideal) x0 x1 x2 x3 x4 x6 = y48 at h48
  pointwise
  rw [h15, h23, h37, h48, add_assoc, add_assoc, add_assoc]; rfl

theorem v53 (t : Fin 8192) (j : Fin 1024) : val_main_v53 (F := Ideal) x0 x1 x2 x3 x4 x5 x6 (ix2 t j) = (args x0 x1 x2 x3 x4 x5 x6).dh1 t j := by
  have h := v52 x0 x1 x2 x3 x4 x5 x6 t j
  unfold val_main_v53
  generalize val_main_v52 (F := Ideal) x0 x1 x2 x3 x4 x5 x6 = y at h
  pointwise
  exact h

/-- The gradient of the outer scale. -/
theorem v56 (u : Fin 1) (j : Fin 1024) : val_main_v56 (F := Ideal) x0 x1 x2 x3 x4 x5 x6 (ix2 u j) = (args x0 x1 x2 x3 x4 x5 x6).dpost j := by
  obtain rfl : u = 0 := Subsingleton.elim _ _
  have h := v12 x0 x1 x2 x3 x4 x5 x6
  have h' := v53 x0 x1 x2 x3 x4 x5 x6
  unfold val_main_v56 val_main_v55 val_main_v54
  generalize val_main_v12 (F := Ideal) x1 = y at h
  generalize val_main_v53 (F := Ideal) x0 x1 x2 x3 x4 x5 x6 = y' at h'
  pointwise [val_main_cst_11]
  simp only [h, h', mul_comm (hat _ _)]; rfl

theorem v58 (t : Fin 8192) (j : Fin 1024) :
    val_main_v58 (F := Ideal) x0 x1 x2 x3 x4 x5 x6 (ix2 t j) = (args x0 x1 x2 x3 x4 x5 x6).dh1 t j * (args x0 x1 x2 x3 x4 x5 x6).post j := by
  have h' := v53 x0 x1 x2 x3 x4 x5 x6 t j
  unfold val_main_v58 val_main_v57
  generalize val_main_v53 (F := Ideal) x0 x1 x2 x3 x4 x5 x6 = y' at h'
  pointwise
  rw [h']; rfl

/-- The cotangent of the outer sum of squares, copied along the row. -/
theorem v68 (t : Fin 8192) (j : Fin 1024) :
    val_main_v68 (F := Ideal) x0 x1 x2 x3 x4 x5 x6 (ix2 t j) = slope ((args x0 x1 x2 x3 x4 x5 x6).mixed t) fun k => (args x0 x1 x2 x3 x4 x5 x6).dh1 t k * (args x0 x1 x2 x3 x4 x5 x6).post k := by
  have h6 := v6 x0 x1 x2 x3 x4 x5 x6 t 0
  have h7 := v7 x0 x1 x2 x3 x4 x5 x6 t 0
  have h58 := v58 x0 x1 x2 x3 x4 x5 x6 t
  unfold val_main_v68 val_main_v67 val_main_v66 val_main_v64 val_main_v61 val_main_v60 val_main_v59 val_main_v10 val_main_v8
  generalize val_main_v6 (F := Ideal) x1 = y6 at h6
  generalize val_main_v7 (F := Ideal) x1 = y7 at h7
  generalize val_main_v58 (F := Ideal) x0 x1 x2 x3 x4 x5 x6 = y58 at h58
  pointwise [val_main_cst_14, val_main_v65, val_main_cst_13, val_main_cst_12, val_main_v9, val_main_cst_2]
  simp only [h6, h7, h58, Fin.sum_univ_one]; rfl

/-- The gradient of the mixed branch. -/
theorem v73 (t : Fin 8192) (j : Fin 1024) :
    (val_main_v73 (F := Ideal) x0 x1 x2 x3 x4 x5 x6 : S8192x1024.Idx → EReal) (ix2 t j) = (args x0 x1 x2 x3 x4 x5 x6).dmixed t j := by
  have h7 := v7 x0 x1 x2 x3 x4 x5 x6 t 0
  have h58 := v58 x0 x1 x2 x3 x4 x5 x6 t j
  have h68 := v68 x0 x1 x2 x3 x4 x5 x6 t j
  show _ = grad ((args x0 x1 x2 x3 x4 x5 x6).mixed t) (fun k => (args x0 x1 x2 x3 x4 x5 x6).dh1 t k * (args x0 x1 x2 x3 x4 x5 x6).post k) j
  rw [← vjp_eq_grad]
  unfold vjp
  unfold val_main_v73 val_main_v72 val_main_v71 val_main_v70 val_main_v69 val_main_v63 val_main_v62
  generalize val_main_v7 (F := Ideal) x1 = y7 at h7
  generalize val_main_v58 (F := Ideal) x0 x1 x2 x3 x4 x5 x6 = y58 at h58
  generalize val_main_v68 (F := Ideal) x0 x1 x2 x3 x4 x5 x6 = y68 at h68
  pointwise
  rw [h7, h58, h68]; rfl

end Cert.ReferenceIdeal.Stages
-- ==== Proof.ReferenceFinal.lean ====
/-
  The reference's run, with its four results in the specification's words.
-/
module

public import proofs.«01_k».proof.Proof.Gen.ReferenceIdeal.Run
public import proofs.«01_k».proof.Proof.ReferenceValue

@[expose] public section

set_option maxRecDepth 16384

noncomputable section

namespace Cert.ReferenceIdeal.Final

open Idealize.ShloMosaic Idealize.ShloMosaic.TcCoe Idealize.SL.Sem
open Cert.ReferenceIdeal

variable (m : (ℓ : Loc nD τ sig) → Buf (Elt Ideal) ℓ) (ρ : Dev nD → PrngReg)

/-- The arguments on device `c`. -/
abbrev args (c : Dev nD) : MidBackward.Args :=
  Stages.args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem run : θ_run defs (onTc (τ := τ) (main (F := Ideal))) ⟨m, fun _ => 0, ρ⟩ fun r => ∀ c : Dev nD,
      r.2.mem ((c : Thread nD τ).loc main_v52) = (fun i => (args m c).dh1 (i 0) (i 1) : S8192x1024.Idx → EReal)
      ∧ r.2.mem ((c : Thread nD τ).loc main_v73) = (fun i => (args m c).dmixed (i 0) (i 1) : S8192x1024.Idx → EReal)
      ∧ r.2.mem ((c : Thread nD τ).loc main_v35) = (fun i => (args m c).dpre (i 1) : S1x1024.Idx → EReal)
      ∧ r.2.mem ((c : Thread nD τ).loc main_v56) = (fun i => (args m c).dpost (i 1) : S1x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => by
    obtain ⟨h0, h1, h2, h3, hargs⟩ := h c
    refine ⟨(h0.trans (Read.val_main_v52_eq m c)).trans ?_, (h1.trans (Read.val_main_v73_eq m c)).trans ?_,
      (h2.trans (Read.val_main_v35_eq ..)).trans ?_, (h3.trans (Read.val_main_v56_eq m c)).trans ?_, hargs⟩
    all_goals
      funext i
      obtain ⟨r, j, rfl⟩ : ∃ r j, i = ix2 r j := ⟨i 0, i 1, eq_ix2 i⟩
    · exact Stages.v52 _ _ _ _ _ _ _ r j
    · exact Stages.v73 _ _ _ _ _ _ _ r j
    · exact Stages.v35 _ _ _ _ _ _ _ r j
    · exact Stages.v56 _ _ _ _ _ _ _ r j)
    (Value.run m ρ)

end Cert.ReferenceIdeal.Final
-- ==== Proof.InputBody.lean ====
/-
  The gradient of the block's input: what one grid point of that call leaves in its two output blocks, as the printed
  operations of its input blocks. The running sum starts at the first point from the stored zeros.
-/
module

public import proofs.«01_k».proof.Proof.Gen.Kernel2Ideal.Value

@[expose] public section

set_option maxRecDepth 16384

noncomputable section

namespace Cert.Kernel2Ideal.Body

open Idealize.ShloMosaic Idealize.ShloMosaic.TcCoe Idealize.SL.Sem
open Cert.Kernel2Ideal Cert.Kernel2Ideal.Gen

variable {F : FTy → Type} [FloatOps F] (m : (ℓ : Loc nD τ sig) → Buf (Elt F) ℓ) (c : Dev nD)

theorem hz : (![0, 0] : Fin 2 → Nat) = fun _ => 0 := funext fun a => by fin_cases a <;> rfl

/-- The product block of point `t`: the four parts' products, added. -/
abbrev prod (t : Fin cfg0.N) : FVec F S1024x1024 .f32 :=
  k0_pay5 (iblk m c 0 t) (X0_1 m c t) (iblk m c 2 t) (iblk m c 3 t) (iblk m c 4 t) (iblk m c 5 t) (iblk m c 6 t) (iblk m c 7 t)

/-- The block of the input's gradient. -/
abbrev dxBlk (t : Fin cfg0.N) : FVec F S1024x1024 .f32 :=
  k0_pay4 (prod m c t) (iblk m c 9 t) (k0_pay7 (iblk m c 9 t)) (iblk m c 8 t) (iblk m c 10 t)

/-- The running sum for the scale, after a point that finds it at `xo`. -/
abbrev dgBlk (t : Fin cfg0.N) (xo : Vec F S1x1024 .f32) : FVec F S1x1024 .f32 :=
  k0_pay3 (prod m c t) (iblk m c 9 t) (k0_pay7 (iblk m c 9 t)) xo

theorem after_dx (t : Fin cfg0.N) : (outsAt0 m c t.val t.isLt).1 = dxBlk m c t := by
  by_cases h : t.val % 8 = 0
  · rw [outsAt0_A m c t h]
    dsimp only
    unfold out0_A_11
    rw [View.read_writes_eq_canon _ _ _ (fun _ => cover0_A_11 ..)]
    unfold kernelRun0_A
    dsimp only
    sl_unfold_words
    rw [View.canon_unit_zero (S := S1024x1024) hz]
    simp only [View.readAt_eq_ld, Memref.IsWhole.read_unread, View.ld_unit_zero (S := S1024x1024) hz,
      View.ld_unit_zero (S := S512x1024) hz, View.ld_unit_zero (S := S1x1024) hz]
  · rw [outsAt0_B m c t h]
    dsimp only
    unfold out0_B_11
    rw [View.read_writes_eq_canon _ _ _ (fun _ => cover0_B_11 ..)]
    unfold kernelRun0_B
    dsimp only
    sl_unfold_words
    rw [View.canon_unit_zero (S := S1024x1024) hz]
    simp only [View.readAt_eq_ld, Memref.IsWhole.read_unread, View.ld_unit_zero (S := S1024x1024) hz,
      View.ld_unit_zero (S := S512x1024) hz, View.ld_unit_zero (S := S1x1024) hz]

theorem first_dg (t : Fin cfg0.N) (h : t.val % 8 = 0) : (outsAt0 m c t.val t.isLt).2 = dgBlk m c t k0_pay6 := by
  rw [outsAt0_A m c t h]
  dsimp only
  unfold out0_A_12
  rw [View.read_writes_eq_canon _ _ _ (fun _ => cover0_A_12 ..)]
  unfold kernelRun0_A
  dsimp only
  sl_unfold_words
  rw [View.canon_cons_unit_zero (S := S1x1024) hz]
  simp only [View.readCov_unit_zero (S := S1x1024) _ hz, View.readAt_eq_ld, Memref.IsWhole.read_unread,
    View.ld_unit_zero (S := S1024x1024) hz, View.ld_unit_zero (S := S512x1024) hz, View.ld_unit_zero (S := S1x1024) hz]

theorem next_dg (n : ℕ) (hn : n + 1 < cfg0.N) (h : ¬(n + 1) % 8 = 0) :
    (outsAt0 m c (n + 1) hn).2 = dgBlk m c ⟨n + 1, hn⟩ (outsAt0 m c n (Nat.lt_of_succ_lt hn)).2 := by
  rw [outsAt0_B m c ⟨n + 1, hn⟩ h]
  dsimp only
  unfold out0_B_12
  rw [View.read_writes_eq_canon _ _ _ (fun _ => cover0_B_12 ..)]
  unfold kernelRun0_B
  dsimp only
  sl_unfold_words
  rw [View.canon_unit_zero (S := S1x1024) hz]
  simp only [View.readAt_eq_ld, Memref.IsWhole.read_unread, View.ld_unit_zero (S := S1024x1024) hz,
    View.ld_unit_zero (S := S512x1024) hz, View.ld_unit_zero (S := S1x1024) hz]
  rfl

end Cert.Kernel2Ideal.Body
-- ==== Proof.InputSpec.lean ====
/-
  The gradient of the block's input, over the extended reals: from the residual stream's gradient rows, and from the
  rows `d` of the product of the projections' cotangent with the transposed weights, through the first normalisation.
-/
module

public import proofs.«01_k».proof.Proof.Spec
public import proofs.«01_k».proof.Proof.Sums

@[expose] public section

noncomputable section

namespace InputBackward

open Idealize.ShloMosaic RmsBackward MidBackward

/-- The arrays: the input rows, the scale, the projection's weights, and the two cotangents. -/
@[ext] structure Args where
  x : Fin 8192 → Fin 1024 → EReal
  g : Fin 1024 → EReal
  w : Fin 1024 → Fin 2560 → EReal
  dh : Fin 8192 → Fin 1024 → EReal
  dproj : Fin 8192 → Fin 2560 → EReal

namespace Args

variable (a : Args)

/-- The cotangent of the normalised, scaled rows. -/
def d (t : Fin 8192) (j : Fin 1024) : EReal := ∑ k, a.dproj t k * a.w j k
/-- The gradient of the input. -/
def dx (t : Fin 8192) : Fin 1024 → EReal := MidBackward.dh1 (a.d t) (a.dh t) (a.x t) a.g
/-- The gradient of the scale. -/
def dg (j : Fin 1024) : EReal := ∑ t, dscale (a.d t) (a.x t) j

end Args

/-- A sum over the columns is the sum over the convolution's columns, then over the three projections' columns. -/
theorem sum_parts (f : Fin 2560 → EReal) :
    (∑ k : Fin 1024, f ⟨k.val, by omega⟩) + (∑ k : Fin 512, f ⟨1024 + k.val, by omega⟩)
      + (∑ k : Fin 512, f ⟨1536 + k.val, by omega⟩) + (∑ k : Fin 512, f ⟨2048 + k.val, by omega⟩) = ∑ k, f k := by
  rw [show (∑ k, f k) = _ from Fin.sum_univ_add (a := 2048) (b := 512) f,
    Fin.sum_univ_add (a := 1536) (b := 512), Fin.sum_univ_add (a := 1024) (b := 512)]
  rfl

end InputBackward
-- ==== Proof.InputHost.lean ====
/-
  The gradient of the block's input: the arrays its host code prepares, and the blocks a grid point reads. Point `t`
  reads rows `1024 t … 1024 t + 1023` of the row arrays, the same columns of the three transposed projections'
  cotangents, and the four parts of the transposed weights.
-/
module

public import proofs.«01_k».proof.Proof.InputBody
public import proofs.«01_k».proof.Proof.InputSpec
public import Idealize.ShloMosaic.Lib.StableHlo.ReadAt

@[expose] public section

set_option maxRecDepth 16384

noncomputable section

namespace Cert.Kernel2Ideal.Host

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-- The arguments, as the specification takes them. -/
def args : InputBackward.Args where
  x t j := (m ((c : Thread nD τ).loc main_arg0) : S8192x1024.Idx → EReal) (ix2 t j)
  g j := (m ((c : Thread nD τ).loc main_arg1) : S1x1024.Idx → EReal) (ix2 0 j)
  w j k := (m ((c : Thread nD τ).loc main_arg2) : S1024x2560.Idx → EReal) (ix2 j k)
  dh t j := (m ((c : Thread nD τ).loc main_arg3) : S8192x1024.Idx → EReal) (ix2 t j)
  dproj t k := (m ((c : Thread nD τ).loc main_arg4) : S8192x2560.Idx → EReal) (ix2 t k)

theorem V_conv (t : Fin 8192) (k : Fin 1024) :
    (V m c main_v1 : S8192x1024.Idx → EReal) (ix2 t k) = (args m c).dproj t ⟨k.val, by omega⟩ := by
  unfold V hostOps0
  after_reads_at
  rfl

theorem V_q (k : Fin 512) (t : Fin 8192) :
    (V m c main_v4 : S512x8192.Idx → EReal) (ix2 k t) = (args m c).dproj t ⟨1024 + k.val, by omega⟩ := by
  unfold V hostOps0
  after_reads_at
  rfl

theorem V_k (k : Fin 512) (t : Fin 8192) :
    (V m c main_v7 : S512x8192.Idx → EReal) (ix2 k t) = (args m c).dproj t ⟨1536 + k.val, by omega⟩ := by
  unfold V hostOps0
  after_reads_at
  rfl

theorem V_v (k : Fin 512) (t : Fin 8192) :
    (V m c main_v10 : S512x8192.Idx → EReal) (ix2 k t) = (args m c).dproj t ⟨2048 + k.val, by omega⟩ := by
  unfold V hostOps0
  after_reads_at
  rfl

theorem V_weights (k : Fin 2560) (j : Fin 1024) :
    (V m c main_v12 : S2560x1024.Idx → EReal) (ix2 k j) = (args m c).w j k := by
  unfold V hostOps0
  after_reads_at
  rfl

/-- Where the moving blocks lie. -/
theorem index_moving : ∀ t : Fin cfg0.N,
    (win0_0.index t 0 = t.val ∧ win0_0.index t 1 = 0) ∧ (win0_2.index t 0 = 0 ∧ win0_2.index t 1 = t.val)
    ∧ (win0_4.index t 0 = 0 ∧ win0_4.index t 1 = t.val) ∧ (win0_6.index t 0 = 0 ∧ win0_6.index t 1 = t.val)
    ∧ (win0_8.index t 0 = t.val ∧ win0_8.index t 1 = 0) ∧ (win0_9.index t 0 = t.val ∧ win0_9.index t 1 = 0)
    ∧ (win0_11.index t 0 = t.val ∧ win0_11.index t 1 = 0) :=
  (by decide +kernel : ∀ t : Fin grid0.N,
    (win0_0.index t 0 = t.val ∧ win0_0.index t 1 = 0) ∧ (win0_2.index t 0 = 0 ∧ win0_2.index t 1 = t.val)
    ∧ (win0_4.index t 0 = 0 ∧ win0_4.index t 1 = t.val) ∧ (win0_6.index t 0 = 0 ∧ win0_6.index t 1 = t.val)
    ∧ (win0_8.index t 0 = t.val ∧ win0_8.index t 1 = 0) ∧ (win0_9.index t 0 = t.val ∧ win0_9.index t 1 = 0)
    ∧ (win0_11.index t 0 = t.val ∧ win0_11.index t 1 = 0))

/-- Where the resting blocks lie. -/
theorem index_resting : ∀ t : Fin cfg0.N,
    (win0_1.index t 0 = 0 ∧ win0_1.index t 1 = 0) ∧ (win0_3.index t 0 = 2 ∧ win0_3.index t 1 = 0)
    ∧ (win0_5.index t 0 = 3 ∧ win0_5.index t 1 = 0) ∧ (win0_7.index t 0 = 4 ∧ win0_7.index t 1 = 0)
    ∧ (win0_10.index t 0 = 0 ∧ win0_10.index t 1 = 0) ∧ (win0_12.index t 0 = 0 ∧ win0_12.index t 1 = 0) :=
  (by decide +kernel : ∀ t : Fin grid0.N,
    (win0_1.index t 0 = 0 ∧ win0_1.index t 1 = 0) ∧ (win0_3.index t 0 = 2 ∧ win0_3.index t 1 = 0)
    ∧ (win0_5.index t 0 = 3 ∧ win0_5.index t 1 = 0) ∧ (win0_7.index t 0 = 4 ∧ win0_7.index t 1 = 0)
    ∧ (win0_10.index t 0 = 0 ∧ win0_10.index t 1 = 0) ∧ (win0_12.index t 0 = 0 ∧ win0_12.index t 1 = 0))

/-- Row `r` of point `t`'s block is row `1024 t + r` of the array. -/
def rowOf (t : Fin cfg0.N) (r : Fin 1024) : Fin 8192 :=
  ⟨1024 * t.val + r.val, by have h : cfg0.N = 8 := N_0; have := t.isLt; omega⟩

theorem iblk0 (t : Fin cfg0.N) (r k : Fin 1024) :
    (iblk m c 0 t : S1024x1024.Idx → EReal) (ix2 r k) = (args m c).dproj (rowOf t r) ⟨k.val, by omega⟩ := by
  rw [← V_conv]
  unfold iblk
  rw [View.read_apply]
  refine congrArg (V m c main_v1) (funext fun a => Fin.ext ?_)
  obtain ⟨h0, h1⟩ := (index_moving t).1
  match a with
  | ⟨0, _⟩ => show win0_0.index t 0 * 1024 + 1 * r.val = 1024 * t.val + r.val; rw [h0]; omega
  | ⟨1, _⟩ => show win0_0.index t 1 * 1024 + 1 * k.val = k.val; rw [h1]; omega

theorem X1 (t : Fin cfg0.N) (k j : Fin 1024) :
    (X0_1 m c t : S1024x1024.Idx → EReal) (ix2 k j) = (args m c).w j ⟨k.val, by omega⟩ := by
  rw [← V_weights]
  unfold X0_1 Pipeline.Window.fill
  rw [dif_pos (moved0_1 t _)]
  unfold iblk
  rw [View.read_apply]
  refine congrArg (V m c main_v12) (funext fun a => Fin.ext ?_)
  obtain ⟨h0, h1⟩ := (index_resting t).1
  match a with
  | ⟨0, _⟩ => show win0_1.index t 0 * 1024 + 1 * k.val = k.val; rw [h0]; omega
  | ⟨1, _⟩ => show win0_1.index t 1 * 1024 + 1 * j.val = j.val; rw [h1]; omega

theorem iblk2 (t : Fin cfg0.N) (k : Fin 512) (r : Fin 1024) :
    (iblk m c 2 t : S512x1024.Idx → EReal) (ix2 k r) = (args m c).dproj (rowOf t r) ⟨1024 + k.val, by omega⟩ := by
  rw [← V_q]
  unfold iblk
  rw [View.read_apply]
  refine congrArg (V m c main_v4) (funext fun a => Fin.ext ?_)
  obtain ⟨h0, h1⟩ := (index_moving t).2.1
  match a with
  | ⟨0, _⟩ => show win0_2.index t 0 * 512 + 1 * k.val = k.val; rw [h0]; omega
  | ⟨1, _⟩ => show win0_2.index t 1 * 1024 + 1 * r.val = 1024 * t.val + r.val; rw [h1]; omega

theorem iblk4 (t : Fin cfg0.N) (k : Fin 512) (r : Fin 1024) :
    (iblk m c 4 t : S512x1024.Idx → EReal) (ix2 k r) = (args m c).dproj (rowOf t r) ⟨1536 + k.val, by omega⟩ := by
  rw [← V_k]
  unfold iblk
  rw [View.read_apply]
  refine congrArg (V m c main_v7) (funext fun a => Fin.ext ?_)
  obtain ⟨h0, h1⟩ := (index_moving t).2.2.1
  match a with
  | ⟨0, _⟩ => show win0_4.index t 0 * 512 + 1 * k.val = k.val; rw [h0]; omega
  | ⟨1, _⟩ => show win0_4.index t 1 * 1024 + 1 * r.val = 1024 * t.val + r.val; rw [h1]; omega

theorem iblk6 (t : Fin cfg0.N) (k : Fin 512) (r : Fin 1024) :
    (iblk m c 6 t : S512x1024.Idx → EReal) (ix2 k r) = (args m c).dproj (rowOf t r) ⟨2048 + k.val, by omega⟩ := by
  rw [← V_v]
  unfold iblk
  rw [View.read_apply]
  refine congrArg (V m c main_v10) (funext fun a => Fin.ext ?_)
  obtain ⟨h0, h1⟩ := (index_moving t).2.2.2.1
  match a with
  | ⟨0, _⟩ => show win0_6.index t 0 * 512 + 1 * k.val = k.val; rw [h0]; omega
  | ⟨1, _⟩ => show win0_6.index t 1 * 1024 + 1 * r.val = 1024 * t.val + r.val; rw [h1]; omega

theorem iblk3 (t : Fin cfg0.N) (k : Fin 512) (j : Fin 1024) :
    (iblk m c 3 t : S512x1024.Idx → EReal) (ix2 k j) = (args m c).w j ⟨1024 + k.val, by omega⟩ := by
  rw [← V_weights]
  unfold iblk
  rw [View.read_apply]
  refine congrArg (V m c main_v12) (funext fun a => Fin.ext ?_)
  obtain ⟨h0, h1⟩ := (index_resting t).2.1
  match a with
  | ⟨0, _⟩ => show win0_3.index t 0 * 512 + 1 * k.val = 1024 + k.val; rw [h0]; omega
  | ⟨1, _⟩ => show win0_3.index t 1 * 1024 + 1 * j.val = j.val; rw [h1]; omega

theorem iblk5 (t : Fin cfg0.N) (k : Fin 512) (j : Fin 1024) :
    (iblk m c 5 t : S512x1024.Idx → EReal) (ix2 k j) = (args m c).w j ⟨1536 + k.val, by omega⟩ := by
  rw [← V_weights]
  unfold iblk
  rw [View.read_apply]
  refine congrArg (V m c main_v12) (funext fun a => Fin.ext ?_)
  obtain ⟨h0, h1⟩ := (index_resting t).2.2.1
  match a with
  | ⟨0, _⟩ => show win0_5.index t 0 * 512 + 1 * k.val = 1536 + k.val; rw [h0]; omega
  | ⟨1, _⟩ => show win0_5.index t 1 * 1024 + 1 * j.val = j.val; rw [h1]; omega

theorem iblk7 (t : Fin cfg0.N) (k : Fin 512) (j : Fin 1024) :
    (iblk m c 7 t : S512x1024.Idx → EReal) (ix2 k j) = (args m c).w j ⟨2048 + k.val, by omega⟩ := by
  rw [← V_weights]
  unfold iblk
  rw [View.read_apply]
  refine congrArg (V m c main_v12) (funext fun a => Fin.ext ?_)
  obtain ⟨h0, h1⟩ := (index_resting t).2.2.2.1
  match a with
  | ⟨0, _⟩ => show win0_7.index t 0 * 512 + 1 * k.val = 2048 + k.val; rw [h0]; omega
  | ⟨1, _⟩ => show win0_7.index t 1 * 1024 + 1 * j.val = j.val; rw [h1]; omega

theorem iblk8 (t : Fin cfg0.N) (r j : Fin 1024) :
    (iblk m c 8 t : S1024x1024.Idx → EReal) (ix2 r j) = (args m c).dh (rowOf t r) j := by
  show _ = (m ((c : Thread nD τ).loc main_arg3) : S8192x1024.Idx → EReal) (ix2 (rowOf t r) j)
  rw [← V_main_arg3 m c]
  unfold iblk
  rw [View.read_apply]
  refine congrArg (V m c main_arg3) (funext fun a => Fin.ext ?_)
  obtain ⟨h0, h1⟩ := (index_moving t).2.2.2.2.1
  match a with
  | ⟨0, _⟩ => show win0_8.index t 0 * 1024 + 1 * r.val = 1024 * t.val + r.val; rw [h0]; omega
  | ⟨1, _⟩ => show win0_8.index t 1 * 1024 + 1 * j.val = j.val; rw [h1]; omega

theorem iblk9 (t : Fin cfg0.N) (r j : Fin 1024) :
    (iblk m c 9 t : S1024x1024.Idx → EReal) (ix2 r j) = (args m c).x (rowOf t r) j := by
  show _ = (m ((c : Thread nD τ).loc main_arg0) : S8192x1024.Idx → EReal) (ix2 (rowOf t r) j)
  rw [← V_main_arg0 m c]
  unfold iblk
  rw [View.read_apply]
  refine congrArg (V m c main_arg0) (funext fun a => Fin.ext ?_)
  obtain ⟨h0, h1⟩ := (index_moving t).2.2.2.2.2.1
  match a with
  | ⟨0, _⟩ => show win0_9.index t 0 * 1024 + 1 * r.val = 1024 * t.val + r.val; rw [h0]; omega
  | ⟨1, _⟩ => show win0_9.index t 1 * 1024 + 1 * j.val = j.val; rw [h1]; omega

theorem iblk10 (t : Fin cfg0.N) (j : Fin 1024) :
    (iblk m c 10 t : S1x1024.Idx → EReal) (ix2 0 j) = (args m c).g j := by
  show _ = (m ((c : Thread nD τ).loc main_arg1) : S1x1024.Idx → EReal) (ix2 0 j)
  rw [← V_main_arg1 m c]
  unfold iblk
  rw [View.read_apply]
  refine congrArg (V m c main_arg1) (funext fun a => Fin.ext ?_)
  obtain ⟨h0, h1⟩ := (index_resting t).2.2.2.2.1
  match a with
  | ⟨0, _⟩ => show win0_10.index t 0 * 1 + 1 * 0 = 0; rw [h0]
  | ⟨1, _⟩ => show win0_10.index t 1 * 1024 + 1 * j.val = j.val; rw [h1]; omega

end Cert.Kernel2Ideal.Host
-- ==== Proof.InputFinal.lean ====
/-
  The gradient of the block's input: what the call's two result arrays hold after the run.
-/
module

public import proofs.«01_k».proof.Proof.InputHost

@[expose] public section

set_option maxRecDepth 16384

noncomputable section

namespace Cert.Kernel2Ideal.Final

open Idealize.ShloMosaic Idealize.ShloMosaic.TcCoe Idealize.SL.Sem
open Cert.Kernel2Ideal Cert.Kernel2Ideal.Gen Cert.Kernel2Ideal.Body Cert.Kernel2Ideal.Host MidBackward

variable (m : (ℓ : Loc nD τ sig) → Buf (Elt Ideal) ℓ) (ρ : Dev nD → PrngReg) (c : Dev nD)

/-- Row `r` of a block. -/
abbrev row {R : ℕ} (x : (⟨2, ![R, 1024]⟩ : Shape).Idx → EReal) (r : Fin R) : Fin 1024 → EReal := fun j => x (ix2 r j)

/-- The product block, read at an index: the four parts' products, added. -/
theorem pay5_apply (y0 y1 : Vec Ideal S1024x1024 .bf16) (y2 y3 y4 y5 y6 y7 : Vec Ideal S512x1024 .bf16) (r j : Fin 1024) :
    k0_pay5 (F := Ideal) y0 y1 y2 y3 y4 y5 y6 y7 (ix2 r j)
      = (∑ k, y0 (ix2 r k) * y1 (ix2 k j)) + (∑ k, y2 (ix2 k r) * y3 (ix2 k j)) + (∑ k, y4 (ix2 k r) * y5 (ix2 k j))
        + ∑ k, y6 (ix2 k r) * y7 (ix2 k j) := by
  pointwise [k0_pay5]

theorem pay4_apply (d x y : Vec Ideal S1024x1024 .f32) (g : Vec Ideal S1x1024 .f32) (r j : Fin 1024) :
    k0_pay4 (F := Ideal) d x (k0_pay7 x) y g (ix2 r j) = dh1 (row d r) (row y r) (row x r) (row g 0) j := by
  pointwise [k0_pay4, k0_pay2, k0_pay1, k0_pay7]
  rfl

theorem pay3_apply (d x : Vec Ideal S1024x1024 .f32) (xo : Vec Ideal S1x1024 .f32) (j : Fin 1024) :
    k0_pay3 (F := Ideal) d x (k0_pay7 x) xo (ix2 0 j) = xo (ix2 0 j) + ∑ r : Fin 1024, dscale (row d r) (row x r) j := by
  pointwise [k0_pay3, k0_pay2, k0_pay1, k0_pay7]
  rfl

theorem pay6_apply (i : S1x1024.Idx) : k0_pay6 (F := Ideal) i = 0 := by
  pointwise [k0_pay6]

/-! ## The rows of a point's blocks -/

theorem row_prod (t : Fin cfg0.N) (r : Fin 1024) : row (prod (F := Ideal) m c t) r = (args m c).d (rowOf t r) := by
  funext j
  show prod (F := Ideal) m c t (ix2 r j) = _
  refine (pay5_apply _ _ _ _ _ _ _ _ r j).trans ?_
  simp only [iblk0, X1, iblk2, iblk3, iblk4, iblk5, iblk6, iblk7]
  exact InputBackward.sum_parts fun k => (args m c).dproj (rowOf t r) k * (args m c).w j k

theorem row_dh (t : Fin cfg0.N) (r : Fin 1024) : row (iblk m c 8 t) r = (args m c).dh (rowOf t r) := funext (iblk8 m c t r)
theorem row_x (t : Fin cfg0.N) (r : Fin 1024) : row (iblk m c 9 t) r = (args m c).x (rowOf t r) := funext (iblk9 m c t r)
theorem row_g (t : Fin cfg0.N) : row (iblk m c 10 t) (0 : Fin 1) = (args m c).g := funext (iblk10 m c t)

/-! ## The result arrays -/

/-- The two results. -/
abbrev G0 : S8192x1024.Idx → EReal := fun i => (args m c).dx (i 0) (i 1)
abbrev G1 : S1x1024.Idx → EReal := fun i => (args m c).dg (i 1)

theorem dx_apply (t : Fin cfg0.N) (r j : Fin 1024) :
    ((outsAt0 m c t.val t.isLt).1 : S1024x1024.Idx → EReal) (ix2 r j) = (args m c).dx (rowOf t r) j := by
  rw [after_dx]
  refine (pay4_apply _ _ _ _ r j).trans ?_
  rw [row_prod, row_dh, row_x, row_g]; rfl

theorem flushed_dx (t : Fin cfg0.N) (_ : (cfg0.win 11).flush t = true) :
    (dats m 0 c).flushed 11 t = ((cfg0.win 11).blk t).view.read (Elt Ideal) (G0 m c) := by
  rw [Value.flushed11]
  funext i
  obtain ⟨r, j, rfl⟩ : ∃ r j, i = ix2 r j := ⟨i 0, i 1, eq_ix2 i⟩
  rw [View.read_apply]
  refine (dx_apply m c t r j).trans (congrArg (G0 m c) (funext fun a => Fin.ext ?_) : G0 m c (ix2 (rowOf t r) j) = _)
  obtain ⟨h0, h1⟩ := (index_moving t).2.2.2.2.2.2
  match a with
  | ⟨0, _⟩ => show 1024 * t.val + r.val = win0_11.index t 0 * 1024 + 1 * r.val; rw [h0]; omega
  | ⟨1, _⟩ => show j.val = win0_11.index t 1 * 1024 + 1 * j.val; rw [h1]; omega

/-- The running sum after the last point has met every row. -/
theorem dg_apply (j : Fin 1024) : ((outsAt0 m c t0_7.val t0_7.isLt).2 : S1x1024.Idx → EReal) (ix2 0 j) = (args m c).dg j := by
  have hN : cfg0.N = 8 := N_0
  refine (Sums.running (fun n h => ((outsAt0 m c n h).2 : S1x1024.Idx → EReal) (ix2 0 j))
    (fun n h => ∑ r : Fin 1024, dscale ((args m c).d (rowOf ⟨n, h⟩ r)) ((args m c).x (rowOf ⟨n, h⟩ r)) j) ?_ ?_ 7 t0_7.isLt).trans ?_
  · intro h
    refine (congrFun (first_dg m c ⟨0, h⟩ rfl) _).trans ((pay3_apply _ _ _ j).trans ?_)
    rw [pay6_apply, zero_add]
    simp only [row_prod, row_x]
  · intro n h
    refine (congrFun (next_dg m c n h (by omega)) _).trans ((pay3_apply _ _ _ j).trans ?_)
    simp only [row_prod, row_x]
  · exact Sums.blocks 8 1024 fun t => dscale ((args m c).d t) ((args m c).x t) j

theorem flushed_dg (t : Fin cfg0.N) (hf : (cfg0.win 12).flush t = true) :
    (dats m 0 c).flushed 12 t = ((cfg0.win 12).blk t).view.read (Elt Ideal) (G1 m c) := by
  obtain rfl : t = t0_7 := Fin.ext (by
    have h := (flush0_12 t).mp hf; have hN : cfg0.N = 8 := N_0; have := t.isLt; show t.val = 7; omega)
  rw [Value.flushed12]
  funext i
  obtain ⟨u, j, rfl⟩ : ∃ u j, i = ix2 u j := ⟨i 0, i 1, eq_ix2 i⟩
  obtain rfl : u = 0 := Subsingleton.elim _ _
  rw [View.read_apply]
  refine (dg_apply m c j).trans (congrArg (G1 m c) (funext fun a => Fin.ext ?_) : G1 m c (ix2 0 j) = _)
  obtain ⟨h0, h1⟩ := (index_resting t0_7).2.2.2.2.2
  match a with
  | ⟨0, _⟩ => show 0 = win0_12.index t0_7 0 * 1 + 1 * 0; rw [h0]
  | ⟨1, _⟩ => show j.val = win0_12.index t0_7 1 * 1024 + 1 * j.val; rw [h1]; omega

/-- Row `t` is in the block of point `t / 1024`. -/
def pointOf (i : S8192x1024.Idx) : Fin cfg0.N :=
  ⟨(i 0).val / 1024, by have h : cfg0.N = 8 := N_0; have : (i 0 : Nat) < 8192 := (i 0).isLt; omega⟩

theorem final_dx : (dats m 0 c).arrAt 11 cfg0.N = G0 m c :=
  (dats m 0 c).arrAt_eq_of_cover 11 (G0 m c) (flushed_dx m c) fun i => ⟨pointOf i, flush0_11 _, by
    show i ∈ ((View.whole main_v13_0).slice (win0_11.rect (pointOf i))).set
    rw [View.set_slice_whole, Rect.mem_set_unit]
    obtain ⟨h0, h1⟩ := (index_moving (pointOf i)).2.2.2.2.2.2
    have hp : (pointOf i).val = (i 0).val / 1024 := rfl
    have : (i 1 : Nat) < 1024 := (i 1).isLt
    intro a
    match a with
    | ⟨0, _⟩ => show win0_11.index (pointOf i) 0 * 1024 ≤ (i 0 : Nat) ∧ (i 0 : Nat) < win0_11.index (pointOf i) 0 * 1024 + 1024; rw [h0]; omega
    | ⟨1, _⟩ => show win0_11.index (pointOf i) 1 * 1024 ≤ (i 1 : Nat) ∧ (i 1 : Nat) < win0_11.index (pointOf i) 1 * 1024 + 1024; rw [h1]; omega⟩

theorem final_dg : (dats m 0 c).arrAt 12 cfg0.N = G1 m c :=
  (dats m 0 c).arrAt_eq_of_cover 12 (G1 m c) (flushed_dg m c) fun i => ⟨t0_7, (flush0_12 t0_7).mpr rfl, by
    show i ∈ ((View.whole main_v13_1).slice (win0_12.rect t0_7)).set
    rw [View.set_slice_whole, Rect.mem_set_unit]
    obtain ⟨h0, h1⟩ := (index_resting t0_7).2.2.2.2.2
    have : (i 0 : Nat) < 1 := (i 0).isLt
    have : (i 1 : Nat) < 1024 := (i 1).isLt
    intro a
    match a with
    | ⟨0, _⟩ => show win0_12.index t0_7 0 * 1 ≤ (i 0 : Nat) ∧ (i 0 : Nat) < win0_12.index t0_7 0 * 1 + 1; rw [h0]; omega
    | ⟨1, _⟩ => show win0_12.index t0_7 1 * 1024 ≤ (i 1 : Nat) ∧ (i 1 : Nat) < win0_12.index t0_7 1 * 1024 + 1024; rw [h1]; omega⟩

/-- The run: the two results, and the arguments unchanged. -/
theorem run : θ_run defs (onTc (τ := τ) (main (F := Ideal))) ⟨m, fun _ => 0, ρ⟩ fun r => ∀ c : Dev nD,
      r.2.mem ((c : Thread nD τ).loc main_v13_0) = G0 m c
      ∧ r.2.mem ((c : Thread nD τ).loc main_v13_1) = G1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h0, h1, hargs⟩ := h c
    exact ⟨h0.trans (final_dx m c), h1.trans (final_dg m c), hargs⟩)
    (Value.run_blocks m ρ)

end Cert.Kernel2Ideal.Final
-- ==== Proof.InputReference.lean ====
/-
  The gradient of the block's input: what the reference computes, at an index over the extended reals, and its run.
-/
module

public import proofs.«01_k».proof.Proof.Gen.Reference2Ideal.Run
public import proofs.«01_k».proof.Proof.Gen.Reference2Ideal.Read
public import proofs.«01_k».proof.Proof.InputSpec
public import Idealize.ShloMosaic.Lib.Tactic

@[expose] public section

set_option maxRecDepth 16384

noncomputable section

namespace Cert.Reference2Ideal.Stages

open Idealize.ShloMosaic Idealize.ShloMosaic.TcCoe Idealize.SL.Sem
open Cert.Reference2Ideal Cert.Reference2Ideal.Read RmsBackward

variable (x0 : (⟨S8192x1024, .f32⟩ : BufTy).Contents (Elt Ideal)) (x1 : (⟨S1x1024, .f32⟩ : BufTy).Contents (Elt Ideal))
  (x2 : (⟨S1024x2560, .f32⟩ : BufTy).Contents (Elt Ideal)) (x3 : (⟨S8192x1024, .f32⟩ : BufTy).Contents (Elt Ideal))
  (x4 : (⟨S8192x2560, .f32⟩ : BufTy).Contents (Elt Ideal))

/-- The arguments, as the specification takes them. -/
def args : InputBackward.Args where
  x t j := (x0 : S8192x1024.Idx → EReal) (ix2 t j)
  g j := (x1 : S1x1024.Idx → EReal) (ix2 0 j)
  w j k := (x2 : S1024x2560.Idx → EReal) (ix2 j k)
  dh t j := (x3 : S8192x1024.Idx → EReal) (ix2 t j)
  dproj t k := (x4 : S8192x2560.Idx → EReal) (ix2 t k)

theorem v6 (t : Fin 8192) (u : Fin 1) : val_main_v6 (F := Ideal) x0 (ix2 t u) = ms ((args x0 x1 x2 x3 x4).x t) := by
  obtain rfl : u = 0 := Subsingleton.elim _ _
  pointwise [val_main_v6, val_main_v5, val_main_cst_1, val_main_v4, val_main_v3, val_main_cst_0, val_main_v2, val_main_v1,
    val_main_cst, val_main_v0]
  rfl

theorem v7 (t : Fin 8192) (u : Fin 1) : val_main_v7 (F := Ideal) x0 (ix2 t u) = inv ((args x0 x1 x2 x3 x4).x t) := by
  rw [val_main_v7_apply, v6 x0 x1 x2 x3 x4]
  rfl

theorem v12 (t : Fin 8192) (j : Fin 1024) : val_main_v12 (F := Ideal) x0 (ix2 t j) = hat ((args x0 x1 x2 x3 x4).x t) j := by
  have h := v7 x0 x1 x2 x3 x4 t 0
  unfold val_main_v12 val_main_v11
  generalize val_main_v7 (F := Ideal) x0 = y at h
  pointwise
  rw [h]; rfl

theorem v16 (t : Fin 8192) (j : Fin 1024) : val_main_v16 (F := Ideal) x2 x4 (ix2 t j) = (args x0 x1 x2 x3 x4).d t j := by
  pointwise [val_main_v16]
  rfl

/-- The gradient of the scale. -/
theorem v19 (u : Fin 1) (j : Fin 1024) : val_main_v19 (F := Ideal) x0 x2 x4 (ix2 u j) = (args x0 x1 x2 x3 x4).dg j := by
  obtain rfl : u = 0 := Subsingleton.elim _ _
  have h := v12 x0 x1 x2 x3 x4
  have h' := v16 x0 x1 x2 x3 x4
  unfold val_main_v19 val_main_v18 val_main_v17
  generalize val_main_v12 (F := Ideal) x0 = y at h
  generalize val_main_v16 (F := Ideal) x2 x4 = y' at h'
  pointwise [val_main_cst_3]
  simp only [h, h', mul_comm (hat _ _)]; rfl

theorem v21 (t : Fin 8192) (j : Fin 1024) : val_main_v21 (F := Ideal) x1 x2 x4 (ix2 t j) = (args x0 x1 x2 x3 x4).d t j * (args x0 x1 x2 x3 x4).g j := by
  have h' := v16 x0 x1 x2 x3 x4 t j
  unfold val_main_v21 val_main_v20
  generalize val_main_v16 (F := Ideal) x2 x4 = y' at h'
  pointwise
  rw [h']; rfl

/-- The cotangent of the sum of squares, copied along the row. -/
theorem v32 (t : Fin 8192) (j : Fin 1024) :
    val_main_v32 (F := Ideal) x0 x1 x2 x4 (ix2 t j) = slope ((args x0 x1 x2 x3 x4).x t) fun k => (args x0 x1 x2 x3 x4).d t k * (args x0 x1 x2 x3 x4).g k := by
  have h6 := v6 x0 x1 x2 x3 x4 t 0
  have h7 := v7 x0 x1 x2 x3 x4 t 0
  have h21 := v21 x0 x1 x2 x3 x4 t
  unfold val_main_v32 val_main_v31 val_main_v30 val_main_v28 val_main_v24 val_main_v23 val_main_v22 val_main_v10 val_main_v8
  generalize val_main_v6 (F := Ideal) x0 = y6 at h6
  generalize val_main_v7 (F := Ideal) x0 = y7 at h7
  generalize val_main_v21 (F := Ideal) x1 x2 x4 = y21 at h21
  pointwise [val_main_cst_6, val_main_v29, val_main_cst_5, val_main_cst_4, val_main_v9, val_main_cst_2]
  simp only [h6, h7, h21, Fin.sum_univ_one]; rfl

/-- The gradient of the input. -/
theorem v36 (t : Fin 8192) (j : Fin 1024) : val_main_v36 (F := Ideal) x0 x1 x2 x3 x4 (ix2 t j) = (args x0 x1 x2 x3 x4).dx t j := by
  have h7 := v7 x0 x1 x2 x3 x4 t 0
  have h21 := v21 x0 x1 x2 x3 x4 t j
  have h32 := v32 x0 x1 x2 x3 x4 t j
  show _ = (args x0 x1 x2 x3 x4).dh t j + grad ((args x0 x1 x2 x3 x4).x t) (fun k => (args x0 x1 x2 x3 x4).d t k * (args x0 x1 x2 x3 x4).g k) j
  rw [← vjp_eq_grad]
  unfold vjp
  unfold val_main_v36 val_main_v35 val_main_v34 val_main_v33 val_main_v27 val_main_v26 val_main_v25
  generalize val_main_v7 (F := Ideal) x0 = y7 at h7
  generalize val_main_v21 (F := Ideal) x1 x2 x4 = y21 at h21
  generalize val_main_v32 (F := Ideal) x0 x1 x2 x4 = y32 at h32
  pointwise
  rw [h7, h21, h32, add_assoc, add_assoc, add_assoc]; rfl

end Cert.Reference2Ideal.Stages

namespace Cert.Reference2Ideal.Final

open Idealize.ShloMosaic Idealize.ShloMosaic.TcCoe Idealize.SL.Sem
open Cert.Reference2Ideal

variable (m : (ℓ : Loc nD τ sig) → Buf (Elt Ideal) ℓ) (ρ : Dev nD → PrngReg)

/-- The arguments on device `c`. -/
abbrev args (c : Dev nD) : InputBackward.Args :=
  Stages.args (m ((c : Thread nD τ).loc main_arg0)) (m ((c : Thread nD τ).loc main_arg1)) (m ((c : Thread nD τ).loc main_arg2))
    (m ((c : Thread nD τ).loc main_arg3)) (m ((c : Thread nD τ).loc main_arg4))

theorem run : θ_run defs (onTc (τ := τ) (main (F := Ideal))) ⟨m, fun _ => 0, ρ⟩ fun r => ∀ c : Dev nD,
      r.2.mem ((c : Thread nD τ).loc main_v36) = (fun i => (args m c).dx (i 0) (i 1) : S8192x1024.Idx → EReal)
      ∧ r.2.mem ((c : Thread nD τ).loc main_v19) = (fun i => (args m c).dg (i 1) : S1x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h0, h1, hargs⟩ := h c
    refine ⟨(h0.trans (Read.val_main_v36_eq m c)).trans ?_, (h1.trans (Read.val_main_v19_eq ..)).trans ?_, hargs⟩
    all_goals
      funext i
      obtain ⟨r, j, rfl⟩ : ∃ r j, i = ix2 r j := ⟨i 0, i 1, eq_ix2 i⟩
    · exact Stages.v36 _ _ _ _ _ r j
    · exact Stages.v19 _ _ _ _ _ r j)
    (Value.run m ρ)

end Cert.Reference2Ideal.Final
-- ==== Proof.LossBody.lean ====
/-
  The last product with the loss: what one grid point leaves in its output blocks, as the printed operations of its
  input blocks. Two running sums start at the first point from the stored zeros; the last point adds up the first of
  them for the loss.
-/
module

public import proofs.«01_k».proof.Proof.Gen.Kernel3Ideal.Value

@[expose] public section

set_option maxRecDepth 16384

noncomputable section

namespace Cert.Kernel3Ideal.Body

open Idealize.ShloMosaic Idealize.ShloMosaic.TcCoe Idealize.SL.Sem
open Cert.Kernel3Ideal Cert.Kernel3Ideal.Gen

variable {F : FTy → Type} [FloatOps F] (m : (ℓ : Loc nD τ sig) → Buf (Elt F) ℓ) (c : Dev nD)

theorem hz : (![0, 0] : Fin 2 → Nat) = fun _ => 0 := funext fun a => by fin_cases a <;> rfl

/-- The block of the residual stream's gradient. -/
abbrev dyBlk (t : Fin cfg0.N) : FVec F S1024x1024 .f32 :=
  k0_pay12 (iblk m c 0 t) (iblk m c 1 t) (iblk m c 4 t) (iblk m c 2 t) (iblk m c 3 t)

/-- The block of the product's gradient. -/
abbrev dfBlk (t : Fin cfg0.N) : FVec F S1024x1024 .bf16 :=
  k0_pay2 (iblk m c 4 t) (k0_pay8 (iblk m c 0 t) (iblk m c 1 t)) (k0_pay9 (iblk m c 0 t) (iblk m c 1 t)) (dyBlk m c t)

/-- The running sum of squared errors, after a point that finds it at `xo`. -/
abbrev sqBlk (t : Fin cfg0.N) (xo : Vec F S1x1024 .f32) : FVec F S1x1024 .f32 :=
  k0_pay11 (iblk m c 0 t) (iblk m c 1 t) (iblk m c 4 t) (iblk m c 2 t) (iblk m c 3 t) xo

/-- The running sum for the scale, after a point that finds it at `xo`. -/
abbrev dgBlk (t : Fin cfg0.N) (xo : Vec F S1x1024 .f32) : FVec F S1x1024 .f32 :=
  k0_pay1 (k0_pay9 (iblk m c 0 t) (iblk m c 1 t)) (dyBlk m c t) xo

theorem after_dy (t : Fin cfg0.N) : (outsAt0 m c t.val t.isLt).1 = dyBlk m c t := by
  by_cases h : t.val % 8 = 0
  · rw [outsAt0_A m c t h (by omega)]
    dsimp only
    unfold out0_A_5
    rw [View.read_writes_eq_canon _ _ _ (fun _ => cover0_A_5 ..)]
    unfold kernelRun0_A
    dsimp only
    sl_unfold_words
    rw [View.canon_unit_zero (S := S1024x1024) hz]
    simp only [View.readAt_eq_ld, Memref.IsWhole.read_unread, View.ld_unit_zero (S := S1024x1024) hz,
      View.ld_unit_zero (S := S1024x2816) hz, View.ld_unit_zero (S := S2816x1024) hz, View.ld_unit_zero (S := S1x1024) hz]
  by_cases h' : t.val % 8 = 7
  · rw [outsAt0_C m c t h h']
    dsimp only
    unfold out0_C_5
    rw [View.read_writes_eq_canon _ _ _ (fun _ => cover0_C_5 ..)]
    unfold kernelRun0_C
    dsimp only
    sl_unfold_words
    rw [View.canon_unit_zero (S := S1024x1024) hz]
    simp only [View.readAt_eq_ld, Memref.IsWhole.read_unread, View.ld_unit_zero (S := S1024x1024) hz,
      View.ld_unit_zero (S := S1024x2816) hz, View.ld_unit_zero (S := S2816x1024) hz, View.ld_unit_zero (S := S1x1024) hz]
  · rw [outsAt0_B m c t h h']
    dsimp only
    unfold out0_B_5
    rw [View.read_writes_eq_canon _ _ _ (fun _ => cover0_B_5 ..)]
    unfold kernelRun0_B
    dsimp only
    sl_unfold_words
    rw [View.canon_unit_zero (S := S1024x1024) hz]
    simp only [View.readAt_eq_ld, Memref.IsWhole.read_unread, View.ld_unit_zero (S := S1024x1024) hz,
      View.ld_unit_zero (S := S1024x2816) hz, View.ld_unit_zero (S := S2816x1024) hz, View.ld_unit_zero (S := S1x1024) hz]

theorem after_df (t : Fin cfg0.N) : (outsAt0 m c t.val t.isLt).2.1 = dfBlk m c t := by
  by_cases h : t.val % 8 = 0
  · rw [outsAt0_A m c t h (by omega)]
    dsimp only
    unfold out0_A_6
    rw [View.read_writes_eq_canon _ _ _ (fun _ => cover0_A_6 ..)]
    unfold kernelRun0_A
    dsimp only
    sl_unfold_words
    rw [View.canon_unit_zero (S := S1024x1024) hz]
    simp only [View.readAt_eq_ld, Memref.IsWhole.read_unread, View.ld_unit_zero (S := S1024x1024) hz,
      View.ld_unit_zero (S := S1024x2816) hz, View.ld_unit_zero (S := S2816x1024) hz, View.ld_unit_zero (S := S1x1024) hz]
  by_cases h' : t.val % 8 = 7
  · rw [outsAt0_C m c t h h']
    dsimp only
    unfold out0_C_6
    rw [View.read_writes_eq_canon _ _ _ (fun _ => cover0_C_6 ..)]
    unfold kernelRun0_C
    dsimp only
    sl_unfold_words
    rw [View.canon_unit_zero (S := S1024x1024) hz]
    simp only [View.readAt_eq_ld, Memref.IsWhole.read_unread, View.ld_unit_zero (S := S1024x1024) hz,
      View.ld_unit_zero (S := S1024x2816) hz, View.ld_unit_zero (S := S2816x1024) hz, View.ld_unit_zero (S := S1x1024) hz]
  · rw [outsAt0_B m c t h h']
    dsimp only
    unfold out0_B_6
    rw [View.read_writes_eq_canon _ _ _ (fun _ => cover0_B_6 ..)]
    unfold kernelRun0_B
    dsimp only
    sl_unfold_words
    rw [View.canon_unit_zero (S := S1024x1024) hz]
    simp only [View.readAt_eq_ld, Memref.IsWhole.read_unread, View.ld_unit_zero (S := S1024x1024) hz,
      View.ld_unit_zero (S := S1024x2816) hz, View.ld_unit_zero (S := S2816x1024) hz, View.ld_unit_zero (S := S1x1024) hz]

theorem first_sq (t : Fin cfg0.N) (h : t.val % 8 = 0) : (outsAt0 m c t.val t.isLt).2.2.1 = sqBlk m c t k0_pay5 := by
  rw [outsAt0_A m c t h (by omega)]
  dsimp only
  unfold out0_A_7
  rw [View.read_writes_eq_canon _ _ _ (fun _ => cover0_A_7 ..)]
  unfold kernelRun0_A
  dsimp only
  sl_unfold_words
  rw [View.canon_cons_unit_zero (S := S1x1024) hz]
  simp only [View.readCov_unit_zero (S := S1x1024) _ hz, View.readAt_eq_ld, Memref.IsWhole.read_unread, View.ld_unit_zero (S := S1024x1024) hz,
    View.ld_unit_zero (S := S1024x2816) hz, View.ld_unit_zero (S := S2816x1024) hz, View.ld_unit_zero (S := S1x1024) hz]

theorem first_dg (t : Fin cfg0.N) (h : t.val % 8 = 0) : (outsAt0 m c t.val t.isLt).2.2.2.1 = dgBlk m c t k0_pay6 := by
  rw [outsAt0_A m c t h (by omega)]
  dsimp only
  unfold out0_A_8
  rw [View.read_writes_eq_canon _ _ _ (fun _ => cover0_A_8 ..)]
  unfold kernelRun0_A
  dsimp only
  sl_unfold_words
  rw [View.canon_cons_unit_zero (S := S1x1024) hz]
  simp only [View.readCov_unit_zero (S := S1x1024) _ hz, View.readAt_eq_ld, Memref.IsWhole.read_unread, View.ld_unit_zero (S := S1024x1024) hz,
    View.ld_unit_zero (S := S1024x2816) hz, View.ld_unit_zero (S := S2816x1024) hz, View.ld_unit_zero (S := S1x1024) hz]

theorem next_sq (n : ℕ) (hn : n + 1 < cfg0.N) (h : ¬(n + 1) % 8 = 0) :
    (outsAt0 m c (n + 1) hn).2.2.1 = sqBlk m c ⟨n + 1, hn⟩ (outsAt0 m c n (Nat.lt_of_succ_lt hn)).2.2.1 := by
  by_cases h' : (n + 1) % 8 = 7
  · rw [outsAt0_C m c ⟨n + 1, hn⟩ h h']
    dsimp only
    unfold out0_C_7
    rw [View.read_writes_eq_canon _ _ _ (fun _ => cover0_C_7 ..)]
    unfold kernelRun0_C
    dsimp only
    sl_unfold_words
    rw [View.canon_unit_zero (S := S1x1024) hz]
    simp only [View.readAt_eq_ld, Memref.IsWhole.read_unread, View.ld_unit_zero (S := S1024x1024) hz,
      View.ld_unit_zero (S := S1024x2816) hz, View.ld_unit_zero (S := S2816x1024) hz, View.ld_unit_zero (S := S1x1024) hz]
    rfl
  · rw [outsAt0_B m c ⟨n + 1, hn⟩ h h']
    dsimp only
    unfold out0_B_7
    rw [View.read_writes_eq_canon _ _ _ (fun _ => cover0_B_7 ..)]
    unfold kernelRun0_B
    dsimp only
    sl_unfold_words
    rw [View.canon_unit_zero (S := S1x1024) hz]
    simp only [View.readAt_eq_ld, Memref.IsWhole.read_unread, View.ld_unit_zero (S := S1024x1024) hz,
      View.ld_unit_zero (S := S1024x2816) hz, View.ld_unit_zero (S := S2816x1024) hz, View.ld_unit_zero (S := S1x1024) hz]
    rfl

theorem next_dg (n : ℕ) (hn : n + 1 < cfg0.N) (h : ¬(n + 1) % 8 = 0) :
    (outsAt0 m c (n + 1) hn).2.2.2.1 = dgBlk m c ⟨n + 1, hn⟩ (outsAt0 m c n (Nat.lt_of_succ_lt hn)).2.2.2.1 := by
  by_cases h' : (n + 1) % 8 = 7
  · rw [outsAt0_C m c ⟨n + 1, hn⟩ h h']
    dsimp only
    unfold out0_C_8
    rw [View.read_writes_eq_canon _ _ _ (fun _ => cover0_C_8 ..)]
    unfold kernelRun0_C
    dsimp only
    sl_unfold_words
    rw [View.canon_unit_zero (S := S1x1024) hz]
    simp only [View.readAt_eq_ld, Memref.IsWhole.read_unread, View.ld_unit_zero (S := S1024x1024) hz,
      View.ld_unit_zero (S := S1024x2816) hz, View.ld_unit_zero (S := S2816x1024) hz, View.ld_unit_zero (S := S1x1024) hz]
    rfl
  · rw [outsAt0_B m c ⟨n + 1, hn⟩ h h']
    dsimp only
    unfold out0_B_8
    rw [View.read_writes_eq_canon _ _ _ (fun _ => cover0_B_8 ..)]
    unfold kernelRun0_B
    dsimp only
    sl_unfold_words
    rw [View.canon_unit_zero (S := S1x1024) hz]
    simp only [View.readAt_eq_ld, Memref.IsWhole.read_unread, View.ld_unit_zero (S := S1024x1024) hz,
      View.ld_unit_zero (S := S1024x2816) hz, View.ld_unit_zero (S := S2816x1024) hz, View.ld_unit_zero (S := S1x1024) hz]
    rfl

/-- The last point's loss: the scaled total of the running sum that the same point leaves. -/
theorem last_loss (t : Fin cfg0.N) (h : t.val % 8 = 7) :
    (outsAt0 m c t.val t.isLt).2.2.2.2 = k0_pay3 (outsAt0 m c t.val t.isLt).2.2.1 := by
  rw [outsAt0_C m c t (by omega) h]
  dsimp only
  unfold out0_C_9 out0_C_7
  rw [View.read_writes_eq_canon _ _ _ (fun _ => cover0_C_9 ..), View.read_writes_eq_canon _ _ _ (fun _ => cover0_C_7 ..)]
  unfold kernelRun0_C
  dsimp only
  sl_unfold_words
  rw [View.canon_unit_zero (S := S1x1024) hz]
  first
    | rw [View.canon_unit_zero (S := S1x1) hz]
    | rw [View.canon_cons_unit_zero (S := S1x1) hz]
  simp only [View.readCov_unit_zero (S := S1x1024) _ hz]

end Cert.Kernel3Ideal.Body
-- ==== Proof.LossSpec.lean ====
/-
  The loss and the gradients at the step's end, over the extended reals: the last product, its normalised and scaled
  rows added to the residual stream, half the mean squared distance from the target, summed over the rows; and what
  the loss's derivative is with respect to the residual stream, the product and the scale.
-/
module

public import proofs.«01_k».proof.Proof.Spec
public import proofs.«01_k».proof.Proof.Sums

@[expose] public section

noncomputable section

namespace LossBackward

open Idealize.ShloMosaic RmsBackward MidBackward

/-- One over the number of columns, as the kernel writes it. -/
abbrev perColumn : EReal := Ideal.ofBits .f32 0x3A800000#32
/-- Half of it. -/
abbrev halfPerColumn : EReal := Ideal.ofBits .f32 0x3A000000#32
/-- The numbers one half, one and two. -/
abbrev half : EReal := Ideal.ofBits .f32 0x3F000000#32
abbrev one : EReal := Ideal.ofBits .f32 0x3F800000#32
abbrev two : EReal := Ideal.ofBits .f32 0x40000000#32

theorem perColumn_eq : perColumn = ((1 / 1024 : ℝ) : EReal) := by
  simp [perColumn, Ideal.ofBits, Ideal.ieee, -EReal.coe_mul]; norm_num
theorem halfPerColumn_eq : halfPerColumn = ((1 / 2048 : ℝ) : EReal) := by
  simp [halfPerColumn, Ideal.ofBits, Ideal.ieee, -EReal.coe_mul]; norm_num
theorem half_eq : half = ((1 / 2 : ℝ) : EReal) := by
  simp [half, Ideal.ofBits, Ideal.ieee, -EReal.coe_mul]; norm_num
theorem one_eq : one = ((1 : ℝ) : EReal) := by
  simp [one, Ideal.ofBits, Ideal.ieee, -EReal.coe_mul]; norm_num
theorem two_eq : two = ((2 : ℝ) : EReal) := by
  simp [two, Ideal.ofBits, Ideal.ieee, -EReal.coe_mul]; norm_num

/-- The distance from the target, one row. -/
def err (f g h target : Fin 1024 → EReal) (j : Fin 1024) : EReal := h j + hat f j * g j - target j
/-- The loss's derivative with respect to the residual stream's row. -/
def dy (f g h target : Fin 1024 → EReal) (j : Fin 1024) : EReal := err f g h target j * perColumn

/-- The arrays: the activations, the last weights, the scale, the residual stream's rows and the target's. -/
@[ext] structure Args where
  act : Fin 8192 → Fin 2816 → EReal
  w : Fin 2816 → Fin 1024 → EReal
  g : Fin 1024 → EReal
  h : Fin 8192 → Fin 1024 → EReal
  target : Fin 8192 → Fin 1024 → EReal

namespace Args

variable (a : Args)

/-- The last product. -/
def f (t : Fin 8192) (j : Fin 1024) : EReal := ∑ k, a.act t k * a.w k j
/-- The distance from the target. -/
def err (t : Fin 8192) : Fin 1024 → EReal := LossBackward.err (a.f t) a.g (a.h t) (a.target t)
/-- The gradient of the residual stream. -/
def dy (t : Fin 8192) : Fin 1024 → EReal := LossBackward.dy (a.f t) a.g (a.h t) (a.target t)
/-- The gradient of the last product. -/
def df (t : Fin 8192) (j : Fin 1024) : EReal := grad (a.f t) (fun k => a.dy t k * a.g k) j
/-- The gradient of the scale. -/
def dg (j : Fin 1024) : EReal := ∑ t, dscale (a.dy t) (a.f t) j
/-- The sum of the squared distances in a column. -/
def sq (j : Fin 1024) : EReal := ∑ t, a.err t j * a.err t j
/-- The loss. -/
def loss : EReal := halfPerColumn * ∑ j, a.sq j

/-- The loss as the mean square of each row, summed and halved. -/
theorem loss_eq : half * ∑ t, Ideal.div (∑ j, a.err t j * a.err t j) count = a.loss := by
  unfold loss sq
  rw [Finset.sum_comm, count_eq]
  simp only [div_coe (by norm_num : (1024 : ℝ) ≠ 0)]
  rw [sum_mul_of_nonneg _ _ (by norm_num), half_eq, halfPerColumn_eq, mul_comm _ (((1024 : ℝ)⁻¹ : ℝ) : EReal), ← mul_assoc,
    ← EReal.coe_mul]
  norm_num

/-- The gradient of the residual stream, as differentiating the loss step by step gives it. -/
theorem dy_eq (t : Fin 8192) (j : Fin 1024) : Ideal.div (half * one) count * (two * a.err t j) = a.dy t j := by
  show _ = a.err t j * perColumn
  rw [half_eq, one_eq, two_eq, count_eq, div_coe (by norm_num), perColumn_eq, ← EReal.coe_mul, ← EReal.coe_mul, ← mul_assoc,
    ← EReal.coe_mul, mul_comm]
  norm_num

end Args

end LossBackward
-- ==== Proof.LossHost.lean ====
/-
  The loss and the last product's gradient: the arrays its host code prepares, and the blocks a grid point reads. Point
  `t` reads rows `1024 t … 1024 t + 1023` of the row arrays, and the whole of the weights and of the scale.
-/
module

public import proofs.«01_k».proof.Proof.LossBody
public import proofs.«01_k».proof.Proof.LossSpec
public import Idealize.ShloMosaic.Lib.StableHlo.ReadAt

@[expose] public section

set_option maxRecDepth 16384

noncomputable section

namespace Cert.Kernel3Ideal.Host

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- The arguments, as the specification takes them. -/
def args : LossBackward.Args where
  act t k := (m ((c : Thread nD τ).loc main_arg0) : S8192x2816.Idx → EReal) (ix2 t k)
  w k j := (m ((c : Thread nD τ).loc main_arg1) : S2816x1024.Idx → EReal) (ix2 k j)
  g j := (m ((c : Thread nD τ).loc main_arg2) : S1x1024.Idx → EReal) (ix2 0 j)
  h t j := (m ((c : Thread nD τ).loc main_arg3) : S8192x1024.Idx → EReal) (ix2 t j)
  target t j := (m ((c : Thread nD τ).loc main_arg4) : S8192x1024.Idx → EReal) (ix2 t j)

theorem V_act (t : Fin 8192) (k : Fin 2816) : (V m c main_v1 : S8192x2816.Idx → EReal) (ix2 t k) = (args m c).act t k := by
  unfold V hostOps0
  after_reads_at
  rfl

theorem V_w (k : Fin 2816) (j : Fin 1024) : (V m c main_v0 : S2816x1024.Idx → EReal) (ix2 k j) = (args m c).w k j := by
  unfold V hostOps0
  after_reads_at
  rfl

/-- Where the moving blocks lie. -/
theorem index_moving : ∀ t : Fin cfg0.N,
    (win0_0.index t 0 = t.val ∧ win0_0.index t 1 = 0) ∧ (win0_2.index t 0 = t.val ∧ win0_2.index t 1 = 0)
    ∧ (win0_3.index t 0 = t.val ∧ win0_3.index t 1 = 0) ∧ (win0_5.index t 0 = t.val ∧ win0_5.index t 1 = 0)
    ∧ (win0_6.index t 0 = t.val ∧ win0_6.index t 1 = 0) :=
  (by decide +kernel : ∀ t : Fin grid0.N,
    (win0_0.index t 0 = t.val ∧ win0_0.index t 1 = 0) ∧ (win0_2.index t 0 = t.val ∧ win0_2.index t 1 = 0)
    ∧ (win0_3.index t 0 = t.val ∧ win0_3.index t 1 = 0) ∧ (win0_5.index t 0 = t.val ∧ win0_5.index t 1 = 0)
    ∧ (win0_6.index t 0 = t.val ∧ win0_6.index t 1 = 0))

/-- Where the resting blocks lie. -/
theorem index_resting : ∀ t : Fin cfg0.N,
    (win0_1.index t 0 = 0 ∧ win0_1.index t 1 = 0) ∧ (win0_4.index t 0 = 0 ∧ win0_4.index t 1 = 0)
    ∧ (win0_8.index t 0 = 0 ∧ win0_8.index t 1 = 0) ∧ (win0_9.index t 0 = 0 ∧ win0_9.index t 1 = 0) :=
  (by decide +kernel : ∀ t : Fin grid0.N,
    (win0_1.index t 0 = 0 ∧ win0_1.index t 1 = 0) ∧ (win0_4.index t 0 = 0 ∧ win0_4.index t 1 = 0)
    ∧ (win0_8.index t 0 = 0 ∧ win0_8.index t 1 = 0) ∧ (win0_9.index t 0 = 0 ∧ win0_9.index t 1 = 0))

/-- Row `r` of point `t`'s block is row `1024 t + r` of the array. -/
def rowOf (t : Fin cfg0.N) (r : Fin 1024) : Fin 8192 :=
  ⟨1024 * t.val + r.val, by have h : cfg0.N = 8 := N_0; have := t.isLt; omega⟩

theorem iblk0 (t : Fin cfg0.N) (r : Fin 1024) (k : Fin 2816) :
    (iblk m c 0 t : S1024x2816.Idx → EReal) (ix2 r k) = (args m c).act (rowOf t r) k := by
  rw [← V_act]
  unfold iblk
  rw [View.read_apply]
  refine congrArg (V m c main_v1) (funext fun a => Fin.ext ?_)
  obtain ⟨h0, h1⟩ := (index_moving t).1
  match a with
  | ⟨0, _⟩ => show win0_0.index t 0 * 1024 + 1 * r.val = 1024 * t.val + r.val; rw [h0]; omega
  | ⟨1, _⟩ => show win0_0.index t 1 * 2816 + 1 * k.val = k.val; rw [h1]; omega

theorem iblk1 (t : Fin cfg0.N) (k : Fin 2816) (j : Fin 1024) :
    (iblk m c 1 t : S2816x1024.Idx → EReal) (ix2 k j) = (args m c).w k j := by
  rw [← V_w]
  unfold iblk
  rw [View.read_apply]
  refine congrArg (V m c main_v0) (funext fun a => Fin.ext ?_)
  obtain ⟨h0, h1⟩ := (index_resting t).1
  match a with
  | ⟨0, _⟩ => show win0_1.index t 0 * 2816 + 1 * k.val = k.val; rw [h0]; omega
  | ⟨1, _⟩ => show win0_1.index t 1 * 1024 + 1 * j.val = j.val; rw [h1]; omega

theorem iblk2 (t : Fin cfg0.N) (r j : Fin 1024) :
    (iblk m c 2 t : S1024x1024.Idx → EReal) (ix2 r j) = (args m c).h (rowOf t r) j := by
  show _ = (m ((c : Thread nD τ).loc main_arg3) : S8192x1024.Idx → EReal) (ix2 (rowOf t r) j)
  rw [← V_main_arg3 m c]
  unfold iblk
  rw [View.read_apply]
  refine congrArg (V m c main_arg3) (funext fun a => Fin.ext ?_)
  obtain ⟨h0, h1⟩ := (index_moving t).2.1
  match a with
  | ⟨0, _⟩ => show win0_2.index t 0 * 1024 + 1 * r.val = 1024 * t.val + r.val; rw [h0]; omega
  | ⟨1, _⟩ => show win0_2.index t 1 * 1024 + 1 * j.val = j.val; rw [h1]; omega

theorem iblk3 (t : Fin cfg0.N) (r j : Fin 1024) :
    (iblk m c 3 t : S1024x1024.Idx → EReal) (ix2 r j) = (args m c).target (rowOf t r) j := by
  show _ = (m ((c : Thread nD τ).loc main_arg4) : S8192x1024.Idx → EReal) (ix2 (rowOf t r) j)
  rw [← V_main_arg4 m c]
  unfold iblk
  rw [View.read_apply]
  refine congrArg (V m c main_arg4) (funext fun a => Fin.ext ?_)
  obtain ⟨h0, h1⟩ := (index_moving t).2.2.1
  match a with
  | ⟨0, _⟩ => show win0_3.index t 0 * 1024 + 1 * r.val = 1024 * t.val + r.val; rw [h0]; omega
  | ⟨1, _⟩ => show win0_3.index t 1 * 1024 + 1 * j.val = j.val; rw [h1]; omega

theorem iblk4 (t : Fin cfg0.N) (j : Fin 1024) :
    (iblk m c 4 t : S1x1024.Idx → EReal) (ix2 0 j) = (args m c).g j := by
  show _ = (m ((c : Thread nD τ).loc main_arg2) : S1x1024.Idx → EReal) (ix2 0 j)
  rw [← V_main_arg2 m c]
  unfold iblk
  rw [View.read_apply]
  refine congrArg (V m c main_arg2) (funext fun a => Fin.ext ?_)
  obtain ⟨h0, h1⟩ := (index_resting t).2.1
  match a with
  | ⟨0, _⟩ => show win0_4.index t 0 * 1 + 1 * 0 = 0; rw [h0]
  | ⟨1, _⟩ => show win0_4.index t 1 * 1024 + 1 * j.val = j.val; rw [h1]; omega

end Cert.Kernel3Ideal.Host
-- ==== Proof.LossFinal.lean ====
/-
  The loss and the last product's gradient: what the call's result arrays hold after the run.
-/
module

public import proofs.«01_k».proof.Proof.LossHost

@[expose] public section

set_option maxRecDepth 16384

noncomputable section

namespace Cert.Kernel3Ideal.Final

open Idealize.ShloMosaic Idealize.ShloMosaic.TcCoe Idealize.SL.Sem
open Cert.Kernel3Ideal Cert.Kernel3Ideal.Gen Cert.Kernel3Ideal.Body Cert.Kernel3Ideal.Host MidBackward RmsBackward LossBackward

variable (m : (ℓ : Loc nD τ sig) → Buf (Elt Ideal) ℓ) (ρ : Dev nD → PrngReg) (c : Dev nD)

/-- Row `r` of a block. -/
abbrev row {R : ℕ} (x : (⟨2, ![R, 1024]⟩ : Shape).Idx → EReal) (r : Fin R) : Fin 1024 → EReal := fun j => x (ix2 r j)

/-! ## What a block's operations compute, read at an index -/

theorem pay4_apply (a : Vec Ideal S1024x2816 .bf16) (w : Vec Ideal S2816x1024 .bf16) (r j : Fin 1024) :
    k0_pay4 (F := Ideal) a w (ix2 r j) = ∑ k, a (ix2 r k) * w (ix2 k j) := by
  pointwise [k0_pay4]

theorem pay8_apply (a : Vec Ideal S1024x2816 .bf16) (w : Vec Ideal S2816x1024 .bf16) (r : Fin 1024) :
    k0_pay8 (F := Ideal) a w (ix2 r 0) = inv (row (k0_pay4 (F := Ideal) a w) r) := by
  unfold k0_pay8
  generalize k0_pay4 (F := Ideal) a w = f
  pointwise
  rfl

theorem pay9_apply (a : Vec Ideal S1024x2816 .bf16) (w : Vec Ideal S2816x1024 .bf16) (r j : Fin 1024) :
    k0_pay9 (F := Ideal) a w (ix2 r j) = hat (row (k0_pay4 (F := Ideal) a w) r) j := by
  have h := pay8_apply a w r
  unfold k0_pay9
  generalize k0_pay8 (F := Ideal) a w = i at h
  generalize k0_pay4 (F := Ideal) a w = f at h
  pointwise
  rw [h]; rfl

theorem pay10_apply (a : Vec Ideal S1024x2816 .bf16) (w : Vec Ideal S2816x1024 .bf16) (g : Vec Ideal S1x1024 .f32)
    (h x : Vec Ideal S1024x1024 .f32) (r j : Fin 1024) :
    k0_pay10 (F := Ideal) a w g h x (ix2 r j) = LossBackward.err (row (k0_pay4 (F := Ideal) a w) r) (row g 0) (row h r) (row x r) j := by
  have h9 := pay9_apply a w r j
  unfold k0_pay10
  generalize k0_pay9 (F := Ideal) a w = y at h9
  pointwise
  rw [h9]; rfl

theorem pay12_apply (a : Vec Ideal S1024x2816 .bf16) (w : Vec Ideal S2816x1024 .bf16) (g : Vec Ideal S1x1024 .f32)
    (h x : Vec Ideal S1024x1024 .f32) (r j : Fin 1024) :
    k0_pay12 (F := Ideal) a w g h x (ix2 r j) = LossBackward.dy (row (k0_pay4 (F := Ideal) a w) r) (row g 0) (row h r) (row x r) j := by
  have h10 := pay10_apply a w g h x r j
  unfold k0_pay12
  generalize k0_pay10 (F := Ideal) a w g h x = y at h10
  pointwise
  rw [h10]; rfl

theorem pay11_apply (a : Vec Ideal S1024x2816 .bf16) (w : Vec Ideal S2816x1024 .bf16) (g : Vec Ideal S1x1024 .f32)
    (h x : Vec Ideal S1024x1024 .f32) (xo : Vec Ideal S1x1024 .f32) (j : Fin 1024) :
    k0_pay11 (F := Ideal) a w g h x xo (ix2 0 j) = xo (ix2 0 j)
      + ∑ r : Fin 1024, LossBackward.err (row (k0_pay4 (F := Ideal) a w) r) (row g 0) (row h r) (row x r) j
        * LossBackward.err (row (k0_pay4 (F := Ideal) a w) r) (row g 0) (row h r) (row x r) j := by
  have h10 := fun r => pay10_apply a w g h x r j
  unfold k0_pay11
  generalize k0_pay10 (F := Ideal) a w g h x = y at h10
  pointwise
  simp only [h10]

theorem pay1_apply (hatv d : FVec Ideal S1024x1024 .f32) (xo : Vec Ideal S1x1024 .f32) (j : Fin 1024) :
    k0_pay1 (F := Ideal) hatv d xo (ix2 0 j) = xo (ix2 0 j) + ∑ r : Fin 1024, d (ix2 r j) * hatv (ix2 r j) := by
  pointwise [k0_pay1]

theorem pay2_apply (g : Vec Ideal S1x1024 .f32) (i : FVec Ideal S1024x1 .f32) (hatv d : FVec Ideal S1024x1024 .f32) (r j : Fin 1024) :
    k0_pay2 (F := Ideal) g i hatv d (ix2 r j) = i (ix2 r 0) * (d (ix2 r j) * g (ix2 0 j)
      - hatv (ix2 r j) * Ideal.div (∑ k, d (ix2 r k) * g (ix2 0 k) * hatv (ix2 r k)) count) := by
  pointwise [k0_pay2]

theorem pay3_apply (s : Vec Ideal S1x1024 .f32) : k0_pay3 (F := Ideal) s (ix2 0 0) = halfPerColumn * ∑ j, s (ix2 0 j) := by
  pointwise [k0_pay3]

theorem pay5_apply (i : S1x1024.Idx) : k0_pay5 (F := Ideal) i = 0 := by
  pointwise [k0_pay5]

theorem pay6_apply (i : S1x1024.Idx) : k0_pay6 (F := Ideal) i = 0 := by
  pointwise [k0_pay6]

/-! ## The rows of a point's blocks -/

theorem row_f (t : Fin cfg0.N) (r : Fin 1024) : row (k0_pay4 (F := Ideal) (iblk m c 0 t) (iblk m c 1 t)) r = (args m c).f (rowOf t r) := by
  funext j
  refine (pay4_apply _ _ r j).trans ?_
  simp only [iblk0, iblk1]; rfl

theorem row_h (t : Fin cfg0.N) (r : Fin 1024) : row (iblk m c 2 t) r = (args m c).h (rowOf t r) := funext (iblk2 m c t r)
theorem row_target (t : Fin cfg0.N) (r : Fin 1024) : row (iblk m c 3 t) r = (args m c).target (rowOf t r) := funext (iblk3 m c t r)
theorem row_g (t : Fin cfg0.N) : row (iblk m c 4 t) (0 : Fin 1) = (args m c).g := funext (iblk4 m c t)

theorem dyBlk_apply (t : Fin cfg0.N) (r j : Fin 1024) : dyBlk (F := Ideal) m c t (ix2 r j) = (args m c).dy (rowOf t r) j := by
  refine (pay12_apply _ _ _ _ _ r j).trans ?_
  rw [row_f, row_h, row_target, row_g]; rfl

theorem hat_apply (t : Fin cfg0.N) (r j : Fin 1024) :
    k0_pay9 (F := Ideal) (iblk m c 0 t) (iblk m c 1 t) (ix2 r j) = hat ((args m c).f (rowOf t r)) j := by
  refine (pay9_apply _ _ r j).trans ?_
  rw [row_f]

theorem dfBlk_apply (t : Fin cfg0.N) (r j : Fin 1024) : (dfBlk (F := Ideal) m c t (ix2 r j) : EReal) = (args m c).df (rowOf t r) j := by
  refine (pay2_apply _ _ _ _ r j).trans ?_
  rw [pay8_apply, row_f]
  simp only [dyBlk_apply, hat_apply, iblk4]; rfl

/-! ## The result arrays -/

/-- The four results. -/
abbrev G0 : S8192x1024.Idx → EReal := fun i => (args m c).dy (i 0) (i 1)
abbrev G1 : S8192x1024.Idx → EReal := fun i => (args m c).df (i 0) (i 1)
abbrev G2 : S1x1024.Idx → EReal := fun i => (args m c).dg (i 1)
abbrev G3 : S1x1.Idx → EReal := fun _ => (args m c).loss

theorem flushed_dy (t : Fin cfg0.N) (_ : (cfg0.win 5).flush t = true) :
    (dats m 0 c).flushed 5 t = ((cfg0.win 5).blk t).view.read (Elt Ideal) (G0 m c) := by
  rw [Value.flushed5]
  funext i
  obtain ⟨r, j, rfl⟩ : ∃ r j, i = ix2 r j := ⟨i 0, i 1, eq_ix2 i⟩
  rw [View.read_apply]
  refine ((congrFun (after_dy m c t) _).trans (dyBlk_apply m c t r j)).trans
    (congrArg (G0 m c) (funext fun a => Fin.ext ?_) : G0 m c (ix2 (rowOf t r) j) = _)
  obtain ⟨h0, h1⟩ := (index_moving t).2.2.2.1
  match a with
  | ⟨0, _⟩ => show 1024 * t.val + r.val = win0_5.index t 0 * 1024 + 1 * r.val; rw [h0]; omega
  | ⟨1, _⟩ => show j.val = win0_5.index t 1 * 1024 + 1 * j.val; rw [h1]; omega

theorem flushed_df (t : Fin cfg0.N) (_ : (cfg0.win 6).flush t = true) :
    (dats m 0 c).flushed 6 t = ((cfg0.win 6).blk t).view.read (Elt Ideal) (G1 m c) := by
  rw [Value.flushed6]
  funext i
  obtain ⟨r, j, rfl⟩ : ∃ r j, i = ix2 r j := ⟨i 0, i 1, eq_ix2 i⟩
  rw [View.read_apply]
  refine ((congrFun (after_df m c t) _).trans (dfBlk_apply m c t r j)).trans
    (congrArg (G1 m c) (funext fun a => Fin.ext ?_) : G1 m c (ix2 (rowOf t r) j) = _)
  obtain ⟨h0, h1⟩ := (index_moving t).2.2.2.2
  match a with
  | ⟨0, _⟩ => show 1024 * t.val + r.val = win0_6.index t 0 * 1024 + 1 * r.val; rw [h0]; omega
  | ⟨1, _⟩ => show j.val = win0_6.index t 1 * 1024 + 1 * j.val; rw [h1]; omega

/-- The running sum for the scale, after the last point has met every row. -/
theorem dg_apply (j : Fin 1024) : ((outsAt0 m c t0_7.val t0_7.isLt).2.2.2.1 : S1x1024.Idx → EReal) (ix2 0 j) = (args m c).dg j := by
  have hN : cfg0.N = 8 := N_0
  refine (Sums.running (fun n h => ((outsAt0 m c n h).2.2.2.1 : S1x1024.Idx → EReal) (ix2 0 j))
    (fun n h => ∑ r : Fin 1024, dscale ((args m c).dy (rowOf ⟨n, h⟩ r)) ((args m c).f (rowOf ⟨n, h⟩ r)) j) ?_ ?_ 7 t0_7.isLt).trans ?_
  · intro h
    refine (congrFun (first_dg m c ⟨0, h⟩ rfl) _).trans ((pay1_apply _ _ _ j).trans ?_)
    rw [pay6_apply, zero_add]
    simp only [dyBlk_apply, hat_apply]; rfl
  · intro n h
    refine (congrFun (next_dg m c n h (by omega)) _).trans ((pay1_apply _ _ _ j).trans ?_)
    simp only [dyBlk_apply, hat_apply]; rfl
  · exact Sums.blocks 8 1024 fun t => dscale ((args m c).dy t) ((args m c).f t) j

/-- The running sum of squares, after the last point. -/
theorem sq_apply (j : Fin 1024) : ((outsAt0 m c t0_7.val t0_7.isLt).2.2.1 : S1x1024.Idx → EReal) (ix2 0 j) = (args m c).sq j := by
  have hN : cfg0.N = 8 := N_0
  refine (Sums.running (fun n h => ((outsAt0 m c n h).2.2.1 : S1x1024.Idx → EReal) (ix2 0 j))
    (fun n h => ∑ r : Fin 1024, (args m c).err (rowOf ⟨n, h⟩ r) j * (args m c).err (rowOf ⟨n, h⟩ r) j) ?_ ?_ 7 t0_7.isLt).trans ?_
  · intro h
    refine (congrFun (first_sq m c ⟨0, h⟩ rfl) _).trans ((pay11_apply _ _ _ _ _ _ j).trans ?_)
    rw [pay5_apply, zero_add]
    simp only [row_f, row_h, row_target, row_g]; rfl
  · intro n h
    refine (congrFun (next_sq m c n h (by omega)) _).trans ((pay11_apply _ _ _ _ _ _ j).trans ?_)
    simp only [row_f, row_h, row_target, row_g]; rfl
  · exact Sums.blocks 8 1024 fun t => (args m c).err t j * (args m c).err t j

theorem loss_apply : ((outsAt0 m c t0_7.val t0_7.isLt).2.2.2.2 : S1x1.Idx → EReal) (ix2 0 0) = (args m c).loss := by
  refine (congrFun (last_loss m c t0_7 rfl) _).trans ((pay3_apply _).trans ?_)
  simp only [sq_apply]; rfl

theorem flushed_dg (t : Fin cfg0.N) (hf : (cfg0.win 8).flush t = true) :
    (dats m 0 c).flushed 8 t = ((cfg0.win 8).blk t).view.read (Elt Ideal) (G2 m c) := by
  obtain rfl : t = t0_7 := Fin.ext (by
    have h := (flush0_8 t).mp hf; have hN : cfg0.N = 8 := N_0; have := t.isLt; show t.val = 7; omega)
  rw [Value.flushed8]
  funext i
  obtain ⟨u, j, rfl⟩ : ∃ u j, i = ix2 u j := ⟨i 0, i 1, eq_ix2 i⟩
  obtain rfl : u = 0 := Subsingleton.elim _ _
  rw [View.read_apply]
  refine (dg_apply m c j).trans (congrArg (G2 m c) (funext fun a => Fin.ext ?_) : G2 m c (ix2 0 j) = _)
  obtain ⟨h0, h1⟩ := (index_resting t0_7).2.2.1
  match a with
  | ⟨0, _⟩ => show 0 = win0_8.index t0_7 0 * 1 + 1 * 0; rw [h0]
  | ⟨1, _⟩ => show j.val = win0_8.index t0_7 1 * 1024 + 1 * j.val; rw [h1]; omega

theorem flushed_loss (t : Fin cfg0.N) (hf : (cfg0.win 9).flush t = true) :
    (dats m 0 c).flushed 9 t = ((cfg0.win 9).blk t).view.read (Elt Ideal) (G3 m c) := by
  obtain rfl : t = t0_7 := Fin.ext (by
    have h := (flush0_9 t).mp hf; have hN : cfg0.N = 8 := N_0; have := t.isLt; show t.val = 7; omega)
  rw [Value.flushed9]
  funext i
  obtain ⟨u, j, rfl⟩ : ∃ u j, i = ix2 u j := ⟨i 0, i 1, eq_ix2 i⟩
  obtain rfl : u = 0 := Subsingleton.elim _ _
  obtain rfl : j = 0 := Subsingleton.elim _ _
  rw [View.read_apply]
  exact loss_apply m c

/-- Row `t` is in the block of point `t / 1024`. -/
def pointOf (i : S8192x1024.Idx) : Fin cfg0.N :=
  ⟨(i 0).val / 1024, by have h : cfg0.N = 8 := N_0; have : (i 0 : Nat) < 8192 := (i 0).isLt; omega⟩

theorem final_dy : (dats m 0 c).arrAt 5 cfg0.N = G0 m c :=
  (dats m 0 c).arrAt_eq_of_cover 5 (G0 m c) (flushed_dy m c) fun i => ⟨pointOf i, flush0_5 _, by
    show i ∈ ((View.whole main_v2_0).slice (win0_5.rect (pointOf i))).set
    rw [View.set_slice_whole, Rect.mem_set_unit]
    obtain ⟨h0, h1⟩ := (index_moving (pointOf i)).2.2.2.1
    have hp : (pointOf i).val = (i 0).val / 1024 := rfl
    have : (i 1 : Nat) < 1024 := (i 1).isLt
    intro a
    match a with
    | ⟨0, _⟩ => show win0_5.index (pointOf i) 0 * 1024 ≤ (i 0 : Nat) ∧ (i 0 : Nat) < win0_5.index (pointOf i) 0 * 1024 + 1024; rw [h0]; omega
    | ⟨1, _⟩ => show win0_5.index (pointOf i) 1 * 1024 ≤ (i 1 : Nat) ∧ (i 1 : Nat) < win0_5.index (pointOf i) 1 * 1024 + 1024; rw [h1]; omega⟩

theorem final_df : (dats m 0 c).arrAt 6 cfg0.N = G1 m c :=
  (dats m 0 c).arrAt_eq_of_cover 6 (G1 m c) (flushed_df m c) fun i => ⟨pointOf i, flush0_6 _, by
    show i ∈ ((View.whole main_v2_1).slice (win0_6.rect (pointOf i))).set
    rw [View.set_slice_whole, Rect.mem_set_unit]
    obtain ⟨h0, h1⟩ := (index_moving (pointOf i)).2.2.2.2
    have hp : (pointOf i).val = (i 0).val / 1024 := rfl
    have : (i 1 : Nat) < 1024 := (i 1).isLt
    intro a
    match a with
    | ⟨0, _⟩ => show win0_6.index (pointOf i) 0 * 1024 ≤ (i 0 : Nat) ∧ (i 0 : Nat) < win0_6.index (pointOf i) 0 * 1024 + 1024; rw [h0]; omega
    | ⟨1, _⟩ => show win0_6.index (pointOf i) 1 * 1024 ≤ (i 1 : Nat) ∧ (i 1 : Nat) < win0_6.index (pointOf i) 1 * 1024 + 1024; rw [h1]; omega⟩

theorem final_dg : (dats m 0 c).arrAt 8 cfg0.N = G2 m c :=
  (dats m 0 c).arrAt_eq_of_cover 8 (G2 m c) (flushed_dg m c) fun i => ⟨t0_7, (flush0_8 t0_7).mpr rfl, by
    show i ∈ ((View.whole main_v2_3).slice (win0_8.rect t0_7)).set
    rw [View.set_slice_whole, Rect.mem_set_unit]
    obtain ⟨h0, h1⟩ := (index_resting t0_7).2.2.1
    have : (i 0 : Nat) < 1 := (i 0).isLt
    have : (i 1 : Nat) < 1024 := (i 1).isLt
    intro a
    match a with
    | ⟨0, _⟩ => show win0_8.index t0_7 0 * 1 ≤ (i 0 : Nat) ∧ (i 0 : Nat) < win0_8.index t0_7 0 * 1 + 1; rw [h0]; omega
    | ⟨1, _⟩ => show win0_8.index t0_7 1 * 1024 ≤ (i 1 : Nat) ∧ (i 1 : Nat) < win0_8.index t0_7 1 * 1024 + 1024; rw [h1]; omega⟩

theorem final_loss : (dats m 0 c).arrAt 9 cfg0.N = G3 m c :=
  (dats m 0 c).arrAt_eq_of_cover 9 (G3 m c) (flushed_loss m c) fun i => ⟨t0_7, (flush0_9 t0_7).mpr rfl, by
    show i ∈ ((View.whole main_v2_4).slice (win0_9.rect t0_7)).set
    rw [View.set_slice_whole, Rect.mem_set_unit]
    obtain ⟨h0, h1⟩ := (index_resting t0_7).2.2.2
    have : (i 0 : Nat) < 1 := (i 0).isLt
    have : (i 1 : Nat) < 1 := (i 1).isLt
    intro a
    match a with
    | ⟨0, _⟩ => show win0_9.index t0_7 0 * 1 ≤ (i 0 : Nat) ∧ (i 0 : Nat) < win0_9.index t0_7 0 * 1 + 1; rw [h0]; omega
    | ⟨1, _⟩ => show win0_9.index t0_7 1 * 1 ≤ (i 1 : Nat) ∧ (i 1 : Nat) < win0_9.index t0_7 1 * 1 + 1; rw [h1]; omega⟩

/-- The run: the four results, and the arguments unchanged. -/
theorem run : θ_run defs (onTc (τ := τ) (main (F := Ideal))) ⟨m, fun _ => 0, ρ⟩ fun r => ∀ c : Dev nD,
      r.2.mem ((c : Thread nD τ).loc main_v2_0) = G0 m c
      ∧ r.2.mem ((c : Thread nD τ).loc main_v2_1) = G1 m c
      ∧ r.2.mem ((c : Thread nD τ).loc main_v2_3) = G2 m c
      ∧ r.2.mem ((c : Thread nD τ).loc main_v2_4) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h0, h1, _, h3, h4, hargs⟩ := h c
    exact ⟨h0.trans (final_dy m c), h1.trans (final_df m c), h3.trans (final_dg m c), h4.trans (final_loss m c), hargs⟩)
    (Value.run_blocks m ρ)

end Cert.Kernel3Ideal.Final
-- ==== Proof.LossReference.lean ====
/-
  The loss and the last product's gradient: what the reference computes, at an index over the extended reals, and its
  run.
-/
module

public import proofs.«01_k».proof.Proof.Gen.Reference3Ideal.Run
public import proofs.«01_k».proof.Proof.Gen.Reference3Ideal.Read
public import proofs.«01_k».proof.Proof.LossSpec
public import Idealize.ShloMosaic.Lib.Tactic

@[expose] public section

set_option maxRecDepth 16384

noncomputable section

namespace Cert.Reference3Ideal.Stages

open Idealize.ShloMosaic Idealize.ShloMosaic.TcCoe Idealize.SL.Sem
open Cert.Reference3Ideal Cert.Reference3Ideal.Read RmsBackward MidBackward LossBackward

variable (x0 : (⟨S8192x2816, .f32⟩ : BufTy).Contents (Elt Ideal)) (x1 : (⟨S2816x1024, .f32⟩ : BufTy).Contents (Elt Ideal))
  (x2 : (⟨S1x1024, .f32⟩ : BufTy).Contents (Elt Ideal)) (x3 : (⟨S8192x1024, .f32⟩ : BufTy).Contents (Elt Ideal))
  (x4 : (⟨S8192x1024, .f32⟩ : BufTy).Contents (Elt Ideal))

/-- The arguments, as the specification takes them. -/
def args : LossBackward.Args where
  act t k := (x0 : S8192x2816.Idx → EReal) (ix2 t k)
  w k j := (x1 : S2816x1024.Idx → EReal) (ix2 k j)
  g j := (x2 : S1x1024.Idx → EReal) (ix2 0 j)
  h t j := (x3 : S8192x1024.Idx → EReal) (ix2 t j)
  target t j := (x4 : S8192x1024.Idx → EReal) (ix2 t j)

theorem v0 (t : Fin 8192) (j : Fin 1024) : val_main_v0 (F := Ideal) x0 x1 (ix2 t j) = (args x0 x1 x2 x3 x4).f t j := by
  pointwise [val_main_v0]
  rfl

theorem v7 (t : Fin 8192) : val_main_v7 (F := Ideal) x0 x1 (ix2 t 0) = ms ((args x0 x1 x2 x3 x4).f t) := by
  have h := v0 x0 x1 x2 x3 x4 t
  unfold val_main_v7 val_main_v5 val_main_v3 val_main_v2 val_main_v1
  generalize val_main_v0 (F := Ideal) x0 x1 = y at h
  pointwise [val_main_v6, val_main_cst_1, val_main_v4, val_main_cst_0, val_main_cst]
  simp only [h]; rfl

theorem v8 (t : Fin 8192) : val_main_v8 (F := Ideal) x0 x1 (ix2 t 0) = inv ((args x0 x1 x2 x3 x4).f t) := by
  rw [val_main_v8_apply, v7 x0 x1 x2 x3 x4]
  rfl

theorem v13 (t : Fin 8192) (j : Fin 1024) : val_main_v13 (F := Ideal) x0 x1 (ix2 t j) = hat ((args x0 x1 x2 x3 x4).f t) j := by
  have h0 := v0 x0 x1 x2 x3 x4 t j
  have h := v8 x0 x1 x2 x3 x4 t
  unfold val_main_v13 val_main_v12
  generalize val_main_v0 (F := Ideal) x0 x1 = y0 at h0
  generalize val_main_v8 (F := Ideal) x0 x1 = y at h
  pointwise
  rw [h0, h]; rfl

theorem v17 (t : Fin 8192) (j : Fin 1024) : val_main_v17 (F := Ideal) x0 x1 x2 x3 x4 (ix2 t j) = (args x0 x1 x2 x3 x4).err t j := by
  have h := v13 x0 x1 x2 x3 x4 t j
  unfold val_main_v17 val_main_v16 val_main_v15 val_main_v14
  generalize val_main_v13 (F := Ideal) x0 x1 = y at h
  pointwise
  rw [h]; rfl

/-- The loss. -/
theorem v25 (i : S_.Idx) : val_main_v25 (F := Ideal) x0 x1 x2 x3 x4 i = (args x0 x1 x2 x3 x4).loss := by
  have h := v17 x0 x1 x2 x3 x4
  rw [← Args.loss_eq]
  unfold val_main_v25 val_main_v24 val_main_v23 val_main_v21 val_main_v18
  generalize val_main_v17 (F := Ideal) x0 x1 x2 x3 x4 = y at h
  pointwise [val_main_v22, val_main_cst_4, val_main_cst_5, val_main_cst_6, val_main_cst_7]
  simp only [h]

theorem v52 (i : S1x1.Idx) : val_main_v52 (F := Ideal) x0 x1 x2 x3 x4 i = (args x0 x1 x2 x3 x4).loss := by
  unfold val_main_v52
  exact v25 x0 x1 x2 x3 x4 _

/-- The gradient of the residual stream. -/
theorem v31 (t : Fin 8192) (j : Fin 1024) : val_main_v31 (F := Ideal) x0 x1 x2 x3 x4 (ix2 t j) = (args x0 x1 x2 x3 x4).dy t j := by
  have h := v17 x0 x1 x2 x3 x4 t j
  rw [← Args.dy_eq]
  unfold val_main_v31 val_main_v20
  generalize val_main_v17 (F := Ideal) x0 x1 x2 x3 x4 = y at h
  pointwise [val_main_v30, val_main_v29, val_main_v28, val_main_v27, val_main_v26, val_main_v19, val_main_cst_3, val_main_cst_8,
    val_main_cst_9, val_main_cst_10]
  rw [h]

/-- The gradient of the scale. -/
theorem v34 (j : Fin 1024) : val_main_v34 (F := Ideal) x0 x1 x2 x3 x4 (ix2 0 j) = (args x0 x1 x2 x3 x4).dg j := by
  have h := v13 x0 x1 x2 x3 x4
  have h' := v31 x0 x1 x2 x3 x4
  unfold val_main_v34 val_main_v33 val_main_v32
  generalize val_main_v13 (F := Ideal) x0 x1 = y at h
  generalize val_main_v31 (F := Ideal) x0 x1 x2 x3 x4 = y' at h'
  pointwise [val_main_cst_11]
  simp only [h, h', mul_comm (hat _ _)]; rfl

theorem v36 (t : Fin 8192) (j : Fin 1024) :
    val_main_v36 (F := Ideal) x0 x1 x2 x3 x4 (ix2 t j) = (args x0 x1 x2 x3 x4).dy t j * (args x0 x1 x2 x3 x4).g j := by
  have h' := v31 x0 x1 x2 x3 x4 t j
  unfold val_main_v36 val_main_v35
  generalize val_main_v31 (F := Ideal) x0 x1 x2 x3 x4 = y' at h'
  pointwise
  rw [h']; rfl

/-- The cotangent of the sum of squares, copied along the row. -/
theorem v46 (t : Fin 8192) (j : Fin 1024) : val_main_v46 (F := Ideal) x0 x1 x2 x3 x4 (ix2 t j)
    = slope ((args x0 x1 x2 x3 x4).f t) fun k => (args x0 x1 x2 x3 x4).dy t k * (args x0 x1 x2 x3 x4).g k := by
  have h0 := v0 x0 x1 x2 x3 x4 t
  have h7 := v7 x0 x1 x2 x3 x4 t
  have h8 := v8 x0 x1 x2 x3 x4 t
  have h36 := v36 x0 x1 x2 x3 x4 t
  unfold val_main_v46 val_main_v45 val_main_v44 val_main_v42 val_main_v39 val_main_v38 val_main_v37 val_main_v11 val_main_v9
  generalize val_main_v0 (F := Ideal) x0 x1 = y0 at h0
  generalize val_main_v7 (F := Ideal) x0 x1 = y7 at h7
  generalize val_main_v8 (F := Ideal) x0 x1 = y8 at h8
  generalize val_main_v36 (F := Ideal) x0 x1 x2 x3 x4 = y36 at h36
  pointwise [val_main_cst_14, val_main_v43, val_main_cst_13, val_main_cst_12, val_main_v10, val_main_cst_2]
  simp only [h0, h7, h8, h36, Fin.sum_univ_one]; rfl

/-- The gradient of the last product. -/
theorem v51 (t : Fin 8192) (j : Fin 1024) : val_main_v51 (F := Ideal) x0 x1 x2 x3 x4 (ix2 t j) = (args x0 x1 x2 x3 x4).df t j := by
  have h0 := v0 x0 x1 x2 x3 x4 t j
  have h8 := v8 x0 x1 x2 x3 x4 t
  have h36 := v36 x0 x1 x2 x3 x4 t j
  have h46 := v46 x0 x1 x2 x3 x4 t j
  show _ = grad ((args x0 x1 x2 x3 x4).f t) (fun k => (args x0 x1 x2 x3 x4).dy t k * (args x0 x1 x2 x3 x4).g k) j
  rw [← vjp_eq_grad]
  unfold vjp
  unfold val_main_v51 val_main_v50 val_main_v49 val_main_v48 val_main_v47 val_main_v41 val_main_v40
  generalize val_main_v0 (F := Ideal) x0 x1 = y0 at h0
  generalize val_main_v8 (F := Ideal) x0 x1 = y8 at h8
  generalize val_main_v36 (F := Ideal) x0 x1 x2 x3 x4 = y36 at h36
  generalize val_main_v46 (F := Ideal) x0 x1 x2 x3 x4 = y46 at h46
  pointwise
  rw [h0, h8, h36, h46]

end Cert.Reference3Ideal.Stages

namespace Cert.Reference3Ideal.Final

open Idealize.ShloMosaic Idealize.ShloMosaic.TcCoe Idealize.SL.Sem
open Cert.Reference3Ideal

variable (m : (ℓ : Loc nD τ sig) → Buf (Elt Ideal) ℓ) (ρ : Dev nD → PrngReg)

/-- The arguments on device `c`. -/
abbrev args (c : Dev nD) : LossBackward.Args :=
  Stages.args (m ((c : Thread nD τ).loc main_arg0)) (m ((c : Thread nD τ).loc main_arg1)) (m ((c : Thread nD τ).loc main_arg2))
    (m ((c : Thread nD τ).loc main_arg3)) (m ((c : Thread nD τ).loc main_arg4))

theorem run : θ_run defs (onTc (τ := τ) (main (F := Ideal))) ⟨m, fun _ => 0, ρ⟩ fun r => ∀ c : Dev nD,
      r.2.mem ((c : Thread nD τ).loc main_v31) = (fun i => (args m c).dy (i 0) (i 1) : S8192x1024.Idx → EReal)
      ∧ r.2.mem ((c : Thread nD τ).loc main_v51) = (fun i => (args m c).df (i 0) (i 1) : S8192x1024.Idx → EReal)
      ∧ r.2.mem ((c : Thread nD τ).loc main_v34) = (fun i => (args m c).dg (i 1) : S1x1024.Idx → EReal)
      ∧ r.2.mem ((c : Thread nD τ).loc main_v52) = (fun _ => (args m c).loss : S1x1.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h0, h1, h2, h3, hargs⟩ := h c
    refine ⟨(h0.trans (Read.val_main_v31_eq ..)).trans ?_, (h1.trans (Read.val_main_v51_eq m c)).trans ?_,
      (h2.trans (Read.val_main_v34_eq ..)).trans ?_, (h3.trans (Read.val_main_v52_eq ..)).trans ?_, hargs⟩
    · funext i
      obtain ⟨r, j, rfl⟩ : ∃ r j, i = ix2 r j := ⟨i 0, i 1, eq_ix2 i⟩
      exact Stages.v31 _ _ _ _ _ r j
    · funext i
      obtain ⟨r, j, rfl⟩ : ∃ r j, i = ix2 r j := ⟨i 0, i 1, eq_ix2 i⟩
      exact Stages.v51 _ _ _ _ _ r j
    · funext i
      obtain ⟨r, j, rfl⟩ : ∃ r j, i = ix2 r j := ⟨i 0, i 1, eq_ix2 i⟩
      obtain rfl : r = 0 := Subsingleton.elim _ _
      exact Stages.v34 _ _ _ _ _ j
    · funext i
      exact Stages.v52 _ _ _ _ _ i)
    (Value.run m ρ)

end Cert.Reference3Ideal.Final
-- ==== Proof.DownInput.lean ====
/-
  The gradient of the last product's activations: what the call leaves in its result array. Point `t` writes the block
  of rows `2048 (t / 2) …` and columns `1408 (t % 2) …`.
-/
module

public import proofs.«01_k».proof.Proof.Gen.Kernel4Ideal.Value
public import proofs.«01_k».proof.Proof.ProductSpec
public import Idealize.ShloMosaic.Lib.StableHlo.ReadAt

@[expose] public section

set_option maxRecDepth 16384

noncomputable section

namespace Cert.Kernel4Ideal.Final

open Idealize.ShloMosaic Idealize.ShloMosaic.TcCoe Idealize.SL.Sem
open Cert.Kernel4Ideal Cert.Kernel4Ideal.Gen

variable (m : (ℓ : Loc nD τ sig) → Buf (Elt Ideal) ℓ) (ρ : Dev nD → PrngReg) (c : Dev nD)

/-- The arguments, as the specification takes them. -/
def weights (n : Fin 2816) (j : Fin 1024) : EReal := (m ((c : Thread nD τ).loc main_arg0) : S2816x1024.Idx → EReal) (ix2 n j)
def cotangent (t : Fin 8192) (j : Fin 1024) : EReal := (m ((c : Thread nD τ).loc main_arg1) : S8192x1024.Idx → EReal) (ix2 t j)

theorem V_cotangent (t : Fin 8192) (j : Fin 1024) : (V m c main_v0 : S8192x1024.Idx → EReal) (ix2 t j) = cotangent m c t j := by
  unfold V hostOps0
  after_reads_at
  rfl

theorem V_weights (n : Fin 2816) (j : Fin 1024) : (V m c main_v1 : S2816x1024.Idx → EReal) (ix2 n j) = weights m c n j := by
  unfold V hostOps0
  after_reads_at
  rfl

/-- Where the blocks lie. -/
theorem index_at : ∀ t : Fin cfg0.N,
    (win0_0.index t 0 = t.val / 2 ∧ win0_0.index t 1 = 0) ∧ (win0_1.index t 0 = t.val % 2 ∧ win0_1.index t 1 = 0)
    ∧ (win0_2.index t 0 = t.val / 2 ∧ win0_2.index t 1 = t.val % 2) :=
  (by decide +kernel : ∀ t : Fin grid0.N,
    (win0_0.index t 0 = t.val / 2 ∧ win0_0.index t 1 = 0) ∧ (win0_1.index t 0 = t.val % 2 ∧ win0_1.index t 1 = 0)
    ∧ (win0_2.index t 0 = t.val / 2 ∧ win0_2.index t 1 = t.val % 2))

def rowOf (t : Fin cfg0.N) (r : Fin 2048) : Fin 8192 :=
  ⟨2048 * (t.val / 2) + r.val, by have h : cfg0.N = 8 := N_0; have := t.isLt; omega⟩
def colOf (t : Fin cfg0.N) (n : Fin 1408) : Fin 2816 := ⟨1408 * (t.val % 2) + n.val, by omega⟩

theorem iblk0 (t : Fin cfg0.N) (r : Fin 2048) (j : Fin 1024) :
    (iblk m c 0 t : S2048x1024.Idx → EReal) (ix2 r j) = cotangent m c (rowOf t r) j := by
  rw [← V_cotangent]
  unfold iblk
  rw [View.read_apply]
  refine congrArg (V m c main_v0) (funext fun a => Fin.ext ?_)
  obtain ⟨h0, h1⟩ := (index_at t).1
  match a with
  | ⟨0, _⟩ => show win0_0.index t 0 * 2048 + 1 * r.val = 2048 * (t.val / 2) + r.val; rw [h0]; omega
  | ⟨1, _⟩ => show win0_0.index t 1 * 1024 + 1 * j.val = j.val; rw [h1]; omega

theorem iblk1 (t : Fin cfg0.N) (n : Fin 1408) (j : Fin 1024) :
    (iblk m c 1 t : S1408x1024.Idx → EReal) (ix2 n j) = weights m c (colOf t n) j := by
  rw [← V_weights]
  unfold iblk
  rw [View.read_apply]
  refine congrArg (V m c main_v1) (funext fun a => Fin.ext ?_)
  obtain ⟨h0, h1⟩ := (index_at t).2.1
  match a with
  | ⟨0, _⟩ => show win0_1.index t 0 * 1408 + 1 * n.val = 1408 * (t.val % 2) + n.val; rw [h0]; omega
  | ⟨1, _⟩ => show win0_1.index t 1 * 1024 + 1 * j.val = j.val; rw [h1]; omega

theorem pay1_apply (x : Vec Ideal S2048x1024 .bf16) (y : Vec Ideal S1408x1024 .bf16) (r : Fin 2048) (n : Fin 1408) :
    k0_pay1 (F := Ideal) x y (ix2 r n) = ∑ j, x (ix2 r j) * y (ix2 n j) := by
  pointwise [k0_pay1]

theorem hz : (![0, 0] : Fin 2 → Nat) = fun _ => 0 := funext fun a => by fin_cases a <;> rfl

/-- What a point's body leaves in its block. -/
theorem block (x : Vec Ideal S2048x1024 .bf16) (y : Vec Ideal S1408x1024 .bf16) : out0_2 x y = k0_pay1 x y := by
  unfold out0_2
  rw [View.canon_unit_zero (S := S2048x1408) hz]
  simp only [View.ld_unit_zero (S := S2048x1024) hz, View.ld_unit_zero (S := S1408x1024) hz]

/-- The result. -/
abbrev G : S8192x2816.Idx → EReal := fun i => Product.dact (weights m c) (cotangent m c) (i 0) (i 1)

theorem flushed (t : Fin cfg0.N) (_ : (cfg0.win 2).flush t = true) :
    (dats m 0 c).flushed 2 t = ((cfg0.win 2).blk t).view.read (Elt Ideal) (G m c) := by
  rw [Value.flushed2, block]
  funext i
  obtain ⟨r, n, rfl⟩ : ∃ r n, i = ix2 r n := ⟨i 0, i 1, eq_ix2 i⟩
  rw [View.read_apply]
  refine ((pay1_apply _ _ r n).trans ?_).trans (congrArg (G m c) (funext fun a => Fin.ext ?_) : G m c (ix2 (rowOf t r) (colOf t n)) = _)
  · simp only [iblk0, iblk1]; rfl
  obtain ⟨h0, h1⟩ := (index_at t).2.2
  match a with
  | ⟨0, _⟩ => show 2048 * (t.val / 2) + r.val = win0_2.index t 0 * 2048 + 1 * r.val; rw [h0]; omega
  | ⟨1, _⟩ => show 1408 * (t.val % 2) + n.val = win0_2.index t 1 * 1408 + 1 * n.val; rw [h1]; omega

/-- The point whose block an index lies in. -/
def pointOf (i : S8192x2816.Idx) : Fin cfg0.N :=
  ⟨2 * ((i 0).val / 2048) + (i 1).val / 1408, by
    have h : cfg0.N = 8 := N_0
    have : (i 0 : Nat) < 8192 := (i 0).isLt
    have : (i 1 : Nat) < 2816 := (i 1).isLt
    omega⟩

theorem final : (dats m 0 c).arrAt 2 cfg0.N = G m c :=
  (dats m 0 c).arrAt_eq_of_cover 2 (G m c) (flushed m c) fun i => ⟨pointOf i, flush0_2 _, by
    show i ∈ ((View.whole main_v2).slice (win0_2.rect (pointOf i))).set
    rw [View.set_slice_whole, Rect.mem_set_unit]
    obtain ⟨h0, h1⟩ := (index_at (pointOf i)).2.2
    have hp : (pointOf i).val = 2 * ((i 0).val / 2048) + (i 1).val / 1408 := rfl
    have : (i 1 : Nat) < 2816 := (i 1).isLt
    intro a
    match a with
    | ⟨0, _⟩ => show win0_2.index (pointOf i) 0 * 2048 ≤ (i 0 : Nat) ∧ (i 0 : Nat) < win0_2.index (pointOf i) 0 * 2048 + 2048; rw [h0]; omega
    | ⟨1, _⟩ => show win0_2.index (pointOf i) 1 * 1408 ≤ (i 1 : Nat) ∧ (i 1 : Nat) < win0_2.index (pointOf i) 1 * 1408 + 1408; rw [h1]; omega⟩

/-- The run: the result, and the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel4Ideal.Final
-- ==== Proof.DownWeights.lean ====
/-
  The gradient of the last product's weights: what the call leaves in its result array. The rows are taken in four
  chunks of 2048: points `4 q`, …, `4 q + 3` add up the four chunks' products in a buffer that one point leaves to the
  next, and the last of them writes the block of rows `1408 q …` of the result.
-/
module

public import proofs.«01_k».proof.Proof.Gen.Kernel5Ideal.Value
public import proofs.«01_k».proof.Proof.ProductSpec
public import Idealize.ShloMosaic.Lib.StableHlo.ReadAt

@[expose] public section

set_option maxRecDepth 16384

noncomputable section

namespace Cert.Kernel5Ideal.Final

open Idealize.ShloMosaic Idealize.ShloMosaic.TcCoe Idealize.SL.Sem
open Cert.Kernel5Ideal Cert.Kernel5Ideal.Gen

/-! ## What a point leaves -/

section Body

variable {F : FTy → Type} [FloatOps F] (m : (ℓ : Loc nD τ sig) → Buf (Elt F) ℓ) (c : Dev nD)

theorem hz : (![0, 0] : Fin 2 → Nat) = fun _ => 0 := funext fun a => by fin_cases a <;> rfl

/-- The first point of a block starts the buffer at its chunk's product. -/
theorem first (t : Fin cfg0.N) (h : t.val % 4 = 0) : (outsAt0 m c t.val t.isLt).2 = k0_pay2 (iblk m c 0 t) (iblk m c 1 t) := by
  rw [outsAt0_A m c t h (by omega) (by omega)]
  dsimp only
  unfold sout0_A_0
  rw [View.read_writes_eq_canon _ _ _ (fun _ => scover0_A_0 ..)]
  unfold kernelRun0_A
  dsimp only
  sl_unfold_words
  rw [View.canon_unit_zero (S := S1408x1024) hz]
  simp only [View.readAt_eq_ld, Memref.IsWhole.read_unread, View.ld_unit_zero (S := S2048x1408) hz,
    View.ld_unit_zero (S := S2048x1024) hz]

/-- Every other point adds its chunk's product. -/
theorem next (n : ℕ) (hn : n + 1 < cfg0.N) (h : ¬(n + 1) % 4 = 0) : (outsAt0 m c (n + 1) hn).2
    = k0_pay3 (iblk m c 0 ⟨n + 1, hn⟩) (iblk m c 1 ⟨n + 1, hn⟩) (outsAt0 m c n (Nat.lt_of_succ_lt hn)).2 := by
  by_cases h' : (n + 1) % 4 = 3
  · rw [outsAt0_C m c ⟨n + 1, hn⟩ h (Nat.pos_of_ne_zero h) h']
    dsimp only
    unfold sout0_C_0
    rw [View.read_writes_eq_canon _ _ _ (fun _ => scover0_C_0 ..)]
    unfold kernelRun0_C
    dsimp only
    sl_unfold_words
    rw [View.canon_unit_zero (S := S1408x1024) hz]
    simp only [View.readAt_eq_ld, Memref.IsWhole.read_unread, View.ld_unit_zero (S := S2048x1408) hz,
      View.ld_unit_zero (S := S2048x1024) hz, View.ld_unit_zero (S := S1408x1024) hz]
    exact congrArg (k0_pay3 _ _) (Memref.IsWhole.read_unread (m := scM0_0) _ _)
  · rw [outsAt0_B m c ⟨n + 1, hn⟩ h (Nat.pos_of_ne_zero h) h']
    dsimp only
    unfold sout0_B_0
    rw [View.read_writes_eq_canon _ _ _ (fun _ => scover0_B_0 ..)]
    unfold kernelRun0_B
    dsimp only
    sl_unfold_words
    rw [View.canon_unit_zero (S := S1408x1024) hz]
    simp only [View.readAt_eq_ld, Memref.IsWhole.read_unread, View.ld_unit_zero (S := S2048x1408) hz,
      View.ld_unit_zero (S := S2048x1024) hz, View.ld_unit_zero (S := S1408x1024) hz]
    exact congrArg (k0_pay3 _ _) (Memref.IsWhole.read_unread (m := scM0_0) _ _)

/-- The last point of a block writes what the buffer then holds. -/
theorem last (t : Fin cfg0.N) (h : t.val % 4 = 3) : (outsAt0 m c t.val t.isLt).1 = (outsAt0 m c t.val t.isLt).2 := by
  rw [outsAt0_C m c t (by omega) (by omega) h]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero (S := S1408x1024) hz, View.canon_unit_zero (S := S1408x1024) hz]
  simp only [View.readCov_unit_zero (S := S1408x1024) _ hz]

end Body

/-! ## The blocks of the arguments -/

variable (m : (ℓ : Loc nD τ sig) → Buf (Elt Ideal) ℓ) (ρ : Dev nD → PrngReg) (c : Dev nD)

/-- The arguments, as the specification takes them. -/
def act (t : Fin 8192) (n : Fin 2816) : EReal := (m ((c : Thread nD τ).loc main_arg0) : S8192x2816.Idx → EReal) (ix2 t n)
def cotangent (t : Fin 8192) (j : Fin 1024) : EReal := (m ((c : Thread nD τ).loc main_arg1) : S8192x1024.Idx → EReal) (ix2 t j)

theorem V_act (t : Fin 8192) (n : Fin 2816) : (V m c main_v0 : S8192x2816.Idx → EReal) (ix2 t n) = act m c t n := by
  unfold V hostOps0
  after_reads_at
  rfl

theorem V_cotangent (t : Fin 8192) (j : Fin 1024) : (V m c main_v1 : S8192x1024.Idx → EReal) (ix2 t j) = cotangent m c t j := by
  unfold V hostOps0
  after_reads_at
  rfl

/-- Where the blocks lie. -/
theorem index_at : ∀ t : Fin cfg0.N,
    (win0_0.index t 0 = t.val % 4 ∧ win0_0.index t 1 = t.val / 4) ∧ (win0_1.index t 0 = t.val % 4 ∧ win0_1.index t 1 = 0)
    ∧ (win0_2.index t 0 = t.val / 4 ∧ win0_2.index t 1 = 0) :=
  (by decide +kernel : ∀ t : Fin grid0.N,
    (win0_0.index t 0 = t.val % 4 ∧ win0_0.index t 1 = t.val / 4) ∧ (win0_1.index t 0 = t.val % 4 ∧ win0_1.index t 1 = 0)
    ∧ (win0_2.index t 0 = t.val / 4 ∧ win0_2.index t 1 = 0))

def chunkRow (t : Fin cfg0.N) (r : Fin 2048) : Fin 8192 := ⟨2048 * (t.val % 4) + r.val, by omega⟩
def rowOf (t : Fin cfg0.N) (n : Fin 1408) : Fin 2816 :=
  ⟨1408 * (t.val / 4) + n.val, by have h : cfg0.N = 8 := N_0; have := t.isLt; omega⟩

theorem iblk0 (t : Fin cfg0.N) (r : Fin 2048) (n : Fin 1408) :
    (iblk m c 0 t : S2048x1408.Idx → EReal) (ix2 r n) = act m c (chunkRow t r) (rowOf t n) := by
  rw [← V_act]
  unfold iblk
  rw [View.read_apply]
  refine congrArg (V m c main_v0) (funext fun a => Fin.ext ?_)
  obtain ⟨h0, h1⟩ := (index_at t).1
  match a with
  | ⟨0, _⟩ => show win0_0.index t 0 * 2048 + 1 * r.val = 2048 * (t.val % 4) + r.val; rw [h0]; omega
  | ⟨1, _⟩ => show win0_0.index t 1 * 1408 + 1 * n.val = 1408 * (t.val / 4) + n.val; rw [h1]; omega

theorem iblk1 (t : Fin cfg0.N) (r : Fin 2048) (j : Fin 1024) :
    (iblk m c 1 t : S2048x1024.Idx → EReal) (ix2 r j) = cotangent m c (chunkRow t r) j := by
  rw [← V_cotangent]
  unfold iblk
  rw [View.read_apply]
  refine congrArg (V m c main_v1) (funext fun a => Fin.ext ?_)
  obtain ⟨h0, h1⟩ := (index_at t).2.1
  match a with
  | ⟨0, _⟩ => show win0_1.index t 0 * 2048 + 1 * r.val = 2048 * (t.val % 4) + r.val; rw [h0]; omega
  | ⟨1, _⟩ => show win0_1.index t 1 * 1024 + 1 * j.val = j.val; rw [h1]; omega

/-! ## The sum over the chunks -/

/-- The product of two blocks, contracted over their rows. -/
def prod (x : Vec Ideal S2048x1408 .bf16) (y : Vec Ideal S2048x1024 .bf16) (n : Fin 1408) (j : Fin 1024) : EReal :=
  ∑ r, x (ix2 r n) * y (ix2 r j)

theorem pay1_apply (x : Vec Ideal S2048x1408 .bf16) (y : Vec Ideal S2048x1024 .bf16) (n : Fin 1408) (j : Fin 1024) :
    k0_pay1 (F := Ideal) x y (ix2 n j) = prod x y n j := by
  unfold prod
  pointwise [k0_pay1]

theorem pay2_apply (x : Vec Ideal S2048x1408 .bf16) (y : Vec Ideal S2048x1024 .bf16) (n : Fin 1408) (j : Fin 1024) :
    k0_pay2 (F := Ideal) x y (ix2 n j) = prod x y n j := by
  unfold prod
  pointwise [k0_pay2, k0_pay1]

theorem pay3_apply (x : Vec Ideal S2048x1408 .bf16) (y : Vec Ideal S2048x1024 .bf16) (z : Vec Ideal S1408x1024 .f32)
    (n : Fin 1408) (j : Fin 1024) :
    k0_pay3 (F := Ideal) x y z (ix2 n j) = z (ix2 n j) + prod x y n j := by
  refine Eq.trans ?_ (congrArg (z (ix2 n j) + ·) (pay1_apply x y n j))
  unfold k0_pay3
  generalize k0_pay1 x y = p
  pointwise

/-- The product of chunk `s`. -/
def chunk (n : Fin 2816) (j : Fin 1024) (s : Fin 4) : EReal :=
  ∑ r : Fin 2048, act m c ⟨2048 * s.val + r.val, by omega⟩ n * cotangent m c ⟨2048 * s.val + r.val, by omega⟩ j

theorem chunk_at (t : Fin cfg0.N) (s : Fin 4) (hs : t.val % 4 = s.val) (n : Fin 1408) (j : Fin 1024) :
    prod (iblk m c 0 t) (iblk m c 1 t) n j = chunk m c (rowOf t n) j s := by
  refine Finset.sum_congr rfl fun r _ => ?_
  have e : chunkRow t r = ⟨2048 * s.val + r.val, by omega⟩ := Fin.ext (by simp only [chunkRow, hs])
  rw [iblk0, iblk1, e]

/-- What the buffer holds once every chunk is added. -/
theorem total (t : Fin cfg0.N) (h : t.val % 4 = 3) (n : Fin 1408) (j : Fin 1024) :
    (outsAt0 m c t.val t.isLt).2 (ix2 n j) = Product.ddown (act m c) (cotangent m c) (rowOf t n) j := by
  have hN : cfg0.N = 8 := N_0
  have ht := t.isLt
  obtain ⟨q, hq⟩ : ∃ q, t.val = 4 * q + 3 := ⟨t.val / 4, by omega⟩
  have row : ∀ (k : ℕ) (hk : 4 * q + k < cfg0.N), k < 4 → rowOf ⟨4 * q + k, hk⟩ n = rowOf t n := fun k hk h4 =>
    Fin.ext (by simp only [rowOf]; omega)
  have run := Sums.running (N := 4) (fun k hk => (outsAt0 m c (4 * q + k) (by omega)).2 (ix2 n j))
    (fun s hs => chunk m c (rowOf t n) j ⟨s, hs⟩)
    (fun h0 => by
      refine (congrFun (first m c ⟨4 * q + 0, by omega⟩ (by dsimp only; omega)) _).trans ((pay2_apply _ _ n j).trans ?_)
      rw [chunk_at m c ⟨4 * q + 0, by omega⟩ ⟨0, h0⟩ (by dsimp only; omega), row 0 _ h0])
    (fun k hk => by
      refine (congrFun (next m c (4 * q + k) (by omega) (by omega)) _).trans ((pay3_apply _ _ _ n j).trans ?_)
      rw [chunk_at m c ⟨4 * q + k + 1, by omega⟩ ⟨k + 1, hk⟩ (by dsimp only; omega)]
      exact congrArg (fun r => _ + chunk m c r j ⟨k + 1, hk⟩) (row (k + 1) _ hk))
    3 (by omega)
  have last : (outsAt0 m c t.val t.isLt).2 (ix2 n j) = (outsAt0 m c (4 * q + 3) (by omega)).2 (ix2 n j) := by
    have e : ∀ (a b : ℕ) (ha : a < cfg0.N) (hb : b < cfg0.N), a = b → outsAt0 m c a ha = outsAt0 m c b hb := by
      rintro a _ ha hb rfl; rfl
    rw [e t.val (4 * q + 3) t.isLt (by omega) hq]
  rw [last]
  exact run.trans (Sums.blocks 4 2048 (fun t' : Fin 8192 => act m c t' (rowOf t n) * cotangent m c t' j))

/-! ## The result -/

abbrev G : S2816x1024.Idx → EReal := fun i => Product.ddown (act m c) (cotangent m c) (i 0) (i 1)

theorem flushed (t : Fin cfg0.N) (hf : (cfg0.win 2).flush t = true) :
    (dats m 0 c).flushed 2 t = ((cfg0.win 2).blk t).view.read (Elt Ideal) (G m c) := by
  have h : t.val % 4 = 3 := (flush0_2 t).mp hf
  rw [Value.flushed2, last m c t h]
  funext i
  obtain ⟨n, j, rfl⟩ : ∃ n j, i = ix2 n j := ⟨i 0, i 1, eq_ix2 i⟩
  rw [View.read_apply]
  refine (total m c t h n j).trans (congrArg (G m c) (funext fun a => Fin.ext ?_) : G m c (ix2 (rowOf t n) j) = _)
  obtain ⟨h0, h1⟩ := (index_at t).2.2
  match a with
  | ⟨0, _⟩ => show 1408 * (t.val / 4) + n.val = win0_2.index t 0 * 1408 + 1 * n.val; rw [h0]; omega
  | ⟨1, _⟩ => show j.val = win0_2.index t 1 * 1024 + 1 * j.val; rw [h1]; omega

/-- The point that writes the block an index lies in. -/
def pointOf (i : S2816x1024.Idx) : Fin cfg0.N :=
  ⟨4 * ((i 0).val / 1408) + 3, by
    have h : cfg0.N = 8 := N_0
    have : (i 0 : Nat) < 2816 := (i 0).isLt
    omega⟩

theorem final : (dats m 0 c).arrAt 2 cfg0.N = G m c :=
  (dats m 0 c).arrAt_eq_of_cover 2 (G m c) (flushed m c) fun i => ⟨pointOf i, (flush0_2 _).mpr (by show (4 * _ + 3) % 4 = 3; omega), by
    show i ∈ ((View.whole main_v2).slice (win0_2.rect (pointOf i))).set
    rw [View.set_slice_whole, Rect.mem_set_unit]
    obtain ⟨h0, h1⟩ := (index_at (pointOf i)).2.2
    have hp : (pointOf i).val = 4 * ((i 0).val / 1408) + 3 := rfl
    have : (i 1 : Nat) < 1024 := (i 1).isLt
    intro a
    match a with
    | ⟨0, _⟩ => show win0_2.index (pointOf i) 0 * 1408 ≤ (i 0 : Nat) ∧ (i 0 : Nat) < win0_2.index (pointOf i) 0 * 1408 + 1408; rw [h0]; omega
    | ⟨1, _⟩ => show win0_2.index (pointOf i) 1 * 1024 ≤ (i 1 : Nat) ∧ (i 1 : Nat) < win0_2.index (pointOf i) 1 * 1024 + 1024; rw [h1]; omega⟩

/-- The run: the result, and the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel5Ideal.Final
-- ==== Proof.ProductReference.lean ====
/-
  The references of the last product's two gradients: what they leave in their results.
-/
module

public import proofs.«01_k».proof.Proof.Gen.Reference4Ideal.Read
public import proofs.«01_k».proof.Proof.Gen.Reference5Ideal.Read
public import proofs.«01_k».proof.Proof.ProductSpec

@[expose] public section

set_option maxRecDepth 16384

noncomputable section

namespace Cert.Reference4Ideal.Final

open Idealize.ShloMosaic Idealize.ShloMosaic.TcCoe Idealize.SL.Sem
open Cert.Reference4Ideal Cert.Reference4Ideal.Read

variable (m : (ℓ : Loc nD τ sig) → Buf (Elt Ideal) ℓ) (ρ : Dev nD → PrngReg)

/-- The gradient of the activations. -/
theorem value (x0 : Vec Ideal S2816x1024 .f32) (x1 : Vec Ideal S8192x1024 .f32) (t : Fin 8192) (n : Fin 2816) :
    val_main_v2 (F := Ideal) x0 x1 (ix2 t n)
      = Product.dact (fun n j => (x0 : S2816x1024.Idx → EReal) (ix2 n j)) (fun t j => (x1 : S8192x1024.Idx → EReal) (ix2 t j)) t n := by
  unfold Product.dact val_main_v2
  pointwise

theorem run : θ_run defs (onTc (τ := τ) (main (F := Ideal))) ⟨m, fun _ => 0, ρ⟩ fun r => ∀ c : Dev nD,
      r.2.mem ((c : Thread nD τ).loc main_v2) = (fun i => Product.dact
        (fun n j => (m ((c : Thread nD τ).loc main_arg0) : S2816x1024.Idx → EReal) (ix2 n j))
        (fun t j => (m ((c : Thread nD τ).loc main_arg1) : S8192x1024.Idx → EReal) (ix2 t j)) (i 0) (i 1) : S8192x2816.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, hargs⟩ := h c
    refine ⟨(h0.trans (Read.val_main_v2_eq ..)).trans ?_, hargs⟩
    funext i
    obtain ⟨t, n, rfl⟩ : ∃ t n, i = ix2 t n := ⟨i 0, i 1, eq_ix2 i⟩
    exact value _ _ t n)
    (Value.run m ρ)

end Cert.Reference4Ideal.Final

namespace Cert.Reference5Ideal.Final

open Idealize.ShloMosaic Idealize.ShloMosaic.TcCoe Idealize.SL.Sem
open Cert.Reference5Ideal Cert.Reference5Ideal.Read

variable (m : (ℓ : Loc nD τ sig) → Buf (Elt Ideal) ℓ) (ρ : Dev nD → PrngReg)

/-- The gradient of the weights. -/
theorem value (x0 : Vec Ideal S8192x2816 .f32) (x1 : Vec Ideal S8192x1024 .f32) (n : Fin 2816) (j : Fin 1024) :
    val_main_v3 (F := Ideal) x0 x1 (ix2 n j)
      = Product.ddown (fun t n => (x0 : S8192x2816.Idx → EReal) (ix2 t n)) (fun t j => (x1 : S8192x1024.Idx → EReal) (ix2 t j)) n j := by
  unfold Product.ddown val_main_v3 val_main_v2
  pointwise
  exact Finset.sum_congr rfl fun t _ => mul_comm _ _

theorem run : θ_run defs (onTc (τ := τ) (main (F := Ideal))) ⟨m, fun _ => 0, ρ⟩ fun r => ∀ c : Dev nD,
      r.2.mem ((c : Thread nD τ).loc main_v3) = (fun i => Product.ddown
        (fun t n => (m ((c : Thread nD τ).loc main_arg0) : S8192x2816.Idx → EReal) (ix2 t n))
        (fun t j => (m ((c : Thread nD τ).loc main_arg1) : S8192x1024.Idx → EReal) (ix2 t j)) (i 0) (i 1) : S2816x1024.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, hargs⟩ := h c
    refine ⟨(h0.trans (Read.val_main_v3_eq ..)).trans ?_, hargs⟩
    funext i
    obtain ⟨n, j, rfl⟩ : ∃ n j, i = ix2 n j := ⟨i 0, i 1, eq_ix2 i⟩
    exact value _ _ n j)
    (Value.run m ρ)

end Cert.Reference5Ideal.Final
-- ==== Proof.UpWeights.lean ====
/-
  The gradient of the second half of the first product's weights: what the call leaves in its result array. It contracts
  the rows as the gradient of the last product's weights does, in four chunks of 2048 that points `4 q`, …, `4 q + 3` add
  up; the blocks it writes lie below the half that another call has filled, which is left as it is.
-/
module

public import proofs.«01_k».proof.Proof.Gen.Kernel6Ideal.Value
public import proofs.«01_k».proof.Proof.ProductSpec
public import Idealize.ShloMosaic.Lib.StableHlo.ReadAt

@[expose] public section

set_option maxRecDepth 16384

noncomputable section

namespace Cert.Kernel6Ideal.Final

open Idealize.ShloMosaic Idealize.ShloMosaic.TcCoe Idealize.SL.Sem
open Cert.Kernel6Ideal Cert.Kernel6Ideal.Gen

/-! ## What a point leaves -/

section Body

variable {F : FTy → Type} [FloatOps F] (m : (ℓ : Loc nD τ sig) → Buf (Elt F) ℓ) (c : Dev nD)

theorem hz : (![0, 0] : Fin 2 → Nat) = fun _ => 0 := funext fun a => by fin_cases a <;> rfl

/-- The first point of a block starts the buffer at its chunk's product. -/
theorem first (t : Fin cfg0.N) (h : t.val % 4 = 0) : (outsAt0 m c t.val t.isLt).2 = k0_pay2 (iblk m c 0 t) (iblk m c 1 t) := by
  rw [outsAt0_A m c t h (by omega) (by omega)]
  dsimp only
  unfold sout0_A_0
  rw [View.read_writes_eq_canon _ _ _ (fun _ => scover0_A_0 ..)]
  unfold kernelRun0_A
  dsimp only
  sl_unfold_words
  rw [View.canon_unit_zero (S := S1408x1024) hz]
  simp only [View.readAt_eq_ld, Memref.IsWhole.read_unread, View.ld_unit_zero (S := S2048x1408) hz,
    View.ld_unit_zero (S := S2048x1024) hz]

/-- Every other point adds its chunk's product. -/
theorem next (n : ℕ) (hn : n + 1 < cfg0.N) (h : ¬(n + 1) % 4 = 0) : (outsAt0 m c (n + 1) hn).2
    = k0_pay3 (iblk m c 0 ⟨n + 1, hn⟩) (iblk m c 1 ⟨n + 1, hn⟩) (outsAt0 m c n (Nat.lt_of_succ_lt hn)).2 := by
  by_cases h' : (n + 1) % 4 = 3
  · rw [outsAt0_C m c ⟨n + 1, hn⟩ h (Nat.pos_of_ne_zero h) h']
    dsimp only
    unfold sout0_C_0
    rw [View.read_writes_eq_canon _ _ _ (fun _ => scover0_C_0 ..)]
    unfold kernelRun0_C
    dsimp only
    sl_unfold_words
    rw [View.canon_unit_zero (S := S1408x1024) hz]
    simp only [View.readAt_eq_ld, Memref.IsWhole.read_unread, View.ld_unit_zero (S := S2048x1408) hz,
      View.ld_unit_zero (S := S2048x1024) hz, View.ld_unit_zero (S := S1408x1024) hz]
    exact congrArg (k0_pay3 _ _) (Memref.IsWhole.read_unread (m := scM0_0) _ _)
  · rw [outsAt0_B m c ⟨n + 1, hn⟩ h (Nat.pos_of_ne_zero h) h']
    dsimp only
    unfold sout0_B_0
    rw [View.read_writes_eq_canon _ _ _ (fun _ => scover0_B_0 ..)]
    unfold kernelRun0_B
    dsimp only
    sl_unfold_words
    rw [View.canon_unit_zero (S := S1408x1024) hz]
    simp only [View.readAt_eq_ld, Memref.IsWhole.read_unread, View.ld_unit_zero (S := S2048x1408) hz,
      View.ld_unit_zero (S := S2048x1024) hz, View.ld_unit_zero (S := S1408x1024) hz]
    exact congrArg (k0_pay3 _ _) (Memref.IsWhole.read_unread (m := scM0_0) _ _)

/-- The last point of a block writes what the buffer then holds. -/
theorem last (t : Fin cfg0.N) (h : t.val % 4 = 3) : (outsAt0 m c t.val t.isLt).1 = (outsAt0 m c t.val t.isLt).2 := by
  rw [outsAt0_C m c t (by omega) (by omega) h]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero (S := S1408x1024) hz, View.canon_unit_zero (S := S1408x1024) hz]
  simp only [View.readCov_unit_zero (S := S1408x1024) _ hz]

end Body

/-! ## The blocks of the arguments -/

variable (m : (ℓ : Loc nD τ sig) → Buf (Elt Ideal) ℓ) (ρ : Dev nD → PrngReg) (c : Dev nD)

/-- The arguments, as the specification takes them. -/
def h1 (t : Fin 8192) (j : Fin 1024) : EReal := (m ((c : Thread nD τ).loc main_arg0) : S8192x1024.Idx → EReal) (ix2 t j)
def scale (j : Fin 1024) : EReal := (m ((c : Thread nD τ).loc main_arg1) : S1x1024.Idx → EReal) (ix2 0 j)
def dhup (t : Fin 8192) (n : Fin 5632) : EReal := (m ((c : Thread nD τ).loc main_arg3) : S8192x5632.Idx → EReal) (ix2 t n)
def gate (n : Fin 5632) (j : Fin 1024) : EReal := (m ((c : Thread nD τ).loc main_arg4) : S5632x1024.Idx → EReal) (ix2 n j)

/-- The normalised, scaled rows. -/
def scaled (t : Fin 8192) (j : Fin 1024) : EReal := RmsBackward.hat (h1 m c t) j * scale m c j

theorem V_scaled (t : Fin 8192) (j : Fin 1024) : (V m c main_v12 : S8192x1024.Idx → EReal) (ix2 t j) = scaled m c t j := by
  unfold V hostOps0
  after_reads_at
  pointwise
  rfl

theorem V_dhup (t : Fin 8192) (n : Fin 2816) :
    (V m c main_v14 : S8192x2816.Idx → EReal) (ix2 t n) = dhup m c t ⟨2816 + n.val, by omega⟩ := by
  unfold V hostOps0
  after_reads_at
  pointwise
  rfl

theorem V_gate : V m c main_v15 = m ((c : Thread nD τ).loc main_arg4) := by
  unfold V hostOps0
  after_reads_at
  rfl

/-- Where the blocks lie. -/
theorem index_at : ∀ t : Fin cfg0.N,
    (win0_0.index t 0 = t.val % 4 ∧ win0_0.index t 1 = t.val / 4) ∧ (win0_1.index t 0 = t.val % 4 ∧ win0_1.index t 1 = 0)
    ∧ (win0_2.index t 0 = 2 + t.val / 4 ∧ win0_2.index t 1 = 0) :=
  (by decide +kernel : ∀ t : Fin grid0.N,
    (win0_0.index t 0 = t.val % 4 ∧ win0_0.index t 1 = t.val / 4) ∧ (win0_1.index t 0 = t.val % 4 ∧ win0_1.index t 1 = 0)
    ∧ (win0_2.index t 0 = 2 + t.val / 4 ∧ win0_2.index t 1 = 0))

def chunkRow (t : Fin cfg0.N) (r : Fin 2048) : Fin 8192 := ⟨2048 * (t.val % 4) + r.val, by omega⟩
def rowOf (t : Fin cfg0.N) (n : Fin 1408) : Fin 5632 :=
  ⟨1408 * (2 + t.val / 4) + n.val, by have h : cfg0.N = 8 := N_0; have := t.isLt; omega⟩

theorem iblk0 (t : Fin cfg0.N) (r : Fin 2048) (n : Fin 1408) :
    (iblk m c 0 t : S2048x1408.Idx → EReal) (ix2 r n) = dhup m c (chunkRow t r) (rowOf t n) := by
  have hN : cfg0.N = 8 := N_0
  have ht := t.isLt
  have e : rowOf t n = ⟨2816 + (1408 * (t.val / 4) + n.val), by omega⟩ := Fin.ext (by simp only [rowOf]; omega)
  rw [e]
  refine Eq.trans ?_ (V_dhup m c (chunkRow t r) ⟨1408 * (t.val / 4) + n.val, by omega⟩)
  unfold iblk
  rw [View.read_apply]
  refine congrArg (V m c main_v14) (funext fun a => Fin.ext ?_)
  obtain ⟨h0, h1⟩ := (index_at t).1
  match a with
  | ⟨0, _⟩ => show win0_0.index t 0 * 2048 + 1 * r.val = 2048 * (t.val % 4) + r.val; rw [h0]; omega
  | ⟨1, _⟩ => show win0_0.index t 1 * 1408 + 1 * n.val = 1408 * (t.val / 4) + n.val; rw [h1]; omega

theorem iblk1 (t : Fin cfg0.N) (r : Fin 2048) (j : Fin 1024) :
    (iblk m c 1 t : S2048x1024.Idx → EReal) (ix2 r j) = scaled m c (chunkRow t r) j := by
  rw [← V_scaled]
  unfold iblk
  rw [View.read_apply]
  refine congrArg (V m c main_v12) (funext fun a => Fin.ext ?_)
  obtain ⟨h0, h1⟩ := (index_at t).2.1
  match a with
  | ⟨0, _⟩ => show win0_1.index t 0 * 2048 + 1 * r.val = 2048 * (t.val % 4) + r.val; rw [h0]; omega
  | ⟨1, _⟩ => show win0_1.index t 1 * 1024 + 1 * j.val = j.val; rw [h1]; omega

/-! ## The sum over the chunks -/

/-- The product of two blocks, contracted over their rows. -/
def prod (x : Vec Ideal S2048x1408 .bf16) (y : Vec Ideal S2048x1024 .bf16) (n : Fin 1408) (j : Fin 1024) : EReal :=
  ∑ r, x (ix2 r n) * y (ix2 r j)

theorem pay1_apply (x : Vec Ideal S2048x1408 .bf16) (y : Vec Ideal S2048x1024 .bf16) (n : Fin 1408) (j : Fin 1024) :
    k0_pay1 (F := Ideal) x y (ix2 n j) = prod x y n j := by
  unfold prod
  pointwise [k0_pay1]

theorem pay2_apply (x : Vec Ideal S2048x1408 .bf16) (y : Vec Ideal S2048x1024 .bf16) (n : Fin 1408) (j : Fin 1024) :
    k0_pay2 (F := Ideal) x y (ix2 n j) = prod x y n j := by
  unfold prod
  pointwise [k0_pay2, k0_pay1]

theorem pay3_apply (x : Vec Ideal S2048x1408 .bf16) (y : Vec Ideal S2048x1024 .bf16) (z : Vec Ideal S1408x1024 .f32)
    (n : Fin 1408) (j : Fin 1024) :
    k0_pay3 (F := Ideal) x y z (ix2 n j) = z (ix2 n j) + prod x y n j := by
  refine Eq.trans ?_ (congrArg (z (ix2 n j) + ·) (pay1_apply x y n j))
  unfold k0_pay3
  generalize k0_pay1 x y = p
  pointwise

/-- The product of chunk `s`. -/
def chunk (n : Fin 5632) (j : Fin 1024) (s : Fin 4) : EReal :=
  ∑ r : Fin 2048, dhup m c ⟨2048 * s.val + r.val, by omega⟩ n * scaled m c ⟨2048 * s.val + r.val, by omega⟩ j

theorem chunk_at (t : Fin cfg0.N) (s : Fin 4) (hs : t.val % 4 = s.val) (n : Fin 1408) (j : Fin 1024) :
    prod (iblk m c 0 t) (iblk m c 1 t) n j = chunk m c (rowOf t n) j s := by
  refine Finset.sum_congr rfl fun r _ => ?_
  have e : chunkRow t r = ⟨2048 * s.val + r.val, by omega⟩ := Fin.ext (by simp only [chunkRow, hs])
  rw [iblk0, iblk1, e]

/-- What the buffer holds once every chunk is added. -/
theorem total (t : Fin cfg0.N) (h : t.val % 4 = 3) (n : Fin 1408) (j : Fin 1024) :
    (outsAt0 m c t.val t.isLt).2 (ix2 n j) = ∑ t', dhup m c t' (rowOf t n) * scaled m c t' j := by
  have hN : cfg0.N = 8 := N_0
  have ht := t.isLt
  obtain ⟨q, hq⟩ : ∃ q, t.val = 4 * q + 3 := ⟨t.val / 4, by omega⟩
  have row : ∀ (k : ℕ) (hk : 4 * q + k < cfg0.N), k < 4 → rowOf ⟨4 * q + k, hk⟩ n = rowOf t n := fun k hk h4 =>
    Fin.ext (by simp only [rowOf]; omega)
  have run := Sums.running (N := 4) (fun k hk => (outsAt0 m c (4 * q + k) (by omega)).2 (ix2 n j))
    (fun s hs => chunk m c (rowOf t n) j ⟨s, hs⟩)
    (fun h0 => by
      refine (congrFun (first m c ⟨4 * q + 0, by omega⟩ (by dsimp only; omega)) _).trans ((pay2_apply _ _ n j).trans ?_)
      rw [chunk_at m c ⟨4 * q + 0, by omega⟩ ⟨0, h0⟩ (by dsimp only; omega), row 0 _ h0])
    (fun k hk => by
      refine (congrFun (next m c (4 * q + k) (by omega) (by omega)) _).trans ((pay3_apply _ _ _ n j).trans ?_)
      rw [chunk_at m c ⟨4 * q + k + 1, by omega⟩ ⟨k + 1, hk⟩ (by dsimp only; omega)]
      exact congrArg (fun r => _ + chunk m c r j ⟨k + 1, hk⟩) (row (k + 1) _ hk))
    3 (by omega)
  have last : (outsAt0 m c t.val t.isLt).2 (ix2 n j) = (outsAt0 m c (4 * q + 3) (by omega)).2 (ix2 n j) := by
    have e : ∀ (a b : ℕ) (ha : a < cfg0.N) (hb : b < cfg0.N), a = b → outsAt0 m c a ha = outsAt0 m c b hb := by
      rintro a _ ha hb rfl; rfl
    rw [e t.val (4 * q + 3) t.isLt (by omega) hq]
  rw [last]
  exact run.trans (Sums.blocks 4 2048 (fun t' : Fin 8192 => dhup m c t' (rowOf t n) * scaled m c t' j))

/-! ## The result -/

abbrev G : S5632x1024.Idx → EReal := fun i => Product.dup (h1 m c) (scale m c) (dhup m c) (gate m c) (i 0) (i 1)

theorem flushed (t : Fin cfg0.N) (hf : (cfg0.win 2).flush t = true) :
    (dats m 0 c).flushed 2 t = ((cfg0.win 2).blk t).view.read (Elt Ideal) (G m c) := by
  have h : t.val % 4 = 3 := (flush0_2 t).mp hf
  rw [Value.flushed2, last m c t h]
  funext i
  obtain ⟨n, j, rfl⟩ : ∃ n j, i = ix2 n j := ⟨i 0, i 1, eq_ix2 i⟩
  rw [View.read_apply]
  have e : G m c (ix2 (rowOf t n) j) = ∑ t', dhup m c t' (rowOf t n) * scaled m c t' j :=
    if_neg (by show ¬1408 * (2 + t.val / 4) + n.val < 2816; omega)
  refine ((total m c t h n j).trans e.symm).trans (congrArg (G m c) (funext fun a => Fin.ext ?_) : G m c (ix2 (rowOf t n) j) = _)
  obtain ⟨h0, h1⟩ := (index_at t).2.2
  match a with
  | ⟨0, _⟩ => show 1408 * (2 + t.val / 4) + n.val = win0_2.index t 0 * 1408 + 1 * n.val; rw [h0]; omega
  | ⟨1, _⟩ => show j.val = win0_2.index t 1 * 1024 + 1 * j.val; rw [h1]; omega

/-- An index lies in a point's block when its row does. -/
theorem mem_blk (t : Fin cfg0.N) (i : S5632x1024.Idx) :
    i ∈ ((cfg0.win 2).blk t).view.set ↔ 1408 * (2 + t.val / 4) ≤ (i 0).val ∧ (i 0).val < 1408 * (2 + t.val / 4) + 1408 := by
  show i ∈ ((View.whole main_v15).slice (win0_2.rect t)).set ↔ _
  rw [View.set_slice_whole, Rect.mem_set_unit]
  obtain ⟨h0, h1⟩ := (index_at t).2.2
  constructor
  · intro h
    have : win0_2.index t 0 * 1408 ≤ (i 0 : Nat) ∧ (i 0 : Nat) < win0_2.index t 0 * 1408 + 1408 := h 0
    rw [h0] at this
    omega
  · intro h a
    have : (i 1 : Nat) < 1024 := (i 1).isLt
    match a with
    | ⟨0, _⟩ => show win0_2.index t 0 * 1408 ≤ (i 0 : Nat) ∧ (i 0 : Nat) < win0_2.index t 0 * 1408 + 1408; rw [h0]; omega
    | ⟨1, _⟩ => show win0_2.index t 1 * 1024 ≤ (i 1 : Nat) ∧ (i 1 : Nat) < win0_2.index t 1 * 1024 + 1024; rw [h1]; omega

theorem final : (dats m 0 c).arrAt 2 cfg0.N = G m c := by
  have hN : cfg0.N = 8 := N_0
  funext i
  have hi : (i 0 : Nat) < 5632 := (i 0).isLt
  by_cases h : (i 0 : Nat) < 2816
  · refine (Value.entry2 m c i fun t _ hm => ?_).trans ?_
    · have := (mem_blk t i).mp hm
      omega
    · refine (congrFun (V_gate m c) i).trans (Eq.trans ?_ (if_pos h).symm)
      show _ = (m ((c : Thread nD τ).loc main_arg4) : S5632x1024.Idx → EReal) (ix2 (i 0) (i 1))
      exact congrArg _ (eq_ix2 i)
  · obtain ⟨q, hq⟩ : ∃ q, q = (i 0 : Nat) / 1408 - 2 := ⟨_, rfl⟩
    have ht : 4 * q + 3 < cfg0.N := by omega
    exact (dats m 0 c).arrAt_apply_of_mem 2 (G m c) (flushed m c) cfg0.N ⟨4 * q + 3, ht⟩ i ht
      ((flush0_2 _).mpr (by show (4 * q + 3) % 4 = 3; omega)) ((mem_blk _ i).mpr (by dsimp only; omega))

/-- The run: the result, and the arguments unchanged. -/
theorem run : θ_run defs (onTc (τ := τ) (main (F := Ideal))) ⟨m, fun _ => 0, ρ⟩ fun r => ∀ c : Dev nD,
      r.2.mem ((c : Thread nD τ).loc main_v15) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.Kernel6Ideal.Final
-- ==== Proof.UpReference.lean ====
/-
  The reference of the gradient of the second half of the first product's weights: what it leaves in its result.
-/
module

public import proofs.«01_k».proof.Proof.Gen.Reference6Ideal.Read
public import proofs.«01_k».proof.Proof.ProductSpec

@[expose] public section

set_option maxRecDepth 16384

noncomputable section

namespace Cert.Reference6Ideal.Final

open Idealize.ShloMosaic Idealize.ShloMosaic.TcCoe Idealize.SL.Sem
open Cert.Reference6Ideal Cert.Reference6Ideal.Read RmsBackward

section Stages

variable (x0 : (⟨S8192x1024, .f32⟩ : BufTy).Contents (Elt Ideal)) (x1 : (⟨S1x1024, .f32⟩ : BufTy).Contents (Elt Ideal))
  (x3 : (⟨S8192x5632, .f32⟩ : BufTy).Contents (Elt Ideal)) (x4 : (⟨S5632x1024, .f32⟩ : BufTy).Contents (Elt Ideal))

/-- The arguments, as the specification takes them. -/
def h1 (t : Fin 8192) (j : Fin 1024) : EReal := (x0 : S8192x1024.Idx → EReal) (ix2 t j)
def scale (j : Fin 1024) : EReal := (x1 : S1x1024.Idx → EReal) (ix2 0 j)
def dhup (t : Fin 8192) (n : Fin 5632) : EReal := (x3 : S8192x5632.Idx → EReal) (ix2 t n)
def gate (n : Fin 5632) (j : Fin 1024) : EReal := (x4 : S5632x1024.Idx → EReal) (ix2 n j)

theorem v8 (t : Fin 8192) : val_main_v8 (F := Ideal) x0 (ix2 t (0 : Fin 1)) = inv (h1 x0 t) := by
  pointwise [val_main_v8, val_main_v7, val_main_v6, val_main_cst_1, val_main_v5, val_main_v4, val_main_cst_0, val_main_v3,
    val_main_v2, val_main_cst, val_main_v1]
  rfl

theorem v12 (t : Fin 8192) (j : Fin 1024) : val_main_v12 (F := Ideal) x0 x1 (ix2 t j) = hat (h1 x0 t) j * scale x1 j := by
  have h := v8 x0 t
  unfold val_main_v12 val_main_v11 val_main_v10 val_main_v9
  generalize val_main_v8 (F := Ideal) x0 = y at h
  pointwise
  rw [h]; rfl

theorem v17 (n : Fin 2816) (j : Fin 1024) : val_main_v17 (F := Ideal) x0 x1 x3 (ix2 n j)
    = ∑ t, dhup x3 t ⟨2816 + n.val, by omega⟩ * (hat (h1 x0 t) j * scale x1 j) := by
  have h := v12 x0 x1
  unfold val_main_v17 val_main_v16 val_main_v15 val_main_v14
  generalize val_main_v12 (F := Ideal) x0 x1 = y at h
  pointwise
  simp only [h]; rfl

theorem value (n : Fin 5632) (j : Fin 1024) : val_main_v18 (F := Ideal) x0 x1 x3 x4 (ix2 n j)
    = Product.dup (h1 x0) (scale x1) (dhup x3) (gate x4) n j := by
  have h := v17 x0 x1 x3
  unfold val_main_v18 val_main_v0 Product.dup
  generalize val_main_v17 (F := Ideal) x0 x1 x3 = y at h
  pointwise
  by_cases hn : n.val < 2816
  · rw [dif_pos hn, if_pos hn]; rfl
  · rw [dif_neg hn, if_neg hn, h]
    have e : (⟨2816 + (n.val - 2816), by omega⟩ : Fin 5632) = n := Fin.ext (by dsimp only; omega)
    exact Finset.sum_congr rfl fun t _ => congrArg (fun k => dhup x3 t k * (hat (h1 x0 t) j * scale x1 j)) e

end Stages

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v18) = (fun i => Product.dup (h1 (m ((c : Thread nD τ).loc main_arg0)))
        (scale (m ((c : Thread nD τ).loc main_arg1))) (dhup (m ((c : Thread nD τ).loc main_arg3)))
        (gate (m ((c : Thread nD τ).loc main_arg4))) (i 0) (i 1) : S5632x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h0, hargs⟩ := h c
    refine ⟨(h0.trans (Read.val_main_v18_eq ..)).trans ?_, hargs⟩
    funext i
    obtain ⟨n, j, rfl⟩ : ∃ n j, i = ix2 n j := ⟨i 0, i 1, eq_ix2 i⟩
    exact value _ _ _ _ n j)
    (Value.run m ρ)

end Cert.Reference6Ideal.Final
-- ==== Proof.lean ====
/-
  The certificate: for each of the twenty-two calls the three frames, the idealization, and the equation of the kernel's results
  with the reference's.
-/
module

public import proofs.«01_k».proof.Defs
public import proofs.«01_k».proof.Proof.Gen.Kernel7.Frame
public import proofs.«01_k».proof.Proof.UpForward
public import proofs.«01_k».proof.Proof.UpForwardReference
public import proofs.«01_k».proof.Proof.Gen.Kernel8.Frame
public import proofs.«01_k».proof.Proof.MixInputConv
public import proofs.«01_k».proof.Proof.MixReference
public import proofs.«01_k».proof.Proof.Gen.Kernel9.Frame
public import proofs.«01_k».proof.Proof.MixInputAttn
public import proofs.«01_k».proof.Proof.Gen.Kernel10.Frame
public import proofs.«01_k».proof.Proof.ProjForward
public import proofs.«01_k».proof.Proof.ProjForwardReference
public import proofs.«01_k».proof.Proof.Gen.Kernel11.Frame
public import proofs.«01_k».proof.Proof.MixForward
public import proofs.«01_k».proof.Proof.MixForwardReference
public import proofs.«01_k».proof.Proof.Gen.Kernel12.Frame
public import proofs.«01_k».proof.Proof.GateFinal
public import proofs.«01_k».proof.Proof.GateReference
public import proofs.«01_k».proof.Proof.Gen.Kernel13.Frame
public import proofs.«01_k».proof.Proof.UpGateWeights
public import proofs.«01_k».proof.Proof.UpGateReference
public import proofs.«01_k».proof.Proof.Gen.Kernel14.Frame
public import proofs.«01_k».proof.Proof.ProjWeightsConv
public import proofs.«01_k».proof.Proof.ProjWeightsReference
public import proofs.«01_k».proof.Proof.Gen.Kernel15.Frame
public import proofs.«01_k».proof.Proof.MixWeightsConv
public import proofs.«01_k».proof.Proof.MixWeightsReference
public import proofs.«01_k».proof.Proof.Gen.Kernel16.Frame
public import proofs.«01_k».proof.Proof.MixWeightsAttn
public import proofs.«01_k».proof.Proof.Gen.Kernel17.Frame
public import proofs.«01_k».proof.Proof.ProjWeightsQ
public import proofs.«01_k».proof.Proof.Gen.Kernel18.Frame
public import proofs.«01_k».proof.Proof.ProjWeightsK
public import proofs.«01_k».proof.Proof.Gen.Kernel19.Frame
public import proofs.«01_k».proof.Proof.ProjWeightsV
public import proofs.«01_k».proof.Proof.Gen.Kernel20.Frame
public import proofs.«01_k».proof.Proof.Optimiser
public import proofs.«01_k».proof.Proof.Gen.Kernel21.Frame
public import proofs.«01_k».proof.Proof.ReduceOut
public import proofs.«01_k».proof.Proof.ReduceOutReference
public import proofs.«01_k».proof.Proof.ReducePosition
public import proofs.«01_k».proof.Proof.Final
public import proofs.«01_k».proof.Proof.ReferenceFinal
public import proofs.«01_k».proof.Proof.InputFinal
public import proofs.«01_k».proof.Proof.InputReference
public import proofs.«01_k».proof.Proof.LossFinal
public import proofs.«01_k».proof.Proof.LossReference
public import proofs.«01_k».proof.Proof.DownInput
public import proofs.«01_k».proof.Proof.DownWeights
public import proofs.«01_k».proof.Proof.ProductReference
public import proofs.«01_k».proof.Proof.UpWeights
public import proofs.«01_k».proof.Proof.UpReference
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init

@[expose] public section

noncomputable section

namespace Cert.Proof

open Idealize.ShloMosaic Idealize.SL.Sem

/-! ## Call 1: the gradient of the middle of the block -/

theorem frame_kernel1 : Cert.quiescent_Kernel := fun m ρ _ => Cert.Kernel.Gen.frame m ρ

theorem frame_ideal1 : Cert.quiescent_KernelIdeal := fun m ρ _ => Cert.KernelIdeal.Gen.frame m ρ

theorem frame_reference1 : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The two programs start from the same arguments, so the specification takes the same arrays in both. -/
theorem equation1 : Cert.algebraic_KernelIdeal_ReferenceIdeal := fun m ρ m' ρ' _ hag =>
  ⟨fun c => Cert.KernelIdeal.Final.G0 m c, fun c => Cert.KernelIdeal.Final.G1 m c, fun c => Cert.KernelIdeal.Final.G2 m c,
    fun c => Cert.KernelIdeal.Final.G3 m c, Cert.KernelIdeal.Final.run m ρ,
    (θ_run Cert.ReferenceIdeal.defs _ _).mono (fun _ h c => by
      have e : Cert.ReferenceIdeal.Final.args m' c = Cert.KernelIdeal.Host.args m c := by
        obtain ⟨e0, e1, e2, e3, e4, e5, e6⟩ := hag c
        unfold Cert.ReferenceIdeal.Final.args
        rw [e0, e1, e2, e3, e4, e5, e6]; rfl
      have := h c
      rw [e] at this
      exact this) (Cert.ReferenceIdeal.Final.run m' ρ')⟩

/-! ## Call 2: the gradient of the block's input -/

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem equation2 : Cert.algebraic_Kernel2Ideal_Reference2Ideal := fun m ρ m' ρ' _ hag =>
  ⟨fun c => Cert.Kernel2Ideal.Final.G0 m c, fun c => Cert.Kernel2Ideal.Final.G1 m c, Cert.Kernel2Ideal.Final.run m ρ,
    (θ_run Cert.Reference2Ideal.defs _ _).mono (fun _ h c => by
      have e : Cert.Reference2Ideal.Final.args m' c = Cert.Kernel2Ideal.Host.args m c := by
        obtain ⟨e0, e1, e2, e3, e4⟩ := hag c
        unfold Cert.Reference2Ideal.Final.args
        rw [e0, e1, e2, e3, e4]; rfl
      have := h c
      rw [e] at this
      exact this) (Cert.Reference2Ideal.Final.run m' ρ')⟩

/-! ## Call 3: the loss and its gradient -/

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

theorem equation3 : Cert.algebraic_Kernel3Ideal_Reference3Ideal := fun m ρ m' ρ' _ hag =>
  ⟨fun c => Cert.Kernel3Ideal.Final.G0 m c, fun c => Cert.Kernel3Ideal.Final.G1 m c, fun c => Cert.Kernel3Ideal.Final.G2 m c, fun c => Cert.Kernel3Ideal.Final.G3 m c, Cert.Kernel3Ideal.Final.run m ρ,
    (θ_run Cert.Reference3Ideal.defs _ _).mono (fun _ h c => by
      have e : Cert.Reference3Ideal.Final.args m' c = Cert.Kernel3Ideal.Host.args m c := by
        obtain ⟨e0, e1, e2, e3, e4⟩ := hag c
        unfold Cert.Reference3Ideal.Final.args
        rw [e0, e1, e2, e3, e4]; rfl
      have := h c
      rw [e] at this
      exact this) (Cert.Reference3Ideal.Final.run m' ρ')⟩

/-! ## Call 4: the gradient of the last product's activations -/

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem equation4 : Cert.algebraic_Kernel4Ideal_Reference4Ideal := fun m ρ m' ρ' _ hag =>
  ⟨fun c => Cert.Kernel4Ideal.Final.G m c, Cert.Kernel4Ideal.Final.run m ρ,
    (θ_run Cert.Reference4Ideal.defs _ _).mono (fun _ h c => by
      obtain ⟨e0, e1⟩ := hag c
      obtain ⟨h0, hargs⟩ := h c
      refine ⟨h0.trans ?_, hargs⟩
      rw [e0, e1]; rfl) (Cert.Reference4Ideal.Final.run m' ρ')⟩

/-! ## Call 5: the gradient of the last product's weights -/

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem equation5 : Cert.algebraic_Kernel5Ideal_Reference5Ideal := fun m ρ m' ρ' _ hag =>
  ⟨fun c => Cert.Kernel5Ideal.Final.G m c, Cert.Kernel5Ideal.Final.run m ρ,
    (θ_run Cert.Reference5Ideal.defs _ _).mono (fun _ h c => by
      obtain ⟨e0, e1⟩ := hag c
      obtain ⟨h0, hargs⟩ := h c
      refine ⟨h0.trans ?_, hargs⟩
      rw [e0, e1]; rfl) (Cert.Reference5Ideal.Final.run m' ρ')⟩

/-! ## Call 6: the gradient of the first product's weights -/

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem equation6 : Cert.algebraic_Kernel6Ideal_Reference6Ideal := fun m ρ m' ρ' _ hag =>
  ⟨fun c => Cert.Kernel6Ideal.Final.G m c, Cert.Kernel6Ideal.Final.run m ρ,
    (θ_run Cert.Reference6Ideal.defs _ _).mono (fun _ h c => by
      obtain ⟨e0, e1, e2, e3, e4⟩ := hag c
      obtain ⟨h0, hargs⟩ := h c
      refine ⟨h0.trans ?_, hargs⟩
      rw [e0, e1, e3, e4]; rfl) (Cert.Reference6Ideal.Final.run m' ρ')⟩

/-! ## Call 7: the first product of the feed-forward layer -/

theorem frame_kernel7 : Cert.quiescent_Kernel7 := fun m ρ _ => Cert.Kernel7.Gen.frame m ρ

theorem frame_ideal7 : Cert.quiescent_Kernel7Ideal := fun m ρ _ => Cert.Kernel7Ideal.Gen.frame m ρ

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem equation7 : Cert.algebraic_Kernel7Ideal_Reference7Ideal := fun m ρ m' ρ' _ hag =>
  ⟨fun c => Cert.Kernel7Ideal.Final.G m c, Cert.Kernel7Ideal.Final.run m ρ,
    (θ_run Cert.Reference7Ideal.defs _ _).mono (fun _ h c => by
      obtain ⟨e0, e1, e2⟩ := hag c
      obtain ⟨h0, hargs⟩ := h c
      refine ⟨h0.trans ?_, hargs⟩
      rw [e0, e1, e2]; rfl) (Cert.Reference7Ideal.Final.run m' ρ')⟩

/-! ## Call 8: the gradient of the convolution mixer's result -/

theorem frame_kernel8 : Cert.quiescent_Kernel8 := fun m ρ _ => Cert.Kernel8.Gen.frame m ρ

theorem frame_ideal8 : Cert.quiescent_Kernel8Ideal := fun m ρ _ => Cert.Kernel8Ideal.Gen.frame m ρ

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem equation8 : Cert.algebraic_Kernel8Ideal_Reference8Ideal := fun m ρ m' ρ' _ hag =>
  ⟨fun c => Cert.Kernel8Ideal.Final.G m c, Cert.Kernel8Ideal.Final.run m ρ,
    (θ_run Cert.Reference8Ideal.defs _ _).mono (fun _ h c => by
      obtain ⟨e0, e1⟩ := hag c
      obtain ⟨h0, hargs⟩ := h c
      refine ⟨h0.trans ?_, hargs⟩
      rw [e0, e1]; rfl) (Cert.Reference8Ideal.Final.run m' ρ')⟩

/-! ## Call 9: the gradient of the attention mixer's result -/

theorem frame_kernel9 : Cert.quiescent_Kernel9 := fun m ρ _ => Cert.Kernel9.Gen.frame m ρ

theorem frame_ideal9 : Cert.quiescent_Kernel9Ideal := fun m ρ _ => Cert.Kernel9Ideal.Gen.frame m ρ

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem equation9 : Cert.algebraic_Kernel9Ideal_Reference9Ideal := fun m ρ m' ρ' _ hag =>
  ⟨fun c => Cert.Kernel9Ideal.Final.G m c, Cert.Kernel9Ideal.Final.run m ρ,
    (θ_run Cert.Reference9Ideal.defs _ _).mono (fun _ h c => by
      obtain ⟨e0, e1⟩ := hag c
      obtain ⟨h0, hargs⟩ := h c
      refine ⟨h0.trans ?_, hargs⟩
      rw [e0, e1]; rfl) (Cert.Reference9Ideal.Final.run m' ρ')⟩

/-! ## Call 10: the first normalisation and the input projection -/

theorem frame_kernel10 : Cert.quiescent_Kernel10 := fun m ρ _ => Cert.Kernel10.Gen.frame m ρ

theorem frame_ideal10 : Cert.quiescent_Kernel10Ideal := fun m ρ _ => Cert.Kernel10Ideal.Gen.frame m ρ

theorem frame_reference10 : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

theorem equation10 : Cert.algebraic_Kernel10Ideal_Reference10Ideal := fun m ρ m' ρ' _ hag =>
  ⟨fun c => Cert.Kernel10Ideal.Final.G0 m c, fun c => Cert.Kernel10Ideal.Final.G1 m c, fun c => Cert.Kernel10Ideal.Final.G2 m c,
    Cert.Kernel10Ideal.Final.run m ρ,
    (θ_run Cert.Reference10Ideal.defs _ _).mono (fun _ h c => by
      obtain ⟨e0, e1, e2⟩ := hag c
      obtain ⟨h0, h1, h2, hargs⟩ := h c
      refine ⟨h0.trans ?_, h1.trans ?_, h2.trans ?_, hargs⟩ <;> (simp only [e0, e1, e2]; rfl))
      (Cert.Reference10Ideal.Final.run m' ρ')⟩

/-! ## Call 11: the output projection, the residual sum and the second normalisation -/

theorem frame_kernel11 : Cert.quiescent_Kernel11 := fun m ρ _ => Cert.Kernel11.Gen.frame m ρ

theorem frame_ideal11 : Cert.quiescent_Kernel11Ideal := fun m ρ _ => Cert.Kernel11Ideal.Gen.frame m ρ

theorem frame_reference11 : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

theorem equation11 : Cert.algebraic_Kernel11Ideal_Reference11Ideal := fun m ρ m' ρ' _ hag =>
  ⟨fun c => Cert.Kernel11Ideal.Final.G0 m c, fun c => Cert.Kernel11Ideal.Final.G1 m c, fun c => Cert.Kernel11Ideal.Final.G2 m c,
    Cert.Kernel11Ideal.Final.run m ρ,
    (θ_run Cert.Reference11Ideal.defs _ _).mono (fun _ h c => by
      obtain ⟨e0, e1, e2, e3, e4, e5⟩ := hag c
      have e : Cert.Reference11Ideal.Final.given m' c = Cert.Kernel11Ideal.Final.args m c := by
        unfold Cert.Reference11Ideal.Final.given
        rw [e0, e1, e2, e3, e4, e5]
      have := h c
      rw [e] at this
      exact this)
      (Cert.Reference11Ideal.Final.run m' ρ')⟩

/-! ## Call 12: the gated convolution of the feed-forward layer -/

theorem frame_kernel12 : Cert.quiescent_Kernel12 := fun m ρ _ => Cert.Kernel12.Gen.frame m ρ

theorem frame_ideal12 : Cert.quiescent_Kernel12Ideal := fun m ρ _ => Cert.Kernel12Ideal.Gen.frame m ρ

theorem frame_reference12 : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

theorem equation12 : Cert.algebraic_Kernel12Ideal_Reference12Ideal := fun m ρ m' ρ' _ hag =>
  ⟨fun c => Cert.Kernel12Ideal.Final.G8 m c, fun c => Cert.Kernel12Ideal.Final.G9 m c, fun c => Cert.Kernel12Ideal.Final.G10 m c,
    Cert.Kernel12Ideal.Final.run m ρ,
    (θ_run Cert.Reference12Ideal.defs _ _).mono (fun _ h c => by
      obtain ⟨e0, e1, e2⟩ := hag c
      have e : Cert.Reference12Ideal.Final.given m' c = Cert.Kernel12Ideal.Final.args m c := by
        unfold Cert.Reference12Ideal.Final.given
        rw [e0, e1, e2]
      have := h c
      rw [e] at this
      obtain ⟨h0, h1, h2, hargs⟩ := this
      exact ⟨h0, h1, h2, hargs⟩)
      (Cert.Reference12Ideal.Final.run m' ρ')⟩

/-! ## Call 13: the gradient of the first half of the first product's weights -/

theorem frame_kernel13 : Cert.quiescent_Kernel13 := fun m ρ _ => Cert.Kernel13.Gen.frame m ρ

theorem frame_ideal13 : Cert.quiescent_Kernel13Ideal := fun m ρ _ => Cert.Kernel13Ideal.Gen.frame m ρ

theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem equation13 : Cert.algebraic_Kernel13Ideal_Reference13Ideal := fun m ρ m' ρ' _ hag =>
  ⟨fun c => Cert.Kernel13Ideal.Final.G m c, Cert.Kernel13Ideal.Final.run m ρ,
    (θ_run Cert.Reference13Ideal.defs _ _).mono (fun _ h c => by
      obtain ⟨e0, e1, e2, e3⟩ := hag c
      obtain ⟨h0, hargs⟩ := h c
      refine ⟨h0.trans ?_, hargs⟩
      rw [e0, e1, e3]; rfl) (Cert.Reference13Ideal.Final.run m' ρ')⟩

/-! ## Call 14: the gradient of the input projection's weights, the convolution mixer's rows -/

theorem frame_kernel14 : Cert.quiescent_Kernel14 := fun m ρ _ => Cert.Kernel14.Gen.frame m ρ

theorem frame_ideal14 : Cert.quiescent_Kernel14Ideal := fun m ρ _ => Cert.Kernel14Ideal.Gen.frame m ρ

theorem frame_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem equation14 : Cert.algebraic_Kernel14Ideal_Reference14Ideal := fun m ρ m' ρ' _ hag =>
  ⟨fun c => Cert.Kernel14Ideal.Final.G m c, Cert.Kernel14Ideal.Final.run m ρ,
    (θ_run Cert.Reference14Ideal.defs _ _).mono (fun _ h c => by
      obtain ⟨e0, e1, e2, e3⟩ := hag c
      obtain ⟨h0, hargs⟩ := h c
      refine ⟨h0.trans ?_, hargs⟩
      rw [e0, e1, e3]; rfl) (Cert.Reference14Ideal.Final.run m' ρ')⟩

/-! ## Call 15: the gradient of the output projection's weights, the convolution mixer's rows -/

theorem frame_kernel15 : Cert.quiescent_Kernel15 := fun m ρ _ => Cert.Kernel15.Gen.frame m ρ

theorem frame_ideal15 : Cert.quiescent_Kernel15Ideal := fun m ρ _ => Cert.Kernel15Ideal.Gen.frame m ρ

theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem equation15 : Cert.algebraic_Kernel15Ideal_Reference15Ideal := fun m ρ m' ρ' _ hag =>
  ⟨fun c => Cert.Kernel15Ideal.Final.G m c, Cert.Kernel15Ideal.Final.run m ρ,
    (θ_run Cert.Reference15Ideal.defs _ _).mono (fun _ h c => by
      obtain ⟨e0, e1, e2, e3⟩ := hag c
      obtain ⟨h0, hargs⟩ := h c
      refine ⟨h0.trans ?_, hargs⟩
      rw [e0, e1, e3]; rfl) (Cert.Reference15Ideal.Final.run m' ρ')⟩

/-! ## Call 16: the gradient of the output projection's weights, the attention mixer's rows -/

theorem frame_kernel16 : Cert.quiescent_Kernel16 := fun m ρ _ => Cert.Kernel16.Gen.frame m ρ

theorem frame_ideal16 : Cert.quiescent_Kernel16Ideal := fun m ρ _ => Cert.Kernel16Ideal.Gen.frame m ρ

theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem equation16 : Cert.algebraic_Kernel16Ideal_Reference16Ideal := fun m ρ m' ρ' _ hag =>
  ⟨fun c => Cert.Kernel16Ideal.Final.G m c, Cert.Kernel16Ideal.Final.run m ρ,
    (θ_run Cert.Reference16Ideal.defs _ _).mono (fun _ h c => by
      obtain ⟨e0, e1, e2, e3, e4⟩ := hag c
      obtain ⟨h0, hargs⟩ := h c
      refine ⟨h0.trans ?_, hargs⟩
      rw [e0, e1, e3, e4]; rfl) (Cert.Reference16Ideal.Final.run m' ρ')⟩

/-! ## Call 17: the gradient of the input projection's weights, the queries' rows -/

theorem frame_kernel17 : Cert.quiescent_Kernel17 := fun m ρ _ => Cert.Kernel17.Gen.frame m ρ

theorem frame_ideal17 : Cert.quiescent_Kernel17Ideal := fun m ρ _ => Cert.Kernel17Ideal.Gen.frame m ρ

theorem frame_reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem equation17 : Cert.algebraic_Kernel17Ideal_Reference17Ideal := fun m ρ m' ρ' _ hag =>
  ⟨fun c => Cert.Kernel17Ideal.Final.G m c, Cert.Kernel17Ideal.Final.run m ρ,
    (θ_run Cert.Reference17Ideal.defs _ _).mono (fun _ h c => by
      obtain ⟨e0, e1, e2, e3, e4⟩ := hag c
      obtain ⟨h0, hargs⟩ := h c
      refine ⟨h0.trans ?_, hargs⟩
      rw [e0, e1, e3, e4]; rfl) (Cert.Reference17Ideal.Final.run m' ρ')⟩

/-! ## Call 18: the gradient of the input projection's weights, the keys' rows -/

theorem frame_kernel18 : Cert.quiescent_Kernel18 := fun m ρ _ => Cert.Kernel18.Gen.frame m ρ

theorem frame_ideal18 : Cert.quiescent_Kernel18Ideal := fun m ρ _ => Cert.Kernel18Ideal.Gen.frame m ρ

theorem frame_reference18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem equation18 : Cert.algebraic_Kernel18Ideal_Reference18Ideal := fun m ρ m' ρ' _ hag =>
  ⟨fun c => Cert.Kernel18Ideal.Final.G m c, Cert.Kernel18Ideal.Final.run m ρ,
    (θ_run Cert.Reference18Ideal.defs _ _).mono (fun _ h c => by
      obtain ⟨e0, e1, e2, e3, e4⟩ := hag c
      obtain ⟨h0, hargs⟩ := h c
      refine ⟨h0.trans ?_, hargs⟩
      rw [e0, e1, e3, e4]; rfl) (Cert.Reference18Ideal.Final.run m' ρ')⟩

/-! ## Call 19: the gradient of the input projection's weights, the values' rows -/

theorem frame_kernel19 : Cert.quiescent_Kernel19 := fun m ρ _ => Cert.Kernel19.Gen.frame m ρ

theorem frame_ideal19 : Cert.quiescent_Kernel19Ideal := fun m ρ _ => Cert.Kernel19Ideal.Gen.frame m ρ

theorem frame_reference19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem equation19 : Cert.algebraic_Kernel19Ideal_Reference19Ideal := fun m ρ m' ρ' _ hag =>
  ⟨fun c => Cert.Kernel19Ideal.Final.G m c, Cert.Kernel19Ideal.Final.run m ρ,
    (θ_run Cert.Reference19Ideal.defs _ _).mono (fun _ h c => by
      obtain ⟨e0, e1, e2, e3, e4⟩ := hag c
      obtain ⟨h0, hargs⟩ := h c
      refine ⟨h0.trans ?_, hargs⟩
      rw [e0, e1, e3, e4]; rfl) (Cert.Reference19Ideal.Final.run m' ρ')⟩

/-! ## Call 20: the optimiser on the small weights -/

theorem frame_kernel20 : Cert.quiescent_Kernel20 := fun m ρ _ => Cert.Kernel20.Gen.frame m ρ

theorem frame_ideal20 : Cert.quiescent_Kernel20Ideal := fun m ρ _ => Cert.Kernel20Ideal.Gen.frame m ρ

theorem frame_reference20 : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

theorem equation20 : Cert.algebraic_Kernel20Ideal_Reference20Ideal := fun m ρ m' ρ' _ hag =>
  ⟨fun c => Cert.Kernel20Ideal.Final.G0 m c, fun c => Cert.Kernel20Ideal.Final.G1 m c, fun c => Cert.Kernel20Ideal.Final.G2 m c,
    Cert.Kernel20Ideal.Final.run m ρ,
    (θ_run Cert.Reference20Ideal.defs _ _).mono (fun _ h c => by
      obtain ⟨e0, e1, e2, e3⟩ := hag c
      obtain ⟨h0, h1, h2, hargs⟩ := h c
      refine ⟨h0.trans ?_, h1.trans ?_, h2.trans ?_, hargs⟩ <;> (simp only [e0, e1, e2, e3]))
      (Cert.Reference20Ideal.Final.run m' ρ')⟩

/-! ## Call 21: the sum over the devices of the small gradients -/

theorem frame_kernel21 : Cert.quiescent_Kernel21 := fun m ρ _ => Cert.Kernel21.Gen.frame m ρ

theorem frame_ideal21 : Cert.quiescent_Kernel21Ideal := fun m ρ _ => Cert.Kernel21Ideal.Gen.frame m ρ

theorem frame_reference21 : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem equation21 : Cert.algebraic_Kernel21Ideal_Reference21Ideal := fun m ρ m' ρ' _ hag =>
  ⟨fun c => Cert.Kernel21Ideal.Final.G m c, Cert.Kernel21Ideal.Final.run m ρ,
    (θ_run Cert.Reference21Ideal.defs _ _).mono (fun _ h c => by
      have e0 := hag c
      obtain ⟨h0, hargs⟩ := h c
      refine ⟨h0.trans ?_, hargs⟩
      rw [e0]) (Cert.Reference21Ideal.Final.run m' ρ')⟩

/-! ## Call 22: the sum over the devices and the optimiser on the mix's weights -/

theorem frame_kernel22 : Cert.quiescent_Kernel22 (hPre_position := Cert.Pre_position.facts) := fun m ρ h =>
  Cert.Kernel22.Gen.frame m ρ (Cert.Kernel22.Final.ok m h)

theorem frame_ideal22 : Cert.quiescent_Kernel22Ideal (hPre_position := Cert.Pre_position.facts) := fun m ρ h =>
  Cert.Kernel22Ideal.Gen.frame m ρ (Cert.Kernel22Ideal.Final.ok m h)

theorem frame_reference22 : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

theorem frame_reference22_position : Cert.quiescent_Reference22Ideal_pre_position (hPre_position := Cert.Pre_position.facts) := fun m ρ _ =>
  frame_reference22 m ρ trivial

theorem equation22 : Cert.algebraic_Kernel22Ideal_Reference22Ideal (hPre_position := Cert.Pre_position.facts) := fun m ρ m' ρ' h hag =>
  ⟨fun c => Cert.Kernel22Ideal.Final.G5 m c, fun c => Cert.Kernel22Ideal.Final.G6 m c, fun c => Cert.Kernel22Ideal.Final.G7 m c,
    fun c => Cert.Kernel22Ideal.Final.G8 m c, Cert.Kernel22Ideal.Final.run m ρ (Cert.Kernel22Ideal.Final.ok m h),
    (θ_run Cert.Reference22Ideal.defs _ _).mono (fun _ h c => by
      obtain ⟨e0, e1, e2, e3, e4, e5⟩ := hag c
      obtain ⟨h0, h1, h2, h3, hargs⟩ := h c
      have g : Cert.Reference22Ideal.Final.G m' c = Cert.Kernel22Ideal.Final.G5 m c := by
        unfold Cert.Reference22Ideal.Final.G
        rw [e0, e1, e2]
        rfl
      rw [g, e3, e4, e5] at h1
      rw [g, e4] at h2
      rw [g, e5] at h3
      exact ⟨h0.trans g, h1, h2, h3, hargs⟩)
      (Cert.Reference22Ideal.Final.run m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts, Cert.Pre_position.facts,
  frame_kernel1, frame_ideal1, frame_reference1,
  frame_kernel2, frame_ideal2, frame_reference2,
  frame_kernel3, frame_ideal3, frame_reference3,
  frame_kernel4, frame_ideal4, frame_reference4,
  frame_kernel5, frame_ideal5, frame_reference5,
  frame_kernel6, frame_ideal6, frame_reference6,
  frame_kernel7, frame_ideal7, frame_reference7,
  frame_kernel8, frame_ideal8, frame_reference8,
  frame_kernel9, frame_ideal9, frame_reference9,
  frame_kernel10, frame_ideal10, frame_reference10,
  frame_kernel11, frame_ideal11, frame_reference11,
  frame_kernel12, frame_ideal12, frame_reference12,
  frame_kernel13, frame_ideal13, frame_reference13,
  frame_kernel14, frame_ideal14, frame_reference14,
  frame_kernel15, frame_ideal15, frame_reference15,
  frame_kernel16, frame_ideal16, frame_reference16,
  frame_kernel17, frame_ideal17, frame_reference17,
  frame_kernel18, frame_ideal18, frame_reference18,
  frame_kernel19, frame_ideal19, frame_reference19,
  frame_kernel20, frame_ideal20, frame_reference20,
  frame_kernel21, frame_ideal21, frame_reference21,
  frame_kernel22, frame_ideal22, frame_reference22, frame_reference22_position,
  trivial, equation1, trivial, equation2, trivial, equation3, trivial, equation4, trivial, equation5, trivial, equation6,
  trivial, equation7, trivial, equation8, trivial, equation9, trivial, equation10, trivial, equation11, trivial, equation12,
  trivial, equation13, trivial, equation14, trivial, equation15, trivial, equation16, trivial, equation17, trivial, equation18,
  trivial, equation19, trivial, equation20, trivial, equation21, trivial, equation22⟩

end Cert.Proof

end
